-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnCast (m : (ℓ : Loc Cert.FfnCast.nD Cert.FfnCast.τ Cert.FfnCast.sig) → Buf (Elt Bits) ℓ) : Prop :=
  True

def Pre_FfnCastIdeal (m : (ℓ : Loc Cert.FfnCastIdeal.nD Cert.FfnCastIdeal.τ Cert.FfnCastIdeal.sig) → Buf (Elt Ideal) ℓ) : Prop :=
  True

def Pre_FfnCastReferenceIdeal (m : (ℓ : Loc Cert.FfnCastReferenceIdeal.nD Cert.FfnCastReferenceIdeal.τ Cert.FfnCastReferenceIdeal.sig) → Buf (Elt Ideal) ℓ) : Prop :=
  True

def Pre_FfnInto (m : (ℓ : Loc Cert.FfnInto.nD Cert.FfnInto.τ Cert.FfnInto.sig) → Buf (Elt Bits) ℓ) : Prop :=
  True

def Pre_FfnIntoIdeal (m : (ℓ : Loc Cert.FfnIntoIdeal.nD Cert.FfnIntoIdeal.τ Cert.FfnIntoIdeal.sig) → Buf (Elt Ideal) ℓ) : Prop :=
  True

def Pre_FfnIntoReferenceIdeal (m : (ℓ : Loc Cert.FfnIntoReferenceIdeal.nD Cert.FfnIntoReferenceIdeal.τ Cert.FfnIntoReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_FfnCastInto (m : (ℓ : Loc Cert.FfnCastInto.nD Cert.FfnCastInto.τ Cert.FfnCastInto.sig) → Buf (Elt Bits) ℓ) : Prop :=
  True

def Pre_FfnCastIntoIdeal (m : (ℓ : Loc Cert.FfnCastIntoIdeal.nD Cert.FfnCastIntoIdeal.τ Cert.FfnCastIntoIdeal.sig) → Buf (Elt Ideal) ℓ) : Prop :=
  True

def Pre_FfnCastIntoReferenceIdeal (m : (ℓ : Loc Cert.FfnCastIntoReferenceIdeal.nD Cert.FfnCastIntoReferenceIdeal.τ Cert.FfnCastIntoReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnCast [hFfnCast : Cert.FfnCast.Facts] : Prop :=
  ∀ (m : (ℓ : Loc Cert.FfnCast.nD Cert.FfnCast.τ Cert.FfnCast.sig) → Buf (Elt Bits) ℓ) (g : Dev Cert.FfnCast.nD → PrngReg), Pre_FfnCast m →
    θ_run (Cert.FfnCast.defs (F := Bits)) (onTc (τ := Cert.FfnCast.τ) (Cert.FfnCast.main (F := Bits))) ⟨m, fun _ => 0, g⟩ (fun r => (∀ c : Dev Cert.FfnCast.nD,
      r.2.mem ((c.tc : Thread Cert.FfnCast.nD Cert.FfnCast.τ).loc Cert.FfnCast.main_arg0) = m ((c.tc : Thread Cert.FfnCast.nD Cert.FfnCast.τ).loc Cert.FfnCast.main_arg0)
      ∧ r.2.mem ((c.tc : Thread Cert.FfnCast.nD Cert.FfnCast.τ).loc Cert.FfnCast.main_arg1) = m ((c.tc : Thread Cert.FfnCast.nD Cert.FfnCast.τ).loc Cert.FfnCast.main_arg1)
      ∧ r.2.mem ((c.tc : Thread Cert.FfnCast.nD Cert.FfnCast.τ).loc Cert.FfnCast.main_arg2) = m ((c.tc : Thread Cert.FfnCast.nD Cert.FfnCast.τ).loc Cert.FfnCast.main_arg2)
      ∧ r.2.mem ((c.tc : Thread Cert.FfnCast.nD Cert.FfnCast.τ).loc Cert.FfnCast.main_arg3) = m ((c.tc : Thread Cert.FfnCast.nD Cert.FfnCast.τ).loc Cert.FfnCast.main_arg3)
      ∧ r.2.mem ((c.tc : Thread Cert.FfnCast.nD Cert.FfnCast.τ).loc Cert.FfnCast.main_arg4) = m ((c.tc : Thread Cert.FfnCast.nD Cert.FfnCast.τ).loc Cert.FfnCast.main_arg4))
      ∧ r.2.sem = fun _ => 0)

def quiescent_FfnCastIdeal [hFfnCastIdeal : Cert.FfnCastIdeal.Facts] : Prop :=
  ∀ (m : (ℓ : Loc Cert.FfnCastIdeal.nD Cert.FfnCastIdeal.τ Cert.FfnCastIdeal.sig) → Buf (Elt Ideal) ℓ) (g : Dev Cert.FfnCastIdeal.nD → PrngReg), Pre_FfnCastIdeal m →
    θ_run (Cert.FfnCastIdeal.defs (F := Ideal)) (onTc (τ := Cert.FfnCastIdeal.τ) (Cert.FfnCastIdeal.main (F := Ideal))) ⟨m, fun _ => 0, g⟩ (fun r => (∀ c : Dev Cert.FfnCastIdeal.nD,
      r.2.mem ((c.tc : Thread Cert.FfnCastIdeal.nD Cert.FfnCastIdeal.τ).loc Cert.FfnCastIdeal.main_arg0) = m ((c.tc : Thread Cert.FfnCastIdeal.nD Cert.FfnCastIdeal.τ).loc Cert.FfnCastIdeal.main_arg0)
      ∧ r.2.mem ((c.tc : Thread Cert.FfnCastIdeal.nD Cert.FfnCastIdeal.τ).loc Cert.FfnCastIdeal.main_arg1) = m ((c.tc : Thread Cert.FfnCastIdeal.nD Cert.FfnCastIdeal.τ).loc Cert.FfnCastIdeal.main_arg1)
      ∧ r.2.mem ((c.tc : Thread Cert.FfnCastIdeal.nD Cert.FfnCastIdeal.τ).loc Cert.FfnCastIdeal.main_arg2) = m ((c.tc : Thread Cert.FfnCastIdeal.nD Cert.FfnCastIdeal.τ).loc Cert.FfnCastIdeal.main_arg2)
      ∧ r.2.mem ((c.tc : Thread Cert.FfnCastIdeal.nD Cert.FfnCastIdeal.τ).loc Cert.FfnCastIdeal.main_arg3) = m ((c.tc : Thread Cert.FfnCastIdeal.nD Cert.FfnCastIdeal.τ).loc Cert.FfnCastIdeal.main_arg3)
      ∧ r.2.mem ((c.tc : Thread Cert.FfnCastIdeal.nD Cert.FfnCastIdeal.τ).loc Cert.FfnCastIdeal.main_arg4) = m ((c.tc : Thread Cert.FfnCastIdeal.nD Cert.FfnCastIdeal.τ).loc Cert.FfnCastIdeal.main_arg4))
      ∧ r.2.sem = fun _ => 0)

def quiescent_FfnCastReferenceIdeal [hFfnCastReferenceIdeal : Cert.FfnCastReferenceIdeal.Facts] : Prop :=
  ∀ (m : (ℓ : Loc Cert.FfnCastReferenceIdeal.nD Cert.FfnCastReferenceIdeal.τ Cert.FfnCastReferenceIdeal.sig) → Buf (Elt Ideal) ℓ) (g : Dev Cert.FfnCastReferenceIdeal.nD → PrngReg), Pre_FfnCastReferenceIdeal m →
    θ_run (Cert.FfnCastReferenceIdeal.defs (F := Ideal)) (onTc (τ := Cert.FfnCastReferenceIdeal.τ) (Cert.FfnCastReferenceIdeal.main (F := Ideal))) ⟨m, fun _ => 0, g⟩ (fun r => (∀ c : Dev Cert.FfnCastReferenceIdeal.nD,
      r.2.mem ((c.tc : Thread Cert.FfnCastReferenceIdeal.nD Cert.FfnCastReferenceIdeal.τ).loc Cert.FfnCastReferenceIdeal.main_arg0) = m ((c.tc : Thread Cert.FfnCastReferenceIdeal.nD Cert.FfnCastReferenceIdeal.τ).loc Cert.FfnCastReferenceIdeal.main_arg0)
      ∧ r.2.mem ((c.tc : Thread Cert.FfnCastReferenceIdeal.nD Cert.FfnCastReferenceIdeal.τ).loc Cert.FfnCastReferenceIdeal.main_arg1) = m ((c.tc : Thread Cert.FfnCastReferenceIdeal.nD Cert.FfnCastReferenceIdeal.τ).loc Cert.FfnCastReferenceIdeal.main_arg1)
      ∧ r.2.mem ((c.tc : Thread Cert.FfnCastReferenceIdeal.nD Cert.FfnCastReferenceIdeal.τ).loc Cert.FfnCastReferenceIdeal.main_arg2) = m ((c.tc : Thread Cert.FfnCastReferenceIdeal.nD Cert.FfnCastReferenceIdeal.τ).loc Cert.FfnCastReferenceIdeal.main_arg2)
      ∧ r.2.mem ((c.tc : Thread Cert.FfnCastReferenceIdeal.nD Cert.FfnCastReferenceIdeal.τ).loc Cert.FfnCastReferenceIdeal.main_arg3) = m ((c.tc : Thread Cert.FfnCastReferenceIdeal.nD Cert.FfnCastReferenceIdeal.τ).loc Cert.FfnCastReferenceIdeal.main_arg3)
      ∧ r.2.mem ((c.tc : Thread Cert.FfnCastReferenceIdeal.nD Cert.FfnCastReferenceIdeal.τ).loc Cert.FfnCastReferenceIdeal.main_arg4) = m ((c.tc : Thread Cert.FfnCastReferenceIdeal.nD Cert.FfnCastReferenceIdeal.τ).loc Cert.FfnCastReferenceIdeal.main_arg4))
      ∧ r.2.sem = fun _ => 0)

def quiescent_FfnInto [hFfnInto : Cert.FfnInto.Facts] : Prop :=
  ∀ (m : (ℓ : Loc Cert.FfnInto.nD Cert.FfnInto.τ Cert.FfnInto.sig) → Buf (Elt Bits) ℓ) (g : Dev Cert.FfnInto.nD → PrngReg), Pre_FfnInto m →
    θ_run (Cert.FfnInto.defs (F := Bits)) (onTc (τ := Cert.FfnInto.τ) (Cert.FfnInto.main (F := Bits))) ⟨m, fun _ => 0, g⟩ (fun r => (∀ c : Dev Cert.FfnInto.nD,
      r.2.mem ((c.tc : Thread Cert.FfnInto.nD Cert.FfnInto.τ).loc Cert.FfnInto.main_arg0) = m ((c.tc : Thread Cert.FfnInto.nD Cert.FfnInto.τ).loc Cert.FfnInto.main_arg0)
      ∧ r.2.mem ((c.tc : Thread Cert.FfnInto.nD Cert.FfnInto.τ).loc Cert.FfnInto.main_arg1) = m ((c.tc : Thread Cert.FfnInto.nD Cert.FfnInto.τ).loc Cert.FfnInto.main_arg1)
      ∧ r.2.mem ((c.tc : Thread Cert.FfnInto.nD Cert.FfnInto.τ).loc Cert.FfnInto.main_arg2) = m ((c.tc : Thread Cert.FfnInto.nD Cert.FfnInto.τ).loc Cert.FfnInto.main_arg2)
      ∧ r.2.mem ((c.tc : Thread Cert.FfnInto.nD Cert.FfnInto.τ).loc Cert.FfnInto.main_arg3) = m ((c.tc : Thread Cert.FfnInto.nD Cert.FfnInto.τ).loc Cert.FfnInto.main_arg3)
      ∧ r.2.mem ((c.tc : Thread Cert.FfnInto.nD Cert.FfnInto.τ).loc Cert.FfnInto.main_arg4) = m ((c.tc : Thread Cert.FfnInto.nD Cert.FfnInto.τ).loc Cert.FfnInto.main_arg4))
      ∧ r.2.sem = fun _ => 0)

def quiescent_FfnIntoIdeal [hFfnIntoIdeal : Cert.FfnIntoIdeal.Facts] : Prop :=
  ∀ (m : (ℓ : Loc Cert.FfnIntoIdeal.nD Cert.FfnIntoIdeal.τ Cert.FfnIntoIdeal.sig) → Buf (Elt Ideal) ℓ) (g : Dev Cert.FfnIntoIdeal.nD → PrngReg), Pre_FfnIntoIdeal m →
    θ_run (Cert.FfnIntoIdeal.defs (F := Ideal)) (onTc (τ := Cert.FfnIntoIdeal.τ) (Cert.FfnIntoIdeal.main (F := Ideal))) ⟨m, fun _ => 0, g⟩ (fun r => (∀ c : Dev Cert.FfnIntoIdeal.nD,
      r.2.mem ((c.tc : Thread Cert.FfnIntoIdeal.nD Cert.FfnIntoIdeal.τ).loc Cert.FfnIntoIdeal.main_arg0) = m ((c.tc : Thread Cert.FfnIntoIdeal.nD Cert.FfnIntoIdeal.τ).loc Cert.FfnIntoIdeal.main_arg0)
      ∧ r.2.mem ((c.tc : Thread Cert.FfnIntoIdeal.nD Cert.FfnIntoIdeal.τ).loc Cert.FfnIntoIdeal.main_arg1) = m ((c.tc : Thread Cert.FfnIntoIdeal.nD Cert.FfnIntoIdeal.τ).loc Cert.FfnIntoIdeal.main_arg1)
      ∧ r.2.mem ((c.tc : Thread Cert.FfnIntoIdeal.nD Cert.FfnIntoIdeal.τ).loc Cert.FfnIntoIdeal.main_arg2) = m ((c.tc : Thread Cert.FfnIntoIdeal.nD Cert.FfnIntoIdeal.τ).loc Cert.FfnIntoIdeal.main_arg2)
      ∧ r.2.mem ((c.tc : Thread Cert.FfnIntoIdeal.nD Cert.FfnIntoIdeal.τ).loc Cert.FfnIntoIdeal.main_arg3) = m ((c.tc : Thread Cert.FfnIntoIdeal.nD Cert.FfnIntoIdeal.τ).loc Cert.FfnIntoIdeal.main_arg3)
      ∧ r.2.mem ((c.tc : Thread Cert.FfnIntoIdeal.nD Cert.FfnIntoIdeal.τ).loc Cert.FfnIntoIdeal.main_arg4) = m ((c.tc : Thread Cert.FfnIntoIdeal.nD Cert.FfnIntoIdeal.τ).loc Cert.FfnIntoIdeal.main_arg4))
      ∧ r.2.sem = fun _ => 0)

def quiescent_FfnIntoReferenceIdeal [hFfnIntoReferenceIdeal : Cert.FfnIntoReferenceIdeal.Facts] : Prop :=
  ∀ (m : (ℓ : Loc Cert.FfnIntoReferenceIdeal.nD Cert.FfnIntoReferenceIdeal.τ Cert.FfnIntoReferenceIdeal.sig) → Buf (Elt Ideal) ℓ) (g : Dev Cert.FfnIntoReferenceIdeal.nD → PrngReg), Pre_FfnIntoReferenceIdeal m →
    θ_run (Cert.FfnIntoReferenceIdeal.defs (F := Ideal)) (onTc (τ := Cert.FfnIntoReferenceIdeal.τ) (Cert.FfnIntoReferenceIdeal.main (F := Ideal))) ⟨m, fun _ => 0, g⟩ (fun r => (∀ c : Dev Cert.FfnIntoReferenceIdeal.nD,
      r.2.mem ((c.tc : Thread Cert.FfnIntoReferenceIdeal.nD Cert.FfnIntoReferenceIdeal.τ).loc Cert.FfnIntoReferenceIdeal.main_arg0) = m ((c.tc : Thread Cert.FfnIntoReferenceIdeal.nD Cert.FfnIntoReferenceIdeal.τ).loc Cert.FfnIntoReferenceIdeal.main_arg0)
      ∧ r.2.mem ((c.tc : Thread Cert.FfnIntoReferenceIdeal.nD Cert.FfnIntoReferenceIdeal.τ).loc Cert.FfnIntoReferenceIdeal.main_arg1) = m ((c.tc : Thread Cert.FfnIntoReferenceIdeal.nD Cert.FfnIntoReferenceIdeal.τ).loc Cert.FfnIntoReferenceIdeal.main_arg1)
      ∧ r.2.mem ((c.tc : Thread Cert.FfnIntoReferenceIdeal.nD Cert.FfnIntoReferenceIdeal.τ).loc Cert.FfnIntoReferenceIdeal.main_arg2) = m ((c.tc : Thread Cert.FfnIntoReferenceIdeal.nD Cert.FfnIntoReferenceIdeal.τ).loc Cert.FfnIntoReferenceIdeal.main_arg2)
      ∧ r.2.mem ((c.tc : Thread Cert.FfnIntoReferenceIdeal.nD Cert.FfnIntoReferenceIdeal.τ).loc Cert.FfnIntoReferenceIdeal.main_arg3) = m ((c.tc : Thread Cert.FfnIntoReferenceIdeal.nD Cert.FfnIntoReferenceIdeal.τ).loc Cert.FfnIntoReferenceIdeal.main_arg3)
      ∧ r.2.mem ((c.tc : Thread Cert.FfnIntoReferenceIdeal.nD Cert.FfnIntoReferenceIdeal.τ).loc Cert.FfnIntoReferenceIdeal.main_arg4) = m ((c.tc : Thread Cert.FfnIntoReferenceIdeal.nD Cert.FfnIntoReferenceIdeal.τ).loc Cert.FfnIntoReferenceIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3))
      ∧ r.2.sem = fun _ => 0)

def quiescent_FfnCastInto [hFfnCastInto : Cert.FfnCastInto.Facts] : Prop :=
  ∀ (m : (ℓ : Loc Cert.FfnCastInto.nD Cert.FfnCastInto.τ Cert.FfnCastInto.sig) → Buf (Elt Bits) ℓ) (g : Dev Cert.FfnCastInto.nD → PrngReg), Pre_FfnCastInto m →
    θ_run (Cert.FfnCastInto.defs (F := Bits)) (onTc (τ := Cert.FfnCastInto.τ) (Cert.FfnCastInto.main (F := Bits))) ⟨m, fun _ => 0, g⟩ (fun r => (∀ c : Dev Cert.FfnCastInto.nD,
      r.2.mem ((c.tc : Thread Cert.FfnCastInto.nD Cert.FfnCastInto.τ).loc Cert.FfnCastInto.main_arg0) = m ((c.tc : Thread Cert.FfnCastInto.nD Cert.FfnCastInto.τ).loc Cert.FfnCastInto.main_arg0)
      ∧ r.2.mem ((c.tc : Thread Cert.FfnCastInto.nD Cert.FfnCastInto.τ).loc Cert.FfnCastInto.main_arg1) = m ((c.tc : Thread Cert.FfnCastInto.nD Cert.FfnCastInto.τ).loc Cert.FfnCastInto.main_arg1)
      ∧ r.2.mem ((c.tc : Thread Cert.FfnCastInto.nD Cert.FfnCastInto.τ).loc Cert.FfnCastInto.main_arg2) = m ((c.tc : Thread Cert.FfnCastInto.nD Cert.FfnCastInto.τ).loc Cert.FfnCastInto.main_arg2)
      ∧ r.2.mem ((c.tc : Thread Cert.FfnCastInto.nD Cert.FfnCastInto.τ).loc Cert.FfnCastInto.main_arg3) = m ((c.tc : Thread Cert.FfnCastInto.nD Cert.FfnCastInto.τ).loc Cert.FfnCastInto.main_arg3)
      ∧ r.2.mem ((c.tc : Thread Cert.FfnCastInto.nD Cert.FfnCastInto.τ).loc Cert.FfnCastInto.main_arg4) = m ((c.tc : Thread Cert.FfnCastInto.nD Cert.FfnCastInto.τ).loc Cert.FfnCastInto.main_arg4)
      ∧ r.2.mem ((c.tc : Thread Cert.FfnCastInto.nD Cert.FfnCastInto.τ).loc Cert.FfnCastInto.main_arg5) = m ((c.tc : Thread Cert.FfnCastInto.nD Cert.FfnCastInto.τ).loc Cert.FfnCastInto.main_arg5))
      ∧ r.2.sem = fun _ => 0)

def quiescent_FfnCastIntoIdeal [hFfnCastIntoIdeal : Cert.FfnCastIntoIdeal.Facts] : Prop :=
  ∀ (m : (ℓ : Loc Cert.FfnCastIntoIdeal.nD Cert.FfnCastIntoIdeal.τ Cert.FfnCastIntoIdeal.sig) → Buf (Elt Ideal) ℓ) (g : Dev Cert.FfnCastIntoIdeal.nD → PrngReg), Pre_FfnCastIntoIdeal m →
    θ_run (Cert.FfnCastIntoIdeal.defs (F := Ideal)) (onTc (τ := Cert.FfnCastIntoIdeal.τ) (Cert.FfnCastIntoIdeal.main (F := Ideal))) ⟨m, fun _ => 0, g⟩ (fun r => (∀ c : Dev Cert.FfnCastIntoIdeal.nD,
      r.2.mem ((c.tc : Thread Cert.FfnCastIntoIdeal.nD Cert.FfnCastIntoIdeal.τ).loc Cert.FfnCastIntoIdeal.main_arg0) = m ((c.tc : Thread Cert.FfnCastIntoIdeal.nD Cert.FfnCastIntoIdeal.τ).loc Cert.FfnCastIntoIdeal.main_arg0)
      ∧ r.2.mem ((c.tc : Thread Cert.FfnCastIntoIdeal.nD Cert.FfnCastIntoIdeal.τ).loc Cert.FfnCastIntoIdeal.main_arg1) = m ((c.tc : Thread Cert.FfnCastIntoIdeal.nD Cert.FfnCastIntoIdeal.τ).loc Cert.FfnCastIntoIdeal.main_arg1)
      ∧ r.2.mem ((c.tc : Thread Cert.FfnCastIntoIdeal.nD Cert.FfnCastIntoIdeal.τ).loc Cert.FfnCastIntoIdeal.main_arg2) = m ((c.tc : Thread Cert.FfnCastIntoIdeal.nD Cert.FfnCastIntoIdeal.τ).loc Cert.FfnCastIntoIdeal.main_arg2)
      ∧ r.2.mem ((c.tc : Thread Cert.FfnCastIntoIdeal.nD Cert.FfnCastIntoIdeal.τ).loc Cert.FfnCastIntoIdeal.main_arg3) = m ((c.tc : Thread Cert.FfnCastIntoIdeal.nD Cert.FfnCastIntoIdeal.τ).loc Cert.FfnCastIntoIdeal.main_arg3)
      ∧ r.2.mem ((c.tc : Thread Cert.FfnCastIntoIdeal.nD Cert.FfnCastIntoIdeal.τ).loc Cert.FfnCastIntoIdeal.main_arg4) = m ((c.tc : Thread Cert.FfnCastIntoIdeal.nD Cert.FfnCastIntoIdeal.τ).loc Cert.FfnCastIntoIdeal.main_arg4)
      ∧ r.2.mem ((c.tc : Thread Cert.FfnCastIntoIdeal.nD Cert.FfnCastIntoIdeal.τ).loc Cert.FfnCastIntoIdeal.main_arg5) = m ((c.tc : Thread Cert.FfnCastIntoIdeal.nD Cert.FfnCastIntoIdeal.τ).loc Cert.FfnCastIntoIdeal.main_arg5))
      ∧ r.2.sem = fun _ => 0)

def quiescent_FfnCastIntoReferenceIdeal [hFfnCastIntoReferenceIdeal : Cert.FfnCastIntoReferenceIdeal.Facts] : Prop :=
  ∀ (m : (ℓ : Loc Cert.FfnCastIntoReferenceIdeal.nD Cert.FfnCastIntoReferenceIdeal.τ Cert.FfnCastIntoReferenceIdeal.sig) → Buf (Elt Ideal) ℓ) (g : Dev Cert.FfnCastIntoReferenceIdeal.nD → PrngReg), Pre_FfnCastIntoReferenceIdeal m →
    θ_run (Cert.FfnCastIntoReferenceIdeal.defs (F := Ideal)) (onTc (τ := Cert.FfnCastIntoReferenceIdeal.τ) (Cert.FfnCastIntoReferenceIdeal.main (F := Ideal))) ⟨m, fun _ => 0, g⟩ (fun r => (∀ c : Dev Cert.FfnCastIntoReferenceIdeal.nD,
      r.2.mem ((c.tc : Thread Cert.FfnCastIntoReferenceIdeal.nD Cert.FfnCastIntoReferenceIdeal.τ).loc Cert.FfnCastIntoReferenceIdeal.main_arg0) = m ((c.tc : Thread Cert.FfnCastIntoReferenceIdeal.nD Cert.FfnCastIntoReferenceIdeal.τ).loc Cert.FfnCastIntoReferenceIdeal.main_arg0)
      ∧ r.2.mem ((c.tc : Thread Cert.FfnCastIntoReferenceIdeal.nD Cert.FfnCastIntoReferenceIdeal.τ).loc Cert.FfnCastIntoReferenceIdeal.main_arg1) = m ((c.tc : Thread Cert.FfnCastIntoReferenceIdeal.nD Cert.FfnCastIntoReferenceIdeal.τ).loc Cert.FfnCastIntoReferenceIdeal.main_arg1)
      ∧ r.2.mem ((c.tc : Thread Cert.FfnCastIntoReferenceIdeal.nD Cert.FfnCastIntoReferenceIdeal.τ).loc Cert.FfnCastIntoReferenceIdeal.main_arg2) = m ((c.tc : Thread Cert.FfnCastIntoReferenceIdeal.nD Cert.FfnCastIntoReferenceIdeal.τ).loc Cert.FfnCastIntoReferenceIdeal.main_arg2)
      ∧ r.2.mem ((c.tc : Thread Cert.FfnCastIntoReferenceIdeal.nD Cert.FfnCastIntoReferenceIdeal.τ).loc Cert.FfnCastIntoReferenceIdeal.main_arg3) = m ((c.tc : Thread Cert.FfnCastIntoReferenceIdeal.nD Cert.FfnCastIntoReferenceIdeal.τ).loc Cert.FfnCastIntoReferenceIdeal.main_arg3)
      ∧ r.2.mem ((c.tc : Thread Cert.FfnCastIntoReferenceIdeal.nD Cert.FfnCastIntoReferenceIdeal.τ).loc Cert.FfnCastIntoReferenceIdeal.main_arg4) = m ((c.tc : Thread Cert.FfnCastIntoReferenceIdeal.nD Cert.FfnCastIntoReferenceIdeal.τ).loc Cert.FfnCastIntoReferenceIdeal.main_arg4)
      ∧ r.2.mem ((c.tc : Thread Cert.FfnCastIntoReferenceIdeal.nD Cert.FfnCastIntoReferenceIdeal.τ).loc Cert.FfnCastIntoReferenceIdeal.main_arg5) = m ((c.tc : Thread Cert.FfnCastIntoReferenceIdeal.nD Cert.FfnCastIntoReferenceIdeal.τ).loc Cert.FfnCastIntoReferenceIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnCast_FfnCastIdeal : Prop :=
  True

def algebraic_FfnCastIdeal_FfnCastReferenceIdeal [hFfnCastIdeal : Cert.FfnCastIdeal.Facts] [hFfnCastReferenceIdeal : Cert.FfnCastReferenceIdeal.Facts] : Prop :=
  ∀ (m : (ℓ : Loc Cert.FfnCastIdeal.nD Cert.FfnCastIdeal.τ Cert.FfnCastIdeal.sig) → Buf (Elt Ideal) ℓ) (g : Dev Cert.FfnCastIdeal.nD → PrngReg)
    (m' : (ℓ : Loc Cert.FfnCastReferenceIdeal.nD Cert.FfnCastReferenceIdeal.τ Cert.FfnCastReferenceIdeal.sig) → Buf (Elt Ideal) ℓ) (g' : Dev Cert.FfnCastReferenceIdeal.nD → PrngReg), Pre_FfnCastIdeal m →
    (∀ c : Dev Cert.FfnCastIdeal.nD,
      m' ((c.tc : Thread Cert.FfnCastReferenceIdeal.nD Cert.FfnCastReferenceIdeal.τ).loc Cert.FfnCastReferenceIdeal.main_arg0) = m ((c.tc : Thread Cert.FfnCastIdeal.nD Cert.FfnCastIdeal.τ).loc Cert.FfnCastIdeal.main_arg0)
      ∧ m' ((c.tc : Thread Cert.FfnCastReferenceIdeal.nD Cert.FfnCastReferenceIdeal.τ).loc Cert.FfnCastReferenceIdeal.main_arg1) = m ((c.tc : Thread Cert.FfnCastIdeal.nD Cert.FfnCastIdeal.τ).loc Cert.FfnCastIdeal.main_arg1)
      ∧ m' ((c.tc : Thread Cert.FfnCastReferenceIdeal.nD Cert.FfnCastReferenceIdeal.τ).loc Cert.FfnCastReferenceIdeal.main_arg2) = m ((c.tc : Thread Cert.FfnCastIdeal.nD Cert.FfnCastIdeal.τ).loc Cert.FfnCastIdeal.main_arg2)
      ∧ m' ((c.tc : Thread Cert.FfnCastReferenceIdeal.nD Cert.FfnCastReferenceIdeal.τ).loc Cert.FfnCastReferenceIdeal.main_arg3) = m ((c.tc : Thread Cert.FfnCastIdeal.nD Cert.FfnCastIdeal.τ).loc Cert.FfnCastIdeal.main_arg3)
      ∧ m' ((c.tc : Thread Cert.FfnCastReferenceIdeal.nD Cert.FfnCastReferenceIdeal.τ).loc Cert.FfnCastReferenceIdeal.main_arg4) = m ((c.tc : Thread Cert.FfnCastIdeal.nD Cert.FfnCastIdeal.τ).loc Cert.FfnCastIdeal.main_arg4)) →
    ∃ (v0 : (c : Dev Cert.FfnCastIdeal.nD) → Buf (Elt Ideal) ((c.tc : Thread Cert.FfnCastIdeal.nD Cert.FfnCastIdeal.τ).loc Cert.FfnCastIdeal.main_v0_0)) (v1 : (c : Dev Cert.FfnCastIdeal.nD) → Buf (Elt Ideal) ((c.tc : Thread Cert.FfnCastIdeal.nD Cert.FfnCastIdeal.τ).loc Cert.FfnCastIdeal.main_v0_1)),
      θ_run (Cert.FfnCastIdeal.defs (F := Ideal)) (onTc (τ := Cert.FfnCastIdeal.τ) (Cert.FfnCastIdeal.main (F := Ideal))) ⟨m, fun _ => 0, g⟩ (fun r => ∀ c : Dev Cert.FfnCastIdeal.nD,
          r.2.mem ((c.tc : Thread Cert.FfnCastIdeal.nD Cert.FfnCastIdeal.τ).loc Cert.FfnCastIdeal.main_v0_0) = v0 c
          ∧ r.2.mem ((c.tc : Thread Cert.FfnCastIdeal.nD Cert.FfnCastIdeal.τ).loc Cert.FfnCastIdeal.main_v0_1) = v1 c
          ∧ r.2.mem ((c.tc : Thread Cert.FfnCastIdeal.nD Cert.FfnCastIdeal.τ).loc Cert.FfnCastIdeal.main_arg0) = m ((c.tc : Thread Cert.FfnCastIdeal.nD Cert.FfnCastIdeal.τ).loc Cert.FfnCastIdeal.main_arg0)
          ∧ r.2.mem ((c.tc : Thread Cert.FfnCastIdeal.nD Cert.FfnCastIdeal.τ).loc Cert.FfnCastIdeal.main_arg1) = m ((c.tc : Thread Cert.FfnCastIdeal.nD Cert.FfnCastIdeal.τ).loc Cert.FfnCastIdeal.main_arg1)
          ∧ r.2.mem ((c.tc : Thread Cert.FfnCastIdeal.nD Cert.FfnCastIdeal.τ).loc Cert.FfnCastIdeal.main_arg2) = m ((c.tc : Thread Cert.FfnCastIdeal.nD Cert.FfnCastIdeal.τ).loc Cert.FfnCastIdeal.main_arg2)
          ∧ r.2.mem ((c.tc : Thread Cert.FfnCastIdeal.nD Cert.FfnCastIdeal.τ).loc Cert.FfnCastIdeal.main_arg3) = m ((c.tc : Thread Cert.FfnCastIdeal.nD Cert.FfnCastIdeal.τ).loc Cert.FfnCastIdeal.main_arg3)
          ∧ r.2.mem ((c.tc : Thread Cert.FfnCastIdeal.nD Cert.FfnCastIdeal.τ).loc Cert.FfnCastIdeal.main_arg4) = m ((c.tc : Thread Cert.FfnCastIdeal.nD Cert.FfnCastIdeal.τ).loc Cert.FfnCastIdeal.main_arg4))
      ∧ θ_run (Cert.FfnCastReferenceIdeal.defs (F := Ideal)) (onTc (τ := Cert.FfnCastReferenceIdeal.τ) (Cert.FfnCastReferenceIdeal.main (F := Ideal))) ⟨m', fun _ => 0, g'⟩ (fun r => ∀ c : Dev Cert.FfnCastReferenceIdeal.nD,
          r.2.mem ((c.tc : Thread Cert.FfnCastReferenceIdeal.nD Cert.FfnCastReferenceIdeal.τ).loc Cert.FfnCastReferenceIdeal.main_v42) = v0 c
          ∧ r.2.mem ((c.tc : Thread Cert.FfnCastReferenceIdeal.nD Cert.FfnCastReferenceIdeal.τ).loc Cert.FfnCastReferenceIdeal.main_v39) = v1 c
          ∧ r.2.mem ((c.tc : Thread Cert.FfnCastReferenceIdeal.nD Cert.FfnCastReferenceIdeal.τ).loc Cert.FfnCastReferenceIdeal.main_arg0) = m' ((c.tc : Thread Cert.FfnCastReferenceIdeal.nD Cert.FfnCastReferenceIdeal.τ).loc Cert.FfnCastReferenceIdeal.main_arg0)
          ∧ r.2.mem ((c.tc : Thread Cert.FfnCastReferenceIdeal.nD Cert.FfnCastReferenceIdeal.τ).loc Cert.FfnCastReferenceIdeal.main_arg1) = m' ((c.tc : Thread Cert.FfnCastReferenceIdeal.nD Cert.FfnCastReferenceIdeal.τ).loc Cert.FfnCastReferenceIdeal.main_arg1)
          ∧ r.2.mem ((c.tc : Thread Cert.FfnCastReferenceIdeal.nD Cert.FfnCastReferenceIdeal.τ).loc Cert.FfnCastReferenceIdeal.main_arg2) = m' ((c.tc : Thread Cert.FfnCastReferenceIdeal.nD Cert.FfnCastReferenceIdeal.τ).loc Cert.FfnCastReferenceIdeal.main_arg2)
          ∧ r.2.mem ((c.tc : Thread Cert.FfnCastReferenceIdeal.nD Cert.FfnCastReferenceIdeal.τ).loc Cert.FfnCastReferenceIdeal.main_arg3) = m' ((c.tc : Thread Cert.FfnCastReferenceIdeal.nD Cert.FfnCastReferenceIdeal.τ).loc Cert.FfnCastReferenceIdeal.main_arg3)
          ∧ r.2.mem ((c.tc : Thread Cert.FfnCastReferenceIdeal.nD Cert.FfnCastReferenceIdeal.τ).loc Cert.FfnCastReferenceIdeal.main_arg4) = m' ((c.tc : Thread Cert.FfnCastReferenceIdeal.nD Cert.FfnCastReferenceIdeal.τ).loc Cert.FfnCastReferenceIdeal.main_arg4))

def preserves_FfnInto_FfnIntoIdeal : Prop :=
  True

def algebraic_FfnIntoIdeal_FfnIntoReferenceIdeal [hFfnIntoIdeal : Cert.FfnIntoIdeal.Facts] [hFfnIntoReferenceIdeal : Cert.FfnIntoReferenceIdeal.Facts] : Prop :=
  ∀ (m : (ℓ : Loc Cert.FfnIntoIdeal.nD Cert.FfnIntoIdeal.τ Cert.FfnIntoIdeal.sig) → Buf (Elt Ideal) ℓ) (g : Dev Cert.FfnIntoIdeal.nD → PrngReg)
    (m' : (ℓ : Loc Cert.FfnIntoReferenceIdeal.nD Cert.FfnIntoReferenceIdeal.τ Cert.FfnIntoReferenceIdeal.sig) → Buf (Elt Ideal) ℓ) (g' : Dev Cert.FfnIntoReferenceIdeal.nD → PrngReg), Pre_FfnIntoIdeal m →
    (∀ c : Dev Cert.FfnIntoIdeal.nD,
      m' ((c.tc : Thread Cert.FfnIntoReferenceIdeal.nD Cert.FfnIntoReferenceIdeal.τ).loc Cert.FfnIntoReferenceIdeal.main_arg0) = m ((c.tc : Thread Cert.FfnIntoIdeal.nD Cert.FfnIntoIdeal.τ).loc Cert.FfnIntoIdeal.main_arg0)
      ∧ m' ((c.tc : Thread Cert.FfnIntoReferenceIdeal.nD Cert.FfnIntoReferenceIdeal.τ).loc Cert.FfnIntoReferenceIdeal.main_arg1) = m ((c.tc : Thread Cert.FfnIntoIdeal.nD Cert.FfnIntoIdeal.τ).loc Cert.FfnIntoIdeal.main_arg1)
      ∧ m' ((c.tc : Thread Cert.FfnIntoReferenceIdeal.nD Cert.FfnIntoReferenceIdeal.τ).loc Cert.FfnIntoReferenceIdeal.main_arg2) = m ((c.tc : Thread Cert.FfnIntoIdeal.nD Cert.FfnIntoIdeal.τ).loc Cert.FfnIntoIdeal.main_arg2)
      ∧ m' ((c.tc : Thread Cert.FfnIntoReferenceIdeal.nD Cert.FfnIntoReferenceIdeal.τ).loc Cert.FfnIntoReferenceIdeal.main_arg3) = m ((c.tc : Thread Cert.FfnIntoIdeal.nD Cert.FfnIntoIdeal.τ).loc Cert.FfnIntoIdeal.main_arg3)
      ∧ m' ((c.tc : Thread Cert.FfnIntoReferenceIdeal.nD Cert.FfnIntoReferenceIdeal.τ).loc Cert.FfnIntoReferenceIdeal.main_arg4) = m ((c.tc : Thread Cert.FfnIntoIdeal.nD Cert.FfnIntoIdeal.τ).loc Cert.FfnIntoIdeal.main_arg4)) →
    ∃ (v0 : (c : Dev Cert.FfnIntoIdeal.nD) → Buf (Elt Ideal) ((c.tc : Thread Cert.FfnIntoIdeal.nD Cert.FfnIntoIdeal.τ).loc Cert.FfnIntoIdeal.main_v0)),
      θ_run (Cert.FfnIntoIdeal.defs (F := Ideal)) (onTc (τ := Cert.FfnIntoIdeal.τ) (Cert.FfnIntoIdeal.main (F := Ideal))) ⟨m, fun _ => 0, g⟩ (fun r => ∀ c : Dev Cert.FfnIntoIdeal.nD,
          r.2.mem ((c.tc : Thread Cert.FfnIntoIdeal.nD Cert.FfnIntoIdeal.τ).loc Cert.FfnIntoIdeal.main_v0) = v0 c
          ∧ r.2.mem ((c.tc : Thread Cert.FfnIntoIdeal.nD Cert.FfnIntoIdeal.τ).loc Cert.FfnIntoIdeal.main_arg0) = m ((c.tc : Thread Cert.FfnIntoIdeal.nD Cert.FfnIntoIdeal.τ).loc Cert.FfnIntoIdeal.main_arg0)
          ∧ r.2.mem ((c.tc : Thread Cert.FfnIntoIdeal.nD Cert.FfnIntoIdeal.τ).loc Cert.FfnIntoIdeal.main_arg1) = m ((c.tc : Thread Cert.FfnIntoIdeal.nD Cert.FfnIntoIdeal.τ).loc Cert.FfnIntoIdeal.main_arg1)
          ∧ r.2.mem ((c.tc : Thread Cert.FfnIntoIdeal.nD Cert.FfnIntoIdeal.τ).loc Cert.FfnIntoIdeal.main_arg2) = m ((c.tc : Thread Cert.FfnIntoIdeal.nD Cert.FfnIntoIdeal.τ).loc Cert.FfnIntoIdeal.main_arg2)
          ∧ r.2.mem ((c.tc : Thread Cert.FfnIntoIdeal.nD Cert.FfnIntoIdeal.τ).loc Cert.FfnIntoIdeal.main_arg3) = m ((c.tc : Thread Cert.FfnIntoIdeal.nD Cert.FfnIntoIdeal.τ).loc Cert.FfnIntoIdeal.main_arg3)
          ∧ r.2.mem ((c.tc : Thread Cert.FfnIntoIdeal.nD Cert.FfnIntoIdeal.τ).loc Cert.FfnIntoIdeal.main_arg4) = m ((c.tc : Thread Cert.FfnIntoIdeal.nD Cert.FfnIntoIdeal.τ).loc Cert.FfnIntoIdeal.main_arg4))
      ∧ θ_run (Cert.FfnIntoReferenceIdeal.defs (F := Ideal)) (onTc (τ := Cert.FfnIntoReferenceIdeal.τ) (Cert.FfnIntoReferenceIdeal.main (F := Ideal))) ⟨m', fun _ => 0, g'⟩ (fun r => ∀ c : Dev Cert.FfnIntoReferenceIdeal.nD,
          r.2.mem ((c.tc : Thread Cert.FfnIntoReferenceIdeal.nD Cert.FfnIntoReferenceIdeal.τ).loc Cert.FfnIntoReferenceIdeal.main_v39) = v0 c
          ∧ r.2.mem ((c.tc : Thread Cert.FfnIntoReferenceIdeal.nD Cert.FfnIntoReferenceIdeal.τ).loc Cert.FfnIntoReferenceIdeal.main_arg0) = m' ((c.tc : Thread Cert.FfnIntoReferenceIdeal.nD Cert.FfnIntoReferenceIdeal.τ).loc Cert.FfnIntoReferenceIdeal.main_arg0)
          ∧ r.2.mem ((c.tc : Thread Cert.FfnIntoReferenceIdeal.nD Cert.FfnIntoReferenceIdeal.τ).loc Cert.FfnIntoReferenceIdeal.main_arg1) = m' ((c.tc : Thread Cert.FfnIntoReferenceIdeal.nD Cert.FfnIntoReferenceIdeal.τ).loc Cert.FfnIntoReferenceIdeal.main_arg1)
          ∧ r.2.mem ((c.tc : Thread Cert.FfnIntoReferenceIdeal.nD Cert.FfnIntoReferenceIdeal.τ).loc Cert.FfnIntoReferenceIdeal.main_arg2) = m' ((c.tc : Thread Cert.FfnIntoReferenceIdeal.nD Cert.FfnIntoReferenceIdeal.τ).loc Cert.FfnIntoReferenceIdeal.main_arg2)
          ∧ r.2.mem ((c.tc : Thread Cert.FfnIntoReferenceIdeal.nD Cert.FfnIntoReferenceIdeal.τ).loc Cert.FfnIntoReferenceIdeal.main_arg3) = m' ((c.tc : Thread Cert.FfnIntoReferenceIdeal.nD Cert.FfnIntoReferenceIdeal.τ).loc Cert.FfnIntoReferenceIdeal.main_arg3)
          ∧ r.2.mem ((c.tc : Thread Cert.FfnIntoReferenceIdeal.nD Cert.FfnIntoReferenceIdeal.τ).loc Cert.FfnIntoReferenceIdeal.main_arg4) = m' ((c.tc : Thread Cert.FfnIntoReferenceIdeal.nD Cert.FfnIntoReferenceIdeal.τ).loc Cert.FfnIntoReferenceIdeal.main_arg4))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)) →
    ∃ (v0 : (c : Dev Cert.OprojIdeal.nD) → Buf (Elt Ideal) ((c.tc : Thread Cert.OprojIdeal.nD Cert.OprojIdeal.τ).loc Cert.OprojIdeal.main_v0)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v4) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
      ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v6_0)) (v1 : (c : Dev Cert.KvIdeal.nD) → Buf (Elt Ideal) ((c.tc : Thread Cert.KvIdeal.nD Cert.KvIdeal.τ).loc Cert.KvIdeal.main_v6_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v6_0) = v0 c
          ∧ r.2.mem ((c.tc : Thread Cert.KvIdeal.nD Cert.KvIdeal.τ).loc Cert.KvIdeal.main_v6_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v29) = v0 c
          ∧ r.2.mem ((c.tc : Thread Cert.KvReferenceIdeal.nD Cert.KvReferenceIdeal.τ).loc Cert.KvReferenceIdeal.main_v31) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4))

def preserves_Q_QIdeal : Prop :=
  True

def algebraic_QIdeal_QReferenceIdeal [hQIdeal : Cert.QIdeal.Facts] [hQReferenceIdeal : Cert.QReferenceIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)
      ∧ m' ((c.tc : Thread Cert.QReferenceIdeal.nD Cert.QReferenceIdeal.τ).loc Cert.QReferenceIdeal.main_arg2) = m ((c.tc : Thread Cert.QIdeal.nD Cert.QIdeal.τ).loc Cert.QIdeal.main_arg2)
      ∧ m' ((c.tc : Thread Cert.QReferenceIdeal.nD Cert.QReferenceIdeal.τ).loc Cert.QReferenceIdeal.main_arg3) = m ((c.tc : Thread Cert.QIdeal.nD Cert.QIdeal.τ).loc Cert.QIdeal.main_arg3)) →
    ∃ (v0 : (c : Dev Cert.QIdeal.nD) → Buf (Elt Ideal) ((c.tc : Thread Cert.QIdeal.nD Cert.QIdeal.τ).loc Cert.QIdeal.main_v3)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v3) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v37) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3))

def preserves_FfnCastInto_FfnCastIntoIdeal : Prop :=
  True

def algebraic_FfnCastIntoIdeal_FfnCastIntoReferenceIdeal [hFfnCastIntoIdeal : Cert.FfnCastIntoIdeal.Facts] [hFfnCastIntoReferenceIdeal : Cert.FfnCastIntoReferenceIdeal.Facts] : Prop :=
  ∀ (m : (ℓ : Loc Cert.FfnCastIntoIdeal.nD Cert.FfnCastIntoIdeal.τ Cert.FfnCastIntoIdeal.sig) → Buf (Elt Ideal) ℓ) (g : Dev Cert.FfnCastIntoIdeal.nD → PrngReg)
    (m' : (ℓ : Loc Cert.FfnCastIntoReferenceIdeal.nD Cert.FfnCastIntoReferenceIdeal.τ Cert.FfnCastIntoReferenceIdeal.sig) → Buf (Elt Ideal) ℓ) (g' : Dev Cert.FfnCastIntoReferenceIdeal.nD → PrngReg), Pre_FfnCastIntoIdeal m →
    (∀ c : Dev Cert.FfnCastIntoIdeal.nD,
      m' ((c.tc : Thread Cert.FfnCastIntoReferenceIdeal.nD Cert.FfnCastIntoReferenceIdeal.τ).loc Cert.FfnCastIntoReferenceIdeal.main_arg0) = m ((c.tc : Thread Cert.FfnCastIntoIdeal.nD Cert.FfnCastIntoIdeal.τ).loc Cert.FfnCastIntoIdeal.main_arg0)
      ∧ m' ((c.tc : Thread Cert.FfnCastIntoReferenceIdeal.nD Cert.FfnCastIntoReferenceIdeal.τ).loc Cert.FfnCastIntoReferenceIdeal.main_arg1) = m ((c.tc : Thread Cert.FfnCastIntoIdeal.nD Cert.FfnCastIntoIdeal.τ).loc Cert.FfnCastIntoIdeal.main_arg1)
      ∧ m' ((c.tc : Thread Cert.FfnCastIntoReferenceIdeal.nD Cert.FfnCastIntoReferenceIdeal.τ).loc Cert.FfnCastIntoReferenceIdeal.main_arg2) = m ((c.tc : Thread Cert.FfnCastIntoIdeal.nD Cert.FfnCastIntoIdeal.τ).loc Cert.FfnCastIntoIdeal.main_arg2)
      ∧ m' ((c.tc : Thread Cert.FfnCastIntoReferenceIdeal.nD Cert.FfnCastIntoReferenceIdeal.τ).loc Cert.FfnCastIntoReferenceIdeal.main_arg3) = m ((c.tc : Thread Cert.FfnCastIntoIdeal.nD Cert.FfnCastIntoIdeal.τ).loc Cert.FfnCastIntoIdeal.main_arg3)
      ∧ m' ((c.tc : Thread Cert.FfnCastIntoReferenceIdeal.nD Cert.FfnCastIntoReferenceIdeal.τ).loc Cert.FfnCastIntoReferenceIdeal.main_arg4) = m ((c.tc : Thread Cert.FfnCastIntoIdeal.nD Cert.FfnCastIntoIdeal.τ).loc Cert.FfnCastIntoIdeal.main_arg4)
      ∧ m' ((c.tc : Thread Cert.FfnCastIntoReferenceIdeal.nD Cert.FfnCastIntoReferenceIdeal.τ).loc Cert.FfnCastIntoReferenceIdeal.main_arg5) = m ((c.tc : Thread Cert.FfnCastIntoIdeal.nD Cert.FfnCastIntoIdeal.τ).loc Cert.FfnCastIntoIdeal.main_arg5)) →
    ∃ (v0 : (c : Dev Cert.FfnCastIntoIdeal.nD) → Buf (Elt Ideal) ((c.tc : Thread Cert.FfnCastIntoIdeal.nD Cert.FfnCastIntoIdeal.τ).loc Cert.FfnCastIntoIdeal.main_v0_0)) (v1 : (c : Dev Cert.FfnCastIntoIdeal.nD) → Buf (Elt Ideal) ((c.tc : Thread Cert.FfnCastIntoIdeal.nD Cert.FfnCastIntoIdeal.τ).loc Cert.FfnCastIntoIdeal.main_v0_1)),
      θ_run (Cert.FfnCastIntoIdeal.defs (F := Ideal)) (onTc (τ := Cert.FfnCastIntoIdeal.τ) (Cert.FfnCastIntoIdeal.main (F := Ideal))) ⟨m, fun _ => 0, g⟩ (fun r => ∀ c : Dev Cert.FfnCastIntoIdeal.nD,
          r.2.mem ((c.tc : Thread Cert.FfnCastIntoIdeal.nD Cert.FfnCastIntoIdeal.τ).loc Cert.FfnCastIntoIdeal.main_v0_0) = v0 c
          ∧ r.2.mem ((c.tc : Thread Cert.FfnCastIntoIdeal.nD Cert.FfnCastIntoIdeal.τ).loc Cert.FfnCastIntoIdeal.main_v0_1) = v1 c
          ∧ r.2.mem ((c.tc : Thread Cert.FfnCastIntoIdeal.nD Cert.FfnCastIntoIdeal.τ).loc Cert.FfnCastIntoIdeal.main_arg0) = m ((c.tc : Thread Cert.FfnCastIntoIdeal.nD Cert.FfnCastIntoIdeal.τ).loc Cert.FfnCastIntoIdeal.main_arg0)
          ∧ r.2.mem ((c.tc : Thread Cert.FfnCastIntoIdeal.nD Cert.FfnCastIntoIdeal.τ).loc Cert.FfnCastIntoIdeal.main_arg1) = m ((c.tc : Thread Cert.FfnCastIntoIdeal.nD Cert.FfnCastIntoIdeal.τ).loc Cert.FfnCastIntoIdeal.main_arg1)
          ∧ r.2.mem ((c.tc : Thread Cert.FfnCastIntoIdeal.nD Cert.FfnCastIntoIdeal.τ).loc Cert.FfnCastIntoIdeal.main_arg2) = m ((c.tc : Thread Cert.FfnCastIntoIdeal.nD Cert.FfnCastIntoIdeal.τ).loc Cert.FfnCastIntoIdeal.main_arg2)
          ∧ r.2.mem ((c.tc : Thread Cert.FfnCastIntoIdeal.nD Cert.FfnCastIntoIdeal.τ).loc Cert.FfnCastIntoIdeal.main_arg3) = m ((c.tc : Thread Cert.FfnCastIntoIdeal.nD Cert.FfnCastIntoIdeal.τ).loc Cert.FfnCastIntoIdeal.main_arg3)
          ∧ r.2.mem ((c.tc : Thread Cert.FfnCastIntoIdeal.nD Cert.FfnCastIntoIdeal.τ).loc Cert.FfnCastIntoIdeal.main_arg4) = m ((c.tc : Thread Cert.FfnCastIntoIdeal.nD Cert.FfnCastIntoIdeal.τ).loc Cert.FfnCastIntoIdeal.main_arg4)
          ∧ r.2.mem ((c.tc : Thread Cert.FfnCastIntoIdeal.nD Cert.FfnCastIntoIdeal.τ).loc Cert.FfnCastIntoIdeal.main_arg5) = m ((c.tc : Thread Cert.FfnCastIntoIdeal.nD Cert.FfnCastIntoIdeal.τ).loc Cert.FfnCastIntoIdeal.main_arg5))
      ∧ θ_run (Cert.FfnCastIntoReferenceIdeal.defs (F := Ideal)) (onTc (τ := Cert.FfnCastIntoReferenceIdeal.τ) (Cert.FfnCastIntoReferenceIdeal.main (F := Ideal))) ⟨m', fun _ => 0, g'⟩ (fun r => ∀ c : Dev Cert.FfnCastIntoReferenceIdeal.nD,
          r.2.mem ((c.tc : Thread Cert.FfnCastIntoReferenceIdeal.nD Cert.FfnCastIntoReferenceIdeal.τ).loc Cert.FfnCastIntoReferenceIdeal.main_v45) = v0 c
          ∧ r.2.mem ((c.tc : Thread Cert.FfnCastIntoReferenceIdeal.nD Cert.FfnCastIntoReferenceIdeal.τ).loc Cert.FfnCastIntoReferenceIdeal.main_v39) = v1 c
          ∧ r.2.mem ((c.tc : Thread Cert.FfnCastIntoReferenceIdeal.nD Cert.FfnCastIntoReferenceIdeal.τ).loc Cert.FfnCastIntoReferenceIdeal.main_arg0) = m' ((c.tc : Thread Cert.FfnCastIntoReferenceIdeal.nD Cert.FfnCastIntoReferenceIdeal.τ).loc Cert.FfnCastIntoReferenceIdeal.main_arg0)
          ∧ r.2.mem ((c.tc : Thread Cert.FfnCastIntoReferenceIdeal.nD Cert.FfnCastIntoReferenceIdeal.τ).loc Cert.FfnCastIntoReferenceIdeal.main_arg1) = m' ((c.tc : Thread Cert.FfnCastIntoReferenceIdeal.nD Cert.FfnCastIntoReferenceIdeal.τ).loc Cert.FfnCastIntoReferenceIdeal.main_arg1)
          ∧ r.2.mem ((c.tc : Thread Cert.FfnCastIntoReferenceIdeal.nD Cert.FfnCastIntoReferenceIdeal.τ).loc Cert.FfnCastIntoReferenceIdeal.main_arg2) = m' ((c.tc : Thread Cert.FfnCastIntoReferenceIdeal.nD Cert.FfnCastIntoReferenceIdeal.τ).loc Cert.FfnCastIntoReferenceIdeal.main_arg2)
          ∧ r.2.mem ((c.tc : Thread Cert.FfnCastIntoReferenceIdeal.nD Cert.FfnCastIntoReferenceIdeal.τ).loc Cert.FfnCastIntoReferenceIdeal.main_arg3) = m' ((c.tc : Thread Cert.FfnCastIntoReferenceIdeal.nD Cert.FfnCastIntoReferenceIdeal.τ).loc Cert.FfnCastIntoReferenceIdeal.main_arg3)
          ∧ r.2.mem ((c.tc : Thread Cert.FfnCastIntoReferenceIdeal.nD Cert.FfnCastIntoReferenceIdeal.τ).loc Cert.FfnCastIntoReferenceIdeal.main_arg4) = m' ((c.tc : Thread Cert.FfnCastIntoReferenceIdeal.nD Cert.FfnCastIntoReferenceIdeal.τ).loc Cert.FfnCastIntoReferenceIdeal.main_arg4)
          ∧ r.2.mem ((c.tc : Thread Cert.FfnCastIntoReferenceIdeal.nD Cert.FfnCastIntoReferenceIdeal.τ).loc Cert.FfnCastIntoReferenceIdeal.main_arg5) = m' ((c.tc : Thread Cert.FfnCastIntoReferenceIdeal.nD Cert.FfnCastIntoReferenceIdeal.τ).loc Cert.FfnCastIntoReferenceIdeal.main_arg5))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v140) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnCast : Cert.FfnCast.Facts) (hFfnCastIdeal : Cert.FfnCastIdeal.Facts) (hFfnCastReferenceIdeal : Cert.FfnCastReferenceIdeal.Facts) (hFfnInto : Cert.FfnInto.Facts) (hFfnIntoIdeal : Cert.FfnIntoIdeal.Facts) (hFfnIntoReferenceIdeal : Cert.FfnIntoReferenceIdeal.Facts) (hOproj : Cert.Oproj.Facts) (hOprojIdeal : Cert.OprojIdeal.Facts) (hOprojReferenceIdeal : Cert.OprojReferenceIdeal.Facts) (hKv : Cert.Kv.Facts) (hKvIdeal : Cert.KvIdeal.Facts) (hKvReferenceIdeal : Cert.KvReferenceIdeal.Facts) (hQ : Cert.Q.Facts) (hQIdeal : Cert.QIdeal.Facts) (hQReferenceIdeal : Cert.QReferenceIdeal.Facts) (hFfnCastInto : Cert.FfnCastInto.Facts) (hFfnCastIntoIdeal : Cert.FfnCastIntoIdeal.Facts) (hFfnCastIntoReferenceIdeal : Cert.FfnCastIntoReferenceIdeal.Facts) (hPool : Cert.Pool.Facts) (hPoolIdeal : Cert.PoolIdeal.Facts) (hPoolReferenceIdeal : Cert.PoolReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnCast (hFfnCast := hFfnCast)
    ∧ quiescent_FfnCastIdeal (hFfnCastIdeal := hFfnCastIdeal)
    ∧ quiescent_FfnCastReferenceIdeal (hFfnCastReferenceIdeal := hFfnCastReferenceIdeal)
    ∧ quiescent_FfnInto (hFfnInto := hFfnInto)
    ∧ quiescent_FfnIntoIdeal (hFfnIntoIdeal := hFfnIntoIdeal)
    ∧ quiescent_FfnIntoReferenceIdeal (hFfnIntoReferenceIdeal := hFfnIntoReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Kv (hKv := hKv)
    ∧ quiescent_KvIdeal (hKvIdeal := hKvIdeal)
    ∧ quiescent_KvReferenceIdeal (hKvReferenceIdeal := hKvReferenceIdeal)
    ∧ quiescent_Q (hQ := hQ)
    ∧ quiescent_QIdeal (hQIdeal := hQIdeal)
    ∧ quiescent_QReferenceIdeal (hQReferenceIdeal := hQReferenceIdeal)
    ∧ quiescent_FfnCastInto (hFfnCastInto := hFfnCastInto)
    ∧ quiescent_FfnCastIntoIdeal (hFfnCastIntoIdeal := hFfnCastIntoIdeal)
    ∧ quiescent_FfnCastIntoReferenceIdeal (hFfnCastIntoReferenceIdeal := hFfnCastIntoReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnCast_FfnCastIdeal
    ∧ algebraic_FfnCastIdeal_FfnCastReferenceIdeal (hFfnCastIdeal := hFfnCastIdeal) (hFfnCastReferenceIdeal := hFfnCastReferenceIdeal)
    ∧ preserves_FfnInto_FfnIntoIdeal
    ∧ algebraic_FfnIntoIdeal_FfnIntoReferenceIdeal (hFfnIntoIdeal := hFfnIntoIdeal) (hFfnIntoReferenceIdeal := hFfnIntoReferenceIdeal)
    ∧ preserves_Oproj_OprojIdeal
    ∧ algebraic_OprojIdeal_OprojReferenceIdeal (hOprojIdeal := hOprojIdeal) (hOprojReferenceIdeal := hOprojReferenceIdeal)
    ∧ preserves_Kv_KvIdeal
    ∧ algebraic_KvIdeal_KvReferenceIdeal (hKvIdeal := hKvIdeal) (hKvReferenceIdeal := hKvReferenceIdeal)
    ∧ preserves_Q_QIdeal
    ∧ algebraic_QIdeal_QReferenceIdeal (hQIdeal := hQIdeal) (hQReferenceIdeal := hQReferenceIdeal)
    ∧ preserves_FfnCastInto_FfnCastIntoIdeal
    ∧ algebraic_FfnCastIntoIdeal_FfnCastIntoReferenceIdeal (hFfnCastIntoIdeal := hFfnCastIntoIdeal) (hFfnCastIntoReferenceIdeal := hFfnCastIntoReferenceIdeal)
    ∧ preserves_Pool_PoolIdeal
    ∧ algebraic_PoolIdeal_PoolReferenceIdeal (hPoolIdeal := hPoolIdeal) (hPoolReferenceIdeal := hPoolReferenceIdeal)
-- ==== Pre_finite.lean ====
abbrev S8192x2048 : Shape := ⟨2, ![8192, 2048]⟩
abbrev S16x192 : Shape := ⟨2, ![16, 192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S16x192 : S_.BroadcastsInDim S16x192 (![] : Fin 0 → Fin S16x192.rank)

variable [Facts]

def fn {F : FTy → Type} [FloatOps F] (main_arg0 : FVec F S8192x2048 .bf16) (main_arg1 : FVec F S8192x2048 .bf16) (main_arg2 : FVec F S8192x2048 .bf16) (main_arg3 : FVec F S16x192 .f32) : IVec S8192x2048 1 × IVec S8192x2048 1 × IVec S16x192 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S16x192 .f32 := Host.absf main_arg3
  let main_cst_1 : FVec F S_ .f32 := constant S_ .f32 0x7F800000#32
  let main_v9 : FVec F S16x192 .f32 := broadcastInDim S16x192 ![] bcast_S_S16x192 main_cst_1
  let main_v10 : IVec S16x192 1 := cmpf .olt main_v8 main_v9
  (main_v3, main_v7, main_v10)
-- ==== Kernel.lean ====
abbrev S8192x2048 : Shape := ⟨2, ![8192, 2048]⟩
abbrev S16x192 : Shape := ⟨2, ![16, 192]⟩
abbrev S16x1 : Shape := ⟨2, ![16, 1]⟩
abbrev S16x384 : Shape := ⟨2, ![16, 384]⟩
abbrev S16x256 : Shape := ⟨2, ![16, 256]⟩
abbrev S16x1024 : Shape := ⟨2, ![16, 1024]⟩
abbrev S16x1x1024 : Shape := ⟨3, ![16, 1, 1024]⟩
abbrev S256x2048 : Shape := ⟨2, ![256, 2048]⟩
abbrev S16x4x256x256 : Shape := ⟨4, ![16, 4, 256, 256]⟩
abbrev S256x256 : Shape := ⟨2, ![256, 256]⟩
abbrev S1x1x1024 : Shape := ⟨3, ![1, 1, 1024]⟩
abbrev S1x1024 : Shape := ⟨2, ![1, 1024]⟩
abbrev S256x1024 : Shape := ⟨2, ![256, 1024]⟩
abbrev S1x1x256x256 : Shape := ⟨4, ![1, 1, 256, 256]⟩
abbrev S256x128 : Shape := ⟨2, ![256, 128]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S16x192, .f32⟩
  | .hbm, ⟨4, _⟩ => ⟨S16x1, .f32⟩
  | .hbm, ⟨5, _⟩ => ⟨S16x384, .f32⟩
  | .hbm, ⟨6, _⟩ => ⟨S16x1, .f32⟩
  | .hbm, ⟨7, _⟩ => ⟨S16x192, .f32⟩
  | .hbm, ⟨8, _⟩ => ⟨S16x1, .f32⟩
  | .hbm, ⟨9, _⟩ => ⟨S16x256, .f32⟩
  | .hbm, ⟨10, _⟩ => ⟨S16x192, .f32⟩
  | .hbm, ⟨11, _⟩ => ⟨S16x1024, .f32⟩
  | .hbm, ⟨12, _⟩ => ⟨S16x1x1024, .f32⟩
  | .hbm, ⟨13, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S16x1x1024, .f32⟩
  | .local _ .vmem, ⟨15, _⟩ => ⟨S256x2048, .bf16⟩
  | .local _ .vmem, ⟨16, _⟩ => ⟨S256x2048, .bf16⟩
  | .local _ .vmem, ⟨17, _⟩ => ⟨S16x4x256x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def k0_off1 (i : grid0.Coords) (c0_i32_1 : BitVec 32) (c0_i32_3 : BitVec 32) : Fin 4 → Nat :=
  let c0_12 : Index := 0#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v15 : Index := Scalar.indexCast v6
  let c0_13 : Index := 0#32
  let c0_14 : Index := 0#32
  ![0, v15.toNat, 0, 0]
def k0_off1_at (r : Fin 2) : BitVec 32 × BitVec 32 :=
  if r.val < 1 then
    (0#32, 0#32)
  else
    (1#32, 1#32)
def k0_off2 (i : grid0.Coords) (c0_i32_1 : BitVec 32) (c0_i32_3 : BitVec 32) : Fin 4 → Nat :=
  let c1 : Index := 1#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v33 : Index := Scalar.indexCast v6
  let c0_31 : Index := 0#32
  let c0_32 : Index := 0#32
  ![1, v33.toNat, 0, 0]
def k0_off2_at (r : Fin 2) : BitVec 32 × BitVec 32 :=
  if r.val < 1 then
    (0#32, 0#32)
  else
    (1#32, 1#32)
def k0_off3 (i : grid0.Coords) (c0_i32_1 : BitVec 32) (c0_i32_3 : BitVec 32) : Fin 4 → Nat :=
  let c2_66 : Index := 2#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v143 : Index := Scalar.indexCast v6
  let c0_67 : Index := 0#32
  let c0_68 : Index := 0#32
  ![2, v143.toNat, 0, 0]
def k0_off3_at (r : Fin 2) : BitVec 32 × BitVec 32 :=
  if r.val < 1 then
    (0#32, 0#32)
  else
    (1#32, 1#32)
def k0_off4 (i : grid0.Coords) (c0_i32_1 : BitVec 32) (c0_i32_3 : BitVec 32) : Fin 4 → Nat :=
  let c3 : Index := 3#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v253 : Index := Scalar.indexCast v6
  let c0_102 : Index := 0#32
  let c0_103 : Index := 0#32
  ![3, v253.toNat, 0, 0]
def k0_off4_at (r : Fin 2) : BitVec 32 × BitVec 32 :=
  if r.val < 1 then
    (0#32, 0#32)
  else
    (1#32, 1#32)
def k0_off5 (i : grid0.Coords) (c0_i32_1 : BitVec 32) (c0_i32_3 : BitVec 32) : Fin 4 → Nat :=
  let c4 : Index := 4#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v363 : Index := Scalar.indexCast v6
  let c0_137 : Index := 0#32
  let c0_138 : Index := 0#32
  ![4, v363.toNat, 0, 0]
def k0_off5_at (r : Fin 2) : BitVec 32 × BitVec 32 :=
  if r.val < 1 then
    (0#32, 0#32)
  else
    (1#32, 1#32)
def k0_off6 (i : grid0.Coords) (c0_i32_1 : BitVec 32) (c0_i32_3 : BitVec 32) : Fin 4 → Nat :=
  let c5 : Index := 5#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v473 : Index := Scalar.indexCast v6
  let c0_172 : Index := 0#32
  let c0_173 : Index := 0#32
  ![5, v473.toNat, 0, 0]
def k0_off6_at (r : Fin 2) : BitVec 32 × BitVec 32 :=
  if r.val < 1 then
    (0#32, 0#32)
  else
    (1#32, 1#32)
def k0_off7 (i : grid0.Coords) (c0_i32_1 : BitVec 32) (c0_i32_3 : BitVec 32) : Fin 4 → Nat :=
  let c6 : Index := 6#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v583 : Index := Scalar.indexCast v6
  let c0_207 : Index := 0#32
  let c0_208 : Index := 0#32
  ![6, v583.toNat, 0, 0]
def k0_off7_at (r : Fin 2) : BitVec 32 × BitVec 32 :=
  if r.val < 1 then
    (0#32, 0#32)
  else
    (1#32, 1#32)
def k0_off8 (i : grid0.Coords) (c0_i32_1 : BitVec 32) (c0_i32_3 : BitVec 32) : Fin 4 → Nat :=
  let c7 : Index := 7#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v693 : Index := Scalar.indexCast v6
  let c0_242 : Index := 0#32
  let c0_243 : Index := 0#32
  ![7, v693.toNat, 0, 0]
def k0_off8_at (r : Fin 2) : BitVec 32 × BitVec 32 :=
  if r.val < 1 then
    (0#32, 0#32)
  else
    (1#32, 1#32)
def k0_off9 (i : grid0.Coords) (c0_i32_1 : BitVec 32) (c0_i32_3 : BitVec 32) : Fin 4 → Nat :=
  let c8 : Index := 8#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v803 : Index := Scalar.indexCast v6
  let c0_277 : Index := 0#32
  let c0_278 : Index := 0#32
  ![8, v803.toNat, 0, 0]
def k0_off9_at (r : Fin 2) : BitVec 32 × BitVec 32 :=
  if r.val < 1 then
    (0#32, 0#32)
  else
    (1#32, 1#32)
def k0_off10 (i : grid0.Coords) (c0_i32_1 : BitVec 32) (c0_i32_3 : BitVec 32) : Fin 4 → Nat :=
  let c9 : Index := 9#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v913 : Index := Scalar.indexCast v6
  let c0_312 : Index := 0#32
  let c0_313 : Index := 0#32
  ![9, v913.toNat, 0, 0]
def k0_off10_at (r : Fin 2) : BitVec 32 × BitVec 32 :=
  if r.val < 1 then
    (0#32, 0#32)
  else
    (1#32, 1#32)
def k0_off11 (i : grid0.Coords) (c0_i32_1 : BitVec 32) (c0_i32_3 : BitVec 32) : Fin 4 → Nat :=
  let c10 : Index := 10#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1023 : Index := Scalar.indexCast v6
  let c0_347 : Index := 0#32
  let c0_348 : Index := 0#32
  ![10, v1023.toNat, 0, 0]
def k0_off11_at (r : Fin 2) : BitVec 32 × BitVec 32 :=
  if r.val < 1 then
    (0#32, 0#32)
  else
    (1#32, 1#32)
def k0_off12 (i : grid0.Coords) (c0_i32_1 : BitVec 32) (c0_i32_3 : BitVec 32) : Fin 4 → Nat :=
  let c11 : Index := 11#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1133 : Index := Scalar.indexCast v6
  let c0_382 : Index := 0#32
  let c0_383 : Index := 0#32
  ![11, v1133.toNat, 0, 0]
def k0_off12_at (r : Fin 2) : BitVec 32 × BitVec 32 :=
  if r.val < 1 then
    (0#32, 0#32)
  else
    (1#32, 1#32)
def k0_off13 (i : grid0.Coords) (c0_i32_1 : BitVec 32) (c0_i32_3 : BitVec 32) : Fin 4 → Nat :=
  let c12 : Index := 12#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1243 : Index := Scalar.indexCast v6
  let c0_417 : Index := 0#32
  let c0_418 : Index := 0#32
  ![12, v1243.toNat, 0, 0]
def k0_off13_at (r : Fin 2) : BitVec 32 × BitVec 32 :=
  if r.val < 1 then
    (0#32, 0#32)
  else
    (1#32, 1#32)
def k0_off14 (i : grid0.Coords) (c0_i32_1 : BitVec 32) (c0_i32_3 : BitVec 32) : Fin 4 → Nat :=
  let c13 : Index := 13#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1353 : Index := Scalar.indexCast v6
  let c0_452 : Index := 0#32
  let c0_453 : Index := 0#32
  ![13, v1353.toNat, 0, 0]
def k0_off14_at (r : Fin 2) : BitVec 32 × BitVec 32 :=
  if r.val < 1 then
    (0#32, 0#32)
  else
    (1#32, 1#32)
def k0_off15 (i : grid0.Coords) (c0_i32_1 : BitVec 32) (c0_i32_3 : BitVec 32) : Fin 4 → Nat :=
  let c14 : Index := 14#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1463 : Index := Scalar.indexCast v6
  let c0_487 : Index := 0#32
  let c0_488 : Index := 0#32
  ![14, v1463.toNat, 0, 0]
def k0_off15_at (r : Fin 2) : BitVec 32 × BitVec 32 :=
  if r.val < 1 then
    (0#32, 0#32)
  else
    (1#32, 1#32)
def k0_off16 (i : grid0.Coords) (c0_i32_1 : BitVec 32) (c0_i32_3 : BitVec 32) : Fin 4 → Nat :=
  let c15 : Index := 15#32
  let arg0 : BitVec 32 := BitVec.ofNat 32 (i 0).val
  let c2_i32 : BitVec 32 := 2#32
  let v3 : BitVec 32 := Scalar.subi arg0 c2_i32
  let v4 : BitVec 32 := Scalar.addi v3 c0_i32_1
  let c0_i32_2 : BitVec 32 := 0#32
  let v5 : BitVec 1 := Scalar.cmpi .sge v4 c0_i32_2
  let c3_i32 : BitVec 32 := 3#32
  let v6 : BitVec 32 := Scalar.select v5 c0_i32_3 c3_i32
  let v1573 : Index := Scalar.indexCast v6
  let c0_522 : Index := 0#32
  let c0_523 : Index := 0#32
  ![15, v1573.toNat, 0, 0]
def k0_off16_at (r : Fin 2) : BitVec 32 × BitVec 32 :=
  if r.val < 1 then
    (0#32, 0#32)
  else
    (1#32, 1#32)
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S16x192 : Shape := ⟨2, ![16, 192]⟩
abbrev S8192x16x128 : Shape := ⟨3, ![8192, 16, 128]⟩
abbrev S_ : Shape := ⟨0, ![]⟩
abbrev S8704x16x128 : Shape := ⟨3, ![8704, 16, 128]⟩
abbrev S128x64x16x128 : Shape := ⟨4, ![128, 64, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S128 : Shape := ⟨1, ![128]⟩
abbrev S128x1 : Shape := ⟨2, ![128, 1]⟩
abbrev S128x576 : Shape := ⟨2, ![128, 576]⟩
abbrev S128x576x1 : Shape := ⟨3, ![128, 576, 1]⟩
abbrev S128x576x16x128 : Shape := ⟨4, ![128, 576, 16, 128]⟩
abbrev S128x16x64x576 : Shape := ⟨4, ![128, 16, 64, 576]⟩
abbrev S1x16x64x576 : Shape := ⟨4, ![1, 16, 64, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S16x192, .f32⟩
  | .hbm, ⟨4, _⟩ => ⟨S8192x2048, .f32⟩
  | .hbm, ⟨5, _⟩ => ⟨S8192x16x128, .f32⟩
  | .hbm, ⟨6, _⟩ => ⟨S_, .i32⟩
  | .hbm, ⟨7, _⟩ => ⟨S_, .f32⟩
  | .hbm, ⟨8, _⟩ => ⟨S8704x16x128, .f32⟩
  | .hbm, ⟨9, _⟩ => ⟨S8192x2048, .f32⟩
  | .hbm, ⟨10, _⟩ => ⟨S8192x16x128, .f32⟩
  | .hbm, ⟨11, _⟩ => ⟨S_, .i32⟩
  | .hbm, ⟨12, _⟩ => ⟨S_, .f32⟩
  | .hbm, ⟨13, _⟩ => ⟨S8704x16x128, .f32⟩
  | .hbm, ⟨14, _⟩ => ⟨S8192x2048, .f32⟩
  | .hbm, ⟨15, _⟩ => ⟨S8192x16x128, .f32⟩
  | .hbm, ⟨16, _⟩ => ⟨S128x64x16x128, .f32⟩
  | .hbm, ⟨17, _⟩ => ⟨S64, .i32⟩
  | .hbm, ⟨18, _⟩ => ⟨S64x1, .i32⟩
  | .hbm, ⟨19, _⟩ => ⟨S576, .i32⟩
  | .hbm, ⟨20, _⟩ => ⟨S1x576, .i32⟩
  | .hbm, ⟨21, _⟩ => ⟨S64x576, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S_, .i32⟩
  | .hbm, ⟨39, _⟩ => ⟨S64x576, .i32⟩
  | .hbm, ⟨40, _⟩ => ⟨S64x576, .i1⟩
  | .hbm, ⟨41, _⟩ => ⟨S_, .i32⟩
  | .hbm, ⟨42, _⟩ => ⟨S64x576, .i32⟩
  | .hbm, ⟨43, _⟩ => ⟨S64x576, .i32⟩
  | .hbm, ⟨44, _⟩ => ⟨S64x576, .i32⟩
  | .hbm, ⟨45, _⟩ => ⟨S64x576x1, .i32⟩
  | .hbm, ⟨46, _⟩ => ⟨S16x64x576, .f32⟩
  | .hbm, ⟨47, _⟩ => ⟨S128, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x576, .i32⟩
  | .hbm, ⟨53, _⟩ => ⟨S128x576, .i32⟩
  | .hbm, ⟨54, _⟩ => ⟨S128x576, .i32⟩
  | .hbm, ⟨55, _⟩ => ⟨S_, .i32⟩
  | .hbm, ⟨56, _⟩ => ⟨S128x576, .i32⟩
  | .hbm, ⟨57, _⟩ => ⟨S128x576, .i1⟩
  | .hbm, ⟨58, _⟩ => ⟨S_, .i32⟩
  | .hbm, ⟨59, _⟩ => ⟨S128x576, .i32⟩
  | .hbm, ⟨60, _⟩ => ⟨S128x576, .i32⟩
  | .hbm, ⟨61, _⟩ => ⟨S128x576, .i32⟩
  | .hbm, ⟨62, _⟩ => ⟨S128x576x1, .i32⟩
  | .hbm, ⟨63, _⟩ => ⟨S128x576x16x128, .f32⟩
  | .hbm, ⟨64, _⟩ => ⟨S128x16x64x576, .f32⟩
  | .hbm, ⟨65, _⟩ => ⟨S1x16x64x576, .f32⟩
  | .hbm, ⟨66, _⟩ => ⟨S128x16x64x576, .f32⟩
  | .hbm, ⟨67, _⟩ => ⟨S128x16x64x576, .f32⟩
  | .hbm, ⟨68, _⟩ => ⟨S_, .i32⟩
  | .hbm, ⟨69, _⟩ => ⟨S128x576, .i32⟩
  | .hbm, ⟨70, _⟩ => ⟨S128x576, .i1⟩
  | .hbm, ⟨71, _⟩ => ⟨S128x1x1x576, .i1⟩
  | .hbm, ⟨72, _⟩ => ⟨S_, .f32⟩
  | .hbm, ⟨73, _⟩ => ⟨S_, .f32⟩
  | .hbm, ⟨74, _⟩ => ⟨S128x16x64x576, .i1⟩
  | .hbm, ⟨75, _⟩ => ⟨S128x16x64x576, .f32⟩
  | .hbm, ⟨76, _⟩ => ⟨S128x16x64x576, .f32⟩
  | .hbm, ⟨77, _⟩ => ⟨S_, .f32⟩
  | .hbm, ⟨78, _⟩ => ⟨S128x16x64, .f32⟩
  | .hbm, ⟨79, _⟩ => ⟨S_, .f32⟩
  | .hbm, ⟨80, _⟩ => ⟨S128x16x64, .f32⟩
  | .hbm, ⟨81, _⟩ => ⟨S128x16x64, .f32⟩
  | .hbm, ⟨82, _⟩ => ⟨S128x16x64x1, .f32⟩
  | .hbm, ⟨83, _⟩ => ⟨S128x16x64x576, .f32⟩
  | .hbm, ⟨84, _⟩ => ⟨S128x16x64x576, .f32⟩
  | .hbm, ⟨85, _⟩ => ⟨S128x16x64x576, .f32⟩
  | .hbm, ⟨86, _⟩ => ⟨S_, .f32⟩
  | .hbm, ⟨87, _⟩ => ⟨S128x16x64, .f32⟩
  | .hbm, ⟨88, _⟩ => ⟨S128x16x64x1, .f32⟩
  | .hbm, ⟨89, _⟩ => ⟨S128x16x64x576, .f32⟩
  | .hbm, ⟨90, _⟩ => ⟨S128x16x64x576, .f32⟩
  | .hbm, ⟨91, _⟩ => ⟨S_, .i32⟩
  | .hbm, ⟨92, _⟩ => ⟨S128x576, .i32⟩
  | .hbm, ⟨93, _⟩ => ⟨S128x576, .i1⟩
  | .hbm, ⟨94, _⟩ => ⟨S_, .i32⟩
  | .hbm, ⟨95, _⟩ => ⟨S128x576, .i32⟩
  | .hbm, ⟨96, _⟩ => ⟨S128x576, .i32⟩
  | .hbm, ⟨97, _⟩ => ⟨S128x576, .i32⟩
  | .hbm, ⟨98, _⟩ => ⟨S128x576x1, .i32⟩
  | .hbm, ⟨99, _⟩ => ⟨S128x576x16x128, .f32⟩
  | .hbm, ⟨100, _⟩ => ⟨S128x16x128x64, .f32⟩
  | .hbm, ⟨101, _⟩ => ⟨S128x64x16x128, .f32⟩
  | .hbm, ⟨102, _⟩ => ⟨S8192x2048, .f32⟩
  | .hbm, ⟨103, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Ffn.lean ====
abbrev S8192x2048 : Shape := ⟨2, ![8192, 2048]⟩
abbrev S4x2048 : Shape := ⟨2, ![4, 2048]⟩
abbrev S11x2x2048x512 : Shape := ⟨4, ![11, 2, 2048, 512]⟩
abbrev S4x5504x2048 : Shape := ⟨3, ![4, 5504, 2048]⟩
abbrev S1024x2048 : Shape := ⟨2, ![1024, 2048]⟩
abbrev S1x2x2048x512 : Shape := ⟨4, ![1, 2, 2048, 512]⟩
abbrev S1x512x2048 : Shape := ⟨3, ![1, 512, 2048]⟩
abbrev S512x2048 : Shape := ⟨2, ![512, 2048]⟩
abbrev S1x1x2048x512 : Shape := ⟨4, ![1, 1, 2048, 512]⟩
abbrev S2048x512 : Shape := ⟨2, ![2048, 512]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x384x2048 : Shape := ⟨3, ![1, 384, 2048]⟩
abbrev S384x2048 : Shape := ⟨2, ![384, 2048]⟩
abbrev S1x1x2048x384 : Shape := ⟨4, ![1, 1, 2048, 384]⟩
abbrev S2048x384 : Shape := ⟨2, ![2048, 384]⟩
abbrev S1024x384 : Shape := ⟨2, ![1024, 384]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S11x2x2048x512, .bf16⟩
  | .hbm, ⟨3, _⟩ => ⟨S4x5504x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S4x2048, .f32⟩
  | .local _ .vmem, ⟨3, _⟩ => ⟨S1x2x2048x512, .bf16⟩
  | .local _ .vmem, ⟨4, _⟩ => ⟨S1x2x2048x512, .bf16⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S8192x2048 : Shape := ⟨2, ![8192, 2048]⟩
abbrev S4x2048 : Shape := ⟨2, ![4, 2048]⟩
abbrev S11x2x2048x512 : Shape := ⟨4, ![11, 2, 2048, 512]⟩
abbrev S4x5504x2048 : Shape := ⟨3, ![4, 5504, 2048]⟩
abbrev S11x1x2048x512 : Shape := ⟨4, ![11, 1, 2048, 512]⟩
abbrev S11x2048x512 : Shape := ⟨3, ![11, 2048, 512]⟩
abbrev S2048x11x512 : Shape := ⟨3, ![2048, 11, 512]⟩
abbrev S2048x5632 : Shape := ⟨2, ![2048, 5632]⟩
abbrev S2048x5504 : Shape := ⟨2, ![2048, 5504]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x5504 : Shape := ⟨2, ![8192, 5504]⟩
abbrev S1x5504x2048 : Shape := ⟨3, ![1, 5504, 2048]⟩
abbrev S5504x2048 : Shape := ⟨2, ![5504, 2048]⟩
abbrev S1024x2048 : Shape := ⟨2, ![1024, 2048]⟩
abbrev S7168x2048 : Shape := ⟨2, ![7168, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S11x2x2048x512, .bf16⟩
  | .hbm, ⟨3, _⟩ => ⟨S4x5504x2048, .f32⟩
  | .hbm, ⟨4, _⟩ => ⟨S11x1x2048x512, .bf16⟩
  | .hbm, ⟨5, _⟩ => ⟨S11x2048x512, .bf16⟩
  | .hbm, ⟨6, _⟩ => ⟨S11x2048x512, .f32⟩
  | .hbm, ⟨7, _⟩ => ⟨S2048x11x512, .f32⟩
  | .hbm, ⟨8, _⟩ => ⟨S2048x5632, .f32⟩
  | .hbm, ⟨9, _⟩ => ⟨S2048x5504, .f32⟩
  | .hbm, ⟨10, _⟩ => ⟨S11x1x2048x512, .bf16⟩
  | .hbm, ⟨11, _⟩ => ⟨S11x2048x512, .bf16⟩
  | .hbm, ⟨12, _⟩ => ⟨S11x2048x512, .f32⟩
  | .hbm, ⟨13, _⟩ => ⟨S2048x11x512, .f32⟩
  | .hbm, ⟨14, _⟩ => ⟨S2048x5632, .f32⟩
  | .hbm, ⟨15, _⟩ => ⟨S2048x5504, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x5504, .f32⟩
  | .hbm, ⟨35, _⟩ => ⟨S8192x5504, .f32⟩
  | .hbm, ⟨36, _⟩ => ⟨S8192x5504, .f32⟩
  | .hbm, ⟨37, _⟩ => ⟨S_, .f32⟩
  | .hbm, ⟨38, _⟩ => ⟨S8192x5504, .f32⟩
  | .hbm, ⟨39, _⟩ => ⟨S8192x5504, .f32⟩
  | .hbm, ⟨40, _⟩ => ⟨S_, .f32⟩
  | .hbm, ⟨41, _⟩ => ⟨S8192x5504, .f32⟩
  | .hbm, ⟨42, _⟩ => ⟨S8192x5504, .f32⟩
  | .hbm, ⟨43, _⟩ => ⟨S8192x5504, .f32⟩
  | .hbm, ⟨44, _⟩ => ⟨S8192x5504, .f32⟩
  | .hbm, ⟨45, _⟩ => ⟨S8192x5504, .f32⟩
  | .hbm, ⟨46, _⟩ => ⟨S1x5504x2048, .f32⟩
  | .hbm, ⟨47, _⟩ => ⟨S5504x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1024x2048, .f32⟩
  | .hbm, ⟨54, _⟩ => ⟨S7168x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== FfnCast.lean ====
abbrev S8192x2048 : Shape := ⟨2, ![8192, 2048]⟩
abbrev S4x2048 : Shape := ⟨2, ![4, 2048]⟩
abbrev S4x2048x5504 : Shape := ⟨3, ![4, 2048, 5504]⟩
abbrev S4x5504x2048 : Shape := ⟨3, ![4, 5504, 2048]⟩
abbrev S11x2x2048x512 : Shape := ⟨4, ![11, 2, 2048, 512]⟩
abbrev S1024x2048 : Shape := ⟨2, ![1024, 2048]⟩
abbrev S1x2048x512 : Shape := ⟨3, ![1, 2048, 512]⟩
abbrev S1x512x2048 : Shape := ⟨3, ![1, 512, 2048]⟩
abbrev S1x2x2048x512 : Shape := ⟨4, ![1, 2, 2048, 512]⟩
abbrev S512x2048 : Shape := ⟨2, ![512, 2048]⟩
abbrev S2048x512 : Shape := ⟨2, ![2048, 512]⟩
abbrev S1x1x2048x512 : Shape := ⟨4, ![1, 1, 2048, 512]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x384x2048 : Shape := ⟨3, ![1, 384, 2048]⟩
abbrev S384x2048 : Shape := ⟨2, ![384, 2048]⟩
abbrev S1x2048x384 : Shape := ⟨3, ![1, 2048, 384]⟩
abbrev S2048x384 : Shape := ⟨2, ![2048, 384]⟩
abbrev S1x1x2048x384 : Shape := ⟨4, ![1, 1, 2048, 384]⟩
abbrev S2x2048x128 : Shape := ⟨3, ![2, 2048, 128]⟩
abbrev S1x2x2048x128 : Shape := ⟨4, ![1, 2, 2048, 128]⟩
abbrev S1024x384 : Shape := ⟨2, ![1024, 384]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x5504, .f32⟩
  | .hbm, ⟨3, _⟩ => ⟨S4x2048x5504, .f32⟩
  | .hbm, ⟨4, _⟩ => ⟨S4x5504x2048, .f32⟩
  | .hbm, ⟨5, _⟩ => ⟨S8192x2048, .f32⟩
  | .hbm, ⟨6, _⟩ => ⟨S11x2x2048x512, .bf16⟩
  | .local _ .vmem, ⟨0, _⟩ => ⟨S1024x2048, .f32⟩
  | .local _ .vmem, ⟨1, _⟩ => ⟨S4x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .f32⟩
  | .local _ .vmem, ⟨9, _⟩ => ⟨S1x2x2048x512, .bf16⟩
  | .local _ .vmem, ⟨10, _⟩ => ⟨S1x2x2048x512, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x2x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== FfnCastReferenceIdeal.lean ====
abbrev S8192x2048 : Shape := ⟨2, ![8192, 2048]⟩
abbrev S4x2048 : Shape := ⟨2, ![4, 2048]⟩
abbrev S4x2048x5504 : Shape := ⟨3, ![4, 2048, 5504]⟩
abbrev S4x5504x2048 : Shape := ⟨3, ![4, 5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x5504 : Shape := ⟨3, ![1, 2048, 5504]⟩
abbrev S2048x5504 : Shape := ⟨2, ![2048, 5504]⟩
abbrev S8192x5504 : Shape := ⟨2, ![8192, 5504]⟩
abbrev S1x5504x2048 : Shape := ⟨3, ![1, 5504, 2048]⟩
abbrev S5504x2048 : Shape := ⟨2, ![5504, 2048]⟩
abbrev S2x2048x5504 : Shape := ⟨3, ![2, 2048, 5504]⟩
abbrev S2x2048x5632 : Shape := ⟨3, ![2, 2048, 5632]⟩
abbrev S2x2048x11x512 : Shape := ⟨4, ![2, 2048, 11, 512]⟩
abbrev S11x2x2048x512 : Shape := ⟨4, ![11, 2, 2048, 512]⟩
abbrev S1024x2048 : Shape := ⟨2, ![1024, 2048]⟩
abbrev S7168x2048 : Shape := ⟨2, ![7168, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x5504, .f32⟩
  | .hbm, ⟨3, _⟩ => ⟨S4x2048x5504, .f32⟩
  | .hbm, ⟨4, _⟩ => ⟨S4x5504x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x5504, .f32⟩
  | .hbm, ⟨24, _⟩ => ⟨S2048x5504, .f32⟩
  | .hbm, ⟨25, _⟩ => ⟨S8192x5504, .f32⟩
  | .hbm, ⟨26, _⟩ => ⟨S8192x5504, .f32⟩
  | .hbm, ⟨27, _⟩ => ⟨S8192x5504, .f32⟩
  | .hbm, ⟨28, _⟩ => ⟨S_, .f32⟩
  | .hbm, ⟨29, _⟩ => ⟨S8192x5504, .f32⟩
  | .hbm, ⟨30, _⟩ => ⟨S8192x5504, .f32⟩
  | .hbm, ⟨31, _⟩ => ⟨S_, .f32⟩
  | .hbm, ⟨32, _⟩ => ⟨S8192x5504, .f32⟩
  | .hbm, ⟨33, _⟩ => ⟨S8192x5504, .f32⟩
  | .hbm, ⟨34, _⟩ => ⟨S8192x5504, .f32⟩
  | .hbm, ⟨35, _⟩ => ⟨S1x2048x5504, .f32⟩
  | .hbm, ⟨36, _⟩ => ⟨S2048x5504, .f32⟩
  | .hbm, ⟨37, _⟩ => ⟨S8192x5504, .f32⟩
  | .hbm, ⟨38, _⟩ => ⟨S8192x5504, .f32⟩
  | .hbm, ⟨39, _⟩ => ⟨S1x5504x2048, .f32⟩
  | .hbm, ⟨40, _⟩ => ⟨S5504x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x2048x5504, .f32⟩
  | .hbm, ⟨47, _⟩ => ⟨S2048x5504, .f32⟩
  | .hbm, ⟨48, _⟩ => ⟨S1x2048x5504, .f32⟩
  | .hbm, ⟨49, _⟩ => ⟨S2048x5504, .f32⟩
  | .hbm, ⟨50, _⟩ => ⟨S1x2048x5504, .f32⟩
  | .hbm, ⟨51, _⟩ => ⟨S1x2048x5504, .f32⟩
  | .hbm, ⟨52, _⟩ => ⟨S2x2048x5504, .f32⟩
  | .hbm, ⟨53, _⟩ => ⟨S_, .i32⟩
  | .hbm, ⟨54, _⟩ => ⟨S_, .f32⟩
  | .hbm, ⟨55, _⟩ => ⟨S2x2048x5632, .f32⟩
  | .hbm, ⟨56, _⟩ => ⟨S2x2048x11x512, .f32⟩
  | .hbm, ⟨57, _⟩ => ⟨S11x2x2048x512, .f32⟩
  | .hbm, ⟨58, _⟩ => ⟨S11x2x2048x512, .bf16⟩
  | .hbm, ⟨59, _⟩ => ⟨S1024x2048, .f32⟩
  | .hbm, ⟨60, _⟩ => ⟨S7168x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call1_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== FfnInto.lean ====
abbrev S8192x2048 : Shape := ⟨2, ![8192, 2048]⟩
abbrev S4x2048 : Shape := ⟨2, ![4, 2048]⟩
abbrev S11x2x2048x512 : Shape := ⟨4, ![11, 2, 2048, 512]⟩
abbrev S4x5504x2048 : Shape := ⟨3, ![4, 5504, 2048]⟩
abbrev S1024x2048 : Shape := ⟨2, ![1024, 2048]⟩
abbrev S1x2x2048x512 : Shape := ⟨4, ![1, 2, 2048, 512]⟩
abbrev S1x512x2048 : Shape := ⟨3, ![1, 512, 2048]⟩
abbrev S512x2048 : Shape := ⟨2, ![512, 2048]⟩
abbrev S1x1x2048x512 : Shape := ⟨4, ![1, 1, 2048, 512]⟩
abbrev S2048x512 : Shape := ⟨2, ![2048, 512]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x384x2048 : Shape := ⟨3, ![1, 384, 2048]⟩
abbrev S384x2048 : Shape := ⟨2, ![384, 2048]⟩
abbrev S1x1x2048x384 : Shape := ⟨4, ![1, 1, 2048, 384]⟩
abbrev S2048x384 : Shape := ⟨2, ![2048, 384]⟩
abbrev S1024x384 : Shape := ⟨2, ![1024, 384]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S11x2x2048x512, .bf16⟩
  | .hbm, ⟨3, _⟩ => ⟨S4x5504x2048, .f32⟩
  | .hbm, ⟨4, _⟩ => ⟨S8192x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S4x2048, .f32⟩
  | .local _ .vmem, ⟨3, _⟩ => ⟨S1x2x2048x512, .bf16⟩
  | .local _ .vmem, ⟨4, _⟩ => ⟨S1x2x2048x512, .bf16⟩
  | .local _ .vmem, ⟨5, _⟩ => ⟨S1x512x2048, .f32⟩
  | .local _ .vmem, ⟨6, _⟩ => ⟨S1x512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnIntoReferenceIdeal.lean ====
abbrev S8192x2048 : Shape := ⟨2, ![8192, 2048]⟩
abbrev S4x2048 : Shape := ⟨2, ![4, 2048]⟩
abbrev S11x2x2048x512 : Shape := ⟨4, ![11, 2, 2048, 512]⟩
abbrev S4x5504x2048 : Shape := ⟨3, ![4, 5504, 2048]⟩
abbrev S11x1x2048x512 : Shape := ⟨4, ![11, 1, 2048, 512]⟩
abbrev S11x2048x512 : Shape := ⟨3, ![11, 2048, 512]⟩
abbrev S2048x11x512 : Shape := ⟨3, ![2048, 11, 512]⟩
abbrev S2048x5632 : Shape := ⟨2, ![2048, 5632]⟩
abbrev S2048x5504 : Shape := ⟨2, ![2048, 5504]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S8192x5504 : Shape := ⟨2, ![8192, 5504]⟩
abbrev S1x5504x2048 : Shape := ⟨3, ![1, 5504, 2048]⟩
abbrev S5504x2048 : Shape := ⟨2, ![5504, 2048]⟩
abbrev S1024x2048 : Shape := ⟨2, ![1024, 2048]⟩
abbrev S7168x2048 : Shape := ⟨2, ![7168, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S11x2x2048x512, .bf16⟩
  | .hbm, ⟨3, _⟩ => ⟨S4x5504x2048, .f32⟩
  | .hbm, ⟨4, _⟩ => ⟨S8192x2048, .f32⟩
  | .hbm, ⟨5, _⟩ => ⟨S11x1x2048x512, .bf16⟩
  | .hbm, ⟨6, _⟩ => ⟨S11x2048x512, .bf16⟩
  | .hbm, ⟨7, _⟩ => ⟨S11x2048x512, .f32⟩
  | .hbm, ⟨8, _⟩ => ⟨S2048x11x512, .f32⟩
  | .hbm, ⟨9, _⟩ => ⟨S2048x5632, .f32⟩
  | .hbm, ⟨10, _⟩ => ⟨S2048x5504, .f32⟩
  | .hbm, ⟨11, _⟩ => ⟨S11x1x2048x512, .bf16⟩
  | .hbm, ⟨12, _⟩ => ⟨S11x2048x512, .bf16⟩
  | .hbm, ⟨13, _⟩ => ⟨S11x2048x512, .f32⟩
  | .hbm, ⟨14, _⟩ => ⟨S2048x11x512, .f32⟩
  | .hbm, ⟨15, _⟩ => ⟨S2048x5632, .f32⟩
  | .hbm, ⟨16, _⟩ => ⟨S2048x5504, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x5504, .f32⟩
  | .hbm, ⟨36, _⟩ => ⟨S8192x5504, .f32⟩
  | .hbm, ⟨37, _⟩ => ⟨S8192x5504, .f32⟩
  | .hbm, ⟨38, _⟩ => ⟨S_, .f32⟩
  | .hbm, ⟨39, _⟩ => ⟨S8192x5504, .f32⟩
  | .hbm, ⟨40, _⟩ => ⟨S8192x5504, .f32⟩
  | .hbm, ⟨41, _⟩ => ⟨S_, .f32⟩
  | .hbm, ⟨42, _⟩ => ⟨S8192x5504, .f32⟩
  | .hbm, ⟨43, _⟩ => ⟨S8192x5504, .f32⟩
  | .hbm, ⟨44, _⟩ => ⟨S8192x5504, .f32⟩
  | .hbm, ⟨45, _⟩ => ⟨S8192x5504, .f32⟩
  | .hbm, ⟨46, _⟩ => ⟨S8192x5504, .f32⟩
  | .hbm, ⟨47, _⟩ => ⟨S1x5504x2048, .f32⟩
  | .hbm, ⟨48, _⟩ => ⟨S5504x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S1024x2048, .f32⟩
  | .hbm, ⟨55, _⟩ => ⟨S7168x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Oproj.lean ====
abbrev S8192x2048 : Shape := ⟨2, ![8192, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩
abbrev S1x2048x512 : Shape := ⟨3, ![1, 2048, 512]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OprojReferenceIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kv.lean ====
abbrev S8192x2048 : Shape := ⟨2, ![8192, 2048]⟩
abbrev S2048 : Shape := ⟨1, ![2048]⟩
abbrev S2048x2048 : Shape := ⟨2, ![2048, 2048]⟩
abbrev S128 : Shape := ⟨1, ![128]⟩
abbrev S1x2048x2048 : Shape := ⟨3, ![1, 2048, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S512x128 : Shape := ⟨2, ![512, 128]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S128, .f32⟩
  | .hbm, ⟨5, _⟩ => ⟨S2048x2048, .bf16⟩
  | .hbm, ⟨6, _⟩ => ⟨S1x2048x2048, .bf16⟩
  | .hbm, ⟨7, _⟩ => ⟨S2048x2048, .bf16⟩
  | .hbm, ⟨8, _⟩ => ⟨S1x2048x2048, .bf16⟩
  | .hbm, ⟨9, _⟩ => ⟨S1x2048, .f32⟩
  | .hbm, ⟨10, _⟩ => ⟨S1x128, .f32⟩
  | .hbm, ⟨11, _⟩ => ⟨S8192x2048, .bf16⟩
  | .hbm, ⟨12, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x128, .f32⟩
  | .local _ .vmem, ⟨4, _⟩ => ⟨S1x2048x2048, .bf16⟩
  | .local _ .vmem, ⟨5, _⟩ => ⟨S1x2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvReferenceIdeal.lean ====
abbrev S8192x2048 : Shape := ⟨2, ![8192, 2048]⟩
abbrev S2048 : Shape := ⟨1, ![2048]⟩
abbrev S2048x2048 : Shape := ⟨2, ![2048, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16x128 : Shape := ⟨3, ![8192, 16, 128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S128, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x16x128, .f32⟩
  | .hbm, ⟨23, _⟩ => ⟨S8192x16x128, .f32⟩
  | .hbm, ⟨24, _⟩ => ⟨S_, .f32⟩
  | .hbm, ⟨25, _⟩ => ⟨S8192x16, .f32⟩
  | .hbm, ⟨26, _⟩ => ⟨S8192x16x1, .f32⟩
  | .hbm, ⟨27, _⟩ => ⟨S_, .f32⟩
  | .hbm, ⟨28, _⟩ => ⟨S8192x16x1, .f32⟩
  | .hbm, ⟨29, _⟩ => ⟨S8192x16x1, .f32⟩
  | .hbm, ⟨30, _⟩ => ⟨S_, .f32⟩
  | .hbm, ⟨31, _⟩ => ⟨S8192x16x1, .f32⟩
  | .hbm, ⟨32, _⟩ => ⟨S8192x16x1, .f32⟩
  | .hbm, ⟨33, _⟩ => ⟨S8192x16x1, .f32⟩
  | .hbm, ⟨34, _⟩ => ⟨S8192x16x128, .f32⟩
  | .hbm, ⟨35, _⟩ => ⟨S8192x16x128, .f32⟩
  | .hbm, ⟨36, _⟩ => ⟨S1x1x128, .f32⟩
  | .hbm, ⟨37, _⟩ => ⟨S8192x16x128, .f32⟩
  | .hbm, ⟨38, _⟩ => ⟨S8192x16x128, .f32⟩
  | .hbm, ⟨39, _⟩ => ⟨S8192x2048, .f32⟩
  | .hbm, ⟨40, _⟩ => ⟨S8192x2048, .bf16⟩
  | .hbm, ⟨41, _⟩ => ⟨S8192x2048, .f32⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Q.lean ====
abbrev S8192x2048 : Shape := ⟨2, ![8192, 2048]⟩
abbrev S4x2048 : Shape := ⟨2, ![4, 2048]⟩
abbrev S2x2048x2048 : Shape := ⟨3, ![2, 2048, 2048]⟩
abbrev S2x128 : Shape := ⟨2, ![2, 128]⟩
abbrev S1x128 : Shape := ⟨2, ![1, 128]⟩
abbrev S128 : Shape := ⟨1, ![128]⟩
abbrev S512x2048 : Shape := ⟨2, ![512, 2048]⟩
abbrev S1x2048x2048 : Shape := ⟨3, ![1, 2048, 2048]⟩
abbrev S2048x2048 : Shape := ⟨2, ![2048, 2048]⟩
abbrev S1x2048x512 : Shape := ⟨3, ![1, 2048, 512]⟩
abbrev S2048x512 : Shape := ⟨2, ![2048, 512]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S2x128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S4x2048, .f32⟩
  | .local _ .vmem, ⟨3, _⟩ => ⟨S1x128, .f32⟩
  | .local _ .vmem, ⟨4, _⟩ => ⟨S1x2048x2048, .f32⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QReferenceIdeal.lean ====
abbrev S8192x2048 : Shape := ⟨2, ![8192, 2048]⟩
abbrev S4x2048 : Shape := ⟨2, ![4, 2048]⟩
abbrev S2x2048x2048 : Shape := ⟨3, ![2, 2048, 2048]⟩
abbrev S2x128 : Shape := ⟨2, ![2, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S8192x16x128 : Shape := ⟨3, ![8192, 16, 128]⟩
abbrev S1x128 : Shape := ⟨2, ![1, 128]⟩
abbrev S128 : Shape := ⟨1, ![128]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S2x128, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x2048, .f32⟩
  | .hbm, ⟨23, _⟩ => ⟨S2048x2048, .f32⟩
  | .hbm, ⟨24, _⟩ => ⟨S8192x2048, .f32⟩
  | .hbm, ⟨25, _⟩ => ⟨S8192x16x128, .f32⟩
  | .hbm, ⟨26, _⟩ => ⟨S1x128, .f32⟩
  | .hbm, ⟨27, _⟩ => ⟨S128, .f32⟩
  | .hbm, ⟨28, _⟩ => ⟨S8192x16x128, .f32⟩
  | .hbm, ⟨29, _⟩ => ⟨S_, .f32⟩
  | .hbm, ⟨30, _⟩ => ⟨S8192x16, .f32⟩
  | .hbm, ⟨31, _⟩ => ⟨S8192x16x1, .f32⟩
  | .hbm, ⟨32, _⟩ => ⟨S_, .f32⟩
  | .hbm, ⟨33, _⟩ => ⟨S8192x16x1, .f32⟩
  | .hbm, ⟨34, _⟩ => ⟨S8192x16x1, .f32⟩
  | .hbm, ⟨35, _⟩ => ⟨S_, .f32⟩
  | .hbm, ⟨36, _⟩ => ⟨S8192x16x1, .f32⟩
  | .hbm, ⟨37, _⟩ => ⟨S8192x16x1, .f32⟩
  | .hbm, ⟨38, _⟩ => ⟨S8192x16x1, .f32⟩
  | .hbm, ⟨39, _⟩ => ⟨S8192x16x128, .f32⟩
  | .hbm, ⟨40, _⟩ => ⟨S8192x16x128, .f32⟩
  | .hbm, ⟨41, _⟩ => ⟨S1x1x128, .f32⟩
  | .hbm, ⟨42, _⟩ => ⟨S8192x16x128, .f32⟩
  | .hbm, ⟨43, _⟩ => ⟨S8192x16x128, .f32⟩
  | .hbm, ⟨44, _⟩ => ⟨S_, .f32⟩
  | .hbm, ⟨45, _⟩ => ⟨S8192x16x128, .f32⟩
  | .hbm, ⟨46, _⟩ => ⟨S8192x16x128, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== FfnCastInto.lean ====
abbrev S8192x2048 : Shape := ⟨2, ![8192, 2048]⟩
abbrev S4x2048 : Shape := ⟨2, ![4, 2048]⟩
abbrev S4x2048x5504 : Shape := ⟨3, ![4, 2048, 5504]⟩
abbrev S4x5504x2048 : Shape := ⟨3, ![4, 5504, 2048]⟩
abbrev S11x2x2048x512 : Shape := ⟨4, ![11, 2, 2048, 512]⟩
abbrev S1024x2048 : Shape := ⟨2, ![1024, 2048]⟩
abbrev S1x2048x512 : Shape := ⟨3, ![1, 2048, 512]⟩
abbrev S1x512x2048 : Shape := ⟨3, ![1, 512, 2048]⟩
abbrev S1x2x2048x512 : Shape := ⟨4, ![1, 2, 2048, 512]⟩
abbrev S512x2048 : Shape := ⟨2, ![512, 2048]⟩
abbrev S2048x512 : Shape := ⟨2, ![2048, 512]⟩
abbrev S1x1x2048x512 : Shape := ⟨4, ![1, 1, 2048, 512]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x384x2048 : Shape := ⟨3, ![1, 384, 2048]⟩
abbrev S384x2048 : Shape := ⟨2, ![384, 2048]⟩
abbrev S1x2048x384 : Shape := ⟨3, ![1, 2048, 384]⟩
abbrev S2048x384 : Shape := ⟨2, ![2048, 384]⟩
abbrev S1x1x2048x384 : Shape := ⟨4, ![1, 1, 2048, 384]⟩
abbrev S2x2048x128 : Shape := ⟨3, ![2, 2048, 128]⟩
abbrev S1x2x2048x128 : Shape := ⟨4, ![1, 2, 2048, 128]⟩
abbrev S1024x384 : Shape := ⟨2, ![1024, 384]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x5504, .f32⟩
  | .hbm, ⟨3, _⟩ => ⟨S4x2048x5504, .f32⟩
  | .hbm, ⟨4, _⟩ => ⟨S4x5504x2048, .f32⟩
  | .hbm, ⟨5, _⟩ => ⟨S8192x2048, .f32⟩
  | .hbm, ⟨6, _⟩ => ⟨S8192x2048, .f32⟩
  | .hbm, ⟨7, _⟩ => ⟨S11x2x2048x512, .bf16⟩
  | .local _ .vmem, ⟨0, _⟩ => ⟨S1024x2048, .f32⟩
  | .local _ .vmem, ⟨1, _⟩ => ⟨S4x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .f32⟩
  | .local _ .vmem, ⟨9, _⟩ => ⟨S1x2x2048x512, .bf16⟩
  | .local _ .vmem, ⟨10, _⟩ => ⟨S1x2x2048x512, .bf16⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x2x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== FfnCastIntoReferenceIdeal.lean ====
abbrev S8192x2048 : Shape := ⟨2, ![8192, 2048]⟩
abbrev S4x2048 : Shape := ⟨2, ![4, 2048]⟩
abbrev S4x2048x5504 : Shape := ⟨3, ![4, 2048, 5504]⟩
abbrev S4x5504x2048 : Shape := ⟨3, ![4, 5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x5504 : Shape := ⟨3, ![1, 2048, 5504]⟩
abbrev S2048x5504 : Shape := ⟨2, ![2048, 5504]⟩
abbrev S8192x5504 : Shape := ⟨2, ![8192, 5504]⟩
abbrev S1x5504x2048 : Shape := ⟨3, ![1, 5504, 2048]⟩
abbrev S5504x2048 : Shape := ⟨2, ![5504, 2048]⟩
abbrev S2x2048x5504 : Shape := ⟨3, ![2, 2048, 5504]⟩
abbrev S2x2048x5632 : Shape := ⟨3, ![2, 2048, 5632]⟩
abbrev S2x2048x11x512 : Shape := ⟨4, ![2, 2048, 11, 512]⟩
abbrev S11x2x2048x512 : Shape := ⟨4, ![11, 2, 2048, 512]⟩
abbrev S1024x2048 : Shape := ⟨2, ![1024, 2048]⟩
abbrev S7168x2048 : Shape := ⟨2, ![7168, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x5504, .f32⟩
  | .hbm, ⟨3, _⟩ => ⟨S4x2048x5504, .f32⟩
  | .hbm, ⟨4, _⟩ => ⟨S4x5504x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S1x2048x5504, .f32⟩
  | .hbm, ⟨25, _⟩ => ⟨S2048x5504, .f32⟩
  | .hbm, ⟨26, _⟩ => ⟨S8192x5504, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S_, .f32⟩
  | .hbm, ⟨33, _⟩ => ⟨S8192x5504, .f32⟩
  | .hbm, ⟨34, _⟩ => ⟨S8192x5504, .f32⟩
  | .hbm, ⟨35, _⟩ => ⟨S8192x5504, .f32⟩
  | .hbm, ⟨36, _⟩ => ⟨S1x2048x5504, .f32⟩
  | .hbm, ⟨37, _⟩ => ⟨S2048x5504, .f32⟩
  | .hbm, ⟨38, _⟩ => ⟨S8192x5504, .f32⟩
  | .hbm, ⟨39, _⟩ => ⟨S8192x5504, .f32⟩
  | .hbm, ⟨40, _⟩ => ⟨S1x5504x2048, .f32⟩
  | .hbm, ⟨41, _⟩ => ⟨S5504x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048x5504, .f32⟩
  | .hbm, ⟨48, _⟩ => ⟨S2048x5504, .f32⟩
  | .hbm, ⟨49, _⟩ => ⟨S1x2048x5504, .f32⟩
  | .hbm, ⟨50, _⟩ => ⟨S2048x5504, .f32⟩
  | .hbm, ⟨51, _⟩ => ⟨S1x2048x5504, .f32⟩
  | .hbm, ⟨52, _⟩ => ⟨S1x2048x5504, .f32⟩
  | .hbm, ⟨53, _⟩ => ⟨S2x2048x5504, .f32⟩
  | .hbm, ⟨54, _⟩ => ⟨S_, .i32⟩
  | .hbm, ⟨55, _⟩ => ⟨S_, .f32⟩
  | .hbm, ⟨56, _⟩ => ⟨S2x2048x5632, .f32⟩
  | .hbm, ⟨57, _⟩ => ⟨S2x2048x11x512, .f32⟩
  | .hbm, ⟨58, _⟩ => ⟨S11x2x2048x512, .f32⟩
  | .hbm, ⟨59, _⟩ => ⟨S11x2x2048x512, .bf16⟩
  | .hbm, ⟨60, _⟩ => ⟨S1024x2048, .f32⟩
  | .hbm, ⟨61, _⟩ => ⟨S7168x2048, .f32⟩
  | .hbm, ⟨62, _⟩ => ⟨S8192x2048, .f32⟩
  | .hbm, ⟨63, _⟩ => ⟨S1024x2048, .f32⟩
  | .hbm, ⟨64, _⟩ => ⟨S7168x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Pool.lean ====
abbrev S8192x2048 : Shape := ⟨2, ![8192, 2048]⟩
abbrev S4x2048 : Shape := ⟨2, ![4, 2048]⟩
abbrev S2x4x512x512 : Shape := ⟨4, ![2, 4, 512, 512]⟩
abbrev S2x2048 : Shape := ⟨2, ![2, 2048]⟩
abbrev S512x2048 : Shape := ⟨2, ![512, 2048]⟩
abbrev S16x2048 : Shape := ⟨2, ![16, 2048]⟩
abbrev S1x4x512x512 : Shape := ⟨4, ![1, 4, 512, 512]⟩
abbrev S1x2048 : Shape := ⟨2, ![1, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x2048 : Shape := ⟨2, ![528, 2048]⟩
abbrev S528x512 : Shape := ⟨2, ![528, 512]⟩
abbrev S512x512 : Shape := ⟨2, ![512, 512]⟩
abbrev S1x1x512x512 : Shape := ⟨4, ![1, 1, 512, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x4x512x512, .f32⟩
  | .hbm, ⟨3, _⟩ => ⟨S2x2048, .f32⟩
  | .hbm, ⟨4, _⟩ => ⟨S2x4x512x512, .bf16⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S4x2048, .f32⟩
  | .local _ .vmem, ⟨5, _⟩ => ⟨S1x4x512x512, .bf16⟩
  | .local _ .vmem, ⟨6, _⟩ => ⟨S2x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolReferenceIdeal.lean ====
abbrev S8192x2048 : Shape := ⟨2, ![8192, 2048]⟩
abbrev S4x2048 : Shape := ⟨2, ![4, 2048]⟩
abbrev S2x4x512x512 : Shape := ⟨4, ![2, 4, 512, 512]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S8193x512 : Shape := ⟨2, ![8193, 512]⟩
abbrev S8195x512 : Shape := ⟨2, ![8195, 512]⟩
abbrev S8199x512 : Shape := ⟨2, ![8199, 512]⟩
abbrev S8207x512 : Shape := ⟨2, ![8207, 512]⟩
abbrev S8192x1x512 : Shape := ⟨3, ![8192, 1, 512]⟩
abbrev S8192x4x512 : Shape := ⟨3, ![8192, 4, 512]⟩
abbrev S1x4x512x512 : Shape := ⟨4, ![1, 4, 512, 512]⟩
abbrev S4x512x512 : Shape := ⟨3, ![4, 512, 512]⟩
abbrev S4x512x8192 : Shape := ⟨3, ![4, 512, 8192]⟩

abbrev nBuf : Space → Nat
  | .hbm => 168
  | .vmem => 0
  | .smem => 0
  | _ => 0

abbrev hbmTy0_0 (i : Nat) : BufTy := match i % 128 with
  | 0 => ⟨S8192x2048, .f32⟩
  | 1 => ⟨S4x2048, .f32⟩
  | 2 => ⟨S2x4x512x512, .f32⟩
  | 3 => ⟨S2x2048, .f32⟩
  | 4 => ⟨S1x2048, .f32⟩
  | 5 => ⟨S2048, .f32⟩
  | 6 => ⟨S8192x2048, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x2048, .f32⟩
  | 18 => ⟨S8192x2048, .f32⟩
  | 19 => ⟨S1x2048, .f32⟩
  | 20 => ⟨S8192x2048, .f32⟩
  | 21 => ⟨S8192x2048, .f32⟩
  | 22 => ⟨S8192x512, .f32⟩
  | 23 => ⟨S_, .i32⟩
  | 24 => ⟨S_, .f32⟩
  | 25 => ⟨S8193x512, .f32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S8192, .f32⟩
  | 34 => ⟨S8192x1, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .i32⟩
  | 45 => ⟨S_, .f32⟩
  | 46 => ⟨S8195x512, .f32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S_, .i32⟩
  | 70 => ⟨S_, .f32⟩
  | 71 => ⟨S8199x512, .f32⟩
  | 72 => ⟨S8192, .i32⟩
  | 73 => ⟨S_, .i32⟩
  | 74 => ⟨S8192, .i32⟩
  | 75 => ⟨S8192, .i32⟩
  | 76 => ⟨S_, .i32⟩
  | 77 => ⟨S8192, .i32⟩
  | 78 => ⟨S8192, .i32⟩
  | 79 => ⟨S8192, .f32⟩
  | 80 => ⟨S8192x1, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S_, .i32⟩
  | 103 => ⟨S_, .f32⟩
  | 104 => ⟨S8207x512, .f32⟩
  | 105 => ⟨S8192, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .f32⟩
  | 113 => ⟨S8192x1, .f32⟩
  | 114 => ⟨S8192x512, .f32⟩
  | 115 => ⟨S_, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x1x512, .f32⟩
  | 23 => ⟨S8192x1x512, .f32⟩
  | 24 => ⟨S8192x1x512, .f32⟩
  | 25 => ⟨S8192x1x512, .f32⟩
  | 26 => ⟨S8192x4x512, .f32⟩
  | 27 => ⟨S8192x4x512, .f32⟩
  | 28 => ⟨S8192x4x512, .f32⟩
  | 29 => ⟨S1x4x512x512, .f32⟩
  | 30 => ⟨S4x512x512, .f32⟩
  | 31 => ⟨S4x512x8192, .f32⟩
  | 32 => ⟨S8192x4x512, .f32⟩
  | 33 => ⟨S8192x2048, .f32⟩
  | 34 => ⟨S1x2048, .f32⟩
  | 35 => ⟨S2048, .f32⟩
  | 36 => ⟨S1x2048, .f32⟩
  | 37 => ⟨S8192x2048, .f32⟩
  | 38 => ⟨S8192x2048, .f32⟩
  | 39 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_call2_v0 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_13 : Ref sig .tc := ⟨.hbm, 102, rfl⟩
abbrev main_call3_v0 : Ref sig .tc := ⟨.hbm, 103, rfl⟩
abbrev main_v80 : Ref sig .tc := ⟨.hbm, 104, rfl⟩
abbrev main_v81 : Ref sig .tc := ⟨.hbm, 105, rfl⟩
abbrev main_c_14 : Ref sig .tc := ⟨.hbm, 106, rfl⟩
abbrev main_v82 : Ref sig .tc := ⟨.hbm, 107, rfl⟩
abbrev main_v83 : Ref sig .tc := ⟨.hbm, 108, rfl⟩
abbrev main_c_15 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩

abbrev nD : Nat := 1
abbrev τ : Topo := Topo.v7x

variable {F : FTy → Type} [FloatOps F]
-- ==== Proof.Attn.Init.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if`: the point is the first. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val = 0)

/-- What the body does at the first point only: the stores that fill the bias scratch, four pieces a head. -/
def fillBias (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) : Prog (TpuEff nD τ sig (Elt F) Λ₀ .tc) PUnit := do
    let ⟨v2581, v2582⟩ : Σ' (v2581 : IVec S256x256 1), FVec F S256x256 .f32 ← k0_part23 i arg1 harg1 arg2 harg2 arg3 harg3 arg4 harg4 arg5 harg5 arg6 harg6 arg7 harg7 arg8 harg8 arg9 harg9 arg10 harg10
    let v2585 : Vec F S1x1x256x256 .f32 ← Prog.lift (.load arg10 (Rect.unit (s := S16x4x256x256) ![15, 2, 0, 0] S1x1x256x256.size inb_S16x4x256x256_S1x1x256x256_15_2_0_0).toLoadRect (View.loadsAt_vmem h_S1x1x256x256))
    Prog.lift (.store arg10 (Rect.unit (s := S16x4x256x256) ![15, 2, 0, 0] S1x1x256x256.size inb_S16x4x256x256_S1x1x256x256_15_2_0_0) (k0_pay110 v2581 v2582) Finset.univ (View.stores_vmem_bits_univ h_S1x1x256x256 rfl) (.inl rfl))
    let v2589 : Vec F S1x1x256x256 .f32 ← Prog.lift (.load arg10 (Rect.unit (s := S16x4x256x256) ![15, 3, 0, 0] S1x1x256x256.size inb_S16x4x256x256_S1x1x256x256_15_3_0_0).toLoadRect (View.loadsAt_vmem h_S1x1x256x256))
    Prog.lift (.store arg10 (Rect.unit (s := S16x4x256x256) ![15, 3, 0, 0] S1x1x256x256.size inb_S16x4x256x256_S1x1x256x256_15_3_0_0) (k0_pay111 (F := F)) Finset.univ (View.stores_vmem_bits_univ h_S1x1x256x256 rfl) (.inl rfl))
    pure ⟨⟩

set_option maxHeartbeats 1000000 in
/-- The pieces that `fillBias` leaves in the scratch (last first), with the proof that it runs to them from a scratch
    at anything, the table's rows being `x7`. -/
noncomputable def fillRun (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x7 : Vec F S16x1x1024 .f32) :
    { LS : List (View.Piece (Elt F) S16x4x256x256 .f32) //
      ∀ (E : Set ℕ) (K : PUnit → sProp 𝕄),
        iprop(owns (c : Thread nD τ) arg8 fullShare x7 ∗ (∃ d, owns (c : Thread nD τ) arg10 fullShare d)
            ∗ (iprop(owns (c : Thread nD τ) arg8 fullShare x7 ∗ (∃ f, arg10.view.loc (c : Thread nD τ) ↦[arg10.view.set]{fullShare} arg10.view.writes (Elt F) f LS)) -∗ K ⟨⟩))
          ⊢ wp frame (wpE (defs₀ (F := F)) Variants.none c none) E (fillBias i arg1 harg1 arg2 harg2 arg3 harg3 arg4 harg4 arg5 harg5 arg6 harg6 arg7 harg7 arg8 harg8 arg9 harg9 arg10 harg10) K } := by
  refine ⟨?_, fun E K => ?run⟩
  case run =>
    unfold fillBias
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f7, %hf7, H7⟩, ⟨%ds0, %fs0, -, HS0⟩, Hk⟩
    obtain rfl := harg8.eq_unread hf7
    sl_exec
    sl_step
    iapply Hk
    isplitl [H7]
    · iexists _; isplitr; · ipureintro; exact harg8.read_unread _
      iexact H7
    iexists _; iexact HS0

end Cert.KernelIdeal.Attn

end
-- ==== Proof.Attn.Bias.lean ====
module

public import proofs.«01_k».proof.Proof.Attn.Init

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Row `h` of the table, as the body loads it. -/
def rowOf (x7 : Vec F S16x1x1024 .f32) (h : ℕ) (hh : h < 16) : Vec F S1x1x1024 .f32 :=
  fun j => x7 fun a => match a with
    | ⟨0, _⟩ => ⟨h, hh⟩
    | ⟨1, _⟩ => ⟨0, Nat.one_pos⟩
    | ⟨2, _⟩ => j 2

/-- The tile of key block `b` made from a row (tile 3 is all mask), in the body's own operations. -/
def tile (row : Vec F S1x1x1024 .f32) : ℕ → FVec F S1x1x256x256 .f32
  | 0 => k0_pay8 k0_pay2 k0_pay3 k0_pay4 k0_pay5 0#32 row
  | 1 => k0_pay9 k0_pay2 k0_pay3 k0_pay4 k0_pay5 0#32 row
  | 2 => k0_pay11 k0_pay2 (k0_pay6 k0_pay3 k0_pay4 k0_pay5 0#32) (k0_pay7 row) k0_pay10
  | _ => k0_pay12

/-- What the scratch holds from the first point on: per head and key block, that tile of the head's row. -/
def biasTiles (x7 : Vec F S16x1x1024 .f32) : Vec F S16x4x256x256 .f32 :=
  fun y => tile (rowOf x7 (y 0).val (y 0).isLt) (y 1).val fun a => match a with
    | ⟨0, _⟩ => ⟨0, Nat.one_pos⟩
    | ⟨1, _⟩ => ⟨0, Nat.one_pos⟩
    | ⟨2, _⟩ => y 2
    | ⟨3, _⟩ => y 3

theorem rowOf_eq {arg8 : Memref sig .tc .vmem S16x1x1024 .f32} (harg8 : arg8.IsWhole) (x7 : Vec F S16x1x1024 .f32) (h : ℕ) (hh : h < 16)
    (inb : ∀ a, (![h, 0, 0] : Fin 3 → ℕ) a + S1x1x1024.size a ≤ S16x1x1024.size a) :
    rowOf x7 h hh = arg8.view.readAt (Elt F) (Rect.unit (s := S16x1x1024) ![h, 0, 0] S1x1x1024.size inb).toLoadRect (harg8.unread x7) := by
  funext j
  rw [View.readAt_apply, harg8.read_unread]
  unfold rowOf
  refine congrArg x7 ?_
  funext a
  apply Fin.ext
  match a with
  | ⟨0, _⟩ => have : (j 0).val < 1 := (j 0).isLt; show h = h + 1 * (j 0).val; omega
  | ⟨1, _⟩ => have : (j 1).val < 1 := (j 1).isLt; show 0 = 0 + 1 * (j 1).val; omega
  | ⟨2, _⟩ => show (j 2).val = 0 + 1 * (j 2).val; omega

theorem tile_congr (x7 : Vec F S16x1x1024 .f32) {h h' b b' : ℕ} (hh : h < 16) (hh' : h' < 16) {z z' : S1x1x256x256.Idx}
    (e : h' = h) (e' : b' = b) (ez : z' = z) : tile (rowOf x7 h hh) b z = tile (rowOf x7 h' hh') b' z' := by
  subst e e' ez; rfl

theorem tile_emb (x7 : Vec F S16x1x1024 .f32) (h b : ℕ) (hh : h < 16)
    (inb : ∀ a, (![h, b, 0, 0] : Fin 4 → ℕ) a + S1x1x256x256.size a ≤ S16x4x256x256.size a) (x : S1x1x256x256.Idx) :
    tile (rowOf x7 h hh) b x = biasTiles x7 ((Rect.unit (s := S16x4x256x256) ![h, b, 0, 0] S1x1x256x256.size inb).emb x) := by
  have x0 : (x 0).val < 1 := (x 0).isLt
  have x1 : (x 1).val < 1 := (x 1).isLt
  unfold biasTiles
  have e0 : ((Rect.unit (s := S16x4x256x256) ![h, b, 0, 0] S1x1x256x256.size inb).emb x 0).val = h := by
    show h + 1 * (x 0).val = h; omega
  have e1 : ((Rect.unit (s := S16x4x256x256) ![h, b, 0, 0] S1x1x256x256.size inb).emb x 1).val = b := by
    show b + 1 * (x 1).val = b; omega
  refine tile_congr x7 hh _ e0 e1 ?_
  funext a
  apply Fin.ext
  match a with
  | ⟨0, _⟩ => show 0 = (x 0).val; omega
  | ⟨1, _⟩ => show 0 = (x 1).val; omega
  | ⟨2, _⟩ => show 0 + 1 * (x 2).val = (x 2).val; omega
  | ⟨3, _⟩ => show 0 + 1 * (x 3).val = (x 3).val; omega

set_option maxHeartbeats 4000000 in
/-- Every piece that the fill leaves agrees with `biasTiles`. -/
theorem fill_pieces (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x7 : Vec F S16x1x1024 .f32) :
    ∀ p ∈ (fillRun c i arg1 harg1 arg2 harg2 arg3 harg3 arg4 harg4 arg5 harg5 arg6 harg6 arg7 harg7 arg8 harg8 arg9 harg9 arg10 harg10 x7).1, ∀ x : p.1.shape.Idx, p.2 x = biasTiles x7 (p.1.emb x) := by
  rw [← List.forall_iff_forall_mem]
  unfold fillRun
  dsimp only
  repeat' apply And.intro
  all_goals
    intro x
    refine Eq.trans ?_ (tile_emb x7 _ _ (by decide) (by decide) x)
    refine congrFun ?_ x
    first | rfl | (rw [rowOf_eq harg8 x7]; rfl)

/-- So after the fill the scratch holds `biasTiles`, whatever it held before. -/
theorem fill_read (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x7 : Vec F S16x1x1024 .f32) (f : arg10.view.ty.Contents (Elt F)) :
    arg10.view.read (Elt F) (arg10.view.writes (Elt F) f (fillRun c i arg1 harg1 arg2 harg2 arg3 harg3 arg4 harg4 arg5 harg5 arg6 harg6 arg7 harg7 arg8 harg8 arg9 harg9 arg10 harg10 x7).1) = biasTiles x7 :=
  funext fun y => View.read_writes_apply_of_pieces _ _ _ _ (fill_pieces c i arg1 harg1 arg2 harg2 arg3 harg3 arg4 harg4 arg5 harg5 arg6 harg6 arg7 harg7 arg8 harg8 arg9 harg9 arg10 harg10 x7) y
    (View.cover_of_tiledL (fillRun c i arg1 harg1 arg2 harg2 arg3 harg3 arg4 harg4 arg5 harg5 arg6 harg6 arg7 harg7 arg8 harg8 arg9 harg9 arg10 harg10 x7).1 S1x1x256x256.size (by sl_kernel_rfl) y)

/-- The guarded fill at any point: at the first from a scratch at anything, later from one that holds `biasTiles`, it
    leaves the scratch at `biasTiles`. -/
theorem fillIf (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x7 : Vec F S16x1x1024 .f32) (E : Set ℕ) (K : PUnit → sProp 𝕄) :
    iprop(owns (c : Thread nD τ) arg8 fullShare x7 ∗ (∃ d, ⌜¬cond0_0 i → d = biasTiles x7⌝ ∗ owns (c : Thread nD τ) arg10 fullShare d)
        ∗ (iprop(owns (c : Thread nD τ) arg8 fullShare x7 ∗ owns (c : Thread nD τ) arg10 fullShare (biasTiles x7)) -∗ K ⟨⟩))
      ⊢ wp frame (wpE (defs₀ (F := F)) Variants.none c none) E (if cond0_0 i then fillBias i arg1 harg1 arg2 harg2 arg3 harg3 arg4 harg4 arg5 harg5 arg6 harg6 arg7 harg7 arg8 harg8 arg9 harg9 arg10 harg10 else pure ⟨⟩) K := by
  by_cases h : cond0_0 i
  · rw [if_pos h]
    iintro ⟨H7, ⟨%d, -, H⟩, Hk⟩
    iapply ((fillRun c i arg1 harg1 arg2 harg2 arg3 harg3 arg4 harg4 arg5 harg5 arg6 harg6 arg7 harg7 arg8 harg8 arg9 harg9 arg10 harg10 x7).2 E K)
    isplitl [H7]; · iexact H7
    isplitl [H]; · iexists _; iexact H
    iintro ⟨H7, ⟨%f, H⟩⟩
    iapply Hk
    isplitl [H7]; · iexact H7
    unfold owns
    iexists _
    isplitr; · ipureintro; exact fill_read c i arg1 harg1 arg2 harg2 arg3 harg3 arg4 harg4 arg5 harg5 arg6 harg6 arg7 harg7 arg8 harg8 arg9 harg9 arg10 harg10 x7 f
    iexact H
  · rw [if_neg h]
    iintro ⟨H7, ⟨%d, %hd, H⟩, Hk⟩
    obtain rfl := hd h
    sl_step
    iapply Hk
    isplitl [H7]; · iexact H7
    iexact H

end Cert.KernelIdeal.Attn

end
-- ==== Proof.Attn.Run.lean ====
module

public import proofs.«01_k».proof.Proof.Attn.Init
public import proofs.«01_k».proof.Proof.Gen.KernelIdeal.Skeleton
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What follows the fill in the body's first part: the two bias places and the first loads of head 0. -/
def afterFill (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) :
    Prog (TpuEff nD τ sig (Elt F) Λ₀ .tc) (Σ' (v6 : BitVec 32) (v10 : BitVec 32) (v11 : FVec F S256x128 .bf16) (v18 : FVec F S256x256 .f32) (v24 : FVec F S256x256 .f32), FVec F S256x256 .f32) := do
  let arg0 : BitVec 32 := BitVec.ofNat 32 (i 0).val
  let v3 : BitVec 32 := Scalar.subi arg0 2#32
  let v4 : BitVec 32 := Scalar.addi v3 0#32
  let v5 : BitVec 1 := Scalar.cmpi .sge v4 0#32
  let v6 : BitVec 32 := Scalar.select v5 0#32 3#32
  let v7 : BitVec 32 := Scalar.subi arg0 2#32
  let v8 : BitVec 32 := Scalar.addi v7 1#32
  let v9 : BitVec 1 := Scalar.cmpi .sge v8 0#32
  let v10 : BitVec 32 := Scalar.select v9 1#32 3#32
  let v12 : Vec F S256x128 .bf16 ← Prog.lift (.load arg1 (Rect.unit (s := S256x2048) ![0, 0] S256x128.size inb_S256x2048_S256x128_0_0).toLoadRect (View.loadsAt_vmem h_S256x128))
  let v13 : Vec F S256x128 .bf16 ← Prog.lift (.load arg2 (Rect.unit (s := S256x2048) ![0, 0] S256x128.size inb_S256x2048_S256x128_0_0).toLoadRect (View.loadsAt_vmem h_S256x128))
  let v16 : Vec F S1x1x256x256 .f32 ← Prog.lift (.load arg10 (Rect.unit (s := S16x4x256x256) (k0_off1 i 0#32 0#32) S1x1x256x256.size (k0_off1_inb i 0)).toLoadRect (View.loadsAt_vmem h_S1x1x256x256))
  let v19 : Vec F S256x128 .bf16 ← Prog.lift (.load arg3 (Rect.unit (s := S256x2048) ![0, 0] S256x128.size inb_S256x2048_S256x128_0_0).toLoadRect (View.loadsAt_vmem h_S256x128))
  let v22 : Vec F S1x1x256x256 .f32 ← Prog.lift (.load arg10 (Rect.unit (s := S16x4x256x256) (k0_off1 i 1#32 1#32) S1x1x256x256.size (k0_off1_inb i 1)).toLoadRect (View.loadsAt_vmem h_S1x1x256x256))
  let v25 : Vec F S256x128 .bf16 ← Prog.lift (.load arg4 (Rect.unit (s := S256x2048) ![0, 0] S256x128.size inb_S256x2048_S256x128_0_0).toLoadRect (View.loadsAt_vmem h_S256x128))
  pure ⟨v6, v10, k0_pay112 (F := F), k0_pay113 v12 v13 v16, k0_pay114 v12 v19 v22, k0_pay115 v12 v25⟩

/-- The body's first part is the guarded fill, then `afterFill`. -/
theorem part24_eq (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) :
    k0_part24_skel (F := F) i arg1 harg1 arg2 harg2 arg3 harg3 arg4 harg4 arg5 harg5 arg6 harg6 arg7 harg7 arg8 harg8 arg9 harg9 arg10 harg10 = ((if cond0_0 i then fillBias i arg1 harg1 arg2 harg2 arg3 harg3 arg4 harg4 arg5 harg5 arg6 harg6 arg7 harg7 arg8 harg8 arg9 harg9 arg10 harg10 else pure ⟨⟩) >>= fun _ => afterFill i arg1 harg1 arg2 harg2 arg3 harg3 arg4 harg4 arg5 harg5 arg6 harg6 arg7 harg7 arg8 harg8 arg9 harg9 arg10 harg10) := by
  unfold k0_part24_skel
  by_cases h : cond0_0 i
  · rw [if_pos h]
    simp only [h, dite_true, fillBias, afterFill, Prog.bind_assoc]; rfl
  · rw [if_neg h]
    simp only [h, dite_false, afterFill]; rfl

set_option maxHeartbeats 2000000 in
/-- The pieces that the body leaves in the output's staging buffer (last first), with the proof that it runs to them
    whenever the guarded fill, from what the scratch holds (`G`), leaves the scratch at `xs`. -/
noncomputable def bodyRun (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x0 : Vec F S256x2048 .bf16) (x1 : Vec F S256x2048 .bf16) (x2 : Vec F S256x2048 .bf16) (x3 : Vec F S256x2048 .bf16) (x4 : Vec F S256x2048 .bf16) (x5 : Vec F S256x2048 .bf16) (x6 : Vec F S256x2048 .bf16) (x7 : Vec F S16x1x1024 .f32) (xs : Vec F S16x4x256x256 .f32) :
    { L8 : List (View.Piece (Elt F) S256x2048 .bf16) //
      ∀ (G : sProp 𝕄) (E : Set ℕ) (K : PUnit → sProp 𝕄)
        (_ : ∀ (K' : PUnit → sProp 𝕄), iprop(owns (c : Thread nD τ) arg8 fullShare x7 ∗ G
            ∗ (iprop(owns (c : Thread nD τ) arg8 fullShare x7 ∗ owns (c : Thread nD τ) arg10 fullShare xs) -∗ K' ⟨⟩))
          ⊢ wp frame (wpE (defs₀ (F := F)) Variants.none c none) E (if cond0_0 i then fillBias i arg1 harg1 arg2 harg2 arg3 harg3 arg4 harg4 arg5 harg5 arg6 harg6 arg7 harg7 arg8 harg8 arg9 harg9 arg10 harg10 else pure ⟨⟩) K'),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ G
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xs) -∗ K ⟨⟩))
          ⊢ wp frame (wpE (defs₀ (F := F)) Variants.none c none) E (cc0_attn i arg1 harg1 arg2 harg2 arg3 harg3 arg4 harg4 arg5 harg5 arg6 harg6 arg7 harg7 arg8 harg8 arg9 harg9 arg10 harg10) K } := by
  refine ⟨?_, fun G E K hG => ?run⟩
  case run =>
    simp only [cc0_attn_eq_skeleton]; unfold cc0_attn_skel
    simp only [k0_part63_eq_skeleton]; unfold k0_part63_skel
    simp only [k0_part24_eq_skeleton, part24_eq]
    rw [Prog.bind_assoc, Prog.bind_assoc, wp_bind]
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold afterFill
    iintro ⟨H0, H1, H2, H3, H4, H5, H6, H7, H8, HG, Hk⟩
    iapply (hG _)
    isplitl [H7]; · iexact H7
    isplitl [HG]; · iexact HG
    unfold owns
    iintro ⟨⟨%f7, %hf7, H7⟩, ⟨%fs0, %hfs0, HS0⟩⟩
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H8 with ⟨%d8, %f8, -, H8⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact HS0

end Cert.KernelIdeal.Attn

end
-- ==== Proof.Attn.Frame.lean ====
module

public import proofs.«01_k».proof.Proof.Attn.Bias
public import proofs.«01_k».proof.Proof.Attn.Run
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memrefs that the pipeline passes -/

abbrev VO0_8 : View sig .tc .vmem S256x2048 .bf16 := (Memref.whole cc0_stg8_0 : Memref sig .tc .vmem S256x2048 .bf16).view
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x2048 .bf16 := win0_8.stage (cfg0.slots t 8)
abbrev hs0_8 (t : Fin cfg0.N) : (ms0_8 t).IsWhole := hstage0_8 ((cfg0.slots t 8).cast nbuf0_8)
abbrev scM0_0 : Memref sig .tc .vmem S16x4x256x256 .f32 := Memref.whole cc0_scratch0

/-- Before the first point the invariant is: the scratch at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves -/

/-- The table of bias rows as the region finds it: every point's block of window 7 is the whole of it. -/
def tbl (c : Dev nD) : Vec F S16x1x1024 .f32 := iblk m c 7 (⟨0, by decide⟩ : Fin grid0.N)

theorem iblk7 (c : Dev nD) (t : Fin cfg0.N) : iblk m c 7 t = tbl m c := by
  unfold tbl iblk; rfl

theorem cover8 (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x0 x1 x2 x3 x4 x5 x6 : Vec F S256x2048 .bf16) (x7 : Vec F S16x1x1024 .f32)
    (xs : Vec F S16x4x256x256 .f32) (y : S256x2048.Idx) :
    ∃ pc ∈ (bodyRun c i arg1 harg1 arg2 harg2 arg3 harg3 arg4 harg4 arg5 harg5 arg6 harg6 arg7 harg7 arg8 harg8 arg9 harg9 arg10 harg10 x0 x1 x2 x3 x4 x5 x6 x7 xs).1, y ∈ pc.1.set :=
  View.cover_of_tiledL (bodyRun c i arg1 harg1 arg2 harg2 arg3 harg3 arg4 harg4 arg5 harg5 arg6 harg6 arg7 harg7 arg8 harg8 arg9 harg9 arg10 harg10 x0 x1 x2 x3 x4 x5 x6 x7 xs).1 S256x128.size (by sl_kernel_rfl) y

/-- What the output's buffer holds after point `t`: the run's pieces, read back. -/
def outAt (c : Dev nD) (t : Fin cfg0.N) : Vec F S256x2048 .bf16 :=
  VO0_8.read (Elt F) (VO0_8.writes (Elt F) VO0_8.junk
    (bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (biasTiles (iblk m c 7 t))).1)

/-! ## The pipeline's proof data -/

/-- Before point `n` the scratch holds the bias tiles, but for `n = 0`, when it holds anything. -/
def PhiS (c : Dev nD) (n : ℕ) : sProp 𝕄 :=
  iprop(iprop(∃ d, ⌜n ≠ 0 → d = biasTiles (tbl m c)⌝ ∗ owns (c : Thread nD τ) scM0_0 fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- One triple for every point: the guarded fill (`fillIf`) leaves the tiles in the scratch, and `bodyRun` the output. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) from rfl, show (dats m 0 c).Φ t.castSucc = PhiS m c t.val from rfl]
  unfold outAt PhiS
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (biasTiles (iblk m c 7 t))).2
    iprop(∃ d, ⌜¬cond0_0 (grid0.coords t) → d = biasTiles (iblk m c 7 t)⌝ ∗ owns (c : Thread nD τ) scM0_0 fullShare d) Set.univ _
    (fun K' => fillIf c (grid0.coords t) _ _ _ _ _ _ _ _ _ _ _ _ _ _ _ _ _ _ _ _ (iblk m c 7 t) Set.univ K'))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS]
  · iexists d
    isplitr
    · ipureintro; intro h; rw [iblk7]; exact hd fun h0 => h ((hcond0_0 t).mpr h0)
    iexact HS
  iintro ⟨H0, H1, H2, H3, H4, H5, H6, H7, ⟨%e8, H8⟩, HS⟩
  isplitl [HS Hg]
  · isplitl [HS]
    · iexists _
      isplitr
      swap; · iexact HS
      ipureintro; intro _; rw [iblk7]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover8 c _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, H⟩, Hg⟩
  isplitl [H]
  · iexists d
    isplitr
    · ipureintro; intro h; exact absurd rfl h
    iexact H
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, -, H⟩, Hg⟩
  isplitl [H]
  · iexists d; iexact H
  iexact Hg

/-! ## The run and the frame -/

set_option backward.isDefEq.respectTransparency.types false in
/-- Every execution ends with the arrays at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- An input's array ends as the region found it. -/
theorem kept (r : PUnit × MemSt nD τ sig (Elt F)) (h : Pipeline.FramePost cfgs (dats m) 0 (V m) r) (c : Dev nD) (w : Fin cfg0.W) (hw : (cfg0.win w).isOut = false) :
    r.2.mem ((cfg0.spec w).arr.view.loc (c.tc : Thread nD τ)) = V m c (Pipeline.arrRef spec0 w) :=
  ((h c).1 w).trans (((dats m 0 c).arrAt_in w hw _).trans (A_eq m c w))

/-- The run with the result named, the arguments unchanged and the counters at zero. -/
theorem run_named : θ_run defs (onTc (τ := τ) (main (F := F))) ⟨m, fun _ => 0, ρ⟩ (fun r => (∀ c : Dev nD,
      r.2.mem ((c.tc : Thread nD τ).loc main_v9) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c).1 8, (kept m r h.1 c 0 rfl).trans (V_main_arg0 m c), (kept m r h.1 c 1 rfl).trans (V_main_arg1 m c),
    (kept m r h.1 c 4 rfl).trans (V_main_arg2 m c), ((h.1 c).2 main_arg3 (Pipeline.mem_restRefs_of main_arg3 (by decide) (by decide))).trans (V_main_arg3 m c)⟩, h.2⟩) (run_quiescent m ρ)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run_named m ρ)

end Cert.KernelIdeal.Attn

end
-- ==== Proof.Attn.Same.lean ====
module

public import proofs.«01_k».proof.Defs
public import proofs.«01_k».proof.Proof.Attn.Frame
public import proofs.«01_k».proof.Proof.Gen.Kernel

@[expose] public section

set_option maxRecDepth 16384

noncomputable section

namespace Cert.KernelIdeal.Attn

open Idealize.ShloMosaic Idealize.ShloMosaic.TcCoe

variable {F : FTy → Type} [FloatOps F]

/-! ## The kernel is its idealization with the named literal at its own value -/

/-- Every named literal at the value of its bits. -/
@[instance_reducible] def unnamed : Named F := ⟨fun _ _ _ b => FloatOps.ofBits _ b⟩

theorem same_body : Cert.Kernel.cc0_attn (F := F) = @Cert.KernelIdeal.cc0_attn F _ unnamed _ := rfl

theorem same_defs₀ : Cert.Kernel.defs₀ (F := F) = @Cert.KernelIdeal.defs₀ F _ unnamed _ := by
  unfold Cert.Kernel.defs₀ Cert.KernelIdeal.defs₀
  refine congrArg Defs.onTc (funext fun l => ?_)
  match l with
  | ⟨0, _⟩ => exact funext fun p => congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _

theorem same_defs : Cert.Kernel.defs (F := F) = @Cert.KernelIdeal.defs F _ unnamed _ := congrArg (Pipeline.defs Cert.KernelIdeal.pcfgs) same_defs₀

/-- The frame of the kernel as it is, from the frame at any values. -/
theorem frame_kernel : Cert.quiescent_Kernel := fun m ρ _ => by
  have h := @frame Bits _ unnamed m ρ
  rw [← same_defs] at h
  exact h

end Cert.KernelIdeal.Attn

end
-- ==== Proof.Attn.Heads.lean ====
module

public import proofs.«01_k».proof.Proof.Attn.Run
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One head, as a function of its loads -/

/-- Columns `n … n + 127` of a block. -/
def colsAt (x : Vec F S256x2048 .bf16) (n : ℕ) (hn : n + 128 ≤ 2048) : Vec F S256x128 .bf16 :=
  fun j => x fun a => match a with
    | ⟨0, _⟩ => j 0
    | ⟨1, _⟩ => ⟨n + (j 1).val, lt_of_lt_of_le (Nat.add_lt_add_left (j 1).isLt n) hn⟩

/-- Tile `p` of head `h` of the bias scratch. -/
def biasAt (xs : Vec F S16x4x256x256 .f32) (h p : ℕ) (hh : h < 16) (hp : p < 4) : Vec F S1x1x256x256 .f32 :=
  fun j => xs fun a => match a with
    | ⟨0, _⟩ => ⟨h, hh⟩
    | ⟨1, _⟩ => ⟨p, hp⟩
    | ⟨2, _⟩ => j 2
    | ⟨3, _⟩ => j 3

theorem colsAt_eq {arg : Memref sig .tc .vmem S256x2048 .bf16} (harg : arg.IsWhole) (x : Vec F S256x2048 .bf16) (n : ℕ) (hn : n + 128 ≤ 2048)
    (inb : ∀ a, (![0, n] : Fin 2 → ℕ) a + S256x128.size a ≤ S256x2048.size a) :
    colsAt x n hn = arg.view.readAt (Elt F) (Rect.unit (s := S256x2048) ![0, n] S256x128.size inb).toLoadRect (harg.unread x) := by
  funext j
  rw [View.readAt_apply, harg.read_unread]
  unfold colsAt
  refine congrArg x ?_
  funext a
  apply Fin.ext
  match a with
  | ⟨0, _⟩ => show (j 0).val = 0 + 1 * (j 0).val; omega
  | ⟨1, _⟩ => show n + (j 1).val = n + 1 * (j 1).val; omega

theorem biasAt_eq {arg : Memref sig .tc .vmem S16x4x256x256 .f32} (harg : arg.IsWhole) (xs : Vec F S16x4x256x256 .f32) (h p : ℕ) (hh : h < 16) (hp : p < 4)
    {off : Fin 4 → ℕ} (hoff : off = ![h, p, 0, 0]) (inb : ∀ a, off a + S1x1x256x256.size a ≤ S16x4x256x256.size a) :
    biasAt xs h p hh hp = arg.view.readAt (Elt F) (Rect.unit (s := S16x4x256x256) off S1x1x256x256.size inb).toLoadRect (harg.unread xs) := by
  subst hoff
  funext j
  rw [View.readAt_apply, harg.read_unread]
  unfold biasAt
  refine congrArg xs ?_
  funext a
  apply Fin.ext
  match a with
  | ⟨0, _⟩ => have : (j 0).val < 1 := (j 0).isLt; show h = h + 1 * (j 0).val; omega
  | ⟨1, _⟩ => have : (j 1).val < 1 := (j 1).isLt; show p = p + 1 * (j 1).val; omega
  | ⟨2, _⟩ => show (j 2).val = 0 + 1 * (j 2).val; omega
  | ⟨3, _⟩ => show (j 3).val = 0 + 1 * (j 3).val; omega

/-- What the body stores for a head, from the head's queries, its three key and value blocks and its three bias tiles. -/
def headOut (q k0 k1 k2 v0 v1 v2 : Vec F S256x128 .bf16) (b0 b1 b2 : Vec F S1x1x256x256 .f32) : FVec F S256x128 .bf16 :=
  k0_pay138 k0_pay112
    (k0_pay127 (k0_pay122 (k0_pay114 q k1 b1)) (k0_pay123 (k0_pay114 q k1 b1)) (k0_pay125 (k0_pay113 q k0 b0) (k0_pay114 q k1 b1) (k0_pay115 q k2) b2))
    (k0_pay128 (k0_pay124 (k0_pay115 q k2) b2) (k0_pay125 (k0_pay113 q k0 b0) (k0_pay114 q k1 b1) (k0_pay115 q k2) b2))
    (k0_pay135 (k0_pay113 q k0 b0) (k0_pay114 q k1 b1) (k0_pay116 (k0_pay115 q k2) b2))
    (k0_pay136 (k0_pay113 q k0 b0) (k0_pay114 q k1 b1) (k0_pay116 (k0_pay115 q k2) b2))
    (k0_pay137 (k0_pay113 q k0 b0) (k0_pay114 q k1 b1) (k0_pay116 (k0_pay115 q k2) b2) (k0_pay121 (k0_pay113 q k0 b0))
      (k0_pay125 (k0_pay113 q k0 b0) (k0_pay114 q k1 b1) (k0_pay115 q k2) b2) (k0_pay126 (k0_pay113 q k0 b0) (k0_pay114 q k1 b1) (k0_pay115 q k2) b2))
    v0 v1 v2

/-! ## The places of the bias tiles -/

/-- The tile that the body takes for key block `b` (`a` and `b` the same word): `b`, or 3 where the block lies before the array. -/
abbrev place (i : grid0.Coords) (b : BitVec 32) : ℕ := k0_off1 i b b 1

theorem place0 (i : grid0.Coords) : place i 0#32 = if 2 ≤ (i 0).val then 0 else 3 := by
  have h : (i 0).val < 32 := (i 0).isLt
  show (Scalar.select (Scalar.cmpi .sge (Scalar.addi (Scalar.subi (BitVec.ofNat 32 (i 0).val) 2#32) 0#32) 0#32) 0#32 3#32 : BitVec 32).toNat = _
  generalize (i 0).val = n at h
  interval_cases n <;> rfl
theorem place1 (i : grid0.Coords) : place i 1#32 = if 1 ≤ (i 0).val then 1 else 3 := by
  have h : (i 0).val < 32 := (i 0).isLt
  show (Scalar.select (Scalar.cmpi .sge (Scalar.addi (Scalar.subi (BitVec.ofNat 32 (i 0).val) 2#32) 1#32) 0#32) 1#32 3#32 : BitVec 32).toNat = _
  generalize (i 0).val = n at h
  interval_cases n <;> rfl
theorem place0_lt (i : grid0.Coords) : place i 0#32 < 4 := by rw [place0]; split <;> omega
theorem place1_lt (i : grid0.Coords) : place i 1#32 < 4 := by rw [place1]; split <;> omega

/-- Head `h` of the block at point `i`, from the whole blocks and the scratch. -/
def headAt (x0 x1 x2 x3 x4 x5 x6 : Vec F S256x2048 .bf16) (xs : Vec F S16x4x256x256 .f32) (i : grid0.Coords) (h : ℕ) (hh : h < 16) : FVec F S256x128 .bf16 :=
  have hn : 128 * h + 128 ≤ 2048 := by omega
  headOut (colsAt x0 (128 * h) hn) (colsAt x1 (128 * h) hn) (colsAt x2 (128 * h) hn) (colsAt x3 (128 * h) hn) (colsAt x4 (128 * h) hn) (colsAt x5 (128 * h) hn) (colsAt x6 (128 * h) hn)
    (biasAt xs h (place i 0#32) hh (place0_lt i)) (biasAt xs h (place i 1#32) hh (place1_lt i)) (biasAt xs h 2 hh (by decide))

/-- What a point leaves in the output's buffer: column `n` is column `n % 128` of head `n / 128`. -/
def blockOut (x0 x1 x2 x3 x4 x5 x6 : Vec F S256x2048 .bf16) (xs : Vec F S16x4x256x256 .f32) (i : grid0.Coords) : Vec F S256x2048 .bf16 :=
  fun y => headAt x0 x1 x2 x3 x4 x5 x6 xs i ((y 1).val / 128) (Nat.div_lt_of_lt_mul (y 1).isLt) fun a => match a with
    | ⟨0, _⟩ => y 0
    | ⟨1, _⟩ => ⟨(y 1).val % 128, Nat.mod_lt _ (by decide)⟩

theorem headAt_congr (x0 x1 x2 x3 x4 x5 x6 : Vec F S256x2048 .bf16) (xs : Vec F S16x4x256x256 .f32) (i : grid0.Coords) {h h' : ℕ} (hh : h < 16) (hh' : h' < 16)
    {z z' : S256x128.Idx} (e : h' = h) (ez : z' = z) : headAt x0 x1 x2 x3 x4 x5 x6 xs i h hh z = headAt x0 x1 x2 x3 x4 x5 x6 xs i h' hh' z' := by
  subst e ez; rfl

theorem piece {arg1 arg2 arg3 arg4 arg5 arg6 arg7 : Memref sig .tc .vmem S256x2048 .bf16} {arg10 : Memref sig .tc .vmem S16x4x256x256 .f32}
    (harg1 : arg1.IsWhole) (harg2 : arg2.IsWhole) (harg3 : arg3.IsWhole) (harg4 : arg4.IsWhole) (harg5 : arg5.IsWhole) (harg6 : arg6.IsWhole) (harg7 : arg7.IsWhole) (harg10 : arg10.IsWhole)
    (x0 x1 x2 x3 x4 x5 x6 : Vec F S256x2048 .bf16) (xs : Vec F S16x4x256x256 .f32) (i : grid0.Coords) (n h : ℕ) (hnh : n = 128 * h) (hh : h < 16)
    {off : BitVec 32 → BitVec 32 → Fin 4 → ℕ} (h0 : off 0#32 0#32 = ![h, place i 0#32, 0, 0]) (h1 : off 1#32 1#32 = ![h, place i 1#32, 0, 0])
    (inb : ∀ a, (![0, n] : Fin 2 → ℕ) a + S256x128.size a ≤ S256x2048.size a) (inb2 : ∀ a, (![h, 2, 0, 0] : Fin 4 → ℕ) a + S1x1x256x256.size a ≤ S16x4x256x256.size a)
    (inb0 : ∀ a, off 0#32 0#32 a + S1x1x256x256.size a ≤ S16x4x256x256.size a) (inb1 : ∀ a, off 1#32 1#32 a + S1x1x256x256.size a ≤ S16x4x256x256.size a) :
    headOut (arg1.view.readAt (Elt F) (Rect.unit (s := S256x2048) ![0, n] S256x128.size inb).toLoadRect (harg1.unread x0))
      (arg2.view.readAt (Elt F) (Rect.unit (s := S256x2048) ![0, n] S256x128.size inb).toLoadRect (harg2.unread x1))
      (arg3.view.readAt (Elt F) (Rect.unit (s := S256x2048) ![0, n] S256x128.size inb).toLoadRect (harg3.unread x2))
      (arg4.view.readAt (Elt F) (Rect.unit (s := S256x2048) ![0, n] S256x128.size inb).toLoadRect (harg4.unread x3))
      (arg5.view.readAt (Elt F) (Rect.unit (s := S256x2048) ![0, n] S256x128.size inb).toLoadRect (harg5.unread x4))
      (arg6.view.readAt (Elt F) (Rect.unit (s := S256x2048) ![0, n] S256x128.size inb).toLoadRect (harg6.unread x5))
      (arg7.view.readAt (Elt F) (Rect.unit (s := S256x2048) ![0, n] S256x128.size inb).toLoadRect (harg7.unread x6))
      (arg10.view.readAt (Elt F) (Rect.unit (s := S16x4x256x256) (off 0#32 0#32) S1x1x256x256.size inb0).toLoadRect (harg10.unread xs))
      (arg10.view.readAt (Elt F) (Rect.unit (s := S16x4x256x256) (off 1#32 1#32) S1x1x256x256.size inb1).toLoadRect (harg10.unread xs))
      (arg10.view.readAt (Elt F) (Rect.unit (s := S16x4x256x256) ![h, 2, 0, 0] S1x1x256x256.size inb2).toLoadRect (harg10.unread xs))
    = fun x => blockOut x0 x1 x2 x3 x4 x5 x6 xs i ((Rect.unit (s := S256x2048) ![0, n] S256x128.size inb).emb x) := by
  subst hnh
  funext x
  have x1' : (x 1).val < 128 := (x 1).isLt
  unfold blockOut
  have e : ((Rect.unit (s := S256x2048) ![0, 128 * h] S256x128.size inb).emb x 1).val = 128 * h + (x 1).val := by
    show 128 * h + 1 * (x 1).val = 128 * h + (x 1).val; omega
  rw [← headAt_congr x0 x1 x2 x3 x4 x5 x6 xs i hh _ (h' := ((Rect.unit (s := S256x2048) ![0, 128 * h] S256x128.size inb).emb x 1).val / 128) (z := x) (by omega)]
  · unfold headAt
    rw [colsAt_eq harg1 x0 (128 * h) _ inb, colsAt_eq harg2 x1 (128 * h) _ inb, colsAt_eq harg3 x2 (128 * h) _ inb, colsAt_eq harg4 x3 (128 * h) _ inb,
      colsAt_eq harg5 x4 (128 * h) _ inb, colsAt_eq harg6 x5 (128 * h) _ inb, colsAt_eq harg7 x6 (128 * h) _ inb,
      biasAt_eq harg10 xs h _ hh _ h0 inb0, biasAt_eq harg10 xs h _ hh _ h1 inb1, biasAt_eq harg10 xs h 2 hh _ rfl inb2]
  · funext a
    apply Fin.ext
    match a with
    | ⟨0, _⟩ => show 0 + 1 * (x 0).val = (x 0).val; omega
    | ⟨1, _⟩ => show ((Rect.unit (s := S256x2048) ![0, 128 * h] S256x128.size inb).emb x 1).val % 128 = (x 1).val; omega

theorem off_eq {h p : ℕ} {off : Fin 4 → ℕ} (e0 : off 0 = h) (e1 : off 1 = p) (e2 : off 2 = 0) (e3 : off 3 = 0) : off = ![h, p, 0, 0] := by
  funext a
  match a with
  | ⟨0, _⟩ => exact e0
  | ⟨1, _⟩ => exact e1
  | ⟨2, _⟩ => exact e2
  | ⟨3, _⟩ => exact e3

set_option maxHeartbeats 4000000 in
/-- Every piece that the body leaves agrees with `blockOut`: the sixteen heads run the same operations. -/
theorem run_pieces (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S16x1x1024 .f32) (harg8 : arg8.IsWhole) (arg9 : Memref sig .tc .vmem S256x2048 .bf16) (harg9 : arg9.IsWhole) (arg10 : Memref sig .tc .vmem S16x4x256x256 .f32) (harg10 : arg10.IsWhole) (x0 x1 x2 x3 x4 x5 x6 : Vec F S256x2048 .bf16) (x7 : Vec F S16x1x1024 .f32)
    (xs : Vec F S16x4x256x256 .f32) :
    ∀ p ∈ (bodyRun c i arg1 harg1 arg2 harg2 arg3 harg3 arg4 harg4 arg5 harg5 arg6 harg6 arg7 harg7 arg8 harg8 arg9 harg9 arg10 harg10 x0 x1 x2 x3 x4 x5 x6 x7 xs).1, ∀ x : p.1.shape.Idx, p.2 x = blockOut x0 x1 x2 x3 x4 x5 x6 xs i (p.1.emb x) := by
  rw [← List.forall_iff_forall_mem]
  unfold bodyRun
  dsimp only
  refine ⟨?_, ?_, ?_, ?_, ?_, ?_, ?_, ?_, ?_, ?_, ?_, ?_, ?_, ?_, ?_, ?_⟩
  · refine fun x => Eq.trans (congrFun ?_ x) (congrFun (piece harg1 harg2 harg3 harg4 harg5 harg6 harg7 harg10 x0 x1 x2 x3 x4 x5 x6 xs i 1920 15 rfl (by decide) (off := k0_off16 i) (off_eq rfl rfl rfl rfl) (off_eq rfl rfl rfl rfl) (by decide) (by decide) (k0_off16_inb i 0) (k0_off16_inb i 1)) x)
    sl_kernel_rfl
  · refine fun x => Eq.trans (congrFun ?_ x) (congrFun (piece harg1 harg2 harg3 harg4 harg5 harg6 harg7 harg10 x0 x1 x2 x3 x4 x5 x6 xs i 1792 14 rfl (by decide) (off := k0_off15 i) (off_eq rfl rfl rfl rfl) (off_eq rfl rfl rfl rfl) (by decide) (by decide) (k0_off15_inb i 0) (k0_off15_inb i 1)) x)
    sl_kernel_rfl
  · refine fun x => Eq.trans (congrFun ?_ x) (congrFun (piece harg1 harg2 harg3 harg4 harg5 harg6 harg7 harg10 x0 x1 x2 x3 x4 x5 x6 xs i 1664 13 rfl (by decide) (off := k0_off14 i) (off_eq rfl rfl rfl rfl) (off_eq rfl rfl rfl rfl) (by decide) (by decide) (k0_off14_inb i 0) (k0_off14_inb i 1)) x)
    sl_kernel_rfl
  · refine fun x => Eq.trans (congrFun ?_ x) (congrFun (piece harg1 harg2 harg3 harg4 harg5 harg6 harg7 harg10 x0 x1 x2 x3 x4 x5 x6 xs i 1536 12 rfl (by decide) (off := k0_off13 i) (off_eq rfl rfl rfl rfl) (off_eq rfl rfl rfl rfl) (by decide) (by decide) (k0_off13_inb i 0) (k0_off13_inb i 1)) x)
    sl_kernel_rfl
  · refine fun x => Eq.trans (congrFun ?_ x) (congrFun (piece harg1 harg2 harg3 harg4 harg5 harg6 harg7 harg10 x0 x1 x2 x3 x4 x5 x6 xs i 1408 11 rfl (by decide) (off := k0_off12 i) (off_eq rfl rfl rfl rfl) (off_eq rfl rfl rfl rfl) (by decide) (by decide) (k0_off12_inb i 0) (k0_off12_inb i 1)) x)
    sl_kernel_rfl
  · refine fun x => Eq.trans (congrFun ?_ x) (congrFun (piece harg1 harg2 harg3 harg4 harg5 harg6 harg7 harg10 x0 x1 x2 x3 x4 x5 x6 xs i 1280 10 rfl (by decide) (off := k0_off11 i) (off_eq rfl rfl rfl rfl) (off_eq rfl rfl rfl rfl) (by decide) (by decide) (k0_off11_inb i 0) (k0_off11_inb i 1)) x)
    sl_kernel_rfl
  · refine fun x => Eq.trans (congrFun ?_ x) (congrFun (piece harg1 harg2 harg3 harg4 harg5 harg6 harg7 harg10 x0 x1 x2 x3 x4 x5 x6 xs i 1152 9 rfl (by decide) (off := k0_off10 i) (off_eq rfl rfl rfl rfl) (off_eq rfl rfl rfl rfl) (by decide) (by decide) (k0_off10_inb i 0) (k0_off10_inb i 1)) x)
    sl_kernel_rfl
  · refine fun x => Eq.trans (congrFun ?_ x) (congrFun (piece harg1 harg2 harg3 harg4 harg5 harg6 harg7 harg10 x0 x1 x2 x3 x4 x5 x6 xs i 1024 8 rfl (by decide) (off := k0_off9 i) (off_eq rfl rfl rfl rfl) (off_eq rfl rfl rfl rfl) (by decide) (by decide) (k0_off9_inb i 0) (k0_off9_inb i 1)) x)
    sl_kernel_rfl
  · refine fun x => Eq.trans (congrFun ?_ x) (congrFun (piece harg1 harg2 harg3 harg4 harg5 harg6 harg7 harg10 x0 x1 x2 x3 x4 x5 x6 xs i 896 7 rfl (by decide) (off := k0_off8 i) (off_eq rfl rfl rfl rfl) (off_eq rfl rfl rfl rfl) (by decide) (by decide) (k0_off8_inb i 0) (k0_off8_inb i 1)) x)
    sl_kernel_rfl
  · refine fun x => Eq.trans (congrFun ?_ x) (congrFun (piece harg1 harg2 harg3 harg4 harg5 harg6 harg7 harg10 x0 x1 x2 x3 x4 x5 x6 xs i 768 6 rfl (by decide) (off := k0_off7 i) (off_eq rfl rfl rfl rfl) (off_eq rfl rfl rfl rfl) (by decide) (by decide) (k0_off7_inb i 0) (k0_off7_inb i 1)) x)
    sl_kernel_rfl
  · refine fun x => Eq.trans (congrFun ?_ x) (congrFun (piece harg1 harg2 harg3 harg4 harg5 harg6 harg7 harg10 x0 x1 x2 x3 x4 x5 x6 xs i 640 5 rfl (by decide) (off := k0_off6 i) (off_eq rfl rfl rfl rfl) (off_eq rfl rfl rfl rfl) (by decide) (by decide) (k0_off6_inb i 0) (k0_off6_inb i 1)) x)
    sl_kernel_rfl
  · refine fun x => Eq.trans (congrFun ?_ x) (congrFun (piece harg1 harg2 harg3 harg4 harg5 harg6 harg7 harg10 x0 x1 x2 x3 x4 x5 x6 xs i 512 4 rfl (by decide) (off := k0_off5 i) (off_eq rfl rfl rfl rfl) (off_eq rfl rfl rfl rfl) (by decide) (by decide) (k0_off5_inb i 0) (k0_off5_inb i 1)) x)
    sl_kernel_rfl
  · refine fun x => Eq.trans (congrFun ?_ x) (congrFun (piece harg1 harg2 harg3 harg4 harg5 harg6 harg7 harg10 x0 x1 x2 x3 x4 x5 x6 xs i 384 3 rfl (by decide) (off := k0_off4 i) (off_eq rfl rfl rfl rfl) (off_eq rfl rfl rfl rfl) (by decide) (by decide) (k0_off4_inb i 0) (k0_off4_inb i 1)) x)
    sl_kernel_rfl
  · refine fun x => Eq.trans (congrFun ?_ x) (congrFun (piece harg1 harg2 harg3 harg4 harg5 harg6 harg7 harg10 x0 x1 x2 x3 x4 x5 x6 xs i 256 2 rfl (by decide) (off := k0_off3 i) (off_eq rfl rfl rfl rfl) (off_eq rfl rfl rfl rfl) (by decide) (by decide) (k0_off3_inb i 0) (k0_off3_inb i 1)) x)
    sl_kernel_rfl
  · refine fun x => Eq.trans (congrFun ?_ x) (congrFun (piece harg1 harg2 harg3 harg4 harg5 harg6 harg7 harg10 x0 x1 x2 x3 x4 x5 x6 xs i 128 1 rfl (by decide) (off := k0_off2 i) (off_eq rfl rfl rfl rfl) (off_eq rfl rfl rfl rfl) (by decide) (by decide) (k0_off2_inb i 0) (k0_off2_inb i 1)) x)
    sl_kernel_rfl
  · refine fun x => Eq.trans (congrFun ?_ x) (congrFun (piece harg1 harg2 harg3 harg4 harg5 harg6 harg7 harg10 x0 x1 x2 x3 x4 x5 x6 xs i 0 0 rfl (by decide) (off := k0_off1 i) (off_eq rfl rfl rfl rfl) (off_eq rfl rfl rfl rfl) (by decide) (by decide) (k0_off1_inb i 0) (k0_off1_inb i 1)) x)
    sl_kernel_rfl
end Cert.KernelIdeal.Attn

end
-- ==== Proof.Attn.Closed.lean ====
module

public import proofs.«01_k».proof.Proof.Attn.Heads
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Attn

open Cert.KernelIdeal Cert.KernelIdeal.Gen
open Idealize.ShloMosaic Idealize.ShloMosaic.TcCoe

/-! ## A head's operations, read at an index over the extended reals -/

/-- The score of query row `r` against key row `j` of a block, with its bias. -/
def score (q k : Vec Ideal S256x128 .bf16) (b : Vec Ideal S1x1x256x256 .f32) (r j : Fin 256) : EReal :=
  (∑ t : Fin 128, q (ix2 r t) * k (ix2 j t)) + b (ix4 (0 : Fin 1) (0 : Fin 1) r j)

theorem qk_apply (q k : Vec Ideal S256x128 .bf16) (r j : Fin 256) :
    (k0_pay115 q k : FVec Ideal S256x256 .f32) (ix2 r j) = ∑ t : Fin 128, q (ix2 r t) * k (ix2 j t) := by
  unfold k0_pay115
  pointwise

theorem pay116_apply (q k : Vec Ideal S256x128 .bf16) (b : Vec Ideal S1x1x256x256 .f32) (r j : Fin 256) :
    (k0_pay116 (k0_pay115 q k) b : FVec Ideal S256x256 .f32) (ix2 r j) = score q k b r j := by
  unfold k0_pay116 score
  rw [← qk_apply]
  pointwise

theorem pay113_eq (q k : Vec Ideal S256x128 .bf16) (b : Vec Ideal S1x1x256x256 .f32) : k0_pay113 q k b = k0_pay116 (k0_pay115 q k) b := rfl
theorem pay114_eq (q k : Vec Ideal S256x128 .bf16) (b : Vec Ideal S1x1x256x256 .f32) : k0_pay114 q k b = k0_pay116 (k0_pay115 q k) b := rfl

/-- Row `r` of the upper half, lane `k`: the greatest score among the five quadrants that the upper half sees. -/
def upMax (s0 s1 s2 : FVec Ideal S256x256 .f32) (r : Fin 256) (k : Fin 128) : EReal :=
  max (max (max (max (s0 (ix2 r ⟨k.val, by omega⟩)) (s0 (ix2 r ⟨128 + k.val, by omega⟩))) (s1 (ix2 r ⟨k.val, by omega⟩)))
        (s1 (ix2 r ⟨128 + k.val, by omega⟩))) (s2 (ix2 r ⟨k.val, by omega⟩))

/-- The same of the lower half. -/
def loMax (s0 s1 s2 : FVec Ideal S256x256 .f32) (r : Fin 256) (k : Fin 128) : EReal :=
  max (max (max (max (s0 (ix2 r ⟨128 + k.val, by omega⟩)) (s1 (ix2 r ⟨k.val, by omega⟩))) (s1 (ix2 r ⟨128 + k.val, by omega⟩)))
        (s2 (ix2 r ⟨k.val, by omega⟩))) (s2 (ix2 r ⟨128 + k.val, by omega⟩))

/-- A row's maximum. -/
def rowMax (s0 s1 s2 : FVec Ideal S256x256 .f32) (r : Fin 256) : EReal :=
  if r.val < 128 then (Finset.univ : Finset (Fin 128)).fold max ⊥ (upMax s0 s1 s2 r) else (Finset.univ : Finset (Fin 128)).fold max ⊥ (loMax s0 s1 s2 r)

theorem ofBits_bot : Ideal.ofBits FTy.f32 4286578688#32 = (⊥ : EReal) := by simp [Ideal.ofBits, Ideal.ieee]

theorem pay125_apply (s0 s1 v26 : FVec Ideal S256x256 .f32) (b : Vec Ideal S1x1x256x256 .f32) (r : Fin 128) (r' : Fin 256) (hr : r'.val = r.val) :
    k0_pay125 s0 s1 v26 b (ix2 r 0) = rowMax s0 s1 (k0_pay116 v26 b) r' := by
  obtain rfl : r' = ⟨r.val, Nat.lt_of_lt_of_le r.isLt (by decide)⟩ := Fin.ext hr
  unfold rowMax upMax k0_pay125 k0_pay120 k0_pay121 k0_pay122 k0_pay123 k0_pay124
  rw [if_pos r.isLt, ← ofBits_bot]
  pointwise

theorem pay134_apply (s0 s1 s2 : FVec Ideal S256x256 .f32) (r : Fin 128) (r' : Fin 256) (hr : r'.val = 128 + r.val) :
    k0_pay134 s0 s1 s2 (ix2 r 0) = rowMax s0 s1 s2 r' := by
  obtain rfl : r' = ⟨128 + r.val, Nat.add_lt_add_left r.isLt 128⟩ := Fin.ext hr
  unfold rowMax loMax k0_pay134 k0_pay129 k0_pay130 k0_pay131 k0_pay132 k0_pay133
  rw [if_neg (by show ¬ 128 + r.val < 128; omega), ← ofBits_bot]
  pointwise

/-- The weight of key row `j` of block `b` for query row `r`: 0 in the quadrants that no chunk of the half sees. -/
def weight (s0 s1 s2 : FVec Ideal S256x256 .f32) (b : Fin 3) (r j : Fin 256) : EReal :=
  match b with
  | 0 => if r.val < 128 ∨ 128 ≤ j.val then Ideal.exp (s0 (ix2 r j) - rowMax s0 s1 s2 r) else 0
  | 1 => Ideal.exp (s1 (ix2 r j) - rowMax s0 s1 s2 r)
  | 2 => if 128 ≤ r.val ∨ j.val < 128 then Ideal.exp (s2 (ix2 r j) - rowMax s0 s1 s2 r) else 0

theorem fin_back {n : ℕ} (j : Fin n) (a : ℕ) (h : a ≤ j.val) (p : a + (j.val - a) < n) : (⟨a + (j.val - a), p⟩ : Fin n) = j :=
  Fin.ext (by show a + (j.val - a) = j.val; omega)

theorem pay127_apply (s1 : FVec Ideal S256x256 .f32) (m : FVec Ideal S128x1 .f32) (r : Fin 128) (j : Fin 256) :
    k0_pay127 (k0_pay122 s1) (k0_pay123 s1) m (ix2 r j) = Ideal.exp (s1 (ix2 ⟨r.val, by omega⟩ j) - m (ix2 r 0)) := by
  unfold k0_pay127 k0_pay122 k0_pay123
  pointwise
  split
  · rfl
  · rw [fin_back j 128 (by omega)]

theorem pay128_apply (v26 : FVec Ideal S256x256 .f32) (b : Vec Ideal S1x1x256x256 .f32) (m : FVec Ideal S128x1 .f32) (r : Fin 128) (j : Fin 256) :
    k0_pay128 (k0_pay124 v26 b) m (ix2 r j) = if j.val < 128 then Ideal.exp (k0_pay116 v26 b (ix2 ⟨r.val, by omega⟩ j) - m (ix2 r 0)) else 0 := by
  unfold k0_pay128 k0_pay124
  pointwise
  rfl

theorem pay135_apply (s0 s1 s2 : FVec Ideal S256x256 .f32) (r : Fin 128) (j : Fin 256) :
    k0_pay135 s0 s1 s2 (ix2 r j) = Ideal.exp (s1 (ix2 ⟨128 + r.val, by omega⟩ j) - k0_pay134 s0 s1 s2 (ix2 r 0)) := by
  unfold k0_pay135 k0_pay130 k0_pay131
  pointwise
  split
  · rfl
  · rw [fin_back j 128 (by omega)]

theorem pay136_apply (s0 s1 s2 : FVec Ideal S256x256 .f32) (r : Fin 128) (j : Fin 256) :
    k0_pay136 s0 s1 s2 (ix2 r j) = Ideal.exp (s2 (ix2 ⟨128 + r.val, by omega⟩ j) - k0_pay134 s0 s1 s2 (ix2 r 0)) := by
  unfold k0_pay136 k0_pay132 k0_pay133
  pointwise
  split
  · rfl
  · rw [fin_back j 128 (by omega)]

theorem pay137_apply (s0 s1 v26 : FVec Ideal S256x256 .f32) (b : Vec Ideal S1x1x256x256 .f32) (r j : Fin 256) :
    k0_pay137 s0 s1 (k0_pay116 v26 b) (k0_pay121 s0) (k0_pay125 s0 s1 v26 b) (k0_pay126 s0 s1 v26 b) (ix2 r j) = weight s0 s1 (k0_pay116 v26 b) 0 r j := by
  unfold k0_pay137 k0_pay121 k0_pay126 k0_pay120 k0_pay129 weight
  pointwise
  by_cases hr : r.val < 128
  · rw [dif_pos hr]
    show (if _ : j.val < 128 then Ideal.exp (s0 (ix2 r j) - k0_pay125 s0 s1 v26 b (ix2 ⟨r.val, hr⟩ 0))
      else Ideal.exp (s0 (ix2 r ⟨128 + (j.val - 128), by omega⟩) - k0_pay125 s0 s1 v26 b (ix2 ⟨r.val, hr⟩ 0))) = if r.val < 128 ∨ 128 ≤ j.val then Ideal.exp (s0 (ix2 r j) - rowMax s0 s1 (k0_pay116 v26 b) r) else 0
    rw [if_pos (Or.inl hr), pay125_apply s0 s1 v26 b ⟨r.val, hr⟩ r rfl]
    split
    · rfl
    · rw [fin_back j 128 (by omega)]
  · rw [dif_neg hr]
    show (if _ : j.val < 128 then (0 : EReal)
      else Ideal.exp (s0 (ix2 ⟨128 + (r.val - 128), by omega⟩ ⟨128 + (j.val - 128), by omega⟩) - k0_pay134 s0 s1 (k0_pay116 v26 b) (ix2 ⟨r.val - 128, by omega⟩ 0)))
        = if r.val < 128 ∨ 128 ≤ j.val then Ideal.exp (s0 (ix2 r j) - rowMax s0 s1 (k0_pay116 v26 b) r) else 0
    rw [pay134_apply s0 s1 _ ⟨r.val - 128, by omega⟩ r (by show r.val = 128 + (r.val - 128); omega)]
    by_cases hj : j.val < 128
    · rw [dif_pos hj, if_neg (by omega)]
    · rw [dif_neg hj, if_pos (Or.inr (by omega)), fin_back j 128 (by omega), fin_back r 128 (by omega)]

/-- What the body stores for a head, at row `r` and lane `d`: the weighted sum of the values, times one over the sum of
    the weights. -/
theorem headOut_apply (q k0 k1 k2 v0 v1 v2 : Vec Ideal S256x128 .bf16) (b0 b1 b2 : Vec Ideal S1x1x256x256 .f32) (r : Fin 256) (d : Fin 128)
    (s0 s1 s2 : FVec Ideal S256x256 .f32) (h0 : s0 = k0_pay116 (k0_pay115 q k0) b0) (h1 : s1 = k0_pay116 (k0_pay115 q k1) b1) (h2 : s2 = k0_pay116 (k0_pay115 q k2) b2) :
    headOut q k0 k1 k2 v0 v1 v2 b0 b1 b2 (ix2 r d)
      = (∑ j, weight s0 s1 s2 0 r j * v0 (ix2 j d) + ∑ j, weight s0 s1 s2 1 r j * v1 (ix2 j d) + ∑ j, weight s0 s1 s2 2 r j * v2 (ix2 j d))
        * Ideal.div 1 (∑ j, weight s0 s1 s2 0 r j + ∑ j, weight s0 s1 s2 1 r j + ∑ j, weight s0 s1 s2 2 r j) := by
  unfold headOut
  rw [pay113_eq, pay114_eq, ← h0, ← h1, ← h2]
  unfold k0_pay138 k0_pay112
  pointwise
  have e0 : ∀ j, k0_pay137 s0 s1 s2 (k0_pay121 s0) (k0_pay125 s0 s1 (k0_pay115 q k2) b2) (k0_pay126 s0 s1 (k0_pay115 q k2) b2) (ix2 r j) = weight s0 s1 s2 0 r j := fun j => by
    rw [h2]; exact pay137_apply ..
  simp only [e0]
  by_cases hr : r.val < 128
  · have em : k0_pay125 s0 s1 (k0_pay115 q k2) b2 (ix2 ⟨r.val, hr⟩ 0) = rowMax s0 s1 s2 r := by rw [h2]; exact pay125_apply _ _ _ _ ⟨r.val, hr⟩ r rfl
    simp only [dif_pos hr, pay127_apply, pay128_apply, em, ← h2]
    have e2 : ∀ j : Fin 256, weight s0 s1 s2 2 r j = if j.val < 128 then Ideal.exp (s2 (ix2 r j) - rowMax s0 s1 s2 r) else 0 := fun j => by
      unfold weight; exact if_congr (by omega) rfl rfl
    simp only [e2]
    rfl
  · have em : k0_pay134 s0 s1 s2 (ix2 ⟨r.val - 128, by omega⟩ 0) = rowMax s0 s1 s2 r := pay134_apply _ _ _ ⟨r.val - 128, by omega⟩ r (by show r.val = 128 + (r.val - 128); omega)
    simp only [dif_neg hr, pay135_apply, pay136_apply, em, fin_back r 128 (by omega)]
    have e2 : ∀ j : Fin 256, weight s0 s1 s2 2 r j = Ideal.exp (s2 (ix2 r j) - rowMax s0 s1 s2 r) := fun j => by
      unfold weight; exact if_pos (by omega)
    simp only [e2]
    rfl

end Cert.KernelIdeal.Attn

end
-- ==== Proof.Attn.Spec.lean ====
module

public import Idealize.ShloMosaic.Lib.Pointwise
public import Idealize.ShloMosaic.Lib.ValueIdx
public import Idealize.ShloMosaic.PureOps.Ideal.Laws

@[expose] public section

noncomputable section

namespace Cert.Attn

open Idealize.ShloMosaic

/-! ## Attention over the extended reals, in natural-number coordinates

Row `R` of the queries lies at place `R % 256` of its block of 256 rows. Key row `n` of the 768 that the block can see
is row `256 (R / 256) + n - 512` of the keys. -/

/-- The keys' row that the block of row `R` calls `n`. -/
def keyRow (R n : ℕ) : ℕ := 256 * (R / 256) + n - 512

/-- The column of the bias table for key row `n`: the distance, no more than 191. -/
def relCol (R n : ℕ) : ℕ := min (R % 256 + 575 - n) 191

/-- The value row that the block of row `R` calls `n`, zero before the first. -/
def valueAt (v : ℕ → ℕ → EReal) (h d R n : ℕ) : EReal := if 512 ≤ 256 * (R / 256) + n then v (keyRow R n) (128 * h + d) else 0

/-- A matrix at natural-number coordinates, zero off its extents. -/
def at2 {A B : ℕ} (x : (⟨2, ![A, B]⟩ : Shape).Idx → EReal) (a b : ℕ) : EReal :=
  if h : a < A ∧ b < B then x (ix2 ⟨a, h.1⟩ ⟨b, h.2⟩) else 0

theorem at2_eq {A B : ℕ} (x : (⟨2, ![A, B]⟩ : Shape).Idx → EReal) (i : (⟨2, ![A, B]⟩ : Shape).Idx) (a b : ℕ) (ha : (i 0).val = a) (hb : (i 1).val = b) :
    x i = at2 x a b := by
  subst ha hb
  unfold at2
  rw [dif_pos ⟨(i 0).isLt, (i 1).isLt⟩]
  refine congrArg x (funext fun c => ?_)
  match c with
  | ⟨0, _⟩ => rfl
  | ⟨1, _⟩ => rfl

/-- The first of the 576 key rows that row `R` can see. -/
def bandStart (R : ℕ) : ℕ := 64 * (R % 256 / 64)

/-- Key row `n` is visible to row `R`: within its chunks, and not before the first key. -/
def Visible (R n : ℕ) : Prop := bandStart R ≤ n ∧ n < bandStart R + 576 ∧ 512 ≤ 256 * (R / 256) + n

instance (R n : ℕ) : Decidable (Visible R n) := by unfold Visible; infer_instance

/-- The logit: the product of the head's columns plus the bias where the key is visible, `⊥` where it is not. -/
def logit (q k rel : ℕ → ℕ → EReal) (h R n : ℕ) : EReal :=
  if Visible R n then (∑ t : Fin 128, q R (128 * h + t.val) * k (keyRow R n) (128 * h + t.val)) + rel h (relCol R n) else ⊥

/-- The weighted average of `V` by the exponentials of `S`, over 768 places, divided once at the end. -/
def average (S V : ℕ → EReal) : EReal :=
  (∑ n ∈ Finset.range 768, Ideal.exp (S n - (Finset.range 768).sup S) * V n)
    * Ideal.div 1 (∑ n ∈ Finset.range 768, Ideal.exp (S n - (Finset.range 768).sup S))

/-- The same over the 576 places from `a` on, every weight divided. -/
def softmax (S V : ℕ → EReal) (a : ℕ) : EReal :=
  ∑ m : Fin 576, V (a + m.val) * Ideal.div (Ideal.exp (S (a + m.val) - (Finset.univ : Finset (Fin 576)).sup fun m => S (a + m.val)))
    (∑ m : Fin 576, Ideal.exp (S (a + m.val) - (Finset.univ : Finset (Fin 576)).sup fun m => S (a + m.val)))

theorem exp_nonneg (x : EReal) : 0 ≤ Ideal.exp x := by
  induction x using EReal.rec with
  | bot => exact le_refl _
  | top => exact le_top
  | coe r => exact EReal.coe_nonneg.2 (Real.exp_pos r).le

theorem exp_bot_sub (x : EReal) : Ideal.exp (⊥ - x) = 0 := by
  rw [EReal.bot_sub]; rfl

theorem sup_band (S : ℕ → EReal) (a : ℕ) (ha : a + 576 ≤ 768) (hS : ∀ n, ¬(a ≤ n ∧ n < a + 576) → S n = ⊥) :
    (Finset.range 768).sup S = (Finset.univ : Finset (Fin 576)).sup fun m => S (a + m.val) := by
  refine le_antisymm (Finset.sup_le fun n _ => ?_) (Finset.sup_le fun m _ => Finset.le_sup (f := S) (Finset.mem_range.2 (by have := m.isLt; omega)))
  by_cases h : a ≤ n ∧ n < a + 576
  · have := Finset.le_sup (f := fun m : Fin 576 => S (a + m.val)) (Finset.mem_univ (⟨n - a, by omega⟩ : Fin 576))
    simpa only [Nat.add_sub_cancel' h.1] using this
  · rw [hS n h]; exact bot_le

theorem sum_band (f : ℕ → EReal) (a : ℕ) (ha : a + 576 ≤ 768) (hf : ∀ n, ¬(a ≤ n ∧ n < a + 576) → f n = 0) :
    ∑ n ∈ Finset.range 768, f n = ∑ m : Fin 576, f (a + m.val) := by
  rw [← Finset.sum_range (fun m => f (a + m)), ← Finset.sum_subset (s₁ := Finset.Ico a (a + 576))]
  · rw [Finset.sum_Ico_eq_sum_range, Nat.add_sub_cancel_left]
  · intro n hn; rw [Finset.mem_Ico] at hn; exact Finset.mem_range.2 (by omega)
  · intro n _ hn; exact hf n (by rwa [Finset.mem_Ico] at hn)

theorem sum_mul_of_nonneg {ι : Type} (s : Finset ι) (g : ι → EReal) (c : EReal) (h0 : 0 ≤ c) (h1 : c ≠ ⊤) :
    (∑ i ∈ s, g i) * c = ∑ i ∈ s, g i * c := by
  classical
  induction s using Finset.induction_on with
  | empty => simp
  | insert a s ha ih => rw [Finset.sum_insert ha, Finset.sum_insert ha, EReal.right_distrib_of_nonneg_of_ne_top h0 h1, ih]

theorem inv_ne_top_of_pos {x : EReal} (hx : 0 < x) : x⁻¹ ≠ ⊤ := by
  induction x using EReal.rec with
  | bot => exact absurd hx (not_lt.2 bot_le)
  | top => rw [EReal.inv_top]; exact EReal.zero_ne_top
  | coe r => rw [← EReal.coe_inv]; exact EReal.coe_ne_top _

/-- The sum of the weights is positive where the logits are finite somewhere and nowhere `⊤`. -/
theorem weights_pos {ι : Type} (s : Finset ι) (S : ι → EReal) (hs : s.Nonempty) (ht : ∀ n ∈ s, S n ≠ ⊤) (n0 : ι) (h0 : n0 ∈ s) (hb : S n0 ≠ ⊥) :
    0 < ∑ n ∈ s, Ideal.exp (S n - s.sup S) := by
  obtain ⟨n1, h1, e1⟩ := Finset.exists_mem_eq_sup s hs S
  refine lt_of_lt_of_le ?_ (Finset.single_le_sum (f := fun n => Ideal.exp (S n - s.sup S)) (fun n _ => exp_nonneg _) h1)
  have hb1 : S n1 ≠ ⊥ := fun e => hb (le_bot_iff.1 (by rw [← e, ← e1]; exact Finset.le_sup h0))
  show 0 < Ideal.exp (S n1 - s.sup S)
  rw [e1, EReal.sub_self (ht n1 h1) hb1]
  show (0 : EReal) < ((Real.exp 0 : ℝ) : EReal)
  exact EReal.coe_pos.2 (Real.exp_pos 0)

/-- The two averages agree where the logits vanish outside the band, are nowhere `⊤` and somewhere finite. -/
theorem average_eq_softmax (S V : ℕ → EReal) (a : ℕ) (ha : a + 576 ≤ 768) (hS : ∀ n, ¬(a ≤ n ∧ n < a + 576) → S n = ⊥)
    (ht : ∀ n, S n ≠ ⊤) (n0 : ℕ) (h0 : n0 < 768) (hb : S n0 ≠ ⊥) : average S V = softmax S V a := by
  have hpos := weights_pos (Finset.range 768) S ⟨n0, Finset.mem_range.2 h0⟩ (fun n _ => ht n) n0 (Finset.mem_range.2 h0) hb
  unfold average softmax
  rw [← sup_band S a ha hS]
  generalize (Finset.range 768).sup S = M at hpos ⊢
  have hz : ∀ n, ¬(a ≤ n ∧ n < a + 576) → Ideal.exp (S n - M) = 0 := fun n hn => by rw [hS n hn]; exact exp_bot_sub M
  rw [← sum_band (fun n => Ideal.exp (S n - M)) a ha hz]
  generalize ∑ n ∈ Finset.range 768, Ideal.exp (S n - M) = L at hpos ⊢
  rw [sum_band (fun n => Ideal.exp (S n - M) * V n) a ha (fun n hn => by rw [hz n hn, zero_mul])]
  unfold Ideal.div
  simp only [if_neg hpos.ne', one_mul]
  rw [sum_mul_of_nonneg _ _ _ (EReal.inv_nonneg_of_nonneg hpos.le) (inv_ne_top_of_pos hpos)]
  exact Finset.sum_congr rfl fun m _ => by rw [mul_comm (Ideal.exp _), mul_assoc]

/-- The attention's result at row `R`, head `h`, column `d` of the head. -/
def attnAt (q k v rel : ℕ → ℕ → EReal) (R h d : ℕ) : EReal :=
  average (logit q k rel h R) (valueAt v h d R)

theorem logit_outside (q k rel : ℕ → ℕ → EReal) (h R n : ℕ) (hn : ¬(bandStart R ≤ n ∧ n < bandStart R + 576)) : logit q k rel h R n = ⊥ :=
  if_neg fun hv => hn ⟨hv.1, hv.2.1⟩

theorem bandStart_le (R : ℕ) : bandStart R + 576 ≤ 768 := by unfold bandStart; omega

/-- The real numbers among the extended reals. -/
def IsReal (x : EReal) : Prop := x ≠ ⊤ ∧ x ≠ ⊥

theorem fin_mul {x y : EReal} (hx : IsReal x) (hy : IsReal y) : IsReal (x * y) := by
  lift x to ℝ using hx; lift y to ℝ using hy
  rw [← EReal.coe_mul]; exact ⟨EReal.coe_ne_top _, EReal.coe_ne_bot _⟩

theorem fin_add {x y : EReal} (hx : IsReal x) (hy : IsReal y) : IsReal (x + y) := by
  lift x to ℝ using hx; lift y to ℝ using hy
  rw [← EReal.coe_add]; exact ⟨EReal.coe_ne_top _, EReal.coe_ne_bot _⟩

theorem fin_sum {ι : Type} (s : Finset ι) (g : ι → EReal) (hg : ∀ i, IsReal (g i)) : IsReal (∑ i ∈ s, g i) := by
  classical
  induction s using Finset.induction_on with
  | empty => exact ⟨EReal.zero_ne_top, EReal.zero_ne_bot⟩
  | insert a s ha ih => rw [Finset.sum_insert ha]; exact fin_add (hg a) ih

/-- With finite queries, keys and bias the attention is the softmax over the row's band. -/
theorem attnAt_eq (q k v rel : ℕ → ℕ → EReal) (hq : ∀ a b, IsReal (q a b)) (hk : ∀ a b, IsReal (k a b)) (hr : ∀ a b, IsReal (rel a b)) (R h d : ℕ) :
    attnAt q k v rel R h d = softmax (logit q k rel h R) (valueAt v h d R) (bandStart R) := by
  have hf : ∀ n, IsReal ((∑ t : Fin 128, q R (128 * h + t.val) * k (keyRow R n) (128 * h + t.val)) + rel h (relCol R n)) := fun n =>
    fin_add (fin_sum _ _ fun t => fin_mul (hq _ _) (hk _ _)) (hr _ _)
  refine average_eq_softmax _ _ _ (bandStart_le R) (logit_outside q k rel h R) (fun n => ?_) (512 + R % 256) (by omega) ?_
  · unfold logit; split
    · exact (hf n).1
    · exact bot_ne_top
  · unfold logit
    rw [if_pos (by unfold Visible bandStart; omega)]
    exact (hf _).2

end Cert.Attn

end
-- ==== Proof.Attn.Tiles.lean ====
module

public import proofs.«01_k».proof.Proof.Attn.Bias
public import proofs.«01_k».proof.Proof.Attn.Spec
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Attn

open Cert.KernelIdeal Cert.KernelIdeal.Gen
open Idealize.ShloMosaic Idealize.ShloMosaic.TcCoe

/-! ## The bias tiles, read at an index over the extended reals -/

theorem rowChunk_apply (r j : Fin 256) : k0_pay2 (ix2 r j) = BitVec.ofNat 32 (r.val / 64 + 8) := by
  have h : ∀ r : Fin 256, k0_pay2 (ix2 r (0 : Fin 256)) = BitVec.ofNat 32 (r.val / 64 + 8) := by decide +kernel
  exact h r

theorem colChunk_apply (r j : Fin 256) : k0_pay6 k0_pay3 k0_pay4 k0_pay5 0#32 (ix2 r j) = BitVec.ofNat 32 (j.val / 64) := by
  have h : ∀ j : Fin 256, k0_pay6 k0_pay3 k0_pay4 k0_pay5 0#32 (ix2 (0 : Fin 256) j) = BitVec.ofNat 32 (j.val / 64) := by decide +kernel
  exact h j

theorem mask_bot : (Named.named κ "mask" 0xF149F2CA#32 : Ideal .f32) = (⊥ : EReal) := rfl

theorem rot_apply (row : Vec Ideal S1x1x1024 .f32) (r : Fin 256) (l : Fin 1024) :
    (k0_pay7 row : FVec Ideal S256x1024 .f32) (ix2 r l) = row (ix3 (0 : Fin 1) (0 : Fin 1) ⟨(l.val + 1024 - r.val) % 1024, Nat.mod_lt _ (by decide)⟩) := by
  unfold k0_pay7
  pointwise
  exact congrArg row (congrArg (ix3 (0 : Fin 1) (0 : Fin 1)) (Fin.ext (by
    show (l.val + 1024 - r.val % 1024) % 1024 = (l.val + 1024 - r.val) % 1024
    rw [Nat.mod_eq_of_lt (Nat.lt_of_lt_of_le r.isLt (by decide) : r.val < 1024)])))

/-- Key chunk `b + c` is at most 8 before query chunk `r + 8` and not after it. -/
def inBand (b r j : ℕ) : Prop := j / 64 + 4 * b ≤ r / 64 + 8 ∧ r / 64 ≤ j / 64 + 4 * b

instance (b r j : ℕ) : Decidable (inBand b r j) := by unfold inBand; infer_instance

theorem band_word (r j : Fin 256) (b : Fin 3) {α : Type} (x y : α) :
    Scalar.select (IntOp.andi (IntOp.cmpi .sle (IntOp.addi (k0_pay6 k0_pay3 k0_pay4 k0_pay5 0#32 (ix2 r j)) (BitVec.ofNat 32 (4 * b.val))) (k0_pay2 (ix2 r j)))
      (IntOp.cmpi .sge (IntOp.addi (k0_pay6 k0_pay3 k0_pay4 k0_pay5 0#32 (ix2 r j)) (BitVec.ofNat 32 (4 * b.val))) (IntOp.subi (k0_pay2 (ix2 r j)) 8#32))) x y
      = if inBand b.val r.val j.val then x else y := by
  rw [rowChunk_apply, colChunk_apply]
  have h : ∀ (b : Fin 3) (p q : Fin 4), IntOp.andi (IntOp.cmpi .sle (IntOp.addi (BitVec.ofNat 32 q.val) (BitVec.ofNat 32 (4 * b.val))) (BitVec.ofNat 32 (p.val + 8)))
      (IntOp.cmpi .sge (IntOp.addi (BitVec.ofNat 32 q.val) (BitVec.ofNat 32 (4 * b.val))) (IntOp.subi (BitVec.ofNat 32 (p.val + 8)) 8#32))
      = if q.val + 4 * b.val ≤ p.val + 8 ∧ p.val ≤ q.val + 4 * b.val then 1#1 else 0#1 := by decide
  have hb := h b ⟨r.val / 64, by have := r.isLt; omega⟩ ⟨j.val / 64, by have := j.isLt; omega⟩
  rw [hb]
  by_cases hc : inBand b.val r.val j.val
  · rw [if_pos hc]; exact (congrArg (fun w => Scalar.select w x y) (if_pos hc)).trans rfl
  · rw [if_neg hc]; exact (congrArg (fun w => Scalar.select w x y) (if_neg hc)).trans rfl

/-- Tile `b` at `(r, j)`: the head's row at `256 b + j - r` within the band, `⊥` outside it. -/
theorem tile_apply (row : Vec Ideal S1x1x1024 .f32) (b : Fin 3) (r j : Fin 256) :
    tile row b.val (ix4 (0 : Fin 1) (0 : Fin 1) r j)
      = if inBand b.val r.val j.val then row (ix3 (0 : Fin 1) (0 : Fin 1) ⟨(256 * b.val + j.val + 1024 - r.val) % 1024, Nat.mod_lt _ (by decide)⟩) else ⊥ := by
  match b with
  | 0 =>
    show tile row 0 _ = _
    unfold tile k0_pay8
    pointwise
    refine (band_word r j 0 _ _).trans (if_congr Iff.rfl ?_ mask_bot)
    refine (rot_apply row r ⟨j.val, _⟩).trans ?_
    exact congrArg row (congrArg (ix3 (0 : Fin 1) (0 : Fin 1)) (Fin.ext (by
      rfl)))
  | 1 =>
    show tile row 1 _ = _
    unfold tile k0_pay9
    pointwise
    refine (band_word r j 1 _ _).trans (if_congr Iff.rfl ?_ mask_bot)
    refine (rot_apply row r ⟨256 + j.val, _⟩).trans ?_
    exact congrArg row (congrArg (ix3 (0 : Fin 1) (0 : Fin 1)) (Fin.ext (by
      show (256 + j.val + 1024 - r.val) % 1024 = (256 * 1 + j.val + 1024 - r.val) % 1024; congr 1)))
  | 2 =>
    show tile row 2 _ = _
    unfold tile k0_pay11 k0_pay10
    pointwise
    refine (band_word r j 2 _ _).trans (if_congr Iff.rfl ?_ mask_bot)
    refine (rot_apply row r ⟨512 + j.val, _⟩).trans ?_
    exact congrArg row (congrArg (ix3 (0 : Fin 1) (0 : Fin 1)) (Fin.ext (by
      show (512 + j.val + 1024 - r.val) % 1024 = (256 * 2 + j.val + 1024 - r.val) % 1024; congr 1)))

theorem tile3_apply (row : Vec Ideal S1x1x1024 .f32) (r j : Fin 256) :
    tile row 3 (ix4 (0 : Fin 1) (0 : Fin 1) r j) = ⊥ := by
  unfold tile k0_pay12
  pointwise
  exact mask_bot

/-! ## The table of bias rows, read at an index -/

variable (m : (ℓ : Loc nD τ sig) → Buf (Elt Ideal) ℓ)

/-- The table as the host operations make it from the bias. -/
def rowTable (x : Vec Ideal S16x192 .f32) : Vec Ideal S16x1x1024 .f32 :=
  shapeCast S16x1x1024 (concatenate S16x1024 1 [
    ⟨S16x384, broadcastInDim S16x384 ![0, 1] bcast_S16x1_S16x384_0_1 (extractStridedSlice S16x1 ![0, 191] x slices_S16x192_S16x1_0_191)⟩,
    ⟨S16x192, Host.reverse [1] x⟩,
    ⟨S16x192, broadcastInDim S16x192 ![0, 1] bcast_S16x1_S16x192_0_1 (extractStridedSlice S16x1 ![0, 0] x slices_S16x192_S16x1_0_0)⟩,
    ⟨S16x256, broadcastInDim S16x256 ![0, 1] bcast_S16x1_S16x256_0_1 (extractStridedSlice S16x1 ![0, 191] x slices_S16x192_S16x1_0_191)⟩]
    concatenates_S16x384_S16x192_S16x192_S16x256_S16x1024_d1) shapeCasts_S16x1024_S16x1x1024

theorem rowTable_apply (x : Vec Ideal S16x192 .f32) (h : Fin 16) (l : Fin 1024) :
    rowTable x (ix3 h (0 : Fin 1) l)
      = Cert.Attn.at2 x h.val (if l.val < 384 then 191 else if l.val < 576 then 575 - l.val else if l.val < 768 then 0 else 191) := by
  unfold rowTable
  pointwise
  have hl := l.isLt
  by_cases h1 : l.val < 384
  · rw [dif_pos h1, if_pos h1]; exact Cert.Attn.at2_eq x _ _ _ rfl rfl
  · rw [dif_neg h1, if_neg h1]
    by_cases h2 : l.val < 576
    · rw [dif_pos (by omega), if_pos h2]
      refine Cert.Attn.at2_eq x _ _ _ rfl ?_
      show 192 - (l.val - 384 + 1) = 575 - l.val
      omega
    · rw [dif_neg (by omega), if_neg h2]
      by_cases h3 : l.val < 768
      · rw [dif_pos (by omega), if_pos h3]; exact Cert.Attn.at2_eq x _ _ _ rfl rfl
      · rw [dif_neg (by omega), if_neg h3]; exact Cert.Attn.at2_eq x _ _ _ rfl rfl

/-- The bias tiles of the table at an index. -/
theorem bias_apply (x : Vec Ideal S16x192 .f32) (h : Fin 16) (b : Fin 3) (r j : Fin 256) :
    biasTiles (rowTable x) (ix4 h (b.castSucc) r j)
      = if inBand b.val r.val j.val then Cert.Attn.at2 x h.val (min (r.val + 575 - (256 * b.val + j.val)) 191) else ⊥ := by
  refine (?_ : _ = tile (rowOf (rowTable x) h.val h.isLt) b.val (ix4 (0 : Fin 1) (0 : Fin 1) r j)).trans ((tile_apply _ b r j).trans ?_)
  · unfold biasTiles
    refine congrArg (tile (rowOf (rowTable x) h.val h.isLt) b.val) (funext fun a => ?_)
    match a with
    | ⟨0, _⟩ => rfl
    | ⟨1, _⟩ => rfl
    | ⟨2, _⟩ => rfl
    | ⟨3, _⟩ => rfl
  · by_cases hb : inBand b.val r.val j.val
    · rw [if_pos hb, if_pos hb]
      refine (?_ : _ = rowTable x (ix3 h (0 : Fin 1) ⟨(256 * b.val + j.val + 1024 - r.val) % 1024, Nat.mod_lt _ (by decide)⟩)).trans ((rowTable_apply x h _).trans ?_)
      · unfold rowOf
        refine congrArg (rowTable x) (funext fun a => ?_)
        match a with
        | ⟨0, _⟩ => rfl
        | ⟨1, _⟩ => rfl
        | ⟨2, _⟩ => rfl
      · refine congrArg (Cert.Attn.at2 x h.val) ?_
        unfold inBand at hb
        have := r.isLt; have := j.isLt; have := b.isLt
        show (if (256 * b.val + j.val + 1024 - r.val) % 1024 < 384 then 191 else if (256 * b.val + j.val + 1024 - r.val) % 1024 < 576 then 575 - (256 * b.val + j.val + 1024 - r.val) % 1024
          else if (256 * b.val + j.val + 1024 - r.val) % 1024 < 768 then 0 else 191) = _
        split_ifs <;> omega
    · rw [if_neg hb, if_neg hb]

/-- The last tile is all mask. -/
theorem bias3_apply (x : Vec Ideal S16x1x1024 .f32) (h : Fin 16) (r j : Fin 256) : biasTiles x (ix4 h (3 : Fin 4) r j) = ⊥ := by
  refine (?_ : _ = tile (rowOf x h.val h.isLt) 3 (ix4 (0 : Fin 1) (0 : Fin 1) r j)).trans (tile3_apply _ r j)
  unfold biasTiles
  refine congrArg (tile (rowOf x h.val h.isLt) 3) (funext fun a => ?_)
  match a with
  | ⟨0, _⟩ => rfl
  | ⟨1, _⟩ => rfl
  | ⟨2, _⟩ => rfl
  | ⟨3, _⟩ => rfl

theorem table_eq (c : Dev nD) : V m c main_v8 = rowTable (m ((c.tc : Thread nD τ).loc main_arg3)) := by
  simp only [V, hostOps0]
  rfl

end Cert.KernelIdeal.Attn

end
-- ==== Proof.Attn.Average.lean ====
module

public import proofs.«01_k».proof.Proof.Attn.Closed
public import proofs.«01_k».proof.Proof.Attn.Tiles
public import proofs.«01_k».proof.Proof.Attn.Spec

@[expose] public section

set_option maxRecDepth 16384

noncomputable section

namespace Cert.KernelIdeal.Attn

open Cert.KernelIdeal Cert.KernelIdeal.Gen
open Idealize.ShloMosaic Idealize.ShloMosaic.TcCoe
open Cert.Attn (at2 at2_eq logit valueAt bandStart average Visible keyRow relCol attnAt)

/-! ## A head's result as the weighted average over 768 places -/

theorem sum_three (f : ℕ → EReal) :
    ∑ n ∈ Finset.range 768, f n = ∑ j : Fin 256, f j.val + ∑ j : Fin 256, f (256 + j.val) + ∑ j : Fin 256, f (512 + j.val) := by
  rw [show 768 = 512 + 256 from rfl, Finset.sum_range_add, show 512 = 256 + 256 from rfl, Finset.sum_range_add]
  simp only [Finset.sum_range]

section
variable (s0 s1 s2 : FVec Ideal S256x256 .f32) (S : ℕ → EReal) (r : Fin 256)
  (h0 : ∀ j : Fin 256, s0 (ix2 r j) = S j.val) (h1 : ∀ j : Fin 256, s1 (ix2 r j) = S (256 + j.val)) (h2 : ∀ j : Fin 256, s2 (ix2 r j) = S (512 + j.val))
  (hup : r.val < 128 → ∀ n, 640 ≤ n → n < 768 → S n = ⊥) (hlo : 128 ≤ r.val → ∀ n, n < 128 → S n = ⊥)

include h0 h1 h2 hup hlo

theorem rowMax_eq : rowMax s0 s1 s2 r = (Finset.range 768).sup S := by
  unfold rowMax
  by_cases hr : r.val < 128
  · rw [if_pos hr]
    show (Finset.univ : Finset (Fin 128)).sup (upMax s0 s1 s2 r) = _
    apply le_antisymm
    · refine Finset.sup_le fun k _ => ?_
      have hk := k.isLt
      unfold upMax
      rw [h0, h0, h1, h1, h2]
      refine max_le (max_le (max_le (max_le ?_ ?_) ?_) ?_) ?_ <;>
        exact Finset.le_sup (f := S) (Finset.mem_range.2 (by show _ < 768; simp only; omega))
    · refine Finset.sup_le fun n hn => ?_
      have hn := Finset.mem_range.1 hn
      by_cases hb : 640 ≤ n
      · rw [hup hr n hb hn]; exact bot_le
      · refine le_trans ?_ (Finset.le_sup (f := upMax s0 s1 s2 r) (Finset.mem_univ (⟨n % 128, Nat.mod_lt _ (by decide)⟩ : Fin 128)))
        unfold upMax
        rw [h0, h0, h1, h1, h2]
        simp only [le_max_iff]
        have hm : n = n % 128 ∨ n = 128 + n % 128 ∨ n = 256 + n % 128 ∨ n = 256 + (128 + n % 128) ∨ n = 512 + n % 128 := by omega
        rcases hm with e | e | e | e | e
        · exact Or.inl (Or.inl (Or.inl (Or.inl (le_of_eq (congrArg S e)))))
        · exact Or.inl (Or.inl (Or.inl (Or.inr (le_of_eq (congrArg S e)))))
        · exact Or.inl (Or.inl (Or.inr (le_of_eq (congrArg S e))))
        · exact Or.inl (Or.inr (le_of_eq (congrArg S e)))
        · exact Or.inr (le_of_eq (congrArg S e))
  · rw [if_neg hr]
    show (Finset.univ : Finset (Fin 128)).sup (loMax s0 s1 s2 r) = _
    apply le_antisymm
    · refine Finset.sup_le fun k _ => ?_
      have hk := k.isLt
      unfold loMax
      rw [h0, h1, h1, h2, h2]
      refine max_le (max_le (max_le (max_le ?_ ?_) ?_) ?_) ?_ <;>
        exact Finset.le_sup (f := S) (Finset.mem_range.2 (by show _ < 768; simp only; omega))
    · refine Finset.sup_le fun n hn => ?_
      have hn := Finset.mem_range.1 hn
      by_cases hb : n < 128
      · rw [hlo (by omega) n hb]; exact bot_le
      · refine le_trans ?_ (Finset.le_sup (f := loMax s0 s1 s2 r) (Finset.mem_univ (⟨n % 128, Nat.mod_lt _ (by decide)⟩ : Fin 128)))
        unfold loMax
        rw [h0, h1, h1, h2, h2]
        simp only [le_max_iff]
        have hm : n = 128 + n % 128 ∨ n = 256 + n % 128 ∨ n = 256 + (128 + n % 128) ∨ n = 512 + n % 128 ∨ n = 512 + (128 + n % 128) := by omega
        rcases hm with e | e | e | e | e
        · exact Or.inl (Or.inl (Or.inl (Or.inl (le_of_eq (congrArg S e)))))
        · exact Or.inl (Or.inl (Or.inl (Or.inr (le_of_eq (congrArg S e)))))
        · exact Or.inl (Or.inl (Or.inr (le_of_eq (congrArg S e))))
        · exact Or.inl (Or.inr (le_of_eq (congrArg S e)))
        · exact Or.inr (le_of_eq (congrArg S e))

theorem weight_eq (b : Fin 3) (j : Fin 256) : weight s0 s1 s2 b r j = Ideal.exp (S (256 * b.val + j.val) - (Finset.range 768).sup S) := by
  have hj := j.isLt
  have hM := rowMax_eq s0 s1 s2 S r h0 h1 h2 hup hlo
  unfold weight
  match b with
  | 0 =>
    show (if r.val < 128 ∨ 128 ≤ j.val then Ideal.exp (s0 (ix2 r j) - rowMax s0 s1 s2 r) else 0) = Ideal.exp (S (256 * 0 + j.val) - _)
    rw [Nat.mul_zero, Nat.zero_add]
    by_cases hc : r.val < 128 ∨ 128 ≤ j.val
    · rw [if_pos hc, h0, hM]
    · rw [if_neg hc, hlo (by omega) j.val (by omega)]; exact (Cert.Attn.exp_bot_sub _).symm
  | 1 =>
    show Ideal.exp (s1 (ix2 r j) - rowMax s0 s1 s2 r) = Ideal.exp (S (256 * 1 + j.val) - _)
    rw [h1, hM]
  | 2 =>
    show (if 128 ≤ r.val ∨ j.val < 128 then Ideal.exp (s2 (ix2 r j) - rowMax s0 s1 s2 r) else 0) = Ideal.exp (S (512 + j.val) - _)
    by_cases hc : 128 ≤ r.val ∨ j.val < 128
    · rw [if_pos hc, h2, hM]
    · rw [if_neg hc, hup (by omega) (512 + j.val) (by omega) (by omega)]; exact (Cert.Attn.exp_bot_sub _).symm

/-- The quotient that a head's result is, as the average. -/
theorem average_eq (V : ℕ → EReal) (v0 v1 v2 : Fin 256 → EReal)
    (hv0 : ∀ j : Fin 256, S j.val ≠ ⊥ → v0 j = V j.val) (hv1 : ∀ j : Fin 256, S (256 + j.val) ≠ ⊥ → v1 j = V (256 + j.val))
    (hv2 : ∀ j : Fin 256, S (512 + j.val) ≠ ⊥ → v2 j = V (512 + j.val)) :
    (∑ j, weight s0 s1 s2 0 r j * v0 j + ∑ j, weight s0 s1 s2 1 r j * v1 j + ∑ j, weight s0 s1 s2 2 r j * v2 j)
        * Ideal.div 1 (∑ j, weight s0 s1 s2 0 r j + ∑ j, weight s0 s1 s2 1 r j + ∑ j, weight s0 s1 s2 2 r j) = average S V := by
  unfold average
  have hw := weight_eq s0 s1 s2 S r h0 h1 h2 hup hlo
  have hp : ∀ (n : ℕ) (x : EReal), (S n ≠ ⊥ → x = V n) → Ideal.exp (S n - (Finset.range 768).sup S) * x = Ideal.exp (S n - (Finset.range 768).sup S) * V n := fun n x h => by
    by_cases e : S n = ⊥
    · rw [e, Cert.Attn.exp_bot_sub, zero_mul, zero_mul]
    · rw [h e]
  rw [sum_three, sum_three]
  simp only [hw]
  have e0 : ∀ j : Fin 256, 256 * (0 : Fin 3).val + j.val = j.val := fun j => Nat.zero_add _
  have e1 : ∀ j : Fin 256, 256 * (1 : Fin 3).val + j.val = 256 + j.val := fun j => rfl
  have e2 : ∀ j : Fin 256, 256 * (2 : Fin 3).val + j.val = 512 + j.val := fun j => rfl
  simp only [e0, e1, e2, fun j : Fin 256 => hp j.val _ (hv0 j), fun j : Fin 256 => hp _ _ (hv1 j), fun j : Fin 256 => hp _ _ (hv2 j)]
end

/-! ## A tile's scores as logits -/

theorem logit_up (q k rel : ℕ → ℕ → EReal) (h R : ℕ) (hr : R % 256 < 128) (n : ℕ) (hn : 640 ≤ n) : logit q k rel h R n = ⊥ :=
  if_neg fun hv => by have := hv.2.1; unfold bandStart at this; omega

theorem logit_lo (q k rel : ℕ → ℕ → EReal) (h R : ℕ) (hr : 128 ≤ R % 256) (n : ℕ) (hn : n < 128) : logit q k rel h R n = ⊥ :=
  if_neg fun hv => by have := hv.1; unfold bandStart at this; omega

theorem score_logit (q k rel : ℕ → ℕ → EReal) (h i : ℕ) (b : Fin 3) (r j : Fin 256) (xq xk : Vec Ideal S256x128 .bf16) (xb : Vec Ideal S1x1x256x256 .f32)
    (hq : ∀ t : Fin 128, xq (ix2 r t) = q (256 * i + r.val) (128 * h + t.val))
    (hk : 2 ≤ i + b.val → ∀ t : Fin 128, xk (ix2 j t) = k (256 * (i + b.val - 2) + j.val) (128 * h + t.val))
    (hb : xb (ix4 (0 : Fin 1) (0 : Fin 1) r j) = if 2 ≤ i + b.val ∧ inBand b.val r.val j.val then rel h (min (r.val + 575 - (256 * b.val + j.val)) 191) else ⊥) :
    k0_pay116 (k0_pay115 xq xk) xb (ix2 r j) = logit q k rel h (256 * i + r.val) (256 * b.val + j.val) := by
  have hr := r.isLt; have hj := j.isLt; have hb3 := b.isLt
  rw [pay116_apply]
  unfold score logit
  rw [hb]
  by_cases hc : 2 ≤ i + b.val ∧ inBand b.val r.val j.val
  · have hc' := hc
    unfold inBand at hc'
    rw [if_pos hc, if_pos (by unfold Visible bandStart; omega)]
    refine congrArg₂ (· + ·) (Finset.sum_congr rfl fun t _ => ?_) ?_
    · have e : keyRow (256 * i + r.val) (256 * b.val + j.val) = 256 * (i + b.val - 2) + j.val := by unfold keyRow; omega
      rw [hq t, hk hc.1 t, e]
    · refine congrArg (rel h) ?_
      unfold relCol; omega
  · rw [if_neg hc, if_neg (by unfold inBand at hc; unfold Visible bandStart; omega)]
    exact EReal.add_bot _

end Cert.KernelIdeal.Attn

end
-- ==== Proof.Attn.Result.lean ====
module

public import proofs.«01_k».proof.Proof.Attn.Average
public import proofs.«01_k».proof.Proof.Attn.Frame
public import Idealize.ShloMosaic.Lib.Writes

@[expose] public section

set_option maxRecDepth 16384

noncomputable section

namespace Cert.KernelIdeal.Attn

open Cert.KernelIdeal Cert.KernelIdeal.Gen
open Idealize.ShloMosaic Idealize.ShloMosaic.TcCoe
open Idealize.ShloMosaic.Pipeline (Dat Cfg Window)
open Cert.Attn (at2 at2_eq logit valueAt bandStart average Visible keyRow relCol attnAt)

/-! ## A block of the output as the attention of its rows -/

/-- The block that the body leaves, at an index, where its inputs are the blocks of the arrays. -/
theorem block_apply (x0 x1 x2 x3 x4 x5 x6 : Vec Ideal S256x2048 .bf16) (tab : Vec Ideal S16x192 .f32) (p : grid0.Coords) (i : ℕ) (hi : (p 0).val = i)
    (q k v : ℕ → ℕ → EReal)
    (hq : ∀ (r : Fin 256) (C : Fin 2048), x0 (ix2 r C) = q (256 * i + r.val) C.val)
    (hk0 : 2 ≤ i → ∀ (j : Fin 256) (C : Fin 2048), x1 (ix2 j C) = k (256 * (i - 2) + j.val) C.val)
    (hk1 : 1 ≤ i → ∀ (j : Fin 256) (C : Fin 2048), x2 (ix2 j C) = k (256 * (i - 1) + j.val) C.val)
    (hk2 : ∀ (j : Fin 256) (C : Fin 2048), x3 (ix2 j C) = k (256 * i + j.val) C.val)
    (hv0 : 2 ≤ i → ∀ (j : Fin 256) (C : Fin 2048), x4 (ix2 j C) = v (256 * (i - 2) + j.val) C.val)
    (hv1 : 1 ≤ i → ∀ (j : Fin 256) (C : Fin 2048), x5 (ix2 j C) = v (256 * (i - 1) + j.val) C.val)
    (hv2 : ∀ (j : Fin 256) (C : Fin 2048), x6 (ix2 j C) = v (256 * i + j.val) C.val)
    (r : Fin 256) (C : Fin 2048) :
    blockOut x0 x1 x2 x3 x4 x5 x6 (biasTiles (rowTable tab)) p (ix2 r C) = attnAt q k v (at2 tab) (256 * i + r.val) (C.val / 128) (C.val % 128) := by
  have hC := C.isLt; have hr := r.isLt
  have hh : C.val / 128 < 16 := by omega
  have hn : 128 * (C.val / 128) + 128 ≤ 2048 := by omega
  let h : Fin 16 := ⟨C.val / 128, hh⟩
  let d : Fin 128 := ⟨C.val % 128, Nat.mod_lt _ (by decide)⟩
  have hcol : ∀ (x : Vec Ideal S256x2048 .bf16) (a : Fin 256) (t : Fin 128),
      colsAt x (128 * (C.val / 128)) hn (ix2 a t) = x (ix2 a ⟨128 * (C.val / 128) + t.val, by omega⟩) := fun x a t => by
    unfold colsAt
    refine congrArg x (funext fun c => ?_)
    match c with | ⟨0, _⟩ => rfl | ⟨1, _⟩ => rfl
  have hbias : ∀ (n : ℕ) (hn4 : n < 4) (b : Fin 3) (a j : Fin 256), (n = if 2 ≤ i + b.val then b.val else 3) →
      biasAt (biasTiles (rowTable tab)) (C.val / 128) n hh hn4 (ix4 (0 : Fin 1) (0 : Fin 1) a j)
        = if 2 ≤ i + b.val ∧ inBand b.val a.val j.val then at2 tab (C.val / 128) (min (a.val + 575 - (256 * b.val + j.val)) 191) else ⊥ := fun n hn4 b a j e => by
    by_cases hv : 2 ≤ i + b.val
    · rw [if_pos hv] at e
      subst e
      refine (?_ : _ = biasTiles (rowTable tab) (ix4 h b.castSucc a j)).trans ((bias_apply tab h b a j).trans ?_)
      · unfold biasAt
        refine congrArg (biasTiles (rowTable tab)) (funext fun c => ?_)
        match c with | ⟨0, _⟩ => rfl | ⟨1, _⟩ => rfl | ⟨2, _⟩ => rfl | ⟨3, _⟩ => rfl
      · exact if_congr (by simp only [hv, true_and]) rfl rfl
    · rw [if_neg hv] at e
      subst e
      rw [if_neg fun hc => hv hc.1]
      refine (?_ : _ = biasTiles (rowTable tab) (ix4 h (3 : Fin 4) a j)).trans (bias3_apply _ h a j)
      unfold biasAt
      refine congrArg (biasTiles (rowTable tab)) (funext fun c => ?_)
      match c with | ⟨0, _⟩ => rfl | ⟨1, _⟩ => rfl | ⟨2, _⟩ => rfl | ⟨3, _⟩ => rfl
  have hR : (256 * i + r.val) % 256 = r.val := by omega
  have hvis : ∀ (b : ℕ) (j : Fin 256), logit q k (at2 tab) (C.val / 128) (256 * i + r.val) (256 * b + j.val) ≠ ⊥ → 512 ≤ 256 * i + (256 * b + j.val) := fun b j hne => by
    by_contra hc
    refine hne (if_neg fun hv => hc ?_)
    have := hv.2.2; omega
  have hval : ∀ (b : ℕ) (j : Fin 256), 512 ≤ 256 * i + (256 * b + j.val) →
      valueAt v (C.val / 128) (C.val % 128) (256 * i + r.val) (256 * b + j.val) = v (256 * (i + b - 2) + j.val) (128 * (C.val / 128) + C.val % 128) := fun b j hb => by
    have hj := j.isLt
    unfold valueAt
    rw [if_pos (by omega)]
    refine congrArg (fun n => v n _) ?_
    unfold keyRow; omega
  have e0 : blockOut x0 x1 x2 x3 x4 x5 x6 (biasTiles (rowTable tab)) p (ix2 r C)
      = headAt x0 x1 x2 x3 x4 x5 x6 (biasTiles (rowTable tab)) p (C.val / 128) hh (ix2 r d) := by
    unfold blockOut
    refine congrArg (headAt x0 x1 x2 x3 x4 x5 x6 (biasTiles (rowTable tab)) p (C.val / 128) hh) (funext fun c => ?_)
    match c with | ⟨0, _⟩ => rfl | ⟨1, _⟩ => rfl
  rw [e0]
  unfold headAt
  refine (headOut_apply _ _ _ _ _ _ _ _ _ _ r d _ _ _ rfl rfl rfl).trans ?_
  unfold attnAt
  have hs := fun (b : Fin 3) (xk : Vec Ideal S256x2048 .bf16) (xb : Vec Ideal S1x1x256x256 .f32) (j : Fin 256)
      (hk : 2 ≤ i + b.val → ∀ (j : Fin 256) (C : Fin 2048), xk (ix2 j C) = k (256 * (i + b.val - 2) + j.val) C.val) hb =>
    score_logit q k (at2 tab) (C.val / 128) i b r j (colsAt x0 (128 * (C.val / 128)) hn) (colsAt xk (128 * (C.val / 128)) hn) xb
      (fun t => (hcol x0 r t).trans (hq r _)) (fun h2 t => (hcol xk j t).trans (hk h2 j _)) hb
  refine average_eq _ _ _ (logit q k (at2 tab) (C.val / 128) (256 * i + r.val)) r
    (fun j => (hs 0 x1 _ j (fun h2 => hk0 h2) (hbias _ (place0_lt p) 0 r j ?_)).trans ?_)
    (fun j => (hs 1 x2 _ j (fun h2 => hk1 (by have : 2 ≤ i + 1 := h2; omega)) (hbias _ (place1_lt p) 1 r j ?_)).trans ?_)
    (fun j => (hs 2 x3 _ j (fun h2 => hk2) (hbias 2 (by decide) 2 r j ?_)).trans ?_)
    (fun hr n hn _ => logit_up _ _ _ _ _ (by omega) n hn) (fun hr n hn => logit_lo _ _ _ _ _ (by omega) n hn)
    (valueAt v (C.val / 128) (C.val % 128) (256 * i + r.val)) _ _ _
    (fun j hne => ?_) (fun j hne => ?_) (fun j hne => ?_)
  · rw [place0, hi]; rfl
  · rw [show 256 * (0 : Fin 3).val + j.val = j.val from Nat.zero_add _]
  · rw [place1, hi]
    show (if 1 ≤ i then 1 else 3) = if 2 ≤ i + 1 then 1 else 3
    exact if_congr (by omega) rfl rfl
  · rfl
  · show 2 = if 2 ≤ i + 2 then 2 else 3
    rw [if_pos (by omega)]
  · rfl
  · have hj := j.isLt
    have h5 := hvis 0 j (by rwa [Nat.mul_zero, Nat.zero_add])
    have e := hval 0 j h5
    rw [Nat.mul_zero, Nat.zero_add] at e
    rw [e]
    exact (hcol x4 j d).trans (hv0 (by omega) j _)
  · have hj := j.isLt
    have h5 := hvis 1 j hne
    refine ((hcol x5 j d).trans (hv1 (by omega) j _)).trans (hval 1 j h5).symm
  · have hj := j.isLt
    have h5 := hvis 2 j hne
    refine ((hcol x6 j d).trans (hv2 j _)).trans (hval 2 j h5).symm

/-! ## The blocks of the arrays -/

variable (m : (ℓ : Loc nD τ sig) → Buf (Elt Ideal) ℓ) (ρ : Dev nD → PrngReg)

theorem outAt_eq (c : Dev nD) (t : Fin cfg0.N) :
    outAt m c t = blockOut (iblk m c 0 t) (iblk m c 1 t) (iblk m c 2 t) (iblk m c 3 t) (iblk m c 4 t) (iblk m c 5 t) (iblk m c 6 t) (biasTiles (iblk m c 7 t)) (grid0.coords t) := by
  unfold outAt
  exact funext fun y => View.read_writes_apply_of_pieces VO0_8 _ _ _
    (run_pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ _)
    y (cover8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ _ y)

theorem coords0 : ∀ t : Fin cfg0.N, (grid0.coords t 0).val = t.val :=
  (by decide +kernel : ∀ t : Fin grid0.N, (grid0.coords t 0).val = t.val)

theorem index_facts : ∀ t : Fin cfg0.N,
    (win0_0.index t (0 : Fin 2) = t.val ∧ win0_0.index t (1 : Fin 2) = 0) ∧ (win0_1.index t (0 : Fin 2) = t.val - 2 ∧ win0_1.index t (1 : Fin 2) = 0)
    ∧ (win0_2.index t (0 : Fin 2) = t.val - 1 ∧ win0_2.index t (1 : Fin 2) = 0) ∧ (win0_3.index t (0 : Fin 2) = t.val ∧ win0_3.index t (1 : Fin 2) = 0)
    ∧ (win0_4.index t (0 : Fin 2) = t.val - 2 ∧ win0_4.index t (1 : Fin 2) = 0) ∧ (win0_5.index t (0 : Fin 2) = t.val - 1 ∧ win0_5.index t (1 : Fin 2) = 0)
    ∧ (win0_6.index t (0 : Fin 2) = t.val ∧ win0_6.index t (1 : Fin 2) = 0) ∧ (win0_8.index t (0 : Fin 2) = t.val ∧ win0_8.index t (1 : Fin 2) = 0) :=
  (by decide +kernel : ∀ t : Fin grid0.N,
    (win0_0.index t (0 : Fin 2) = t.val ∧ win0_0.index t (1 : Fin 2) = 0) ∧ (win0_1.index t (0 : Fin 2) = t.val - 2 ∧ win0_1.index t (1 : Fin 2) = 0)
    ∧ (win0_2.index t (0 : Fin 2) = t.val - 1 ∧ win0_2.index t (1 : Fin 2) = 0) ∧ (win0_3.index t (0 : Fin 2) = t.val ∧ win0_3.index t (1 : Fin 2) = 0)
    ∧ (win0_4.index t (0 : Fin 2) = t.val - 2 ∧ win0_4.index t (1 : Fin 2) = 0) ∧ (win0_5.index t (0 : Fin 2) = t.val - 1 ∧ win0_5.index t (1 : Fin 2) = 0)
    ∧ (win0_6.index t (0 : Fin 2) = t.val ∧ win0_6.index t (1 : Fin 2) = 0) ∧ (win0_8.index t (0 : Fin 2) = t.val ∧ win0_8.index t (1 : Fin 2) = 0))

/-- An input block of 256 rows at an index. -/
theorem in_apply (c : Dev nD) (t : Fin cfg0.N) (x : Vec Ideal S8192x2048 .bf16) (n : ℕ) (a : Fin 256) (C : Fin 2048) (i : S8192x2048.Idx)
    (h0 : (i 0).val = n * 256 + 1 * a.val) (h1 : (i 1).val = 0 * 2048 + 1 * C.val) : x i = at2 x (256 * n + a.val) C.val :=
  at2_eq x i _ _ (by rw [h0]; omega) (by rw [h1]; omega)

theorem tab_eq (c : Dev nD) (t : Fin cfg0.N) : iblk m c 7 t = rowTable (m ((c.tc : Thread nD τ).loc main_arg3)) := by
  refine Eq.trans ?_ (table_eq m c)
  unfold iblk
  funext y
  show V m c main_v8 (((cfg0.win 7).blk t).view.emb y) = V m c main_v8 y
  refine congrArg (V m c main_v8) (funext fun a => Fin.ext ?_)
  have hz : ∀ t : Fin grid0.N, ∀ a : Fin 3, win0_7.index t a = 0 := by decide +kernel
  match a with
  | ⟨0, _⟩ => show win0_7.index t (0 : Fin 3) * 16 + 1 * (y 0).val = (y 0).val; rw [hz t 0]; omega
  | ⟨1, _⟩ => show win0_7.index t (1 : Fin 3) * 1 + 1 * (y 1).val = (y 1).val; rw [hz t 1]; omega
  | ⟨2, _⟩ => show win0_7.index t (2 : Fin 3) * 1024 + 1 * (y 2).val = (y 2).val; rw [hz t 2]; omega

/-- The output array the run leaves. -/
def attnArr (c : Dev nD) : Vec Ideal S8192x2048 .bf16 := fun i =>
  attnAt (at2 (A := 8192) (B := 2048) (m ((c.tc : Thread nD τ).loc main_arg0))) (at2 (A := 8192) (B := 2048) (m ((c.tc : Thread nD τ).loc main_arg1)))
    (at2 (A := 8192) (B := 2048) (m ((c.tc : Thread nD τ).loc main_arg2))) (at2 (A := 16) (B := 192) (m ((c.tc : Thread nD τ).loc main_arg3)))
    (i 0).val ((i 1).val / 128) ((i 1).val % 128)

theorem out_apply (c : Dev nD) (t : Fin cfg0.N) (r : Fin 256) (C : Fin 2048) :
    outAt m c t (ix2 r C)
      = attnAt (at2 (A := 8192) (B := 2048) (m ((c.tc : Thread nD τ).loc main_arg0))) (at2 (A := 8192) (B := 2048) (m ((c.tc : Thread nD τ).loc main_arg1)))
        (at2 (A := 8192) (B := 2048) (m ((c.tc : Thread nD τ).loc main_arg2))) (at2 (A := 16) (B := 192) (m ((c.tc : Thread nD τ).loc main_arg3)))
        (256 * t.val + r.val) (C.val / 128) (C.val % 128) := by
  obtain ⟨⟨a0, b0⟩, ⟨a1, b1⟩, ⟨a2, b2⟩, ⟨a3, b3⟩, ⟨a4, b4⟩, ⟨a5, b5⟩, ⟨a6, b6⟩, -⟩ := index_facts t
  rw [outAt_eq, tab_eq]
  refine block_apply _ _ _ _ _ _ _ _ (grid0.coords t) t.val (coords0 t) _ _ _ ?_ ?_ ?_ ?_ ?_ ?_ ?_ r C
  · intro a C
    show V m c main_arg0 (((cfg0.win 0).blk t).view.emb (ix2 a C)) = _
    rw [V_main_arg0]
    exact in_apply c t _ _ a C _ (by rw [← a0]; rfl) (by rw [← b0]; rfl)
  · intro _ a C
    show V m c main_arg1 (((cfg0.win 1).blk t).view.emb (ix2 a C)) = _
    rw [V_main_arg1]
    exact in_apply c t _ _ a C _ (by rw [← a1]; rfl) (by rw [← b1]; rfl)
  · intro _ a C
    show V m c main_arg1 (((cfg0.win 2).blk t).view.emb (ix2 a C)) = _
    rw [V_main_arg1]
    exact in_apply c t _ _ a C _ (by rw [← a2]; rfl) (by rw [← b2]; rfl)
  · intro a C
    show V m c main_arg1 (((cfg0.win 3).blk t).view.emb (ix2 a C)) = _
    rw [V_main_arg1]
    exact in_apply c t _ _ a C _ (by rw [← a3]; rfl) (by rw [← b3]; rfl)
  · intro _ a C
    show V m c main_arg2 (((cfg0.win 4).blk t).view.emb (ix2 a C)) = _
    rw [V_main_arg2]
    exact in_apply c t _ _ a C _ (by rw [← a4]; rfl) (by rw [← b4]; rfl)
  · intro _ a C
    show V m c main_arg2 (((cfg0.win 5).blk t).view.emb (ix2 a C)) = _
    rw [V_main_arg2]
    exact in_apply c t _ _ a C _ (by rw [← a5]; rfl) (by rw [← b5]; rfl)
  · intro a C
    show V m c main_arg2 (((cfg0.win 6).blk t).view.emb (ix2 a C)) = _
    rw [V_main_arg2]
    exact in_apply c t _ _ a C _ (by rw [← a6]; rfl) (by rw [← b6]; rfl)

/-! ## The output array -/

theorem flushed_eq (c : Dev nD) (t : Fin cfg0.N) (hf : (cfg0.win 8).flush t = true) :
    (dats m 0 c).flushed 8 t = ((cfg0.win 8).blk t).view.read (Elt Ideal) (attnArr m c) := by
  show (cfg0.win 8).cut (grid0.coords t) ((dats m 0 c).after 8 t) = _
  rw [after0_8]
  obtain ⟨-, -, -, -, -, -, -, ⟨e0, e1⟩⟩ := index_facts t
  funext y
  have hy0 : (y 0).val < 256 := (y 0).isLt
  have hy1 : (y 1).val < 2048 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  have ey : (cfg0.win 8).xinj (grid0.coords t) y = ix2 (⟨(y 0).val, hy0⟩ : Fin 256) (⟨(y 1).val, hy1⟩ : Fin 2048) := by
    funext a
    match a with | ⟨0, _⟩ => rfl | ⟨1, _⟩ => rfl
  show outAt m c t ((cfg0.win 8).xinj (grid0.coords t) y) = attnArr m c (((cfg0.win 8).blk t).view.emb y)
  rw [ey, out_apply]
  unfold attnArr
  rw [hb0, hb1, e0, e1, Nat.zero_mul, Nat.zero_add, Nat.one_mul, Nat.one_mul, Nat.mul_comm t.val 256]

theorem mem_block (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v9).slice (win0_8.rect t)).set ↔ _
  rw [View.set_slice_whole, Rect.mem_set_unit]
  exact Iff.rfl

theorem index_onto : ∀ n : Fin 32, ∃ t : Fin cfg0.N, (cfg0.win 8).flush t = true ∧ t.val = n.val :=
  (by decide +kernel : ∀ n : Fin 32, ∃ t : Fin grid0.N, win0_8.flush t = true ∧ t.val = n.val)

theorem final (c : Dev nD) : (dats m 0 c).arrAt 8 cfg0.N = attnArr m c :=
  (dats m 0 c).arrAt_eq_of_cover 8 _ (fun t hf => flushed_eq m c t hf) (fun i => by
    have hi0 : (i 0).val < 8192 := (i 0).isLt
    have hi1 : (i 1).val < 2048 := (i 1).isLt
    obtain ⟨t, hft, ht⟩ := index_onto ⟨(i 0).val / 256, by omega⟩
    have ht : t.val = (i 0).val / 256 := ht
    obtain ⟨-, -, -, -, -, -, -, ⟨e0, e1⟩⟩ := index_facts t
    exact ⟨t, hft, (mem_block t i).2 fun a => by
      match a with
      | ⟨0, _⟩ =>
        show win0_8.index t (0 : Fin 2) * 256 ≤ (i 0).val ∧ (i 0).val < win0_8.index t (0 : Fin 2) * 256 + 256
        rw [e0, ht]; omega
      | ⟨1, _⟩ =>
        show win0_8.index t (1 : Fin 2) * 2048 ≤ (i 1).val ∧ (i 1).val < win0_8.index t (1 : Fin 2) * 2048 + 2048
        rw [e1]; omega⟩)

/-- The run, its result read. -/
theorem run_value : θ_run defs (onTc (τ := τ) (main (F := Ideal))) ⟨m, fun _ => 0, ρ⟩ (fun r => ∀ c : Dev nD,
      r.2.mem ((c.tc : Thread nD τ).loc main_v9) = attnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1.trans (final m c), (h.1 c).2⟩) (run_named m ρ)

end Cert.KernelIdeal.Attn

end
-- ==== Proof.Attn.Ref.lean ====
module

public import proofs.«01_k».proof.Proof.Attn.Spec
public import proofs.«01_k».proof.Proof.Gen.ReferenceIdeal.Read
public import Idealize.ShloMosaic.Lib.Pointwise
public import Idealize.ShloMosaic.Lib.ValueIdx
public import Idealize.ShloMosaic.Lib.WordArith
public import Idealize.ShloMosaic.PureOps.Ideal.Laws

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe
open Cert.Attn (at2 at2_eq logit valueAt bandStart softmax Visible keyRow relCol)

abbrev Mat := (⟨S8192x2048, .bf16⟩ : BufTy).Contents (Elt Ideal)
abbrev Tab := (⟨S16x192, .f32⟩ : BufTy).Contents (Elt Ideal)

/-! ## The index words -/

theorem band_word (c : Fin 128) (p : Fin 576) : val_main_v34 (F := Ideal) (ix2 c p) = BitVec.ofNat 32 (64 * c.val + p.val) := by
  rw [val_main_v34_apply, val_main_v32_apply, val_main_v33_apply, val_main_v31_apply, val_main_v30_apply, val_main_v29_apply, val_main_v28_apply, val_main_v12_apply, val_main_v11_apply, val_main_c_7_apply]
  show BitVec.ofNat 32 c.val * 64#32 + BitVec.ofNat 32 p.val = _
  rw [show (64#32 : BitVec 32) = BitVec.ofNat 32 64 from rfl, ← BitVec.ofNat_mul, ← BitVec.ofNat_add, Nat.mul_comm]

theorem nonneg_word (n : ℕ) (hn : n < 2 ^ 31) (x : BitVec 32) : Scalar.select (IntOp.cmpi .slt (BitVec.ofNat 32 n) 0#32) x (BitVec.ofNat 32 n) = BitVec.ofNat 32 n := by
  have h : IntOp.cmpi .slt (BitVec.ofNat 32 n) 0#32 = 0#1 := by
    unfold IntOp.cmpi
    simp only [BitVec.slt, WordArith.toInt_ofNat_small n hn]
    show BitVec.ofBool (decide ((n : ℤ) < 0)) = 0#1
    rw [decide_eq_false (by omega)]; rfl
  rw [h]; rfl

theorem key_word (c : Fin 128) (p : Fin 576) : val_main_v40 (F := Ideal) (ix3 c p (0 : Fin 1)) = BitVec.ofNat 32 (64 * c.val + p.val) := by
  rw [val_main_v40_apply]
  have e : idx_main_v40 (ix3 c p (0 : Fin 1)) = ix2 c p := funext fun a => match a with | ⟨0, _⟩ => rfl | ⟨1, _⟩ => rfl
  rw [e, val_main_v39_apply, val_main_v36_apply, val_main_v35_apply, val_main_c_8_apply, band_word]
  exact nonneg_word _ (by omega) _

theorem value_word (c : Fin 128) (p : Fin 576) : val_main_v66 (F := Ideal) (ix3 c p (0 : Fin 1)) = BitVec.ofNat 32 (64 * c.val + p.val) := by
  rw [val_main_v66_apply]
  have e : idx_main_v66 (ix3 c p (0 : Fin 1)) = ix2 c p := funext fun a => match a with | ⟨0, _⟩ => rfl | ⟨1, _⟩ => rfl
  rw [e, val_main_v65_apply, val_main_v62_apply, val_main_v61_apply, val_main_c_14_apply, band_word]
  exact nonneg_word _ (by omega) _

theorem visible_word (c : Fin 128) (p : Fin 576) : val_main_v47 (F := Ideal) (ix2 c p) = if 512 ≤ 64 * c.val + p.val then 1#1 else 0#1 := by
  rw [val_main_v47_apply, val_main_v46_apply, val_main_c_10_apply, band_word]
  unfold IntOp.cmpi
  have h5 : (512#32 : BitVec 32).toInt = 512 := rfl
  simp only [BitVec.sle, WordArith.toInt_ofNat_small (64 * c.val + p.val) (by omega), h5]
  by_cases h : 512 ≤ 64 * c.val + p.val
  · rw [if_pos h, decide_eq_true (by omega)]; rfl
  · rw [if_neg h, decide_eq_false (by omega)]; rfl

theorem dist_word (r : Fin 64) (p : Fin 576) : val_main_v26 (F := Ideal) (ix3 r p (0 : Fin 1)) = BitVec.ofNat 32 (min (r.val + 575 - p.val) 191) := by
  have e : idx_main_v26 (ix3 r p (0 : Fin 1)) = ix2 r p := funext fun a => match a with | ⟨0, _⟩ => rfl | ⟨1, _⟩ => rfl
  have hd : IntOp.addi (IntOp.subi (BitVec.ofNat 32 r.val) (BitVec.ofNat 32 p.val)) 512#32 = BitVec.ofNat 32 (r.val + 575 - p.val) - 63#32 := by
    have hr := r.isLt; have hp := p.isLt
    show BitVec.ofNat 32 r.val - BitVec.ofNat 32 p.val + 512#32 = _
    apply BitVec.eq_of_toNat_eq
    simp only [BitVec.toNat_add, BitVec.toNat_sub, BitVec.toNat_ofNat]
    omega
  have hw : ∀ s : Fin 639, (fun d => Scalar.select (IntOp.cmpi .slt (IntOp.addi (IntOp.minsi 128#32 (IntOp.maxsi (BitVec.ofInt 32 (-63)) d)) 63#32) 0#32)
      (IntOp.addi (IntOp.addi (IntOp.minsi 128#32 (IntOp.maxsi (BitVec.ofInt 32 (-63)) d)) 63#32) 192#32)
      (IntOp.addi (IntOp.minsi 128#32 (IntOp.maxsi (BitVec.ofInt 32 (-63)) d)) 63#32)) (BitVec.ofNat 32 s.val - 63#32) = BitVec.ofNat 32 (min s.val 191) := by decide +kernel
  rw [val_main_v26_apply, e]
  refine Eq.trans ?_ (hw ⟨r.val + 575 - p.val, by omega⟩)
  show _ = (fun d => _) (BitVec.ofNat 32 (r.val + 575 - p.val) - 63#32)
  rw [← hd]
  simp only [val_main_v25_apply, val_main_v22_apply, val_main_v24_apply, val_main_v20_apply, val_main_v18_apply, val_main_v19_apply, val_main_v21_apply, val_main_v23_apply, val_main_call2_v2_apply, val_main_call2_v1_apply, val_main_call2_v4_apply, val_main_v17_apply, val_main_v16_apply, val_main_v15_apply, val_main_v14_apply, val_main_v13_apply, val_main_v12_apply, val_main_v11_apply, val_main_v10_apply, val_main_v9_apply]
  rfl

/-! ## The gathers -/

theorem row_gather (x : (⟨S8704x16x128, .f32⟩ : BufTy).Contents (Elt Ideal)) (idx : IVec S128x576x1 32) (c : Fin 128) (p : Fin 576) (h : Fin 16) (t : Fin 128)
    (hidx : idx (ix3 c p (0 : Fin 1)) = BitVec.ofNat 32 (64 * c.val + p.val)) :
    Host.gather gather_S8704x16x128_S128x576x1_S128x576x16x128_23_0_n_n_0_2_116128 x idx (ix4 c p h t)
      = x (ix3 (⟨64 * c.val + p.val, by omega⟩ : Fin 8704) h t) := by
  unfold Host.gather
  refine congrArg x (funext fun a => Fin.ext ?_)
  generalize hd : gather_S8704x16x128_S128x576x1_S128x576x16x128_23_0_n_n_0_2_116128 = d
  have hs : d.siIdx (ix4 c p h t) ⟨0, by rw [← hd]; decide⟩ = ix3 c p (0 : Fin 1) := by
    subst hd
    funext b; match b with
    | ⟨0, _⟩ => rfl
    | ⟨1, _⟩ => rfl
    | ⟨2, _⟩ => rfl
  match a with
  | ⟨0, _⟩ =>
    show d.start (ix4 c p h t) idx 0 + d.batchCoord (ix4 c p h t) 0 + d.offCoord (ix4 c p h t) 0 = 64 * c.val + p.val
    have h1 : d.start (ix4 c p h t) idx 0 = min (idx (ix3 c p (0 : Fin 1))).toInt.toNat 8703 := by rw [← hs]; subst hd; rfl
    have h2 : d.batchCoord (ix4 c p h t) 0 = 0 := by subst hd; rfl
    have h3 : d.offCoord (ix4 c p h t) 0 = 0 := by subst hd; rfl
    rw [h1, h2, h3, hidx, WordArith.toInt_ofNat_small _ (by omega)]
    show min ((64 * c.val + p.val : ℕ) : Int).toNat 8703 + 0 + 0 = _
    omega
  | ⟨1, _⟩ => subst hd; exact (Nat.zero_add _ : 0 + h.val = h.val)
  | ⟨2, _⟩ => subst hd; exact (Nat.zero_add _ : 0 + t.val = t.val)

theorem bias_gather (x : Tab) (h : Fin 16) (r : Fin 64) (p : Fin 576) :
    val_main_v27 (F := Ideal) x (ix3 h r p) = at2 x h.val (min (r.val + 575 - p.val) 191) := by
  unfold val_main_v27 Host.gather
  have hidx := dist_word r p
  generalize val_main_v26 (F := Ideal) = idx at hidx
  generalize hd : gather_S16x192_S64x576x1_S16x64x576_0_1_n_n_1_2_161 = d
  have hs : d.siIdx (ix3 h r p) ⟨0, by rw [← hd]; decide⟩ = ix3 r p (0 : Fin 1) := by
    subst hd
    funext b; match b with
    | ⟨0, _⟩ => rfl
    | ⟨1, _⟩ => rfl
    | ⟨2, _⟩ => rfl
  refine at2_eq x _ _ _ ?_ ?_
  · subst hd; exact (Nat.zero_add _ : 0 + h.val = h.val)
  · show d.start (ix3 h r p) idx 1 + d.batchCoord (ix3 h r p) 1 + d.offCoord (ix3 h r p) 1 = _
    have h1 : d.start (ix3 h r p) idx 1 = min (idx (ix3 r p (0 : Fin 1))).toInt.toNat 191 := by rw [← hs]; subst hd; rfl
    have h2 : d.batchCoord (ix3 h r p) 1 = 0 := by subst hd; rfl
    have h3 : d.offCoord (ix3 h r p) 1 = 0 := by subst hd; rfl
    rw [h1, h2, h3, hidx, WordArith.toInt_ofNat_small _ (by omega)]
    show min ((min (r.val + 575 - p.val) 191 : ℕ) : Int).toNat 191 + 0 + 0 = _
    omega

/-! ## Keys, values and queries -/

theorem pad_zero (x : Mat) (y : (⟨S8192x16x128, .f32⟩ : BufTy).Contents (Elt Ideal)) (z : (⟨S_, .f32⟩ : BufTy).Contents (Elt Ideal)) (n : Fin 8704) (h : Fin 16) (t : Fin 128)
    (hz : z (Shape.Idx.first h_S_) = 0) (hy : ∀ (a : Fin 8192) (h : Fin 16) (t : Fin 128), y (ix3 a h t) = at2 x a.val (128 * h.val + t.val)) :
    pad S8704x16x128 ![512, 0, 0] ![0, 0, 0] ![0, 0, 0] y z pads_S8192x16x128_S8704x16x128_51200_000_000 h_S_ (ix3 n h t)
      = if 512 ≤ n.val then at2 x (n.val - 512) (128 * h.val + t.val) else 0 := by
  rw [pad_apply]
  by_cases hn : 512 ≤ n.val
  · rw [if_pos hn, dif_pos]
    · refine Eq.trans (congrArg y ?_) (hy ⟨n.val - 512, by omega⟩ h t)
      funext a; match a with
      | ⟨0, _⟩ => exact Fin.ext (Nat.div_one _)
      | ⟨1, _⟩ => exact Fin.ext (Nat.div_one _)
      | ⟨2, _⟩ => exact Fin.ext (Nat.div_one _)
    · intro a; match a with
      | ⟨0, _⟩ => exact ⟨hn, Nat.mod_one _, by show (n.val - 512) / 1 < 8192; omega⟩
      | ⟨1, _⟩ => exact ⟨Nat.zero_le _, Nat.mod_one _, by show (h.val - 0) / 1 < 16; omega⟩
      | ⟨2, _⟩ => exact ⟨Nat.zero_le _, Nat.mod_one _, by show (t.val - 0) / 1 < 128; omega⟩
  · rw [if_neg hn, dif_neg fun hin => hn (hin 0).1, hz]

theorem sitofp_zero (i : S_.Idx) : (sitofp .f32 (constantI S_ 32 0#32) : FVec Ideal S_ .f32) i = 0 := by
  show (((0#32 : BitVec 32).toInt : ℝ) : EReal) = 0
  simp

theorem heads_k (x : Mat) (a : Fin 8192) (h : Fin 16) (t : Fin 128) : val_main_v1 (F := Ideal) x (ix3 a h t) = at2 x a.val (128 * h.val + t.val) := by
  rw [val_main_v1_apply, val_main_v0_apply]
  refine at2_eq x _ _ _ ?_ ?_
  · show ((a.val * 16 + h.val) * 128 + t.val) / 2048 = a.val; omega
  · show ((a.val * 16 + h.val) * 128 + t.val) % 2048 = 128 * h.val + t.val; omega

theorem heads_v (x : Mat) (a : Fin 8192) (h : Fin 16) (t : Fin 128) : val_main_v4 (F := Ideal) x (ix3 a h t) = at2 x a.val (128 * h.val + t.val) := by
  rw [val_main_v4_apply, val_main_v3_apply]
  refine at2_eq x _ _ _ ?_ ?_
  · show ((a.val * 16 + h.val) * 128 + t.val) / 2048 = a.val; omega
  · show ((a.val * 16 + h.val) * 128 + t.val) % 2048 = 128 * h.val + t.val; omega

theorem keys_apply (x : Mat) (c : Fin 128) (p : Fin 576) (h : Fin 16) (t : Fin 128) :
    val_main_v41 (F := Ideal) x (ix4 c p h t) = if 512 ≤ 64 * c.val + p.val then at2 x (64 * c.val + p.val - 512) (128 * h.val + t.val) else 0 := by
  unfold val_main_v41
  refine (row_gather _ _ c p h t (key_word c p)).trans ?_
  exact pad_zero x _ _ _ h t (sitofp_zero _) (heads_k x)

theorem values_apply (x : Mat) (c : Fin 128) (p : Fin 576) (h : Fin 16) (t : Fin 128) :
    val_main_v67 (F := Ideal) x (ix4 c p h t) = if 512 ≤ 64 * c.val + p.val then at2 x (64 * c.val + p.val - 512) (128 * h.val + t.val) else 0 := by
  unfold val_main_v67
  refine (row_gather _ _ c p h t (value_word c p)).trans ?_
  exact pad_zero x _ _ _ h t (sitofp_zero _) (heads_v x)

theorem queries_apply (x : Mat) (c : Fin 128) (r : Fin 64) (h : Fin 16) (t : Fin 128) :
    val_main_v8 (F := Ideal) x (ix4 c r h t) = at2 x (64 * c.val + r.val) (128 * h.val + t.val) := by
  rw [val_main_v8_apply, val_main_v7_apply, val_main_v6_apply]
  refine at2_eq x _ _ _ ?_ ?_
  · show ((((((c.val * 64 + r.val) * 16 + h.val) * 128 + t.val) / 2048) * 16 + (((c.val * 64 + r.val) * 16 + h.val) * 128 + t.val) / 128 % 16) * 128 + (((c.val * 64 + r.val) * 16 + h.val) * 128 + t.val) % 128) / 2048 = _
    omega
  · show ((((((c.val * 64 + r.val) * 16 + h.val) * 128 + t.val) / 2048) * 16 + (((c.val * 64 + r.val) * 16 + h.val) * 128 + t.val) / 128 % 16) * 128 + (((c.val * 64 + r.val) * 16 + h.val) * 128 + t.val) % 128) % 2048 = _
    omega

/-! ## The logits and the result -/

theorem ofBits_bot : FloatOps.ofBits (F := Ideal) .f32 0xFF800000#32 = (⊥ : EReal) := by
  show Ideal.ofBits .f32 0xFF800000#32 = _
  simp [Ideal.ofBits, Ideal.ieee]

theorem logit_apply (x0 x1 : Mat) (x3 : Tab) (c : Fin 128) (h : Fin 16) (r : Fin 64) (p : Fin 576) :
    val_main_v49 (F := Ideal) x0 x1 x3 (ix4 c h r p)
      = logit (at2 x0) (at2 x1) (at2 x3) h.val (64 * c.val + r.val) (bandStart (64 * c.val + r.val) + p.val) := by
  have hc := c.isLt; have hr := r.isLt; have hp := p.isLt
  have hv : val_main_call3_v1 (F := Ideal) (ix4 c h r p) = val_main_v47 (F := Ideal) (ix2 c p) := by
    rw [val_main_call3_v1_apply, val_main_v48_apply]
    exact congrArg (val_main_v47 (F := Ideal)) (funext fun a => match a with | ⟨0, _⟩ => rfl | ⟨1, _⟩ => rfl)
  rw [val_main_v49_apply, hv, visible_word]
  unfold logit
  by_cases hvis : 512 ≤ 64 * c.val + p.val
  · rw [if_pos hvis, if_pos (by unfold Visible bandStart; omega)]
    show val_main_v45 (F := Ideal) x0 x1 x3 (ix4 c h r p) = _
    rw [val_main_v45_apply, val_main_v42_apply, val_main_v44_apply, val_main_v43_apply]
    refine congrArg₂ (· + ·) (Finset.sum_congr rfl fun t _ => congrArg₂ (· * ·) ?_ ?_) ?_
    · refine Eq.trans (congrArg (val_main_v8 (F := Ideal) x0) (funext fun a => ?_)) (queries_apply x0 c r h t)
      match a with | ⟨0, _⟩ => rfl | ⟨1, _⟩ => rfl | ⟨2, _⟩ => rfl | ⟨3, _⟩ => rfl
    · refine (Eq.trans (congrArg (val_main_v41 (F := Ideal) x1) (funext fun a => ?_)) (keys_apply x1 c p h t)).trans ?_
      · match a with | ⟨0, _⟩ => rfl | ⟨1, _⟩ => rfl | ⟨2, _⟩ => rfl | ⟨3, _⟩ => rfl
      · rw [if_pos hvis]
        refine congrArg (fun n => at2 x1 n (128 * h.val + t.val)) ?_
        unfold keyRow bandStart; omega
    · refine (Eq.trans (congrArg (val_main_v27 (F := Ideal) x3) (funext fun a => ?_)) (bias_gather x3 h r p)).trans ?_
      · match a with | ⟨0, _⟩ => rfl | ⟨1, _⟩ => rfl | ⟨2, _⟩ => rfl
      · refine congrArg (at2 x3 h.val) ?_
        unfold relCol bandStart; omega
  · rw [if_neg hvis, if_neg (by unfold Visible bandStart; omega)]
    show val_main_call3_v2 (F := Ideal) (ix4 c h r p) = _
    rw [val_main_call3_v2_apply]
    exact ofBits_bot

theorem max_apply (x0 x1 : Mat) (x3 : Tab) (c : Fin 128) (h : Fin 16) (r : Fin 64) :
    val_main_v52 (F := Ideal) x0 x1 x3 (ix3 c h r) = (Finset.univ : Finset (Fin 576)).sup fun p => val_main_v49 (F := Ideal) x0 x1 x3 (ix4 c h r p) := by
  rw [val_main_v52_apply, val_main_v51_apply]
  unfold val_main_v50
  rw [Host.reduce_eq_fold_single FloatOps.maximumf _ _ reducesTo_S128x16x64x576_S128x16x64_d3 (by decide) h_S_]
  show max (FloatOps.ofBits (F := Ideal) .f32 0xFF800000#32) (Finset.fold max (FloatOps.ofBits (F := Ideal) .f32 0xFF800000#32) _ _) = _
  rw [ofBits_bot, max_eq_right bot_le]
  show Finset.fold max ⊥ _ _ = Finset.fold max ⊥ _ _
  refine congrArg (fun f => Finset.fold max (⊥ : EReal) f (Finset.univ : Finset (Fin 576))) (funext fun p => ?_)
  refine congrArg (val_main_v49 (F := Ideal) x0 x1 x3) (funext fun a => ?_)
  match a with | ⟨0, _⟩ => rfl | ⟨1, _⟩ => rfl | ⟨2, _⟩ => rfl | ⟨3, _⟩ => rfl

theorem weight_apply (x0 x1 : Mat) (x3 : Tab) (c : Fin 128) (h : Fin 16) (r : Fin 64) (p : Fin 576) :
    val_main_v56 (F := Ideal) x0 x1 x3 (ix4 c h r p)
      = Ideal.exp (val_main_v49 (F := Ideal) x0 x1 x3 (ix4 c h r p) - (Finset.univ : Finset (Fin 576)).sup fun p => val_main_v49 (F := Ideal) x0 x1 x3 (ix4 c h r p)) := by
  rw [val_main_v56_apply, val_main_v55_apply, val_main_v54_apply, val_main_v53_apply, ← max_apply]
  refine congrArg (fun y => Ideal.exp (val_main_v49 (F := Ideal) x0 x1 x3 (ix4 c h r p) - val_main_v52 (F := Ideal) x0 x1 x3 y)) (funext fun a => ?_)
  match a with | ⟨0, _⟩ => rfl | ⟨1, _⟩ => rfl | ⟨2, _⟩ => rfl

theorem share_apply (x0 x1 : Mat) (x3 : Tab) (c : Fin 128) (h : Fin 16) (r : Fin 64) (p : Fin 576) :
    val_main_v60 (F := Ideal) x0 x1 x3 (ix4 c h r p)
      = Ideal.div (val_main_v56 (F := Ideal) x0 x1 x3 (ix4 c h r p)) (∑ p : Fin 576, val_main_v56 (F := Ideal) x0 x1 x3 (ix4 c h r p)) := by
  rw [val_main_v60_apply, val_main_v59_apply, val_main_v58_apply, val_main_v57_apply]
  show Ideal.div _ (FloatOps.ofBits (F := Ideal) .f32 0x00000000#32 + _) = _
  rw [show FloatOps.ofBits (F := Ideal) .f32 0x00000000#32 = (0 : EReal) by show Ideal.ofBits .f32 0x00000000#32 = _; simp [Ideal.ofBits, Ideal.ieee], zero_add]
  refine congrArg (Ideal.div _) (Finset.sum_congr rfl fun k _ => congrArg (val_main_v56 (F := Ideal) x0 x1 x3) (funext fun a => ?_))
  match a with | ⟨0, _⟩ => rfl | ⟨1, _⟩ => rfl | ⟨2, _⟩ => rfl | ⟨3, _⟩ => rfl

/-- The reference's result at an index: the softmax of its row's logits, applied to the values. -/
theorem result_apply (x0 x1 x2 : Mat) (x3 : Tab) (R : Fin 8192) (C : Fin 2048) :
    val_main_v71 (F := Ideal) x0 x1 x2 x3 (ix2 R C)
      = softmax (logit (at2 x0) (at2 x1) (at2 x3) (C.val / 128) R.val) (valueAt (at2 x2) (C.val / 128) (C.val % 128) R.val) (bandStart R.val) := by
  have hR := R.isLt; have hC := C.isLt
  let c : Fin 128 := ⟨R.val / 64, by omega⟩
  let r : Fin 64 := ⟨R.val % 64, by omega⟩
  let h : Fin 16 := ⟨C.val / 128, by omega⟩
  let d : Fin 128 := ⟨C.val % 128, by omega⟩
  have hcr : 64 * c.val + r.val = R.val := Nat.div_add_mod _ _
  have hl : ∀ p : Fin 576, val_main_v49 (F := Ideal) x0 x1 x3 (ix4 c h r p) = logit (at2 x0) (at2 x1) (at2 x3) (C.val / 128) R.val (bandStart R.val + p.val) := fun p => by
    rw [logit_apply, hcr]
  have e : val_main_v71 (F := Ideal) x0 x1 x2 x3 (ix2 R C) = val_main_v68 (F := Ideal) x0 x1 x2 x3 (ix4 c h d r) := by
    rw [val_main_v71_apply, val_main_v70_apply, val_main_v69_apply]
    refine congrArg (val_main_v68 (F := Ideal) x0 x1 x2 x3) (funext fun a => ?_)
    match a with
    | ⟨0, _⟩ => exact Fin.ext (by show (R.val * 2048 + C.val) / 131072 = R.val / 64; omega)
    | ⟨1, _⟩ => exact Fin.ext (by show (R.val * 2048 + C.val) / 128 % 16 = C.val / 128; omega)
    | ⟨2, _⟩ => exact Fin.ext (by show (R.val * 2048 + C.val) % 128 = C.val % 128; omega)
    | ⟨3, _⟩ => exact Fin.ext (by show (R.val * 2048 + C.val) / 2048 % 64 = R.val % 64; omega)
  rw [e, val_main_v68_apply]
  unfold softmax
  refine Finset.sum_congr rfl fun p _ => congrArg₂ (· * ·) ?_ ?_
  · refine (Eq.trans (congrArg (val_main_v67 (F := Ideal) x2) (funext fun a => ?_)) (values_apply x2 c p h d)).trans ?_
    · match a with | ⟨0, _⟩ => rfl | ⟨1, _⟩ => rfl | ⟨2, _⟩ => rfl | ⟨3, _⟩ => rfl
    · unfold valueAt keyRow bandStart
      have hp := p.isLt
      have ec : 64 * c.val + p.val = 256 * (R.val / 256) + (64 * (R.val % 256 / 64) + p.val) := by
        show 64 * (R.val / 64) + p.val = _; omega
      rw [ec]
  · refine (Eq.trans (congrArg (val_main_v60 (F := Ideal) x0 x1 x3) (funext fun a => ?_)) (share_apply x0 x1 x3 c h r p)).trans ?_
    · match a with | ⟨0, _⟩ => rfl | ⟨1, _⟩ => rfl | ⟨2, _⟩ => rfl | ⟨3, _⟩ => rfl
    · simp only [weight_apply, hl]

end Cert.ReferenceIdeal.Attn

end
-- ==== Proof.Attn.Equal.lean ====
module

public import proofs.«01_k».proof.Defs
public import proofs.«01_k».proof.Proof.Attn.Result
public import proofs.«01_k».proof.Proof.Attn.Ref
public import proofs.«01_k».proof.Proof.Gen.Pre_finite
public import proofs.«01_k».proof.Proof.Gen.ReferenceIdeal.Run
public import Idealize.ShloMosaic.Lib.Pointwise

@[expose] public section

set_option maxRecDepth 16384

noncomputable section

namespace Cert.Attn

open Idealize.ShloMosaic Idealize.ShloMosaic.TcCoe

/-! ## What finite entries give -/

/-- A value whose absolute value is below infinity is a real number. -/
theorem real_of_lt {x : EReal} (h : max x (-x) < ⊤) : IsReal x := by
  refine ⟨fun e => ?_, fun e => ?_⟩
  · rw [e] at h; exact absurd h (by simp)
  · rw [e] at h; exact absurd h (by simp)

theorem at2_real {A B : ℕ} (x : (⟨2, ![A, B]⟩ : Shape).Idx → EReal) (hx : ∀ i, IsReal (x i)) (a b : ℕ) : IsReal (at2 x a b) := by
  unfold at2
  split
  · exact hx _
  · exact ⟨EReal.zero_ne_top, EReal.zero_ne_bot⟩

theorem lt_of_bit {p : Prop} [Decidable p] (h : BitVec.ofBool (decide p) = 1#1) : p := by
  by_contra hp
  rw [decide_eq_false hp] at h
  exact absurd h (by decide)

theorem inf_word : Ideal.ofBits .f32 0x7F800000#32 = (⊤ : EReal) := by
  simp [Ideal.ofBits, Ideal.ieee]

/-- The three arrays the precondition speaks of have real entries. -/
theorem real_of_finite (q k v : FVec Ideal Cert.Pre_finite.S8192x2048 .bf16) (rel : FVec Ideal Cert.Pre_finite.S16x192 .f32)
    (hq : (Cert.Pre_finite.fn (F := Ideal) q k v rel).1 = fun _ => 1#1) (hk : (Cert.Pre_finite.fn (F := Ideal) q k v rel).2.1 = fun _ => 1#1)
    (hr : (Cert.Pre_finite.fn (F := Ideal) q k v rel).2.2 = fun _ => 1#1) :
    (∀ i, IsReal (q i)) ∧ (∀ i, IsReal (k i)) ∧ (∀ i, IsReal (rel i)) := by
  refine ⟨fun i => ?_, fun i => ?_, fun i => ?_⟩
  · have h : BitVec.ofBool (decide (max (q i : EReal) (-(q i : EReal)) < Ideal.ofBits .f32 0x7F800000#32)) = 1#1 := congrFun hq i
    exact real_of_lt (inf_word ▸ lt_of_bit h)
  · have h : BitVec.ofBool (decide (max (k i : EReal) (-(k i : EReal)) < Ideal.ofBits .f32 0x7F800000#32)) = 1#1 := congrFun hk i
    exact real_of_lt (inf_word ▸ lt_of_bit h)
  · have h : BitVec.ofBool (decide (max (rel i : EReal) (-(rel i : EReal)) < Ideal.ofBits .f32 0x7F800000#32)) = 1#1 := congrFun hr i
    exact real_of_lt (inf_word ▸ lt_of_bit h)

/-! ## The equation -/

/-- The kernel's array is the reference's result, where queries, keys and bias table are finite. -/
theorem arrays_eq (m : (ℓ : Loc Cert.KernelIdeal.nD Cert.KernelIdeal.τ Cert.KernelIdeal.sig) → Buf (Elt Ideal) ℓ) (hm : Cert.Pre_KernelIdeal_finite m) (c : Dev Cert.KernelIdeal.nD) :
    Cert.KernelIdeal.Attn.attnArr m c
      = Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨hq, hk, hr⟩ := real_of_finite _ _ _ _ (hm c).1 (hm c).2.1 (hm c).2.2
  funext i
  have e : i = ix2 (⟨(i 0).val, (i 0).isLt⟩ : Fin 8192) (⟨(i 1).val, (i 1).isLt⟩ : Fin 2048) := by
    funext a
    match a with | ⟨0, _⟩ => rfl | ⟨1, _⟩ => rfl
  unfold Cert.KernelIdeal.Attn.attnArr
  rw [attnAt_eq _ _ _ _ (at2_real _ hq) (at2_real _ hk) (at2_real _ hr)]
  refine Eq.trans ?_ (congrArg _ e.symm)
  exact (Cert.ReferenceIdeal.Attn.result_apply _ _ _ _ (⟨(i 0).val, (i 0).isLt⟩ : Fin 8192) (⟨(i 1).val, (i 1).isLt⟩ : Fin 2048)).symm

theorem algebraic : Cert.algebraic_KernelIdeal_ReferenceIdeal_pre_finite := fun m g m' g' hm hargs =>
  ⟨fun c => Cert.KernelIdeal.Attn.attnArr m c, Cert.KernelIdeal.Attn.run_value m g,
    (θ_run _ _ _).mono (fun r h c => ⟨(h c).1.trans (by
        obtain ⟨e0, e1, e2, e3⟩ := hargs c
        refine (Cert.ReferenceIdeal.Read.val_main_v71_eq m' c).trans ?_
        rw [e0, e1, e2, e3]
        exact (arrays_eq m hm c).symm), (h c).2⟩) (Cert.ReferenceIdeal.Value.run m' g')⟩

end Cert.Attn

end
-- ==== Proof.Ffn.Run.lean ====
module

public import proofs.«01_k».proof.Proof.Gen.FfnIdeal.Frame
public import proofs.«01_k».proof.Proof.Gen.FfnIdeal.Skeleton
public import Idealize.ShloMosaic.Lib.Writes

@[expose] public section

set_option maxRecDepth 16384

noncomputable section

namespace Cert.FfnIdeal.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body loads, as functions of the blocks -/

/-- Rows `n … n + 511` of a row tile. -/
def rowsAt (x : Vec F S1024x2048 .f32) (n : ℕ) (hn : n + 512 ≤ 1024) : Vec F S512x2048 .f32 :=
  fun j => x fun a => match a with
    | ⟨0, _⟩ => ⟨n + (j 0).val, lt_of_lt_of_le (Nat.add_lt_add_left (j 0).isLt n) hn⟩
    | ⟨1, _⟩ => j 1

/-- The layer's row of the gains. -/
def gainRow (g : Vec F S4x2048 .f32) : Vec F S1x2048 .f32 :=
  fun j => g fun a => match a with
    | ⟨0, _⟩ => (⟨0, Nat.zero_lt_succ 3⟩ : Fin 4)
    | ⟨1, _⟩ => j 1

/-- The gate's tile (`p = 0`) or the up projection's (`p = 1`). -/
def tileOf (w : Vec F S1x2x2048x512 .bf16) (p : ℕ) (hp : p < 2) : Vec F S1x1x2048x512 .bf16 :=
  fun j => w fun a => match a with
    | ⟨0, _⟩ => j 0
    | ⟨1, _⟩ => ⟨p, hp⟩
    | ⟨2, _⟩ => j 2
    | ⟨3, _⟩ => j 3

/-- Its first 384 columns. -/
def tileCut (w : Vec F S1x2x2048x512 .bf16) (p : ℕ) (hp : p < 2) : Vec F S1x1x2048x384 .bf16 :=
  fun j => w fun a => match a with
    | ⟨0, _⟩ => j 0
    | ⟨1, _⟩ => ⟨p, hp⟩
    | ⟨2, _⟩ => j 2
    | ⟨3, _⟩ => (⟨(j 3).val, lt_of_lt_of_le (j 3).isLt (show 384 ≤ 512 by decide)⟩ : Fin 512)

/-- The first 384 rows of a tile of the down projection. -/
def downCut (d : Vec F S1x512x2048 .f32) : Vec F S1x384x2048 .f32 :=
  fun j => d fun a => match a with
    | ⟨0, _⟩ => j 0
    | ⟨1, _⟩ => (⟨(j 1).val, lt_of_lt_of_le (j 1).isLt (show 384 ≤ 512 by decide)⟩ : Fin 512)
    | ⟨2, _⟩ => j 2

section Loads
variable {sg : RefSig}

theorem rowsAt_eq {arg : Memref sg .tc .vmem S1024x2048 .f32} (harg : arg.IsWhole) (x : Vec F S1024x2048 .f32) (n : ℕ) (hn : n + 512 ≤ 1024)
    (inb : ∀ a, (![n, 0] : Fin 2 → ℕ) a + S512x2048.size a ≤ S1024x2048.size a) :
    arg.view.readAt (Elt F) (Rect.unit (s := S1024x2048) ![n, 0] S512x2048.size inb).toLoadRect (harg.unread x) = rowsAt x n hn := by
  funext j
  rw [View.readAt_apply, harg.read_unread]
  unfold rowsAt
  refine congrArg x ?_
  funext a
  apply Fin.ext
  match a with
  | ⟨0, _⟩ => show n + 1 * (j 0).val = n + (j 0).val; omega
  | ⟨1, _⟩ => show 0 + 1 * (j 1).val = (j 1).val; omega

theorem gainRow_eq {arg : Memref sg .tc .vmem S4x2048 .f32} (harg : arg.IsWhole) (g : Vec F S4x2048 .f32)
    (inb : ∀ a, (![0, 0] : Fin 2 → ℕ) a + S1x2048.size a ≤ S4x2048.size a) :
    arg.view.readAt (Elt F) (Rect.unit (s := S4x2048) ![0, 0] S1x2048.size inb).toLoadRect (harg.unread g) = gainRow g := by
  funext j
  rw [View.readAt_apply, harg.read_unread]
  unfold gainRow
  refine congrArg g ?_
  funext a
  apply Fin.ext
  match a with
  | ⟨0, _⟩ => have : (j 0).val < 1 := (j 0).isLt; show 0 + 1 * (j 0).val = 0; omega
  | ⟨1, _⟩ => show 0 + 1 * (j 1).val = (j 1).val; omega

theorem tileOf_eq {arg : Memref sg .tc .vmem S1x2x2048x512 .bf16} (harg : arg.IsWhole) (w : Vec F S1x2x2048x512 .bf16) (p : ℕ) (hp : p < 2)
    (inb : ∀ a, (![0, p, 0, 0] : Fin 4 → ℕ) a + S1x1x2048x512.size a ≤ S1x2x2048x512.size a) :
    arg.view.readAt (Elt F) (Rect.unit (s := S1x2x2048x512) ![0, p, 0, 0] S1x1x2048x512.size inb).toLoadRect (harg.unread w) = tileOf w p hp := by
  funext j
  rw [View.readAt_apply, harg.read_unread]
  unfold tileOf
  refine congrArg w ?_
  funext a
  apply Fin.ext
  match a with
  | ⟨0, _⟩ => show 0 + 1 * (j 0).val = (j 0).val; omega
  | ⟨1, _⟩ => have : (j 1).val < 1 := (j 1).isLt; show p + 1 * (j 1).val = p; omega
  | ⟨2, _⟩ => show 0 + 1 * (j 2).val = (j 2).val; omega
  | ⟨3, _⟩ => show 0 + 1 * (j 3).val = (j 3).val; omega

theorem tileCut_eq {arg : Memref sg .tc .vmem S1x2x2048x512 .bf16} (harg : arg.IsWhole) (w : Vec F S1x2x2048x512 .bf16) (p : ℕ) (hp : p < 2)
    (inb : ∀ a, (![0, p, 0, 0] : Fin 4 → ℕ) a + S1x1x2048x384.size a ≤ S1x2x2048x512.size a) :
    arg.view.readAt (Elt F) (Rect.unit (s := S1x2x2048x512) ![0, p, 0, 0] S1x1x2048x384.size inb).toLoadRect (harg.unread w) = tileCut w p hp := by
  funext j
  rw [View.readAt_apply, harg.read_unread]
  unfold tileCut
  refine congrArg w ?_
  funext a
  apply Fin.ext
  match a with
  | ⟨0, _⟩ => show 0 + 1 * (j 0).val = (j 0).val; omega
  | ⟨1, _⟩ => have : (j 1).val < 1 := (j 1).isLt; show p + 1 * (j 1).val = p; omega
  | ⟨2, _⟩ => show 0 + 1 * (j 2).val = (j 2).val; omega
  | ⟨3, _⟩ => show 0 + 1 * (j 3).val = (j 3).val; omega

theorem downCut_eq {arg : Memref sg .tc .vmem S1x512x2048 .f32} (harg : arg.IsWhole) (d : Vec F S1x512x2048 .f32)
    (inb : ∀ a, (![0, 0, 0] : Fin 3 → ℕ) a + S1x384x2048.size a ≤ S1x512x2048.size a) :
    arg.view.readAt (Elt F) (Rect.unit (s := S1x512x2048) ![0, 0, 0] S1x384x2048.size inb).toLoadRect (harg.unread d) = downCut d := by
  funext j
  rw [View.readAt_apply, harg.read_unread]
  unfold downCut
  refine congrArg d ?_
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- A load of all of a whole buffer. -/
theorem whole_eq {s : Shape} {e : EltTy} {arg : Memref sg .tc .vmem s e} (harg : arg.IsWhole) (x : s.Idx → Elt F e)
    {off : Fin s.rank → ℕ} (hoff : ∀ a, off a = 0) (inb : ∀ a, off a + s.size a ≤ s.size a) :
    arg.view.readAt (Elt F) (Rect.unit (s := s) off s.size inb).toLoadRect (harg.unread x) = x := by
  funext j
  rw [View.readAt_apply, harg.read_unread]
  refine congrArg x ?_
  funext a
  apply Fin.ext
  show off a + 1 * (j a).val = (j a).val
  rw [hoff a]; omega

/-- A store of all of a whole buffer. -/
theorem stored_eq {s : Shape} {e : EltTy} {arg : Memref sg .tc .vmem s e} (f : arg.view.ty.Contents (Elt F)) (y : s.Idx → Elt F e)
    {off : Fin s.rank → ℕ} (hoff : ∀ a, off a = 0) (inb : ∀ a, off a + s.size a ≤ s.size a) :
    arg.view.read (Elt F) (arg.view.writes (Elt F) f [⟨Rect.unit (s := s) off s.size inb, y⟩]) = y := by
  funext j
  refine (View.read_writes_apply_of_pieces arg.view f y _ ?_ j ⟨_, List.mem_singleton.mpr rfl, ?_⟩)
  · intro p hp x
    obtain rfl := List.mem_singleton.mp hp
    refine congrArg y ?_
    funext a
    apply Fin.ext
    show (x a).val = off a + 1 * (x a).val
    rw [hoff a]; omega
  · rw [Rect.mem_set_unit]
    exact fun a => by rw [hoff a]; exact ⟨Nat.zero_le _, by rw [Nat.zero_add]; exact (j a).isLt⟩

theorem zero2 : ∀ a, (![0, 0] : Fin 2 → ℕ) a = 0 := fun a => by match a with | ⟨0, _⟩ => rfl | ⟨1, _⟩ => rfl
theorem zero3 : ∀ a, (![0, 0, 0] : Fin 3 → ℕ) a = 0 := fun a => by match a with | ⟨0, _⟩ => rfl | ⟨1, _⟩ => rfl | ⟨2, _⟩ => rfl

/-- An index of a half as an index of the tile. -/
def intoHalf (n : ℕ) (hn : n + 512 ≤ 1024) (j : S512x2048.Idx) : S1024x2048.Idx := fun a => match a with
  | ⟨0, _⟩ => (⟨n + (j 0).val, lt_of_lt_of_le (Nat.add_lt_add_left (j 0).isLt n) hn⟩ : Fin 1024)
  | ⟨1, _⟩ => j 1

/-- Two halves, one from each. -/
def halves {α : Type} (lo hi : S512x2048.Idx → α) : S1024x2048.Idx → α := fun y =>
  if h : (y 0).val < 512 then lo fun a => match a with
    | ⟨0, _⟩ => (⟨(y 0).val, h⟩ : Fin 512)
    | ⟨1, _⟩ => y 1
  else hi fun a => match a with
    | ⟨0, _⟩ => (⟨(y 0).val - 512, by have : (y 0).val < 1024 := (y 0).isLt; omega⟩ : Fin 512)
    | ⟨1, _⟩ => y 1

theorem halves_lo {α : Type} (lo hi : S512x2048.Idx → α) (j : S512x2048.Idx) : halves lo hi (intoHalf 0 (by decide) j) = lo j := by
  have hj : (j 0).val < 512 := (j 0).isLt
  have hv : (intoHalf 0 (by decide) j 0).val = (j 0).val := Nat.zero_add _
  unfold halves
  rw [dif_pos (show (intoHalf 0 (by decide) j 0).val < 512 from hv ▸ hj)]
  refine congrArg lo ?_
  funext a
  apply Fin.ext
  match a with
  | ⟨0, _⟩ => exact hv
  | ⟨1, _⟩ => rfl

theorem halves_hi {α : Type} (lo hi : S512x2048.Idx → α) (j : S512x2048.Idx) : halves lo hi (intoHalf 512 (by decide) j) = hi j := by
  have hj : (j 0).val < 512 := (j 0).isLt
  have hv : (intoHalf 512 (by decide) j 0).val = 512 + (j 0).val := rfl
  unfold halves
  rw [dif_neg (show ¬(intoHalf 512 (by decide) j 0).val < 512 by rw [hv]; omega)]
  refine congrArg hi ?_
  funext a
  apply Fin.ext
  match a with
  | ⟨0, _⟩ => show (intoHalf 512 (by decide) j 0).val - 512 = (j 0).val; rw [hv]; omega
  | ⟨1, _⟩ => rfl

/-- Two stores of the halves of a buffer leave the two halves. -/
theorem stored_halves {e : EltTy} {arg : Memref sg .tc .vmem S1024x2048 e} (f : arg.view.ty.Contents (Elt F)) (lo hi : S512x2048.Idx → Elt F e)
    (inb : ∀ a, (![0, 0] : Fin 2 → ℕ) a + S512x2048.size a ≤ S1024x2048.size a) (inb' : ∀ a, (![512, 0] : Fin 2 → ℕ) a + S512x2048.size a ≤ S1024x2048.size a) :
    arg.view.read (Elt F) (arg.view.writes (Elt F) f [⟨Rect.unit (s := S1024x2048) ![512, 0] S512x2048.size inb', hi⟩, ⟨Rect.unit (s := S1024x2048) ![0, 0] S512x2048.size inb, lo⟩]) = halves lo hi := by
  funext y
  refine View.read_writes_apply_of_pieces arg.view f (halves lo hi) _ ?_ y ?_
  · intro p hp x
    rcases List.mem_cons.mp hp with rfl | hp
    · refine (halves_hi lo hi x).symm.trans (congrArg (halves lo hi) ?_)
      funext a
      apply Fin.ext
      match a with
      | ⟨0, _⟩ => show 512 + (x 0).val = 512 + 1 * (x 0).val; omega
      | ⟨1, _⟩ => show (x 1).val = 0 + 1 * (x 1).val; omega
    · obtain rfl := List.mem_singleton.mp hp
      refine (halves_lo lo hi x).symm.trans (congrArg (halves lo hi) ?_)
      funext a
      apply Fin.ext
      match a with
      | ⟨0, _⟩ => show 0 + (x 0).val = 0 + 1 * (x 0).val; omega
      | ⟨1, _⟩ => show (x 1).val = 0 + 1 * (x 1).val; omega
  · have h0 : (y 0).val < 1024 := (y 0).isLt
    have h1 : (y 1).val < 2048 := (y 1).isLt
    by_cases h : (y 0).val < 512
    · refine ⟨_, List.mem_cons_of_mem _ (List.mem_singleton.mpr rfl), ?_⟩
      rw [Rect.mem_set_unit]
      intro a
      match a with
      | ⟨0, _⟩ => exact ⟨Nat.zero_le _, by show (y 0).val < 0 + 512; omega⟩
      | ⟨1, _⟩ => exact ⟨Nat.zero_le _, by show (y 1).val < 0 + 2048; omega⟩
    · refine ⟨_, List.mem_cons_self, ?_⟩
      rw [Rect.mem_set_unit]
      intro a
      match a with
      | ⟨0, _⟩ => exact ⟨by show 512 ≤ (y 0).val; omega, by show (y 0).val < 512 + 512; omega⟩
      | ⟨1, _⟩ => exact ⟨Nat.zero_le _, by show (y 1).val < 0 + 2048; omega⟩

end Loads

/-! ## What the body leaves -/

/-- The normalized rows of a row tile, in two halves. -/
def hiddenOf (x : Vec F S1024x2048 .f32) (g : Vec F S4x2048 .f32) : Vec F S1024x2048 .bf16 :=
  halves (k0_pay10 (gainRow g) (rowsAt x 0 (by decide))) (k0_pay2 (gainRow g) (rowsAt x 512 (by decide)))

/-- The first partial sum, in two halves. -/
def firstOut (x : Vec F S1024x2048 .f32) (g : Vec F S4x2048 .f32) (w : Vec F S1x2x2048x512 .bf16) (d : Vec F S1x512x2048 .f32) : Vec F S1024x2048 .f32 :=
  halves (k0_pay11 d (tileOf w 0 (by decide)) (tileOf w 1 (by decide)) (gainRow g) (rowsAt x 0 (by decide)))
    (k0_pay3 (k0_pay6 d) (k0_pay7 (tileOf w 0 (by decide))) (k0_pay8 (tileOf w 1 (by decide))) (gainRow g) (rowsAt x 512 (by decide)))

/-- A middle point's partial sum, added. -/
def midOut (acc : Vec F S1024x2048 .f32) (h : Vec F S1024x2048 .bf16) (w : Vec F S1x2x2048x512 .bf16) (d : Vec F S1x512x2048 .f32) : Vec F S1024x2048 .f32 :=
  k0_pay4 acc h d (tileOf w 0 (by decide)) (tileOf w 1 (by decide))

/-- The last point's, added, and the residual. -/
def lastOut (x acc : Vec F S1024x2048 .f32) (h : Vec F S1024x2048 .bf16) (w : Vec F S1x2x2048x512 .bf16) (d : Vec F S1x512x2048 .f32) : Vec F S1024x2048 .f32 :=
  k0_pay5 x acc h (downCut d) (tileCut w 0 (by decide)) (tileCut w 1 (by decide))

/-! ## The three runs -/

set_option maxHeartbeats 1000000 in
/-- A middle point: its partial sum is added to the output's. -/
theorem run_mid (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole)
    (h1 : ¬k0_cond1 i = 1#1) (h2 : k0_cond2 i = 1#1) (h3 : ¬k0_cond3 i = 1#1)
    (x : Vec F S1024x2048 .f32) (g : Vec F S4x2048 .f32) (w : Vec F S1x2x2048x512 .bf16) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ owns (c : Thread nD τ) arg6 fullShare acc ∗ owns (c : Thread nD τ) arg7 fullShare h
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg6 fullShare (midOut acc h w d) ∗ owns (c : Thread nD τ) arg7 fullShare h) -∗ K ⟨⟩))
      ⊢ wp frame (wpE (defs₀ (F := F)) Variants.none c none) E (cc0_ffn i arg2 harg2 arg3 harg3 arg4 harg4 arg5 harg5 arg6 harg6 arg7 harg7) K := by
  simp only [cc0_ffn_eq_skeleton]; unfold cc0_ffn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (stored_eq _ _ zero2 _).trans ?_
    unfold midOut
    rw [whole_eq harg6 acc zero2, whole_eq harg7 h zero2, whole_eq harg5 d zero3, tileOf_eq harg4 w 0 (by decide), tileOf_eq harg4 w 1 (by decide)]
  iexists _; isplitr; swap; · iexact H7
  ipureintro
  exact harg7.read_unread _

set_option maxHeartbeats 1000000 in
/-- The last point: its partial sum is added, and the residual. -/
theorem run_last (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole)
    (h1 : ¬k0_cond1 i = 1#1) (h2 : ¬k0_cond2 i = 1#1) (h3 : k0_cond3 i = 1#1)
    (x : Vec F S1024x2048 .f32) (g : Vec F S4x2048 .f32) (w : Vec F S1x2x2048x512 .bf16) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ owns (c : Thread nD τ) arg6 fullShare acc ∗ owns (c : Thread nD τ) arg7 fullShare h
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg6 fullShare (lastOut x acc h w d) ∗ owns (c : Thread nD τ) arg7 fullShare h) -∗ K ⟨⟩))
      ⊢ wp frame (wpE (defs₀ (F := F)) Variants.none c none) E (cc0_ffn i arg2 harg2 arg3 harg3 arg4 harg4 arg5 harg5 arg6 harg6 arg7 harg7) K := by
  simp only [cc0_ffn_eq_skeleton]; unfold cc0_ffn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (stored_eq _ _ zero2 _).trans ?_
    unfold lastOut
    rw [whole_eq harg2 x zero2, whole_eq harg6 acc zero2, whole_eq harg7 h zero2, downCut_eq harg5 d, tileCut_eq harg4 w 0 (by decide), tileCut_eq harg4 w 1 (by decide)]
  iexists _; isplitr; swap; · iexact H7
  ipureintro
  exact harg7.read_unread _

set_option maxHeartbeats 1000000 in
/-- The first point of a row tile: the normalized rows, and the first partial sum. -/
theorem run_first (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .vmem S1024x2048 .f32) (harg6 : arg6.IsWhole) (arg7 : Memref sig .tc .vmem S1024x2048 .bf16) (harg7 : arg7.IsWhole)
    (h1 : k0_cond1 i = 1#1) (h2 : ¬k0_cond2 i = 1#1) (h3 : ¬k0_cond3 i = 1#1)
    (x : Vec F S1024x2048 .f32) (g : Vec F S4x2048 .f32) (w : Vec F S1x2x2048x512 .bf16) (d : Vec F S1x512x2048 .f32)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg6 fullShare (firstOut x g w d) ∗ owns (c : Thread nD τ) arg7 fullShare (hiddenOf x g)) -∗ K ⟨⟩))
      ⊢ wp frame (wpE (defs₀ (F := F)) Variants.none c none) E (cc0_ffn i arg2 harg2 arg3 harg3 arg4 harg4 arg5 harg5 arg6 harg6 arg7 harg7) K := by
  simp only [cc0_ffn_eq_skeleton]; unfold cc0_ffn_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%e6, %f6, -, H6⟩, ⟨%e7, %f7, -, H7⟩, Hk⟩
  obtain rfl := harg2.eq_unread hf2; obtain rfl := harg3.eq_unread hf3; obtain rfl := harg4.eq_unread hf4; obtain rfl := harg5.eq_unread hf5
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [gainRow_eq harg3 g, rowsAt_eq harg2 x 0 (by decide), rowsAt_eq harg2 x 512 (by decide), whole_eq harg5 d zero3, tileOf_eq harg4 w 0 (by decide), tileOf_eq harg4 w 1 (by decide)]
    exact stored_halves _ _ _ _ _
  iexists _; isplitr; swap; · iexact H7
  ipureintro
  rw [gainRow_eq harg3 g, rowsAt_eq harg2 x 0 (by decide), rowsAt_eq harg2 x 512 (by decide)]
  exact stored_halves _ _ _ _ _

end Cert.FfnIdeal.Ffn

end
-- ==== Proof.Ffn.Same.lean ====
module

public import proofs.«01_k».proof.Defs
public import proofs.«01_k».proof.Proof.Ffn.Frame
public import proofs.«01_k».proof.Proof.Gen.Ffn

@[expose] public section

set_option maxRecDepth 16384

noncomputable section

namespace Cert.FfnIdeal.Ffn

open Idealize.ShloMosaic Idealize.ShloMosaic.TcCoe

variable {F : FTy → Type} [FloatOps F]

/-! ## The kernel and its idealization, which replaces nothing, are one program -/

theorem same_body : Cert.Ffn.cc0_ffn (F := F) = Cert.FfnIdeal.cc0_ffn (F := F) := rfl

theorem same_defs₀ : Cert.Ffn.defs₀ (F := F) = Cert.FfnIdeal.defs₀ (F := F) := by
  unfold Cert.Ffn.defs₀ Cert.FfnIdeal.defs₀
  refine congrArg Defs.onTc (funext fun l => ?_)
  match l with
  | ⟨0, _⟩ => exact funext fun p => congrFun (congrFun (congrFun (congrFun (congrFun (congrFun (congrFun (congrFun (congrFun (congrFun (congrFun (congrFun (congrFun same_body _) _) _) _) _) _) _) _) _) _) _) _) _

theorem same_defs : Cert.Ffn.defs (F := F) = Cert.FfnIdeal.defs (F := F) := congrArg (Pipeline.defs Cert.FfnIdeal.pcfgs) same_defs₀

/-- The frame of the kernel as it is, from the frame at any values. -/
theorem frame_kernel : Cert.quiescent_Ffn := fun m ρ _ => by
  have h := frame m ρ
  rw [← same_defs] at h
  exact h

end Cert.FfnIdeal.Ffn

end
-- ==== Proof.Ffn.Spec.lean ====
module

public import proofs.«01_k».proof.Proof.Attn.Spec
public import Idealize.ShloMosaic.Lib.Pointwise

@[expose] public section

noncomputable section

namespace Cert.FeedForward

open Idealize.ShloMosaic Idealize.ShloMosaic.TcCoe
open Cert.Attn (at2 at2_eq)

/-! ## The feed-forward layer, as functions of natural indices -/

/-- The packed projections at projection `p`, row `k` and column `n`: column `n` lies in tile `n / 512`. -/
def packed (w : (⟨4, ![11, 2, 2048, 512]⟩ : Shape).Idx → EReal) (p : Fin 2) (k n : ℕ) : EReal :=
  if h : k < 2048 ∧ n < 5632 then w (ix4 ⟨n / 512, by omega⟩ p ⟨k, h.1⟩ ⟨n % 512, Nat.mod_lt _ (by decide)⟩) else 0

theorem packed_eq (w : (⟨4, ![11, 2, 2048, 512]⟩ : Shape).Idx → EReal) (i : (⟨4, ![11, 2, 2048, 512]⟩ : Shape).Idx) (p : Fin 2) (k n : ℕ)
    (h0 : (i 0).val = n / 512) (h1 : i 1 = p) (h2 : (i 2).val = k) (h3 : (i 3).val = n % 512) : w i = packed w p k n := by
  have hi0 : (i 0).val < 11 := (i 0).isLt
  have hi2 : (i 2).val < 2048 := (i 2).isLt
  unfold packed
  rw [dif_pos ⟨by omega, by omega⟩]
  refine congrArg w (funext fun c => ?_)
  match c with
  | ⟨0, _⟩ => exact Fin.ext h0
  | ⟨1, _⟩ => exact h1
  | ⟨2, _⟩ => exact Fin.ext h2
  | ⟨3, _⟩ => exact Fin.ext h3

/-- The layer's down projection at row `n` and column `C`. -/
def down (d : (⟨3, ![4, 5504, 2048]⟩ : Shape).Idx → EReal) (n C : ℕ) : EReal :=
  if h : n < 5504 ∧ C < 2048 then d (ix3 (0 : Fin 4) ⟨n, h.1⟩ ⟨C, h.2⟩) else 0

theorem down_eq (d : (⟨3, ![4, 5504, 2048]⟩ : Shape).Idx → EReal) (i : (⟨3, ![4, 5504, 2048]⟩ : Shape).Idx) (n C : ℕ)
    (h0 : (i 0).val = 0) (h1 : (i 1).val = n) (h2 : (i 2).val = C) : d i = down d n C := by
  subst h1 h2
  unfold down
  rw [dif_pos ⟨(i 1).isLt, (i 2).isLt⟩]
  refine congrArg d (funext fun c => ?_)
  match c with
  | ⟨0, _⟩ => exact Fin.ext h0
  | ⟨1, _⟩ => rfl
  | ⟨2, _⟩ => rfl

/-- A row, normalized and scaled by the gains. -/
def normed (x : ℕ → ℕ → EReal) (g : ℕ → EReal) (R k : ℕ) : EReal :=
  x R k * Ideal.rsqrt (Ideal.div (∑ l : Fin 2048, x R l.val * x R l.val) (Ideal.ofBits .f32 0x45000000#32) + Ideal.ofBits .f32 0x358637BD#32) * g k

/-- A projection of a row. -/
def project (h : ℕ → EReal) (w : ℕ → ℕ → EReal) (n : ℕ) : EReal := ∑ k : Fin 2048, h k.val * w k.val n

/-- The gated unit of a row at column `n`. -/
def gated (h : ℕ → EReal) (w0 w1 : ℕ → ℕ → EReal) (n : ℕ) : EReal :=
  project h w0 n * Ideal.logistic (project h w0 n) * project h w1 n

/-- The down projection of the first `N` columns of the unit. -/
def partialSum (u : ℕ → EReal) (d : ℕ → ℕ → EReal) (C N : ℕ) : EReal := ∑ n ∈ Finset.range N, u n * d n C

theorem partialSum_add (u : ℕ → EReal) (d : ℕ → ℕ → EReal) (C N T : ℕ) :
    partialSum u d C (N + T) = partialSum u d C N + ∑ n : Fin T, u (N + n.val) * d (N + n.val) C := by
  unfold partialSum
  rw [Finset.sum_range_add, Finset.sum_range (fun n => u (N + n) * d (N + n) C)]

theorem partialSum_zero (u : ℕ → EReal) (d : ℕ → ℕ → EReal) (C T : ℕ) :
    partialSum u d C T = ∑ n : Fin T, u n.val * d n.val C := Finset.sum_range _

/-- The layer's result: the row and half its feed-forward. -/
def layer (x : ℕ → ℕ → EReal) (g : ℕ → EReal) (w0 w1 d : ℕ → ℕ → EReal) (R C : ℕ) : EReal :=
  x R C + Ideal.ofBits .f32 0x3F000000#32 * partialSum (gated (normed x g R) w0 w1) d C 5504

end Cert.FeedForward

end
-- ==== Proof.Ffn.Closed.lean ====
module

public import proofs.«01_k».proof.Proof.Ffn.Run
public import proofs.«01_k».proof.Proof.Ffn.Spec
public import Idealize.ShloMosaic.Lib.Pointwise

@[expose] public section

set_option maxRecDepth 16384

noncomputable section

namespace Cert.FfnIdeal.Ffn

open Cert.FfnIdeal Cert.FfnIdeal.Gen
open Idealize.ShloMosaic Idealize.ShloMosaic.TcCoe
open Cert.FeedForward

/-! ## The payloads at an index -/

theorem pay9_apply (g : Vec Ideal S1x2048 .f32) (x : Vec Ideal S512x2048 .f32) (r : Fin 512) (k : Fin 2048) :
    (k0_pay9 g x : FVec Ideal S512x2048 .bf16) (ix2 r k)
      = x (ix2 r k) * Ideal.rsqrt (Ideal.div (∑ l : Fin 2048, x (ix2 r l) * x (ix2 r l)) (Ideal.ofBits .f32 0x45000000#32) + Ideal.ofBits .f32 0x358637BD#32) * g (ix2 (0 : Fin 1) k) := by
  unfold k0_pay9
  pointwise

theorem pay10_eq (g : Vec Ideal S1x2048 .f32) (x : Vec Ideal S512x2048 .f32) (r : Fin 512) (k : Fin 2048) :
    (k0_pay10 g x : FVec Ideal S512x2048 .bf16) (ix2 r k) = k0_pay9 g x (ix2 r k) := by
  unfold k0_pay10
  pointwise

/-- The second half is written with the first's operations. -/
theorem pay1_eq (g : Vec Ideal S1x2048 .f32) (x : Vec Ideal S512x2048 .f32) : (k0_pay1 g x : FVec Ideal S512x2048 .bf16) = k0_pay9 g x := rfl
theorem pay2_eq (g : Vec Ideal S1x2048 .f32) (x : Vec Ideal S512x2048 .f32) : (k0_pay2 g x : FVec Ideal S512x2048 .bf16) = k0_pay10 g x := rfl
theorem pay3_eq (g : Vec Ideal S1x2048 .f32) (x : Vec Ideal S512x2048 .f32) (d : Vec Ideal S1x512x2048 .f32) (w0 w1 : Vec Ideal S1x1x2048x512 .bf16) :
    (k0_pay3 (k0_pay6 d) (k0_pay7 w0) (k0_pay8 w1) g x : FVec Ideal S512x2048 .f32) = k0_pay11 d w0 w1 g x := rfl

theorem pay11_apply (g : Vec Ideal S1x2048 .f32) (x : Vec Ideal S512x2048 .f32) (d : Vec Ideal S1x512x2048 .f32) (w0 w1 : Vec Ideal S1x1x2048x512 .bf16) (r : Fin 512) (C : Fin 2048) :
    (k0_pay11 d w0 w1 g x : FVec Ideal S512x2048 .f32) (ix2 r C)
      = ∑ n : Fin 512, ((∑ k : Fin 2048, k0_pay9 g x (ix2 r k) * w0 (ix4 (0 : Fin 1) (0 : Fin 1) k n)) * Ideal.logistic (∑ k : Fin 2048, k0_pay9 g x (ix2 r k) * w0 (ix4 (0 : Fin 1) (0 : Fin 1) k n))
          * ∑ k : Fin 2048, k0_pay9 g x (ix2 r k) * w1 (ix4 (0 : Fin 1) (0 : Fin 1) k n)) * d (ix3 (0 : Fin 1) n C) := by
  unfold k0_pay11 k0_pay6 k0_pay7 k0_pay8
  pointwise

theorem pay4_apply (acc : Vec Ideal S1024x2048 .f32) (h : Vec Ideal S1024x2048 .bf16) (d : Vec Ideal S1x512x2048 .f32) (w0 w1 : Vec Ideal S1x1x2048x512 .bf16) (r : Fin 1024) (C : Fin 2048) :
    (k0_pay4 acc h d w0 w1 : FVec Ideal S1024x2048 .f32) (ix2 r C)
      = acc (ix2 r C) + ∑ n : Fin 512, ((∑ k : Fin 2048, h (ix2 r k) * w0 (ix4 (0 : Fin 1) (0 : Fin 1) k n)) * Ideal.logistic (∑ k : Fin 2048, h (ix2 r k) * w0 (ix4 (0 : Fin 1) (0 : Fin 1) k n))
          * ∑ k : Fin 2048, h (ix2 r k) * w1 (ix4 (0 : Fin 1) (0 : Fin 1) k n)) * d (ix3 (0 : Fin 1) n C) := by
  unfold k0_pay4
  pointwise

theorem pay5_apply (x acc : Vec Ideal S1024x2048 .f32) (h : Vec Ideal S1024x2048 .bf16) (d : Vec Ideal S1x384x2048 .f32) (w0 w1 : Vec Ideal S1x1x2048x384 .bf16) (r : Fin 1024) (C : Fin 2048) :
    (k0_pay5 x acc h d w0 w1 : FVec Ideal S1024x2048 .f32) (ix2 r C)
      = x (ix2 r C) + Ideal.ofBits .f32 0x3F000000#32 * (acc (ix2 r C) + ∑ n : Fin 384, ((∑ k : Fin 2048, h (ix2 r k) * w0 (ix4 (0 : Fin 1) (0 : Fin 1) k n)) * Ideal.logistic (∑ k : Fin 2048, h (ix2 r k) * w0 (ix4 (0 : Fin 1) (0 : Fin 1) k n))
          * ∑ k : Fin 2048, h (ix2 r k) * w1 (ix4 (0 : Fin 1) (0 : Fin 1) k n)) * d (ix3 (0 : Fin 1) n C)) := by
  unfold k0_pay5
  pointwise

/-! ## The tile as rows of the layer -/

section Rows
variable (x : ℕ → ℕ → EReal) (g : ℕ → EReal) (w0 w1 dn : ℕ → ℕ → EReal) (R : ℕ)

/-- A tile's product term is the layer's. -/
theorem term_eq (h : ℕ → EReal) (h' : Fin 2048 → EReal) (a b : Fin 2048 → EReal) (dv : EReal) (n C : ℕ)
    (hh : ∀ k, h' k = h k.val) (ha : ∀ k, a k = w0 k.val n) (hb : ∀ k, b k = w1 k.val n) (hd : dv = dn n C) :
    ((∑ k, h' k * a k) * Ideal.logistic (∑ k, h' k * a k) * ∑ k, h' k * b k) * dv = gated h w0 w1 n * dn n C := by
  unfold gated project
  simp only [hh, ha, hb, hd]

theorem norm_eq (gt : Vec Ideal S4x2048 .f32) (xt : Vec Ideal S512x2048 .f32) (r : Fin 512) (k : Fin 2048)
    (hx : ∀ l : Fin 2048, xt (ix2 r l) = x R l.val) (hg : ∀ l : Fin 2048, gt (ix2 (0 : Fin 4) l) = g l.val) :
    (k0_pay9 (gainRow gt) xt : FVec Ideal S512x2048 .bf16) (ix2 r k) = normed x g R k.val := by
  rw [pay9_apply]
  unfold normed
  simp only [hx]
  refine congrArg _ ((?_ : _ = gt (ix2 (0 : Fin 4) k)).trans (hg k))
  unfold gainRow
  refine congrArg gt (funext fun a => ?_)
  match a with | ⟨0, _⟩ => rfl | ⟨1, _⟩ => rfl

theorem halves_apply_lo (lo hi : S512x2048.Idx → EReal) (r : Fin 1024) (k : Fin 2048) (h : r.val < 512) :
    halves lo hi (ix2 r k) = lo (ix2 (⟨r.val, h⟩ : Fin 512) k) := by
  unfold halves
  rw [dif_pos (show ((ix2 r k : S1024x2048.Idx) 0).val < 512 from h)]
  refine congrArg lo (funext fun a => ?_)
  match a with | ⟨0, _⟩ => rfl | ⟨1, _⟩ => rfl

theorem halves_apply_hi (lo hi : S512x2048.Idx → EReal) (r : Fin 1024) (k : Fin 2048) (h : ¬r.val < 512) :
    halves lo hi (ix2 r k) = hi (ix2 (⟨r.val - 512, by have := r.isLt; omega⟩ : Fin 512) k) := by
  unfold halves
  rw [dif_neg (show ¬((ix2 r k : S1024x2048.Idx) 0).val < 512 from h)]
  refine congrArg hi (funext fun a => ?_)
  match a with | ⟨0, _⟩ => rfl | ⟨1, _⟩ => rfl

theorem rows_apply (xt : Vec Ideal S1024x2048 .f32) (n : ℕ) (hn : n + 512 ≤ 1024) (a : Fin 512) (r : Fin 1024) (l : Fin 2048) (e : n + a.val = r.val) :
    rowsAt xt n hn (ix2 a l) = xt (ix2 r l) := by
  unfold rowsAt
  refine congrArg xt (funext fun c => ?_)
  match c with | ⟨0, _⟩ => exact Fin.ext e | ⟨1, _⟩ => rfl

theorem tile_apply (w : Vec Ideal S1x2x2048x512 .bf16) (p : Fin 2) (k : Fin 2048) (n : Fin 512) :
    tileOf w p.val p.isLt (ix4 (0 : Fin 1) (0 : Fin 1) k n) = w (ix4 (0 : Fin 1) p k n) := by
  unfold tileOf
  refine congrArg w (funext fun c => ?_)
  match c with | ⟨0, _⟩ => rfl | ⟨1, _⟩ => rfl | ⟨2, _⟩ => rfl | ⟨3, _⟩ => rfl

theorem tileCut_apply (w : Vec Ideal S1x2x2048x512 .bf16) (p : Fin 2) (k : Fin 2048) (n : Fin 384) :
    tileCut w p.val p.isLt (ix4 (0 : Fin 1) (0 : Fin 1) k n) = w (ix4 (0 : Fin 1) p k (⟨n.val, by omega⟩ : Fin 512)) := by
  unfold tileCut
  refine congrArg w (funext fun c => ?_)
  match c with | ⟨0, _⟩ => rfl | ⟨1, _⟩ => rfl | ⟨2, _⟩ => rfl | ⟨3, _⟩ => rfl

theorem downCut_apply (d : Vec Ideal S1x512x2048 .f32) (n : Fin 384) (C : Fin 2048) :
    downCut d (ix3 (0 : Fin 1) n C) = d (ix3 (0 : Fin 1) (⟨n.val, by omega⟩ : Fin 512) C) := by
  unfold downCut
  refine congrArg d (funext fun c => ?_)
  match c with | ⟨0, _⟩ => rfl | ⟨1, _⟩ => rfl | ⟨2, _⟩ => rfl

variable (xt : Vec Ideal S1024x2048 .f32) (gt : Vec Ideal S4x2048 .f32) (w : Vec Ideal S1x2x2048x512 .bf16) (d : Vec Ideal S1x512x2048 .f32) (r : Fin 1024)

theorem hidden_apply (hx : ∀ l : Fin 2048, xt (ix2 r l) = x R l.val) (hg : ∀ l : Fin 2048, gt (ix2 (0 : Fin 4) l) = g l.val) (k : Fin 2048) :
    hiddenOf xt gt (ix2 r k) = normed x g R k.val := by
  unfold hiddenOf
  by_cases h : r.val < 512
  · refine (halves_apply_lo _ _ r k h).trans ((pay10_eq _ _ _ _).trans (norm_eq x g R gt _ _ k (fun l => ?_) hg))
    exact (rows_apply xt 0 (by decide) _ r l (Nat.zero_add _)).trans (hx l)
  · refine (halves_apply_hi _ _ r k h).trans ((congrFun (pay2_eq _ _) _).trans ((pay10_eq _ _ _ _).trans (norm_eq x g R gt _ _ k (fun l => ?_) hg)))
    exact (rows_apply xt 512 (by decide) _ r l (by show 512 + (r.val - 512) = r.val; omega)).trans (hx l)

theorem first_apply (hx : ∀ l : Fin 2048, xt (ix2 r l) = x R l.val) (hg : ∀ l : Fin 2048, gt (ix2 (0 : Fin 4) l) = g l.val)
    (hw0 : ∀ (k : Fin 2048) (n : Fin 512), w (ix4 (0 : Fin 1) (0 : Fin 2) k n) = w0 k.val n.val) (hw1 : ∀ (k : Fin 2048) (n : Fin 512), w (ix4 (0 : Fin 1) (1 : Fin 2) k n) = w1 k.val n.val)
    (C : Fin 2048) (hd : ∀ n : Fin 512, d (ix3 (0 : Fin 1) n C) = dn n.val C.val) :
    firstOut xt gt w d (ix2 r C) = partialSum (gated (normed x g R) w0 w1) dn C.val 512 := by
  rw [partialSum_zero]
  unfold firstOut
  have ht : ∀ (x' : Vec Ideal S512x2048 .f32) (a : Fin 512), (∀ l : Fin 2048, x' (ix2 a l) = x R l.val) →
      (k0_pay11 d (tileOf w 0 (by decide)) (tileOf w 1 (by decide)) (gainRow gt) x' : FVec Ideal S512x2048 .f32) (ix2 a C)
        = ∑ n : Fin 512, gated (normed x g R) w0 w1 n.val * dn n.val C.val := fun x' a ha => by
    rw [pay11_apply]
    exact Finset.sum_congr rfl fun n _ => term_eq w0 w1 dn (normed x g R) _ _ _ _ n.val C.val (fun k => norm_eq x g R gt x' a k ha hg)
      (fun k => (tile_apply w 0 k n).trans (hw0 k n)) (fun k => (tile_apply w 1 k n).trans (hw1 k n)) (hd n)
  by_cases h : r.val < 512
  · refine (halves_apply_lo _ _ r C h).trans (ht _ _ fun l => ?_)
    exact (rows_apply xt 0 (by decide) _ r l (Nat.zero_add _)).trans (hx l)
  · refine (halves_apply_hi _ _ r C h).trans ((congrFun (pay3_eq _ _ _ _ _) _).trans (ht _ _ fun l => ?_))
    exact (rows_apply xt 512 (by decide) _ r l (by show 512 + (r.val - 512) = r.val; omega)).trans (hx l)

variable (acc : Vec Ideal S1024x2048 .f32) (h : Vec Ideal S1024x2048 .bf16) (hid : ℕ → EReal) (N : ℕ)

theorem mid_apply (hh : ∀ k : Fin 2048, h (ix2 r k) = hid k.val)
    (hw0 : ∀ (k : Fin 2048) (n : Fin 512), w (ix4 (0 : Fin 1) (0 : Fin 2) k n) = w0 k.val (N + n.val)) (hw1 : ∀ (k : Fin 2048) (n : Fin 512), w (ix4 (0 : Fin 1) (1 : Fin 2) k n) = w1 k.val (N + n.val))
    (C : Fin 2048) (hd : ∀ n : Fin 512, d (ix3 (0 : Fin 1) n C) = dn (N + n.val) C.val) (hacc : acc (ix2 r C) = partialSum (gated hid w0 w1) dn C.val N) :
    midOut acc h w d (ix2 r C) = partialSum (gated hid w0 w1) dn C.val (N + 512) := by
  rw [partialSum_add]
  unfold midOut
  refine (pay4_apply _ _ _ _ _ r C).trans (congrArg₂ (· + ·) hacc ?_)
  exact Finset.sum_congr rfl fun n _ => term_eq w0 w1 dn hid _ _ _ _ (N + n.val) C.val hh
      (fun k => (tile_apply w 0 k n).trans (hw0 k n)) (fun k => (tile_apply w 1 k n).trans (hw1 k n)) (hd n)

theorem last_apply (hh : ∀ k : Fin 2048, h (ix2 r k) = hid k.val)
    (hw0 : ∀ (k : Fin 2048) (n : Fin 512), w (ix4 (0 : Fin 1) (0 : Fin 2) k n) = w0 k.val (N + n.val)) (hw1 : ∀ (k : Fin 2048) (n : Fin 512), w (ix4 (0 : Fin 1) (1 : Fin 2) k n) = w1 k.val (N + n.val))
    (C : Fin 2048) (hd : ∀ n : Fin 384, d (ix3 (0 : Fin 1) (⟨n.val, by omega⟩ : Fin 512) C) = dn (N + n.val) C.val) (hacc : acc (ix2 r C) = partialSum (gated hid w0 w1) dn C.val N) :
    lastOut xt acc h w d (ix2 r C) = xt (ix2 r C) + Ideal.ofBits .f32 0x3F000000#32 * partialSum (gated hid w0 w1) dn C.val (N + 384) := by
  rw [partialSum_add]
  unfold lastOut
  refine (pay5_apply _ _ _ _ _ _ r C).trans (congrArg (fun s => xt (ix2 r C) + Ideal.ofBits .f32 0x3F000000#32 * s) (congrArg₂ (· + ·) hacc ?_))
  exact Finset.sum_congr rfl fun n _ => term_eq w0 w1 dn hid _ _ _ _ (N + n.val) C.val hh
      (fun k => (tileCut_apply w 0 k n).trans (hw0 k _)) (fun k => (tileCut_apply w 1 k n).trans (hw1 k _)) ((downCut_apply d n C).trans (hd n))

end Rows

end Cert.FfnIdeal.Ffn

end
-- ==== Proof.Ffn.Steps.lean ====
module

public import proofs.«01_k».proof.Proof.Ffn.Closed

@[expose] public section

set_option maxRecDepth 16384

noncomputable section

namespace Cert.FfnIdeal.Ffn

open Cert.FfnIdeal Cert.FfnIdeal.Gen
open Idealize.ShloMosaic Idealize.ShloMosaic.TcCoe Idealize.SL.Sem
open Idealize.ShloMosaic.Pipeline (Dat Cfg Window)
open Cert.Attn (at2 at2_eq)
open Cert.FeedForward

/-! ## The buffers after a point -/

/-- The output's buffer and the scratch after a point, for any run of the three kinds of point on blocks of the arrays. -/
theorem after_steps {N : ℕ} (hN : N ≤ 77) (X : ℕ → ℕ → EReal) (G : ℕ → EReal) (W : Fin 2 → ℕ → ℕ → EReal) (D : ℕ → ℕ → EReal)
    (xb : Fin N → Vec Ideal S1024x2048 .f32) (gb : Fin N → Vec Ideal S4x2048 .f32) (wb : Fin N → Vec Ideal S1x2x2048x512 .bf16) (db : Fin N → Vec Ideal S1x512x2048 .f32)
    (st : ℕ → Vec Ideal S1024x2048 .f32 × Vec Ideal S1024x2048 .bf16)
    (hx : ∀ (t : Fin N) (r : Fin 1024) (l : Fin 2048), xb t (ix2 r l) = X (1024 * (t.val / 11 + 1) + r.val) l.val)
    (hg : ∀ (t : Fin N) (l : Fin 2048), gb t (ix2 (0 : Fin 4) l) = G l.val)
    (hw : ∀ (t : Fin N) (p : Fin 2) (k : Fin 2048) (n : Fin 512), wb t (ix4 (0 : Fin 1) p k n) = W p k.val (512 * (t.val % 11) + n.val))
    (hd : ∀ (t : Fin N) (n : Fin 512) (C : Fin 2048), 512 * (t.val % 11) + n.val < 5504 → db t (ix3 (0 : Fin 1) n C) = D (512 * (t.val % 11) + n.val) C.val)
    (first : ∀ t : Fin N, t.val % 11 = 0 → st (t.val + 1) = (firstOut (xb t) (gb t) (wb t) (db t), hiddenOf (xb t) (gb t)))
    (mid : ∀ t : Fin N, t.val % 11 ≠ 0 → t.val % 11 ≠ 10 → st (t.val + 1) = (midOut (st t.val).1 (st t.val).2 (wb t) (db t), (st t.val).2))
    (last : ∀ t : Fin N, t.val % 11 = 10 → st (t.val + 1) = (lastOut (xb t) (st t.val).1 (st t.val).2 (wb t) (db t), (st t.val).2)) :
    ∀ n : ℕ, n < N → ∀ r : Fin 1024,
    (∀ k : Fin 2048, (st (n + 1)).2 (ix2 r k) = normed X G (1024 * (n / 11 + 1) + r.val) k.val)
    ∧ ∀ C : Fin 2048, (st (n + 1)).1 (ix2 r C)
        = if n % 11 = 10 then layer X G (W 0) (W 1) D (1024 * (n / 11 + 1) + r.val) C.val
          else partialSum (gated (normed X G (1024 * (n / 11 + 1) + r.val)) (W 0) (W 1)) D C.val (512 * (n % 11 + 1)) := by
  intro n
  induction n with
  | zero =>
    intro hn r
    have e := first ⟨0, hn⟩ rfl
    rw [show st (0 + 1) = _ from e]
    refine ⟨fun k => hidden_apply _ _ _ _ _ r (hx ⟨0, hn⟩ r) (hg ⟨0, hn⟩) k, fun C => ?_⟩
    rw [if_neg (by decide)]
    exact first_apply _ _ _ _ _ _ _ _ _ _ r (hx ⟨0, hn⟩ r) (hg ⟨0, hn⟩)
      (fun k j => (hw ⟨0, hn⟩ 0 k j).trans (congrArg _ (Nat.zero_add _))) (fun k j => (hw ⟨0, hn⟩ 1 k j).trans (congrArg _ (Nat.zero_add _))) C
      (fun j => (hd ⟨0, hn⟩ j C (by have := j.isLt; show 512 * 0 + j.val < 5504; omega)).trans (congrArg (fun q => D q C.val) (Nat.zero_add _)))
  | succ n ih =>
    intro hn r
    have hN : n + 1 < 77 := lt_of_lt_of_le hn hN
    by_cases h0 : (n + 1) % 11 = 0
    · have e := first ⟨n + 1, hn⟩ h0
      rw [show st (n + 1 + 1) = _ from e]
      refine ⟨fun k => hidden_apply _ _ _ _ _ r (hx ⟨n + 1, hn⟩ r) (hg ⟨n + 1, hn⟩) k, fun C => ?_⟩
      rw [if_neg (by omega), h0]
      have hz : ∀ j : ℕ, 512 * ((n + 1) % 11) + j = j := fun j => by omega
      exact first_apply _ _ _ _ _ _ _ _ _ _ r (hx ⟨n + 1, hn⟩ r) (hg ⟨n + 1, hn⟩)
        (fun k j => (hw ⟨n + 1, hn⟩ 0 k j).trans (congrArg _ (hz _))) (fun k j => (hw ⟨n + 1, hn⟩ 1 k j).trans (congrArg _ (hz _))) C
        (fun j => (hd ⟨n + 1, hn⟩ j C (by have := j.isLt; show 512 * ((n + 1) % 11) + j.val < 5504; omega)).trans (congrArg (fun q => D q C.val) (hz _)))
    · obtain ⟨ih2, ih1⟩ := ih (Nat.lt_of_succ_lt hn) r
      have hq : (n + 1) / 11 = n / 11 := by omega
      have hr : 512 * (n % 11 + 1) = 512 * ((n + 1) % 11) := by omega
      have hacc : ∀ C : Fin 2048, (st (n + 1)).1 (ix2 r C) = partialSum (gated (normed X G (1024 * (n / 11 + 1) + r.val)) (W 0) (W 1)) D C.val (512 * ((n + 1) % 11)) := fun C => by
        rw [ih1 C, if_neg (by omega), hr]
      rw [hq]
      by_cases h10 : (n + 1) % 11 = 10
      · have e := last ⟨n + 1, hn⟩ h10
        rw [show st (n + 1 + 1) = _ from e]
        refine ⟨ih2, fun C => ?_⟩
        rw [if_pos h10]
        refine (last_apply _ _ _ _ _ _ r _ _ _ (512 * ((n + 1) % 11)) ih2 (hw ⟨n + 1, hn⟩ 0) (hw ⟨n + 1, hn⟩ 1) C
          (fun j => hd ⟨n + 1, hn⟩ _ C (by have := j.isLt; show 512 * ((n + 1) % 11) + j.val < 5504; omega)) (hacc C)).trans ?_
        unfold layer
        rw [hx ⟨n + 1, hn⟩ r C, h10]
        show X (1024 * ((n + 1) / 11 + 1) + r.val) C.val + _ = _
        rw [hq]
      · have e := mid ⟨n + 1, hn⟩ h0 h10
        rw [show st (n + 1 + 1) = _ from e]
        refine ⟨ih2, fun C => ?_⟩
        rw [if_neg h10]
        exact mid_apply _ _ _ _ _ r _ _ _ (512 * ((n + 1) % 11)) ih2 (hw ⟨n + 1, hn⟩ 0) (hw ⟨n + 1, hn⟩ 1) C
          (fun j => hd ⟨n + 1, hn⟩ j C (by have := j.isLt; show 512 * ((n + 1) % 11) + j.val < 5504; omega)) (hacc C)

end Cert.FfnIdeal.Ffn

end
-- ==== Proof.Ffn.Result.lean ====
module

public import proofs.«01_k».proof.Proof.Ffn.Steps
public import proofs.«01_k».proof.Proof.Ffn.Frame
public import Idealize.ShloMosaic.Lib.Pipeline.ValueKit.Partial

@[expose] public section

set_option maxRecDepth 16384

noncomputable section

namespace Cert.FfnIdeal.Ffn

open Cert.FfnIdeal Cert.FfnIdeal.Gen
open Idealize.ShloMosaic Idealize.ShloMosaic.TcCoe Idealize.SL.Sem
open Idealize.ShloMosaic.Pipeline (Dat Cfg Window)
open Cert.Attn (at2 at2_eq)
open Cert.FeedForward

variable (m : (ℓ : Loc nD τ sig) → Buf (Elt Ideal) ℓ) (ρ : Dev nD → PrngReg)

/-! ## The arrays as functions of natural indices -/

def xOf (c : Dev nD) : ℕ → ℕ → EReal := at2 (A := 8192) (B := 2048) (m ((c.tc : Thread nD τ).loc main_arg0))
def gOf (c : Dev nD) : ℕ → EReal := at2 (A := 4) (B := 2048) (m ((c.tc : Thread nD τ).loc main_arg1)) 0
def wOf (c : Dev nD) (p : Fin 2) : ℕ → ℕ → EReal := packed (m ((c.tc : Thread nD τ).loc main_arg2)) p
def dOf (c : Dev nD) : ℕ → ℕ → EReal := down (m ((c.tc : Thread nD τ).loc main_arg3))

/-- The sum that a row tile's output holds after `N` columns. -/
def sumOf (c : Dev nD) (R C N : ℕ) : EReal := partialSum (gated (normed (xOf m c) (gOf m c) R) (wOf m c 0) (wOf m c 1)) (dOf m c) C N
/-- The layer's result. -/
def layerOf (c : Dev nD) (R C : ℕ) : EReal := layer (xOf m c) (gOf m c) (wOf m c 0) (wOf m c 1) (dOf m c) R C

/-! ## The blocks -/

theorem index_facts : ∀ t : Fin cfg0.N,
    (win0_0.index t (0 : Fin 2) = t.val / 11 + 1 ∧ win0_0.index t (1 : Fin 2) = 0) ∧ (win0_1.index t (0 : Fin 2) = 0 ∧ win0_1.index t (1 : Fin 2) = 0)
    ∧ (win0_2.index t (0 : Fin 4) = t.val % 11 ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = t.val % 11 ∧ win0_3.index t (2 : Fin 3) = 0)
    ∧ (win0_4.index t (0 : Fin 2) = t.val / 11 + 1 ∧ win0_4.index t (1 : Fin 2) = 0) :=
  (by decide +kernel : ∀ t : Fin grid0.N,
    (win0_0.index t (0 : Fin 2) = t.val / 11 + 1 ∧ win0_0.index t (1 : Fin 2) = 0) ∧ (win0_1.index t (0 : Fin 2) = 0 ∧ win0_1.index t (1 : Fin 2) = 0)
    ∧ (win0_2.index t (0 : Fin 4) = t.val % 11 ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = t.val % 11 ∧ win0_3.index t (2 : Fin 3) = 0)
    ∧ (win0_4.index t (0 : Fin 2) = t.val / 11 + 1 ∧ win0_4.index t (1 : Fin 2) = 0))

theorem x_block (c : Dev nD) (t : Fin cfg0.N) (r : Fin 1024) (l : Fin 2048) : iblk m c 0 t (ix2 r l) = xOf m c (1024 * (t.val / 11 + 1) + r.val) l.val := by
  obtain ⟨⟨a, b⟩, -⟩ := index_facts t
  show V m c main_arg0 (((cfg0.win 0).blk t).view.emb (ix2 r l)) = _
  rw [V_main_arg0]
  refine at2_eq _ _ _ _ ?_ ?_
  · show win0_0.index t (0 : Fin 2) * 1024 + 1 * r.val = _; rw [a]; omega
  · show win0_0.index t (1 : Fin 2) * 2048 + 1 * l.val = _; rw [b]; omega

theorem g_block (c : Dev nD) (t : Fin cfg0.N) (l : Fin 2048) : iblk m c 1 t (ix2 (0 : Fin 4) l) = gOf m c l.val := by
  obtain ⟨-, ⟨a, b⟩, -⟩ := index_facts t
  show V m c main_arg1 (((cfg0.win 1).blk t).view.emb (ix2 (0 : Fin 4) l)) = _
  rw [V_main_arg1]
  refine at2_eq _ _ _ _ ?_ ?_
  · show win0_1.index t (0 : Fin 2) * 4 + 1 * 0 = _; rw [a]
  · show win0_1.index t (1 : Fin 2) * 2048 + 1 * l.val = _; rw [b]; omega

theorem w_block (c : Dev nD) (t : Fin cfg0.N) (p : Fin 2) (k : Fin 2048) (n : Fin 512) :
    iblk m c 2 t (ix4 (0 : Fin 1) p k n) = wOf m c p k.val (512 * (t.val % 11) + n.val) := by
  obtain ⟨-, -, ⟨a, b, e, f⟩, -⟩ := index_facts t
  have hn := n.isLt
  show V m c main_arg2 (((cfg0.win 2).blk t).view.emb (ix4 (0 : Fin 1) p k n)) = _
  rw [V_main_arg2]
  refine packed_eq _ _ _ _ _ ?_ (Fin.ext ?_) ?_ ?_
  · show win0_2.index t (0 : Fin 4) * 1 + 1 * 0 = _; rw [a]; omega
  · show win0_2.index t (1 : Fin 4) * 2 + 1 * p.val = _; rw [b]; omega
  · show win0_2.index t (2 : Fin 4) * 2048 + 1 * k.val = _; rw [e]; omega
  · show win0_2.index t (3 : Fin 4) * 512 + 1 * n.val = _; rw [f]; omega

theorem d_block (c : Dev nD) (t : Fin cfg0.N) (n : Fin 512) (C : Fin 2048) (hn : 512 * (t.val % 11) + n.val < 5504) :
    downAt m c t (ix3 (0 : Fin 1) n C) = dOf m c (512 * (t.val % 11) + n.val) C.val := by
  obtain ⟨-, -, -, ⟨a, b, e⟩, -⟩ := index_facts t
  have hm : win0_3.moved (grid0.coords t) (ix3 (0 : Fin 1) n C) = true := (win0_3.moved_iff (grid0.coords t) _).mpr (by
    by_cases h : t.val % 11 = 10
    · exact moved_last t h _ (show n.val < 384 by omega)
    · exact moved_inner t h _)
  unfold downAt Window.fill
  rw [dif_pos hm]
  show V m c main_arg3 (((cfg0.win 3).blk t).view.emb _) = _
  rw [V_main_arg3]
  refine down_eq _ _ _ _ ?_ ?_ ?_
  · show win0_3.index t (0 : Fin 3) * 1 + 1 * 0 = _; rw [a]
  · show win0_3.index t (1 : Fin 3) * 512 + 1 * n.val = _; rw [b]; omega
  · show win0_3.index t (2 : Fin 3) * 2048 + 1 * C.val = _; rw [e]; omega

/-! ## The buffers after a point -/

theorem after_point (c : Dev nD) : ∀ n : ℕ, n < cfg0.N → ∀ r : Fin 1024,
    (∀ k : Fin 2048, (stAt m c (n + 1)).2 (ix2 r k) = normed (xOf m c) (gOf m c) (1024 * (n / 11 + 1) + r.val) k.val)
    ∧ ∀ C : Fin 2048, (stAt m c (n + 1)).1 (ix2 r C)
        = if n % 11 = 10 then layerOf m c (1024 * (n / 11 + 1) + r.val) C.val else sumOf m c (1024 * (n / 11 + 1) + r.val) C.val (512 * (n % 11 + 1)) :=
  after_steps (Nat.le_of_eq N_0) (xOf m c) (gOf m c) (wOf m c) (dOf m c) (fun t => iblk m c 0 t) (fun t => iblk m c 1 t) (fun t => iblk m c 2 t) (fun t => downAt m c t)
    (stAt m c) (x_block m c) (g_block m c) (w_block m c) (d_block m c) (st_first m c) (st_mid m c) (st_last m c)

/-! ## The array -/

/-- The array before the layer is a copy of the rows. -/
theorem V_result (c : Dev nD) : V m c main_v0 = m ((c.tc : Thread nD τ).loc main_arg0) := by
  simp only [V, hostOps0]
  rfl

/-- The array that the run leaves: the rows of the first tile as they were, the layer's result in the others. -/
def ffnArr (c : Dev nD) : Vec Ideal S8192x2048 .f32 := fun i =>
  if 1 ≤ (i 0).val / 1024 then layerOf m c (i 0).val (i 1).val else xOf m c (i 0).val (i 1).val

theorem covers : (cfg0.win 4).CoversWhere (fun β => 1 ≤ β (0 : Fin 2)) := by decide +kernel

theorem final (c : Dev nD) : (dats m 0 c).arrAt 4 cfg0.N = ffnArr m c := by
  refine ((dats m 0 c).arrAt_eq_of_coversWhere 4 (fun i => layerOf m c (i 0).val (i 1).val) (P := fun i => 1 ≤ (i 0).val / 1024) (fun β => 1 ≤ β (0 : Fin 2)) covers
    (fun t hf y => ?_) (fun j => Iff.rfl)).trans ?_
  · have h10 : t.val % 11 = 10 := (flush0_4 t).mp hf
    obtain ⟨-, -, -, -, ⟨a, b⟩⟩ := index_facts t
    have hy0 : (y 0).val < 1024 := (y 0).isLt
    have hy1 : (y 1).val < 2048 := (y 1).isLt
    have ey : (cfg0.win 4).xinj (grid0.coords t) y = ix2 (⟨(y 0).val, hy0⟩ : Fin 1024) (⟨(y 1).val, hy1⟩ : Fin 2048) := by
      funext a
      match a with | ⟨0, _⟩ => rfl | ⟨1, _⟩ => rfl
    have hb0 : (((cfg0.win 4).blk t).view.emb y 0).val = win0_4.index t (0 : Fin 2) * 1024 + 1 * (y 0).val := rfl
    have hb1 : (((cfg0.win 4).blk t).view.emb y 1).val = win0_4.index t (1 : Fin 2) * 2048 + 1 * (y 1).val := rfl
    show (dats m 0 c).after 4 t ((cfg0.win 4).xinj (grid0.coords t) y) = layerOf m c (((cfg0.win 4).blk t).view.emb y 0).val (((cfg0.win 4).blk t).view.emb y 1).val
    rw [ey, after0_4, (after_point m c t.val t.isLt ⟨(y 0).val, hy0⟩).2, if_pos h10, hb0, hb1, a, b]
    have e0 : 1024 * (t.val / 11 + 1) + (y 0).val = (t.val / 11 + 1) * 1024 + 1 * (y 0).val := by omega
    have e1 : (y 1).val = 0 * 2048 + 1 * (y 1).val := by omega
    exact congrArg₂ (layerOf m c) e0 e1
  · funext i
    unfold ffnArr
    refine if_congr Iff.rfl rfl ?_
    rw [A_eq]
    exact (congrFun (V_result m c) i).trans (at2_eq _ i _ _ rfl rfl)

/-- The run, its result read. -/
theorem run_value : θ_run defs (onTc (τ := τ) (main (F := Ideal))) ⟨m, fun _ => 0, ρ⟩ (fun r => ∀ c : Dev nD,
      r.2.mem ((c.tc : Thread nD τ).loc main_v0) = ffnArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1.trans (final m c), (h.1 c).2⟩) (run_named m ρ)

end Cert.FfnIdeal.Ffn

end
-- ==== Proof.Ffn.Ref.lean ====
module

public import proofs.«01_k».proof.Proof.Gen.FfnReferenceIdeal.Read
public import proofs.«01_k».proof.Proof.Ffn.Spec
public import Idealize.ShloMosaic.Lib.Pointwise

@[expose] public section

set_option maxRecDepth 16384

noncomputable section

namespace Cert.FfnReferenceIdeal.Ffn

open Cert.FfnReferenceIdeal Cert.FfnReferenceIdeal.Gen Cert.FfnReferenceIdeal.Read
open Idealize.ShloMosaic Idealize.ShloMosaic.TcCoe
open Cert.Attn (at2 at2_eq)
open Cert.FeedForward

variable (x : (⟨S8192x2048, .f32⟩ : BufTy).Contents (Elt Ideal)) (g : (⟨S4x2048, .f32⟩ : BufTy).Contents (Elt Ideal))
variable (w : (⟨S11x2x2048x512, .bf16⟩ : BufTy).Contents (Elt Ideal)) (d : (⟨S4x5504x2048, .f32⟩ : BufTy).Contents (Elt Ideal))

theorem one_word : Ideal.ofBits .f32 0x3F800000#32 = (1 : EReal) := by
  simp [Ideal.ofBits, Ideal.ieee, -EReal.coe_mul]
  norm_num

theorem normed_apply (i : S8192x2048.Idx) :
    val_main_v26 (F := Ideal) x g i = normed (at2 (A := 8192) (B := 2048) x) (at2 (A := 4) (B := 2048) g 0) (i 0).val (i 1).val := by
  rw [val_main_v26_apply, val_main_v21_apply, val_main_v20_apply, val_main_v19_apply, val_main_v18_apply, val_main_v16_apply, val_main_v14_apply, val_main_v13_apply,
    val_main_v15_apply, val_main_cst_0_apply, val_main_v17_apply, val_main_cst_1_apply, val_main_v25_apply, val_main_v24_apply, val_main_v23_apply, val_main_v22_apply, val_main_cst_apply]
  simp only [val_main_v12_apply]
  unfold normed
  refine congrArg₂ (· * ·) (congrArg₂ (· * ·) (at2_eq x i _ _ rfl rfl) (congrArg Ideal.rsqrt (congrArg (· + Ideal.ofBits .f32 0x358637BD#32) (congrArg (Ideal.div · (Ideal.ofBits .f32 0x45000000#32)) ?_)))) ?_
  · refine (congrArg₂ (· + ·) (Ideal.ofBits_zero _) (Finset.sum_congr rfl fun k _ => ?_)).trans (zero_add _)
    exact congrArg₂ (· * ·) (at2_eq x _ _ _ rfl rfl) (at2_eq x _ _ _ rfl rfl)
  · refine at2_eq g _ _ _ rfl ?_
    show (i 1).val % 2048 = (i 1).val
    exact Nat.mod_eq_of_lt (i 1).isLt

theorem gate_apply (i : S2048x5504.Idx) : val_main_v5 (F := Ideal) w i = packed w 0 (i 0).val (i 1).val := by
  have h0 : (i 0).val < 2048 := (i 0).isLt
  have h1 : (i 1).val < 5504 := (i 1).isLt
  rw [val_main_v5_apply, val_main_v4_apply, val_main_v3_apply, val_main_v2_apply, val_main_v1_apply, val_main_v0_apply]
  refine packed_eq w _ _ _ _ ?_ rfl ?_ ?_
  · show (((((i 0).val * 5632 + (i 1).val) / 512 % 11) * 2048 + ((i 0).val * 5632 + (i 1).val) / 5632) * 512 + ((i 0).val * 5632 + (i 1).val) % 512) / 1048576 = _
    omega
  · show (((((i 0).val * 5632 + (i 1).val) / 512 % 11) * 2048 + ((i 0).val * 5632 + (i 1).val) / 5632) * 512 + ((i 0).val * 5632 + (i 1).val) % 512) / 512 % 2048 = _
    omega
  · show (((((i 0).val * 5632 + (i 1).val) / 512 % 11) * 2048 + ((i 0).val * 5632 + (i 1).val) / 5632) * 512 + ((i 0).val * 5632 + (i 1).val) % 512) % 512 = _
    omega

theorem up_apply (i : S2048x5504.Idx) : val_main_v11 (F := Ideal) w i = packed w 1 (i 0).val (i 1).val := by
  have h0 : (i 0).val < 2048 := (i 0).isLt
  have h1 : (i 1).val < 5504 := (i 1).isLt
  rw [val_main_v11_apply, val_main_v10_apply, val_main_v9_apply, val_main_v8_apply, val_main_v7_apply, val_main_v6_apply]
  refine packed_eq w _ _ _ _ ?_ rfl ?_ ?_
  · show (((((i 0).val * 5632 + (i 1).val) / 512 % 11) * 2048 + ((i 0).val * 5632 + (i 1).val) / 5632) * 512 + ((i 0).val * 5632 + (i 1).val) % 512) / 1048576 = _
    omega
  · show (((((i 0).val * 5632 + (i 1).val) / 512 % 11) * 2048 + ((i 0).val * 5632 + (i 1).val) / 5632) * 512 + ((i 0).val * 5632 + (i 1).val) % 512) / 512 % 2048 = _
    omega
  · show (((((i 0).val * 5632 + (i 1).val) / 512 % 11) * 2048 + ((i 0).val * 5632 + (i 1).val) / 5632) * 512 + ((i 0).val * 5632 + (i 1).val) % 512) % 512 = _
    omega

theorem down_apply (i : S5504x2048.Idx) : val_main_v32 (F := Ideal) d i = down d (i 0).val (i 1).val := by
  have h0 : (i 0).val < 5504 := (i 0).isLt
  have h1 : (i 1).val < 2048 := (i 1).isLt
  rw [val_main_v32_apply, val_main_v31_apply]
  refine down_eq d _ _ _ ?_ ?_ ?_
  · rfl
  · show ((i 0).val * 2048 + (i 1).val) / 2048 % 5504 = _
    omega
  · show ((i 0).val * 2048 + (i 1).val) % 2048 = _
    omega

theorem project0_apply (i : S8192x5504.Idx) :
    val_main_v27 (F := Ideal) x g w i = project (normed (at2 (A := 8192) (B := 2048) x) (at2 (A := 4) (B := 2048) g 0) (i 0).val) (packed w 0) (i 1).val := by
  rw [val_main_v27_apply]
  unfold project
  exact Finset.sum_congr rfl fun k _ => congrArg₂ (· * ·) (normed_apply x g _) (gate_apply w _)

theorem project1_apply (i : S8192x5504.Idx) :
    val_main_v29 (F := Ideal) x g w i = project (normed (at2 (A := 8192) (B := 2048) x) (at2 (A := 4) (B := 2048) g 0) (i 0).val) (packed w 1) (i 1).val := by
  rw [val_main_v29_apply]
  unfold project
  exact Finset.sum_congr rfl fun k _ => congrArg₂ (· * ·) (normed_apply x g _) (up_apply w _)

theorem gated_apply (i : S8192x5504.Idx) :
    val_main_v30 (F := Ideal) x g w i = gated (normed (at2 (A := 8192) (B := 2048) x) (at2 (A := 4) (B := 2048) g 0) (i 0).val) (packed w 0) (packed w 1) (i 1).val := by
  rw [val_main_v30_apply, val_main_v28_apply, val_main_call0_v5_apply, val_main_call0_v4_apply, val_main_call0_cst_0_apply, val_main_call0_v3_apply, val_main_call0_v2_apply,
    val_main_call0_cst_apply, val_main_call0_v1_apply, val_main_call0_v0_apply, project0_apply, project1_apply]
  unfold gated
  refine congrArg (· * _) (congrArg (_ * ·) ?_)
  show Ideal.div (Ideal.ofBits .f32 0x3F800000#32) (Ideal.ofBits .f32 0x3F800000#32 + Ideal.exp (-_)) = _
  rw [one_word]
  rfl

theorem layer_apply (i : S8192x2048.Idx) :
    val_main_v36 (F := Ideal) x g w d i = layer (at2 (A := 8192) (B := 2048) x) (at2 (A := 4) (B := 2048) g 0) (packed w 0) (packed w 1) (down d) (i 0).val (i 1).val := by
  rw [val_main_v36_apply, val_main_v35_apply, val_main_v34_apply, val_main_cst_2_apply, val_main_v33_apply]
  unfold layer
  rw [partialSum_zero]
  refine congrArg₂ (· + ·) (at2_eq x i _ _ rfl rfl) (congrArg (_ * ·) (Finset.sum_congr rfl fun k _ => ?_))
  exact congrArg₂ (· * ·) (gated_apply x g w _) (down_apply d _)

theorem result_apply (r : Fin 8192) (C : Fin 2048) :
    val_main_v39 (F := Ideal) x g w d (ix2 r C) = if 1 ≤ r.val / 1024 then layer (at2 (A := 8192) (B := 2048) x) (at2 (A := 4) (B := 2048) g 0) (packed w 0) (packed w 1) (down d) r.val C.val
      else at2 (A := 8192) (B := 2048) x r.val C.val := by
  have hr := r.isLt
  unfold val_main_v39
  pointwise
  by_cases h : r.val < 1024
  · rw [dif_pos h, if_neg (by omega), val_main_v37_apply]
    exact at2_eq x _ _ _ rfl rfl
  · rw [dif_neg h]
    refine Eq.trans ?_ (if_pos (by omega)).symm
    refine (val_main_v38_apply (F := Ideal) x g w d _).trans ((layer_apply x g w d _).trans ?_)
    refine congrArg₂ (layer _ _ _ _ _) ?_ rfl
    show 1024 + (r.val - 1024) = r.val
    omega

end Cert.FfnReferenceIdeal.Ffn

end
-- ==== Proof.Ffn.Equal.lean ====
module

public import proofs.«01_k».proof.Defs
public import proofs.«01_k».proof.Proof.Ffn.Result
public import proofs.«01_k».proof.Proof.Ffn.Ref
public import proofs.«01_k».proof.Proof.Gen.FfnReferenceIdeal.Run

@[expose] public section

set_option maxRecDepth 16384

noncomputable section

namespace Cert.FeedForward

open Idealize.ShloMosaic Idealize.ShloMosaic.TcCoe

/-- The kernel's array is the reference's result. -/
theorem arrays_eq (m : (ℓ : Loc Cert.FfnIdeal.nD Cert.FfnIdeal.τ Cert.FfnIdeal.sig) → Buf (Elt Ideal) ℓ) (c : Dev Cert.FfnIdeal.nD) :
    Cert.FfnIdeal.Ffn.ffnArr m c
      = Cert.FfnReferenceIdeal.Read.val_main_v39 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1))
          (m ((c.tc : Thread Cert.FfnIdeal.nD Cert.FfnIdeal.τ).loc Cert.FfnIdeal.main_arg2)) (m ((c.tc : Thread Cert.FfnIdeal.nD Cert.FfnIdeal.τ).loc Cert.FfnIdeal.main_arg3)) := by
  funext i
  have e : i = ix2 (⟨(i 0).val, (i 0).isLt⟩ : Fin 8192) (⟨(i 1).val, (i 1).isLt⟩ : Fin 2048) := by
    funext a
    match a with | ⟨0, _⟩ => rfl | ⟨1, _⟩ => rfl
  unfold Cert.FfnIdeal.Ffn.ffnArr
  refine Eq.trans ?_ (congrArg _ e.symm)
  exact (Cert.FfnReferenceIdeal.Ffn.result_apply _ _ _ _ (⟨(i 0).val, (i 0).isLt⟩ : Fin 8192) (⟨(i 1).val, (i 1).isLt⟩ : Fin 2048)).symm

theorem algebraic : Cert.algebraic_FfnIdeal_FfnReferenceIdeal := fun m g m' g' hm hargs =>
  ⟨fun c => Cert.FfnIdeal.Ffn.ffnArr m c, Cert.FfnIdeal.Ffn.run_value m g,
    (θ_run _ _ _).mono (fun r h c => ⟨(h c).1.trans (by
        obtain ⟨e0, e1, e2, e3⟩ := hargs c
        refine (Cert.FfnReferenceIdeal.Read.val_main_v39_eq m' c).trans ?_
        rw [e0, e1, e2, e3]
        exact (arrays_eq m c).symm), (h c).2⟩) (Cert.FfnReferenceIdeal.Value.run m' g')⟩

end Cert.FeedForward

end
-- ==== Proof.Cast.Blocks.lean ====
module

public import Idealize.ShloMosaic.Lib.Writes
public import Idealize.ShloMosaic.Lib.Pipeline.FrameBody
public import Idealize.ShloMosaic.Lib.Ring
public import Idealize.ShloMosaic.Lib.Tactic

@[expose] public section

set_option maxRecDepth 16384

noncomputable section

namespace Cert.Blocks

open Idealize.ShloMosaic Idealize.ShloMosaic.TcCoe

variable {F : FTy → Type} [FloatOps F] {sig : RefSig}

/-! ## Parts of blocks -/

/-- A part's index as the block's. -/
def within {s : Shape} (off size : Fin s.rank → ℕ) (inb : ∀ a, off a + size a ≤ s.size a) (j : (⟨s.rank, size⟩ : Shape).Idx) : s.Idx :=
  fun a => ⟨off a + (j a).val, lt_of_lt_of_le (Nat.add_lt_add_left (j a).isLt (off a)) (inb a)⟩

/-- The part of a block from `off` on. -/
def part {s : Shape} {α : Type} (w : s.Idx → α) (off size : Fin s.rank → ℕ) (inb : ∀ a, off a + size a ≤ s.size a) : (⟨s.rank, size⟩ : Shape).Idx → α :=
  fun j => w (within off size inb j)

/-- A load reads the part of what the buffer holds. -/
theorem load_part {s : Shape} {e : EltTy} {arg : Memref sig .tc .vmem s e} {f : arg.view.ty.Contents (Elt F)} {w : s.Idx → Elt F e} (hf : arg.view.read (Elt F) f = w)
    (off size : Fin s.rank → ℕ) (inb : ∀ a, off a + size a ≤ s.size a) :
    arg.view.readAt (Elt F) (Rect.unit (s := s) off size inb).toLoadRect f = part w off size inb := by
  funext j
  rw [View.readAt_apply, hf]
  refine congrArg w ?_
  funext a
  apply Fin.ext
  show off a + 1 * (j a).val = off a + (j a).val
  rw [Nat.one_mul]

/-- A part from the origin on, as long as the block, is the block. -/
theorem part_whole {s : Shape} {α : Type} (w : s.Idx → α) (off : Fin s.rank → ℕ) (hoff : ∀ a, off a = 0) (inb : ∀ a, off a + s.size a ≤ s.size a) :
    part w off s.size inb = w := by
  funext j
  refine congrArg w ?_
  funext a
  apply Fin.ext
  show off a + (j a).val = (j a).val
  rw [hoff a, Nat.zero_add]

/-- A load of all of a buffer. -/
theorem load_whole {s : Shape} {e : EltTy} {arg : Memref sig .tc .vmem s e} {f : arg.view.ty.Contents (Elt F)} {w : s.Idx → Elt F e} (hf : arg.view.read (Elt F) f = w)
    {off : Fin s.rank → ℕ} (hoff : ∀ a, off a = 0) (inb : ∀ a, off a + s.size a ≤ s.size a) :
    arg.view.readAt (Elt F) (Rect.unit (s := s) off s.size inb).toLoadRect f = w :=
  (load_part hf off s.size inb).trans (part_whole w off hoff inb)

theorem zero2 : ∀ a, (![0, 0] : Fin 2 → ℕ) a = 0 := fun a => by match a with | ⟨0, _⟩ => rfl | ⟨1, _⟩ => rfl
theorem zero3 : ∀ a, (![0, 0, 0] : Fin 3 → ℕ) a = 0 := fun a => by match a with | ⟨0, _⟩ => rfl | ⟨1, _⟩ => rfl | ⟨2, _⟩ => rfl

/-! ## Stores that fill a buffer -/

/-- A store of a part of `y` stores `y`'s values at its places. -/
theorem piece_of_part {s : Shape} {α : Type} {y : s.Idx → α} {off size : Fin s.rank → ℕ} {inb : ∀ a, off a + size a ≤ s.size a}
    {v : (⟨s.rank, size⟩ : Shape).Idx → α} (hv : part y off size inb = v) (x : (Rect.unit (s := s) off size inb).shape.Idx) :
    v x = y ((Rect.unit (s := s) off size inb).emb x) := by
  subst hv
  refine congrArg y ?_
  funext a
  apply Fin.ext
  show off a + (x a).val = off a + 1 * (x a).val
  rw [Nat.one_mul]

/-- A store of all of a buffer. -/
theorem stored_all {s : Shape} {e : EltTy} {arg : Memref sig .tc .vmem s e} (f : arg.view.ty.Contents (Elt F)) (y : s.Idx → Elt F e)
    {off : Fin s.rank → ℕ} (hoff : ∀ a, off a = 0) (inb : ∀ a, off a + s.size a ≤ s.size a) :
    arg.view.read (Elt F) (arg.view.writes (Elt F) f [⟨Rect.unit (s := s) off s.size inb, y⟩]) = y := by
  funext j
  refine View.read_writes_apply_of_pieces arg.view f y _ ?_ j ⟨_, List.mem_singleton.mpr rfl, ?_⟩
  · intro p hp x
    obtain rfl := List.mem_singleton.mp hp
    exact piece_of_part (part_whole y off hoff inb) x
  · rw [Rect.mem_set_unit]
    exact fun a => by rw [hoff a]; exact ⟨Nat.zero_le _, by rw [Nat.zero_add]; exact (j a).isLt⟩

/-- Two stores of parts of `y` that cover the buffer. -/
theorem stored_two {s : Shape} {e : EltTy} {arg : Memref sig .tc .vmem s e} (f : arg.view.ty.Contents (Elt F)) (y : s.Idx → Elt F e)
    {off size off' size' : Fin s.rank → ℕ} {inb : ∀ a, off a + size a ≤ s.size a} {inb' : ∀ a, off' a + size' a ≤ s.size a}
    {v : (⟨s.rank, size⟩ : Shape).Idx → Elt F e} {v' : (⟨s.rank, size'⟩ : Shape).Idx → Elt F e}
    (hv : part y off size inb = v) (hv' : part y off' size' inb' = v')
    (hc : ∀ j : s.Idx, (∀ a, off a ≤ (j a).val ∧ (j a).val < off a + size a) ∨ (∀ a, off' a ≤ (j a).val ∧ (j a).val < off' a + size' a)) :
    arg.view.read (Elt F) (arg.view.writes (Elt F) f [⟨Rect.unit (s := s) off' size' inb', v'⟩, ⟨Rect.unit (s := s) off size inb, v⟩]) = y := by
  funext j
  refine View.read_writes_apply_of_pieces arg.view f y _ ?_ j ?_
  · intro p hp x
    rcases List.mem_cons.mp hp with rfl | hp
    · exact piece_of_part hv' x
    · obtain rfl := List.mem_singleton.mp hp
      exact piece_of_part hv x
  · rcases hc j with h | h
    · exact ⟨_, List.mem_cons_of_mem _ (List.mem_singleton.mpr rfl), (Rect.mem_set_unit (inb := by assumption)).mpr h⟩
    · exact ⟨_, List.mem_cons_self, (Rect.mem_set_unit (inb := by assumption)).mpr h⟩

/-- Three stores of parts of `y` that cover the buffer. -/
theorem stored_three {s : Shape} {e : EltTy} {arg : Memref sig .tc .vmem s e} (f : arg.view.ty.Contents (Elt F)) (y : s.Idx → Elt F e)
    {off size off' size' off'' size'' : Fin s.rank → ℕ} {inb : ∀ a, off a + size a ≤ s.size a} {inb' : ∀ a, off' a + size' a ≤ s.size a} {inb'' : ∀ a, off'' a + size'' a ≤ s.size a}
    {v : (⟨s.rank, size⟩ : Shape).Idx → Elt F e} {v' : (⟨s.rank, size'⟩ : Shape).Idx → Elt F e} {v'' : (⟨s.rank, size''⟩ : Shape).Idx → Elt F e}
    (hv : part y off size inb = v) (hv' : part y off' size' inb' = v') (hv'' : part y off'' size'' inb'' = v'')
    (hc : ∀ j : s.Idx, (∀ a, off a ≤ (j a).val ∧ (j a).val < off a + size a) ∨ (∀ a, off' a ≤ (j a).val ∧ (j a).val < off' a + size' a) ∨ (∀ a, off'' a ≤ (j a).val ∧ (j a).val < off'' a + size'' a)) :
    arg.view.read (Elt F) (arg.view.writes (Elt F) f [⟨Rect.unit (s := s) off'' size'' inb'', v''⟩, ⟨Rect.unit (s := s) off' size' inb', v'⟩, ⟨Rect.unit (s := s) off size inb, v⟩]) = y := by
  funext j
  refine View.read_writes_apply_of_pieces arg.view f y _ ?_ j ?_
  · intro p hp x
    rcases List.mem_cons.mp hp with rfl | hp
    · exact piece_of_part hv'' x
    rcases List.mem_cons.mp hp with rfl | hp
    · exact piece_of_part hv' x
    · obtain rfl := List.mem_singleton.mp hp
      exact piece_of_part hv x
  · rcases hc j with h | h | h
    · exact ⟨_, List.mem_cons_of_mem _ (List.mem_cons_of_mem _ (List.mem_singleton.mpr rfl)), (Rect.mem_set_unit (inb := by assumption)).mpr h⟩
    · exact ⟨_, List.mem_cons_of_mem _ List.mem_cons_self, (Rect.mem_set_unit (inb := by assumption)).mpr h⟩
    · exact ⟨_, List.mem_cons_self, (Rect.mem_set_unit (inb := by assumption)).mpr h⟩

/-! ## Two halves of the rows -/

abbrev Rows : Shape := ⟨2, ![1024, 2048]⟩
abbrev Half : Shape := ⟨2, ![512, 2048]⟩

/-- Two halves, one above the other. -/
def halves {α : Type} (lo hi : Half.Idx → α) : Rows.Idx → α := fun y =>
  if h : (y 0).val < 512 then lo fun a => match a with
    | ⟨0, _⟩ => (⟨(y 0).val, h⟩ : Fin 512)
    | ⟨1, _⟩ => y 1
  else hi fun a => match a with
    | ⟨0, _⟩ => (⟨(y 0).val - 512, by have : (y 0).val < 1024 := (y 0).isLt; omega⟩ : Fin 512)
    | ⟨1, _⟩ => y 1

theorem part_lo {α : Type} (lo hi : Half.Idx → α) (inb : ∀ a, (![0, 0] : Fin 2 → ℕ) a + Half.size a ≤ Rows.size a) :
    part (halves lo hi) ![0, 0] Half.size inb = lo := by
  funext j
  have hj : (j 0).val < 512 := (j 0).isLt
  show (if h : 0 + (j 0).val < 512 then _ else _) = _
  rw [dif_pos (by omega)]
  refine congrArg lo (funext fun a => Fin.ext ?_)
  match a with
  | ⟨0, _⟩ => exact Nat.zero_add _
  | ⟨1, _⟩ => exact Nat.zero_add _

theorem part_hi {α : Type} (lo hi : Half.Idx → α) (inb : ∀ a, (![512, 0] : Fin 2 → ℕ) a + Half.size a ≤ Rows.size a) :
    part (halves lo hi) ![512, 0] Half.size inb = hi := by
  funext j
  show (if h : 512 + (j 0).val < 512 then _ else _) = _
  rw [dif_neg (by omega)]
  refine congrArg hi (funext fun a => Fin.ext ?_)
  match a with
  | ⟨0, _⟩ => show 512 + (j 0).val - 512 = (j 0).val; omega
  | ⟨1, _⟩ => exact Nat.zero_add _

theorem cover_halves (j : Rows.Idx) : (∀ a, (![0, 0] : Fin 2 → ℕ) a ≤ (j a).val ∧ (j a).val < (![0, 0] : Fin 2 → ℕ) a + Half.size a)
    ∨ (∀ a, (![512, 0] : Fin 2 → ℕ) a ≤ (j a).val ∧ (j a).val < (![512, 0] : Fin 2 → ℕ) a + Half.size a) := by
  have h0 : (j 0).val < 1024 := (j 0).isLt
  have h1 : (j 1).val < 2048 := (j 1).isLt
  by_cases h : (j 0).val < 512
  · refine .inl fun a => ?_
    match a with
    | ⟨0, _⟩ => exact ⟨Nat.zero_le _, by show (j 0).val < 0 + 512; omega⟩
    | ⟨1, _⟩ => exact ⟨Nat.zero_le _, by show (j 1).val < 0 + 2048; omega⟩
  · refine .inr fun a => ?_
    match a with
    | ⟨0, _⟩ => exact ⟨by show 512 ≤ (j 0).val; omega, by show (j 0).val < 512 + 512; omega⟩
    | ⟨1, _⟩ => exact ⟨Nat.zero_le _, by show (j 1).val < 0 + 2048; omega⟩

/-! ## A pair of tiles -/

abbrev Pair : Shape := ⟨4, ![1, 2, 2048, 512]⟩
abbrev Tile : Shape := ⟨4, ![1, 1, 2048, 512]⟩
abbrev Cut : Shape := ⟨4, ![1, 1, 2048, 384]⟩
abbrev Rest : Shape := ⟨4, ![1, 2, 2048, 128]⟩

/-- The gate's tile and the up projection's. -/
def pair {α : Type} (a b : Tile.Idx → α) : Pair.Idx → α := fun y =>
  if (y 1).val = 0 then a fun | ⟨0, _⟩ => y 0 | ⟨1, _⟩ => (0 : Fin 1) | ⟨2, _⟩ => y 2 | ⟨3, _⟩ => y 3
  else b fun | ⟨0, _⟩ => y 0 | ⟨1, _⟩ => (0 : Fin 1) | ⟨2, _⟩ => y 2 | ⟨3, _⟩ => y 3

/-- The two with 384 columns each, and what fills the other columns. -/
def pairCut {α : Type} (a b : Cut.Idx → α) (z : Rest.Idx → α) : Pair.Idx → α := fun y =>
  if h : (y 3).val < 384 then
    (if (y 1).val = 0 then a fun | ⟨0, _⟩ => y 0 | ⟨1, _⟩ => (0 : Fin 1) | ⟨2, _⟩ => y 2 | ⟨3, _⟩ => (⟨(y 3).val, h⟩ : Fin 384)
    else b fun | ⟨0, _⟩ => y 0 | ⟨1, _⟩ => (0 : Fin 1) | ⟨2, _⟩ => y 2 | ⟨3, _⟩ => (⟨(y 3).val, h⟩ : Fin 384))
  else z fun | ⟨0, _⟩ => y 0 | ⟨1, _⟩ => y 1 | ⟨2, _⟩ => y 2 | ⟨3, _⟩ => (⟨(y 3).val - 384, by have : (y 3).val < 512 := (y 3).isLt; omega⟩ : Fin 128)

section Pairs
variable {α : Type}

theorem part_gate (a b : Tile.Idx → α) (inb : ∀ c, (![0, 0, 0, 0] : Fin 4 → ℕ) c + Tile.size c ≤ Pair.size c) :
    part (pair a b) ![0, 0, 0, 0] Tile.size inb = a := by
  funext j
  have h1 : (j 1).val < 1 := (j 1).isLt
  show (if 0 + (j 1).val = 0 then _ else _) = _
  rw [if_pos (by omega)]
  refine congrArg a (funext fun c => Fin.ext ?_)
  match c with
  | ⟨0, _⟩ => exact Nat.zero_add _
  | ⟨1, _⟩ => show 0 = (j 1).val; omega
  | ⟨2, _⟩ => exact Nat.zero_add _
  | ⟨3, _⟩ => exact Nat.zero_add _

theorem part_up (a b : Tile.Idx → α) (inb : ∀ c, (![0, 1, 0, 0] : Fin 4 → ℕ) c + Tile.size c ≤ Pair.size c) :
    part (pair a b) ![0, 1, 0, 0] Tile.size inb = b := by
  funext j
  have h1 : (j 1).val < 1 := (j 1).isLt
  show (if 1 + (j 1).val = 0 then _ else _) = _
  rw [if_neg (by omega)]
  refine congrArg b (funext fun c => Fin.ext ?_)
  match c with
  | ⟨0, _⟩ => exact Nat.zero_add _
  | ⟨1, _⟩ => show 0 = (j 1).val; omega
  | ⟨2, _⟩ => exact Nat.zero_add _
  | ⟨3, _⟩ => exact Nat.zero_add _

theorem part_gate_cut (a b : Cut.Idx → α) (z : Rest.Idx → α) (inb : ∀ c, (![0, 0, 0, 0] : Fin 4 → ℕ) c + Cut.size c ≤ Pair.size c) :
    part (pairCut a b z) ![0, 0, 0, 0] Cut.size inb = a := by
  funext j
  have h1 : (j 1).val < 1 := (j 1).isLt
  have h3 : (j 3).val < 384 := (j 3).isLt
  show (if h : 0 + (j 3).val < 384 then (if 0 + (j 1).val = 0 then _ else _) else _) = _
  rw [dif_pos (by omega), if_pos (by omega)]
  refine congrArg a (funext fun c => Fin.ext ?_)
  match c with
  | ⟨0, _⟩ => exact Nat.zero_add _
  | ⟨1, _⟩ => show 0 = (j 1).val; omega
  | ⟨2, _⟩ => exact Nat.zero_add _
  | ⟨3, _⟩ => exact Nat.zero_add _

theorem part_up_cut (a b : Cut.Idx → α) (z : Rest.Idx → α) (inb : ∀ c, (![0, 1, 0, 0] : Fin 4 → ℕ) c + Cut.size c ≤ Pair.size c) :
    part (pairCut a b z) ![0, 1, 0, 0] Cut.size inb = b := by
  funext j
  have h1 : (j 1).val < 1 := (j 1).isLt
  have h3 : (j 3).val < 384 := (j 3).isLt
  show (if h : 0 + (j 3).val < 384 then (if 1 + (j 1).val = 0 then _ else _) else _) = _
  rw [dif_pos (by omega), if_neg (by omega)]
  refine congrArg b (funext fun c => Fin.ext ?_)
  match c with
  | ⟨0, _⟩ => exact Nat.zero_add _
  | ⟨1, _⟩ => show 0 = (j 1).val; omega
  | ⟨2, _⟩ => exact Nat.zero_add _
  | ⟨3, _⟩ => exact Nat.zero_add _

theorem part_rest (a b : Cut.Idx → α) (z : Rest.Idx → α) (inb : ∀ c, (![0, 0, 0, 384] : Fin 4 → ℕ) c + Rest.size c ≤ Pair.size c) :
    part (pairCut a b z) ![0, 0, 0, 384] Rest.size inb = z := by
  funext j
  show (if h : 384 + (j 3).val < 384 then _ else _) = _
  rw [dif_neg (by omega)]
  refine congrArg z (funext fun c => Fin.ext ?_)
  match c with
  | ⟨0, _⟩ => exact Nat.zero_add _
  | ⟨1, _⟩ => exact Nat.zero_add _
  | ⟨2, _⟩ => exact Nat.zero_add _
  | ⟨3, _⟩ => show 384 + (j 3).val - 384 = (j 3).val; omega

end Pairs

theorem cover_pair (j : Pair.Idx) : (∀ c, (![0, 0, 0, 0] : Fin 4 → ℕ) c ≤ (j c).val ∧ (j c).val < (![0, 0, 0, 0] : Fin 4 → ℕ) c + Tile.size c)
    ∨ (∀ c, (![0, 1, 0, 0] : Fin 4 → ℕ) c ≤ (j c).val ∧ (j c).val < (![0, 1, 0, 0] : Fin 4 → ℕ) c + Tile.size c) := by
  have h0 : (j 0).val < 1 := (j 0).isLt
  have h1 : (j 1).val < 2 := (j 1).isLt
  have h2 : (j 2).val < 2048 := (j 2).isLt
  have h3 : (j 3).val < 512 := (j 3).isLt
  by_cases h : (j 1).val = 0
  · refine .inl fun a => ?_
    match a with
    | ⟨0, _⟩ => exact ⟨Nat.zero_le _, by show (j 0).val < 0 + 1; omega⟩
    | ⟨1, _⟩ => exact ⟨Nat.zero_le _, by show (j 1).val < 0 + 1; omega⟩
    | ⟨2, _⟩ => exact ⟨Nat.zero_le _, by show (j 2).val < 0 + 2048; omega⟩
    | ⟨3, _⟩ => exact ⟨Nat.zero_le _, by show (j 3).val < 0 + 512; omega⟩
  · refine .inr fun a => ?_
    match a with
    | ⟨0, _⟩ => exact ⟨Nat.zero_le _, by show (j 0).val < 0 + 1; omega⟩
    | ⟨1, _⟩ => exact ⟨by show 1 ≤ (j 1).val; omega, by show (j 1).val < 1 + 1; omega⟩
    | ⟨2, _⟩ => exact ⟨Nat.zero_le _, by show (j 2).val < 0 + 2048; omega⟩
    | ⟨3, _⟩ => exact ⟨Nat.zero_le _, by show (j 3).val < 0 + 512; omega⟩

theorem cover_pair_cut (j : Pair.Idx) : (∀ c, (![0, 0, 0, 0] : Fin 4 → ℕ) c ≤ (j c).val ∧ (j c).val < (![0, 0, 0, 0] : Fin 4 → ℕ) c + Cut.size c)
    ∨ (∀ c, (![0, 1, 0, 0] : Fin 4 → ℕ) c ≤ (j c).val ∧ (j c).val < (![0, 1, 0, 0] : Fin 4 → ℕ) c + Cut.size c)
    ∨ (∀ c, (![0, 0, 0, 384] : Fin 4 → ℕ) c ≤ (j c).val ∧ (j c).val < (![0, 0, 0, 384] : Fin 4 → ℕ) c + Rest.size c) := by
  have h0 : (j 0).val < 1 := (j 0).isLt
  have h1 : (j 1).val < 2 := (j 1).isLt
  have h2 : (j 2).val < 2048 := (j 2).isLt
  have h3 : (j 3).val < 512 := (j 3).isLt
  by_cases hc : (j 3).val < 384
  · by_cases h : (j 1).val = 0
    · refine .inl fun a => ?_
      match a with
      | ⟨0, _⟩ => exact ⟨Nat.zero_le _, by show (j 0).val < 0 + 1; omega⟩
      | ⟨1, _⟩ => exact ⟨Nat.zero_le _, by show (j 1).val < 0 + 1; omega⟩
      | ⟨2, _⟩ => exact ⟨Nat.zero_le _, by show (j 2).val < 0 + 2048; omega⟩
      | ⟨3, _⟩ => exact ⟨Nat.zero_le _, by show (j 3).val < 0 + 384; omega⟩
    · refine .inr (.inl fun a => ?_)
      match a with
      | ⟨0, _⟩ => exact ⟨Nat.zero_le _, by show (j 0).val < 0 + 1; omega⟩
      | ⟨1, _⟩ => exact ⟨by show 1 ≤ (j 1).val; omega, by show (j 1).val < 1 + 1; omega⟩
      | ⟨2, _⟩ => exact ⟨Nat.zero_le _, by show (j 2).val < 0 + 2048; omega⟩
      | ⟨3, _⟩ => exact ⟨Nat.zero_le _, by show (j 3).val < 0 + 384; omega⟩
  · refine .inr (.inr fun a => ?_)
    match a with
    | ⟨0, _⟩ => exact ⟨Nat.zero_le _, by show (j 0).val < 0 + 1; omega⟩
    | ⟨1, _⟩ => exact ⟨Nat.zero_le _, by show (j 1).val < 0 + 2; omega⟩
    | ⟨2, _⟩ => exact ⟨Nat.zero_le _, by show (j 2).val < 0 + 2048; omega⟩
    | ⟨3, _⟩ => exact ⟨by show 384 ≤ (j 3).val; omega, by show (j 3).val < 384 + 128; omega⟩

section Stored
variable {arg : Memref sig .tc .vmem Pair .bf16} (f : arg.view.ty.Contents (Elt F))

/-- The two tiles' stores, and what they leave. -/
theorem stored_pair (a b : Tile.Idx → Elt F .bf16) (inb : ∀ c, (![0, 0, 0, 0] : Fin 4 → ℕ) c + Tile.size c ≤ Pair.size c) (inb' : ∀ c, (![0, 1, 0, 0] : Fin 4 → ℕ) c + Tile.size c ≤ Pair.size c) :
    arg.view.read (Elt F) (arg.view.writes (Elt F) f [⟨Rect.unit (s := Pair) ![0, 1, 0, 0] Tile.size inb', b⟩, ⟨Rect.unit (s := Pair) ![0, 0, 0, 0] Tile.size inb, a⟩]) = pair a b :=
  stored_two f (pair a b) (part_gate a b inb) (part_up a b inb') cover_pair

/-- The last point's three stores, and what they leave. -/
theorem stored_pairCut (a b : Cut.Idx → Elt F .bf16) (z : Rest.Idx → Elt F .bf16) (inb : ∀ c, (![0, 0, 0, 0] : Fin 4 → ℕ) c + Cut.size c ≤ Pair.size c) (inb' : ∀ c, (![0, 1, 0, 0] : Fin 4 → ℕ) c + Cut.size c ≤ Pair.size c)
    (inb'' : ∀ c, (![0, 0, 0, 384] : Fin 4 → ℕ) c + Rest.size c ≤ Pair.size c) :
    arg.view.read (Elt F) (arg.view.writes (Elt F) f [⟨Rect.unit (s := Pair) ![0, 0, 0, 384] Rest.size inb'', z⟩, ⟨Rect.unit (s := Pair) ![0, 1, 0, 0] Cut.size inb', b⟩, ⟨Rect.unit (s := Pair) ![0, 0, 0, 0] Cut.size inb, a⟩]) = pairCut a b z :=
  stored_three f (pairCut a b z) (part_gate_cut a b z inb) (part_up_cut a b z inb') (part_rest a b z inb'') cover_pair_cut

end Stored

/-- Two stores of the halves of the rows leave the two halves. -/
theorem stored_halves {e : EltTy} {arg : Memref sig .tc .vmem Rows e} (f : arg.view.ty.Contents (Elt F)) (lo hi : Half.Idx → Elt F e)
    (inb : ∀ a, (![0, 0] : Fin 2 → ℕ) a + Half.size a ≤ Rows.size a) (inb' : ∀ a, (![512, 0] : Fin 2 → ℕ) a + Half.size a ≤ Rows.size a) :
    arg.view.read (Elt F) (arg.view.writes (Elt F) f [⟨Rect.unit (s := Rows) ![512, 0] Half.size inb', hi⟩, ⟨Rect.unit (s := Rows) ![0, 0] Half.size inb, lo⟩]) = halves lo hi :=
  stored_two f (halves lo hi) (part_lo lo hi inb) (part_hi lo hi inb') cover_halves

end Cert.Blocks

end
-- ==== Proof.Cast.Run.lean ====
module

public import proofs.«01_k».proof.Proof.Gen.FfnCastIdeal.Frame
public import proofs.«01_k».proof.Proof.Gen.FfnCastIdeal.Skeleton
public import proofs.«01_k».proof.Proof.Cast.Blocks

@[expose] public section

set_option maxRecDepth 16384

noncomputable section

namespace Cert.FfnCastIdeal.Cast

open Cert.FfnCastIdeal Cert.FfnCastIdeal.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves -/

/-- The layer's row of the gains. -/
def gainRow (g : Vec F S4x2048 .f32) : Vec F S1x2048 .f32 := part (s := S4x2048) g ![0, 0] S1x2048.size inb_S4x2048_S1x2048_0_0

/-- The upper half of the rows, and the lower. -/
def rowsLo (x : Vec F S1024x2048 .f32) : Vec F S512x2048 .f32 := part (s := S1024x2048) x ![0, 0] S512x2048.size inb_S1024x2048_S512x2048_0_0
def rowsHi (x : Vec F S1024x2048 .f32) : Vec F S512x2048 .f32 := part (s := S1024x2048) x ![512, 0] S512x2048.size inb_S1024x2048_S512x2048_512_0

/-- The first 384 columns of a tile. -/
def colsCut (w : Vec F S1x2048x512 .f32) : Vec F S1x2048x384 .f32 := part (s := S1x2048x512) w ![0, 0, 0] S1x2048x384.size inb_S1x2048x512_S1x2048x384_0_0_0

/-- The first 384 rows of a down block. -/
def rowsCut (d : Vec F S1x512x2048 .f32) : Vec F S1x384x2048 .f32 := part (s := S1x512x2048) d ![0, 0, 0] S1x384x2048.size inb_S1x512x2048_S1x384x2048_0_0_0

/-- The number added to the mean of squares. -/
def epsilon : F .f32 := Scalar.ofBits .f32 0x358637BD#32

/-- The normalized rows, in two halves. -/
def hiddenOf (x : Vec F S1024x2048 .f32) (g : Vec F S4x2048 .f32) : Vec F S1024x2048 .bf16 :=
  halves (k0_pay11 (gainRow g) (rowsLo x) (k0_pay9 (rowsLo x)) epsilon) (k0_pay14 (gainRow g) (rowsHi x))

/-- The first partial sum, in two halves. -/
def firstOut (x : Vec F S1024x2048 .f32) (g : Vec F S4x2048 .f32) (a b : Vec F S1x2048x512 .f32) (d : Vec F S1x512x2048 .f32) : Vec F S1024x2048 .f32 :=
  halves (k0_pay12 (k0_pay4 d) (k0_pay7 (k0_pay5 a)) (k0_pay8 (k0_pay6 b)) (gainRow g) (rowsLo x) (k0_pay9 (rowsLo x)) epsilon)
    (k0_pay1 (k0_pay4 d) (k0_pay15 (k0_pay7 (k0_pay5 a)) (k0_pay8 (k0_pay6 b)) (gainRow g) (rowsHi x)))

/-- A middle point's partial sum, added. -/
def midOut (acc : Vec F S1024x2048 .f32) (h : Vec F S1024x2048 .bf16) (a b : Vec F S1x2048x512 .f32) (d : Vec F S1x512x2048 .f32) : Vec F S1024x2048 .f32 :=
  k0_pay2 (k0_pay16 acc) (k0_pay17 d) (k0_pay20 h (k0_pay18 a) (k0_pay19 b))

/-- The last point's, added, and the residual. -/
def lastOut (x acc : Vec F S1024x2048 .f32) (h : Vec F S1024x2048 .bf16) (a b : Vec F S1x2048x512 .f32) (d : Vec F S1x512x2048 .f32) : Vec F S1024x2048 .f32 :=
  k0_pay3 x (k0_pay21 acc) h (k0_pay22 (rowsCut d)) (k0_pay26 (k0_pay23 (colsCut a))) (k0_pay24 (colsCut b))

/-- The pair of tiles a point rounds and packs. -/
def firstTiles (a b : Vec F S1x2048x512 .f32) : Vec F S1x2x2048x512 .bf16 := pair (k0_pay5 a) (k0_pay6 b)
def midTiles (a b : Vec F S1x2048x512 .f32) : Vec F S1x2x2048x512 .bf16 := pair (k0_pay18 a) (k0_pay19 b)
def lastTiles (a b : Vec F S1x2048x512 .f32) : Vec F S1x2x2048x512 .bf16 := pairCut (k0_pay23 (colsCut a)) (k0_pay24 (colsCut b)) k0_pay25

/-! ## The three runs -/

set_option maxHeartbeats 1000000 in
/-- A middle point: its partial sum is added to the output's. -/
theorem run_mid (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .vmem S1024x2048 .f32) (harg7 : arg7.IsWhole) (arg8 : Memref sig .tc .vmem S1x2x2048x512 .bf16) (harg8 : arg8.IsWhole) (arg9 : Memref sig .tc .vmem S1024x2048 .bf16) (harg9 : arg9.IsWhole)
    (h1 : ¬k0_cond1 i = 1#1) (h2 : k0_cond2 i = 1#1) (h3 : ¬k0_cond3 i = 1#1)
    (x : Vec F S1024x2048 .f32) (g : Vec F S4x2048 .f32) (a b : Vec F S1x2048x512 .f32) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg7 fullShare acc ∗ (∃ y, owns (c : Thread nD τ) arg8 fullShare y) ∗ owns (c : Thread nD τ) arg9 fullShare h
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg7 fullShare (midOut acc h a b d) ∗ owns (c : Thread nD τ) arg8 fullShare (midTiles a b) ∗ owns (c : Thread nD τ) arg9 fullShare h) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9) K := by
  simp only [cc0_ffn_cast_eq_skeleton]; unfold cc0_ffn_cast_skel
  simp only [k0_part3_eq_skeleton]; unfold k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    have e29 : run_mid.sl.v29 c arg4 arg5 arg8 f4 f5 = k0_pay18 a := by
      unfold run_mid.sl.v29 run_mid.sl.H8_2
      rw [load_whole hf4 zero3, load_whole hf5 zero3]
      exact (load_part (stored_pair _ _ _ _ _) _ _ _).trans (part_gate _ _ _)
    have e31 : run_mid.sl.v31 c arg4 arg5 arg8 f4 f5 = k0_pay19 b := by
      unfold run_mid.sl.v31 run_mid.sl.H8_2
      rw [load_whole hf4 zero3, load_whole hf5 zero3]
      exact (load_part (stored_pair _ _ _ _ _) _ _ _).trans (part_up _ _ _)
    refine (stored_all _ _ zero2 _).trans ?_
    dsimp only
    unfold midOut
    rw [load_whole hf7 zero2, load_whole hf9 zero2, load_whole hf6 zero3, e29, e31]
  isplitl [H8]
  · iexists _; isplitr; swap; · iexact H8
    ipureintro
    unfold run_mid.sl.H8_2 midTiles
    rw [load_whole hf4 zero3, load_whole hf5 zero3]
    exact stored_pair _ _ _ _ _
  iexists _; isplitr; swap; · iexact H9
  ipureintro
  exact hf9

set_option maxHeartbeats 1000000 in
/-- The last point: its partial sum is added, and the residual. -/
theorem run_last (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .vmem S1024x2048 .f32) (harg7 : arg7.IsWhole) (arg8 : Memref sig .tc .vmem S1x2x2048x512 .bf16) (harg8 : arg8.IsWhole) (arg9 : Memref sig .tc .vmem S1024x2048 .bf16) (harg9 : arg9.IsWhole)
    (h1 : ¬k0_cond1 i = 1#1) (h2 : ¬k0_cond2 i = 1#1) (h3 : k0_cond3 i = 1#1)
    (x : Vec F S1024x2048 .f32) (g : Vec F S4x2048 .f32) (a b : Vec F S1x2048x512 .f32) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg7 fullShare acc ∗ (∃ y, owns (c : Thread nD τ) arg8 fullShare y) ∗ owns (c : Thread nD τ) arg9 fullShare h
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg7 fullShare (lastOut x acc h a b d) ∗ owns (c : Thread nD τ) arg8 fullShare (lastTiles a b) ∗ owns (c : Thread nD τ) arg9 fullShare h) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9) K := by
  simp only [cc0_ffn_cast_eq_skeleton]; unfold cc0_ffn_cast_skel
  simp only [k0_part4_eq_skeleton]; unfold k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%e8, %f8, -, H8⟩, ⟨%f9, %hf9, H9⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    have e34 : run_last.sl.v34 c arg4 arg5 arg8 f4 f5 = k0_pay23 (colsCut a) := by
      unfold run_last.sl.v34 run_last.sl.H8_3
      rw [load_part hf4, load_part hf5]
      exact (load_part (stored_pairCut _ _ _ _ _ _ _) _ _ _).trans (part_gate_cut _ _ _ _)
    have e36 : run_last.sl.v36 c arg4 arg5 arg8 f4 f5 = k0_pay24 (colsCut b) := by
      unfold run_last.sl.v36 run_last.sl.H8_3
      rw [load_part hf4, load_part hf5]
      exact (load_part (stored_pairCut _ _ _ _ _ _ _) _ _ _).trans (part_up_cut _ _ _ _)
    refine (stored_all _ _ zero2 _).trans ?_
    dsimp only
    unfold lastOut
    rw [load_whole hf2 zero2, load_whole hf7 zero2, load_whole hf9 zero2, load_part hf6, e34, e36]
    rfl
  isplitl [H8]
  · iexists _; isplitr; swap; · iexact H8
    ipureintro
    unfold run_last.sl.H8_3 lastTiles
    rw [load_part hf4, load_part hf5]
    exact stored_pairCut _ _ _ _ _ _ _
  iexists _; isplitr; swap; · iexact H9
  ipureintro
  exact hf9

set_option maxHeartbeats 1000000 in
/-- The first point: the normalized rows, and the first partial sum. -/
theorem run_first (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .vmem S1024x2048 .f32) (harg7 : arg7.IsWhole) (arg8 : Memref sig .tc .vmem S1x2x2048x512 .bf16) (harg8 : arg8.IsWhole) (arg9 : Memref sig .tc .vmem S1024x2048 .bf16) (harg9 : arg9.IsWhole)
    (h1 : k0_cond1 i = 1#1) (h2 : ¬k0_cond2 i = 1#1) (h3 : ¬k0_cond3 i = 1#1)
    (x : Vec F S1024x2048 .f32) (g : Vec F S4x2048 .f32) (a b : Vec F S1x2048x512 .f32) (d : Vec F S1x512x2048 .f32)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ (∃ y, owns (c : Thread nD τ) arg7 fullShare y) ∗ (∃ y, owns (c : Thread nD τ) arg8 fullShare y) ∗ (∃ y, owns (c : Thread nD τ) arg9 fullShare y)
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg7 fullShare (firstOut x g a b d) ∗ owns (c : Thread nD τ) arg8 fullShare (firstTiles a b) ∗ owns (c : Thread nD τ) arg9 fullShare (hiddenOf x g)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9) K := by
  simp only [cc0_ffn_cast_eq_skeleton]; unfold cc0_ffn_cast_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, ⟨%e9, %f9, -, H9⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    have e26 : run_first.sl.v26 c arg4 arg5 arg8 f4 f5 = k0_pay5 a := by
      unfold run_first.sl.v26 run_first.sl.H8_2
      rw [load_whole hf4 zero3, load_whole hf5 zero3]
      exact (load_part (stored_pair _ _ _ _ _) _ _ _).trans (part_gate _ _ _)
    have e28 : run_first.sl.v28 c arg4 arg5 arg8 f4 f5 = k0_pay6 b := by
      unfold run_first.sl.v28 run_first.sl.H8_2
      rw [load_whole hf4 zero3, load_whole hf5 zero3]
      exact (load_part (stored_pair _ _ _ _ _) _ _ _).trans (part_up _ _ _)
    dsimp only
    rw [load_part hf3, load_part hf2, load_part hf2, load_whole hf6 zero3, e26, e28]
    exact stored_halves _ _ _ _ _
  isplitl [H8]
  · iexists _; isplitr; swap; · iexact H8
    ipureintro
    unfold run_first.sl.H8_2 firstTiles
    rw [load_whole hf4 zero3, load_whole hf5 zero3]
    exact stored_pair _ _ _ _ _
  iexists _; isplitr; swap; · iexact H9
  ipureintro
  dsimp only
  rw [load_part hf3, load_part hf2, load_part hf2]
  exact stored_halves _ _ _ _ _

end Cert.FfnCastIdeal.Cast

end
-- ==== Proof.Cast.Same.lean ====
module

public import proofs.«01_k».proof.Defs
public import proofs.«01_k».proof.Proof.Cast.Frame
public import proofs.«01_k».proof.Proof.Gen.FfnCast

@[expose] public section

set_option maxRecDepth 16384

noncomputable section

namespace Cert.FfnCastIdeal.Cast

open Idealize.ShloMosaic Idealize.ShloMosaic.TcCoe

variable {F : FTy → Type} [FloatOps F]

/-! ## The kernel and its idealization, which replaces nothing, are one program -/

theorem same_body : Cert.FfnCast.cc0_ffn_cast (F := F) = Cert.FfnCastIdeal.cc0_ffn_cast (F := F) := rfl

theorem same_defs₀ : Cert.FfnCast.defs₀ (F := F) = Cert.FfnCastIdeal.defs₀ (F := F) := by
  unfold Cert.FfnCast.defs₀ Cert.FfnCastIdeal.defs₀
  refine congrArg Defs.onTc (funext fun l => ?_)
  match l with
  | ⟨0, _⟩ => exact funext fun p => congrFun (congrFun (congrFun (congrFun (congrFun (congrFun (congrFun (congrFun (congrFun (congrFun (congrFun (congrFun (congrFun (congrFun (congrFun (congrFun (congrFun same_body _) _) _) _) _) _) _) _) _) _) _) _) _) _) _) _) _

theorem same_defs : Cert.FfnCast.defs (F := F) = Cert.FfnCastIdeal.defs (F := F) := congrArg (Pipeline.defs Cert.FfnCastIdeal.pcfgs) same_defs₀

/-- The frame of the kernel as it is, from the frame at any values. -/
theorem frame_kernel : Cert.quiescent_FfnCast := fun m ρ _ => by
  have h := frame m ρ
  rw [← same_defs] at h
  exact h

end Cert.FfnCastIdeal.Cast

end
-- ==== Proof.Cast.Closed.lean ====
module

public import proofs.«01_k».proof.Proof.Cast.Run
public import proofs.«01_k».proof.Proof.Ffn.Closed

@[expose] public section

set_option maxRecDepth 16384

noncomputable section

namespace Cert.FfnCastIdeal.Cast

open Cert.FfnCastIdeal Cert.FfnCastIdeal.Gen Cert.Blocks
open Idealize.ShloMosaic Idealize.ShloMosaic.TcCoe
open Cert.FeedForward
open Cert.FfnIdeal.Ffn (term_eq)

/-! ## The payloads at an index -/

theorem pay10_apply (g : Vec Ideal S1x2048 .f32) (x : Vec Ideal S512x2048 .f32) (r : Fin 512) (k : Fin 2048) :
    (k0_pay10 g x (k0_pay9 x) epsilon : FVec Ideal S512x2048 .bf16) (ix2 r k)
      = x (ix2 r k) * Ideal.rsqrt (Ideal.div (∑ l : Fin 2048, x (ix2 r l) * x (ix2 r l)) (Ideal.ofBits .f32 0x45000000#32) + Ideal.ofBits .f32 0x358637BD#32) * g (ix2 (0 : Fin 1) k) := by
  unfold k0_pay10 k0_pay9 epsilon
  pointwise

theorem pay11_eq (g : Vec Ideal S1x2048 .f32) (x : Vec Ideal S512x2048 .f32) (r : Fin 512) (k : Fin 2048) :
    (k0_pay11 g x (k0_pay9 x) epsilon : FVec Ideal S512x2048 .bf16) (ix2 r k) = k0_pay10 g x (k0_pay9 x) epsilon (ix2 r k) := by
  unfold k0_pay11
  pointwise

/-- The second half is written with the first's operations. -/
theorem pay14_eq (g : Vec Ideal S1x2048 .f32) (x : Vec Ideal S512x2048 .f32) : (k0_pay14 g x : FVec Ideal S512x2048 .bf16) = k0_pay11 g x (k0_pay9 x) epsilon := rfl
theorem pay1_eq (g : Vec Ideal S1x2048 .f32) (x : Vec Ideal S512x2048 .f32) (d : Vec Ideal S1x512x2048 .f32) (w0 w1 : Vec Ideal S1x1x2048x512 .bf16) :
    (k0_pay1 (k0_pay4 d) (k0_pay15 (k0_pay7 w0) (k0_pay8 w1) g x) : FVec Ideal S512x2048 .f32) = k0_pay12 (k0_pay4 d) (k0_pay7 w0) (k0_pay8 w1) g x (k0_pay9 x) epsilon := rfl

theorem pay12_apply (g : Vec Ideal S1x2048 .f32) (x : Vec Ideal S512x2048 .f32) (d : Vec Ideal S1x512x2048 .f32) (w0 w1 : Vec Ideal S1x1x2048x512 .bf16) (r : Fin 512) (C : Fin 2048) :
    (k0_pay12 (k0_pay4 d) (k0_pay7 w0) (k0_pay8 w1) g x (k0_pay9 x) epsilon : FVec Ideal S512x2048 .f32) (ix2 r C)
      = ∑ n : Fin 512, ((∑ k : Fin 2048, k0_pay10 g x (k0_pay9 x) epsilon (ix2 r k) * w0 (ix4 (0 : Fin 1) (0 : Fin 1) k n)) * Ideal.logistic (∑ k : Fin 2048, k0_pay10 g x (k0_pay9 x) epsilon (ix2 r k) * w0 (ix4 (0 : Fin 1) (0 : Fin 1) k n))
          * ∑ k : Fin 2048, k0_pay10 g x (k0_pay9 x) epsilon (ix2 r k) * w1 (ix4 (0 : Fin 1) (0 : Fin 1) k n)) * d (ix3 (0 : Fin 1) n C) := by
  unfold k0_pay12 k0_pay4 k0_pay7 k0_pay8
  pointwise

theorem pay2_apply (acc : Vec Ideal S1024x2048 .f32) (h : Vec Ideal S1024x2048 .bf16) (d : Vec Ideal S1x512x2048 .f32) (w0 w1 : Vec Ideal S1x1x2048x512 .bf16) (r : Fin 1024) (C : Fin 2048) :
    (k0_pay2 (k0_pay16 acc) (k0_pay17 d) (k0_pay20 h w0 w1) : FVec Ideal S1024x2048 .f32) (ix2 r C)
      = acc (ix2 r C) + ∑ n : Fin 512, ((∑ k : Fin 2048, h (ix2 r k) * w0 (ix4 (0 : Fin 1) (0 : Fin 1) k n)) * Ideal.logistic (∑ k : Fin 2048, h (ix2 r k) * w0 (ix4 (0 : Fin 1) (0 : Fin 1) k n))
          * ∑ k : Fin 2048, h (ix2 r k) * w1 (ix4 (0 : Fin 1) (0 : Fin 1) k n)) * d (ix3 (0 : Fin 1) n C) := by
  unfold k0_pay2 k0_pay16 k0_pay17 k0_pay20
  pointwise

theorem pay3_apply (x acc : Vec Ideal S1024x2048 .f32) (h : Vec Ideal S1024x2048 .bf16) (d : Vec Ideal S1x384x2048 .f32) (w0 w1 : Vec Ideal S1x1x2048x384 .bf16) (r : Fin 1024) (C : Fin 2048) :
    (k0_pay3 x (k0_pay21 acc) h (k0_pay22 d) (k0_pay26 w0) w1 : FVec Ideal S1024x2048 .f32) (ix2 r C)
      = x (ix2 r C) + Ideal.ofBits .f32 0x3F000000#32 * (acc (ix2 r C) + ∑ n : Fin 384, ((∑ k : Fin 2048, h (ix2 r k) * w0 (ix4 (0 : Fin 1) (0 : Fin 1) k n)) * Ideal.logistic (∑ k : Fin 2048, h (ix2 r k) * w0 (ix4 (0 : Fin 1) (0 : Fin 1) k n))
          * ∑ k : Fin 2048, h (ix2 r k) * w1 (ix4 (0 : Fin 1) (0 : Fin 1) k n)) * d (ix3 (0 : Fin 1) n C)) := by
  unfold k0_pay3 k0_pay21 k0_pay22 k0_pay26
  pointwise

/-- A rounded tile, at an index. -/
theorem pay5_apply (a : Vec Ideal S1x2048x512 .f32) (k : Fin 2048) (n : Fin 512) :
    (k0_pay5 a : FVec Ideal S1x1x2048x512 .bf16) (ix4 (0 : Fin 1) (0 : Fin 1) k n) = a (ix3 (0 : Fin 1) k n) := by
  unfold k0_pay5
  pointwise
theorem pay6_eq (a : Vec Ideal S1x2048x512 .f32) : (k0_pay6 a : FVec Ideal S1x1x2048x512 .bf16) = k0_pay5 a := rfl
theorem pay18_eq (a : Vec Ideal S1x2048x512 .f32) : (k0_pay18 a : FVec Ideal S1x1x2048x512 .bf16) = k0_pay5 a := rfl
theorem pay19_eq (a : Vec Ideal S1x2048x512 .f32) : (k0_pay19 a : FVec Ideal S1x1x2048x512 .bf16) = k0_pay5 a := rfl

theorem pay23_apply (a : Vec Ideal S1x2048x384 .f32) (k : Fin 2048) (n : Fin 384) :
    (k0_pay23 a : FVec Ideal S1x1x2048x384 .bf16) (ix4 (0 : Fin 1) (0 : Fin 1) k n) = a (ix3 (0 : Fin 1) k n) := by
  unfold k0_pay23
  pointwise
theorem pay24_eq (a : Vec Ideal S1x2048x384 .f32) : (k0_pay24 a : FVec Ideal S1x1x2048x384 .bf16) = k0_pay23 a := rfl

theorem pay25_apply (p : Fin 2) (k : Fin 2048) (n : Fin 128) : (k0_pay25 : FVec Ideal S1x2x2048x128 .bf16) (ix4 (0 : Fin 1) p k n) = 0 := by
  unfold k0_pay25
  pointwise

/-! ## Parts at an index -/

theorem halves_apply_lo (lo hi : Half.Idx → EReal) (r : Fin 1024) (k : Fin 2048) (h : r.val < 512) :
    halves lo hi (ix2 r k) = lo (ix2 (⟨r.val, h⟩ : Fin 512) k) := by
  unfold halves
  rw [dif_pos (show ((ix2 r k : Rows.Idx) 0).val < 512 from h)]
  refine congrArg lo (funext fun a => ?_)
  match a with | ⟨0, _⟩ => rfl | ⟨1, _⟩ => rfl

theorem halves_apply_hi (lo hi : Half.Idx → EReal) (r : Fin 1024) (k : Fin 2048) (h : ¬r.val < 512) :
    halves lo hi (ix2 r k) = hi (ix2 (⟨r.val - 512, by have := r.isLt; omega⟩ : Fin 512) k) := by
  unfold halves
  rw [dif_neg (show ¬((ix2 r k : Rows.Idx) 0).val < 512 from h)]
  refine congrArg hi (funext fun a => ?_)
  match a with | ⟨0, _⟩ => rfl | ⟨1, _⟩ => rfl

theorem lo_apply (xt : Vec Ideal S1024x2048 .f32) (a : Fin 512) (r : Fin 1024) (l : Fin 2048) (e : a.val = r.val) : rowsLo xt (ix2 a l) = xt (ix2 r l) :=
  congrArg xt (funext fun c => Fin.ext (by match c with | ⟨0, _⟩ => exact (Nat.zero_add _).trans e | ⟨1, _⟩ => exact Nat.zero_add _))
theorem hi_apply (xt : Vec Ideal S1024x2048 .f32) (a : Fin 512) (r : Fin 1024) (l : Fin 2048) (e : 512 + a.val = r.val) : rowsHi xt (ix2 a l) = xt (ix2 r l) :=
  congrArg xt (funext fun c => Fin.ext (by match c with | ⟨0, _⟩ => exact e | ⟨1, _⟩ => exact Nat.zero_add _))
theorem gain_apply (gt : Vec Ideal S4x2048 .f32) (k : Fin 2048) : gainRow gt (ix2 (0 : Fin 1) k) = gt (ix2 (0 : Fin 4) k) :=
  congrArg gt (funext fun c => Fin.ext (by match c with | ⟨0, _⟩ => rfl | ⟨1, _⟩ => exact Nat.zero_add _))
theorem colsCut_apply (w : Vec Ideal S1x2048x512 .f32) (k : Fin 2048) (n : Fin 384) : colsCut w (ix3 (0 : Fin 1) k n) = w (ix3 (0 : Fin 1) k (⟨n.val, by omega⟩ : Fin 512)) :=
  congrArg w (funext fun c => Fin.ext (by match c with | ⟨0, _⟩ => rfl | ⟨1, _⟩ => exact Nat.zero_add _ | ⟨2, _⟩ => exact Nat.zero_add _))
theorem rowsCut_apply (d : Vec Ideal S1x512x2048 .f32) (n : Fin 384) (C : Fin 2048) : rowsCut d (ix3 (0 : Fin 1) n C) = d (ix3 (0 : Fin 1) (⟨n.val, by omega⟩ : Fin 512) C) :=
  congrArg d (funext fun c => Fin.ext (by match c with | ⟨0, _⟩ => rfl | ⟨1, _⟩ => exact Nat.zero_add _ | ⟨2, _⟩ => exact Nat.zero_add _))

/-! ## The row tile as rows of the layer -/

section Layer
variable (x : ℕ → ℕ → EReal) (g : ℕ → EReal) (w0 w1 dn : ℕ → ℕ → EReal) (R : ℕ)

theorem norm_eq (gt : Vec Ideal S4x2048 .f32) (xt : Vec Ideal S512x2048 .f32) (r : Fin 512) (k : Fin 2048)
    (hx : ∀ l : Fin 2048, xt (ix2 r l) = x R l.val) (hg : ∀ l : Fin 2048, gt (ix2 (0 : Fin 4) l) = g l.val) :
    (k0_pay10 (gainRow gt) xt (k0_pay9 xt) epsilon : FVec Ideal S512x2048 .bf16) (ix2 r k) = normed x g R k.val := by
  rw [pay10_apply]
  unfold normed
  simp only [hx]
  exact congrArg _ ((gain_apply gt k).trans (hg k))

variable (xt : Vec Ideal S1024x2048 .f32) (gt : Vec Ideal S4x2048 .f32) (a b : Vec Ideal S1x2048x512 .f32) (d : Vec Ideal S1x512x2048 .f32) (r : Fin 1024)

theorem hidden_apply (hx : ∀ l : Fin 2048, xt (ix2 r l) = x R l.val) (hg : ∀ l : Fin 2048, gt (ix2 (0 : Fin 4) l) = g l.val) (k : Fin 2048) :
    hiddenOf xt gt (ix2 r k) = normed x g R k.val := by
  unfold hiddenOf
  by_cases h : r.val < 512
  · refine (halves_apply_lo _ _ r k h).trans ((pay11_eq _ _ _ _).trans (norm_eq x g R gt _ _ k (fun l => ?_) hg))
    exact (lo_apply xt _ r l rfl).trans (hx l)
  · refine (halves_apply_hi _ _ r k h).trans ((congrFun (pay14_eq _ _) _).trans ((pay11_eq _ _ _ _).trans (norm_eq x g R gt _ _ k (fun l => ?_) hg)))
    exact (hi_apply xt _ r l (by show 512 + (r.val - 512) = r.val; omega)).trans (hx l)

theorem first_apply (hx : ∀ l : Fin 2048, xt (ix2 r l) = x R l.val) (hg : ∀ l : Fin 2048, gt (ix2 (0 : Fin 4) l) = g l.val)
    (hw0 : ∀ (k : Fin 2048) (n : Fin 512), a (ix3 (0 : Fin 1) k n) = w0 k.val n.val) (hw1 : ∀ (k : Fin 2048) (n : Fin 512), b (ix3 (0 : Fin 1) k n) = w1 k.val n.val)
    (C : Fin 2048) (hd : ∀ n : Fin 512, d (ix3 (0 : Fin 1) n C) = dn n.val C.val) :
    firstOut xt gt a b d (ix2 r C) = partialSum (gated (normed x g R) w0 w1) dn C.val 512 := by
  rw [partialSum_zero]
  unfold firstOut
  have ht : ∀ (x' : Vec Ideal S512x2048 .f32) (q : Fin 512), (∀ l : Fin 2048, x' (ix2 q l) = x R l.val) →
      (k0_pay12 (k0_pay4 d) (k0_pay7 (k0_pay5 a)) (k0_pay8 (k0_pay6 b)) (gainRow gt) x' (k0_pay9 x') epsilon : FVec Ideal S512x2048 .f32) (ix2 q C)
        = ∑ n : Fin 512, gated (normed x g R) w0 w1 n.val * dn n.val C.val := fun x' q hq => by
    rw [pay12_apply]
    exact Finset.sum_congr rfl fun n _ => term_eq w0 w1 dn (normed x g R) _ _ _ _ n.val C.val (fun k => norm_eq x g R gt x' q k hq hg)
      (fun k => (pay5_apply a k n).trans (hw0 k n)) (fun k => (congrFun (pay6_eq b) _).trans ((pay5_apply b k n).trans (hw1 k n))) (hd n)
  by_cases h : r.val < 512
  · refine (halves_apply_lo _ _ r C h).trans (ht _ _ fun l => ?_)
    exact (lo_apply xt _ r l rfl).trans (hx l)
  · refine (halves_apply_hi _ _ r C h).trans ((congrFun (pay1_eq _ _ _ _ _) _).trans (ht _ _ fun l => ?_))
    exact (hi_apply xt _ r l (by show 512 + (r.val - 512) = r.val; omega)).trans (hx l)

variable (acc : Vec Ideal S1024x2048 .f32) (h : Vec Ideal S1024x2048 .bf16) (hid : ℕ → EReal) (N : ℕ)

theorem mid_apply (hh : ∀ k : Fin 2048, h (ix2 r k) = hid k.val)
    (hw0 : ∀ (k : Fin 2048) (n : Fin 512), a (ix3 (0 : Fin 1) k n) = w0 k.val (N + n.val)) (hw1 : ∀ (k : Fin 2048) (n : Fin 512), b (ix3 (0 : Fin 1) k n) = w1 k.val (N + n.val))
    (C : Fin 2048) (hd : ∀ n : Fin 512, d (ix3 (0 : Fin 1) n C) = dn (N + n.val) C.val) (hacc : acc (ix2 r C) = partialSum (gated hid w0 w1) dn C.val N) :
    midOut acc h a b d (ix2 r C) = partialSum (gated hid w0 w1) dn C.val (N + 512) := by
  rw [partialSum_add]
  unfold midOut
  refine (pay2_apply _ _ _ _ _ r C).trans (congrArg₂ (· + ·) hacc ?_)
  exact Finset.sum_congr rfl fun n _ => term_eq w0 w1 dn hid _ _ _ _ (N + n.val) C.val hh
      (fun k => (congrFun (pay18_eq a) _).trans ((pay5_apply a k n).trans (hw0 k n))) (fun k => (congrFun (pay19_eq b) _).trans ((pay5_apply b k n).trans (hw1 k n))) (hd n)

theorem last_apply (hh : ∀ k : Fin 2048, h (ix2 r k) = hid k.val)
    (hw0 : ∀ (k : Fin 2048) (n : Fin 384), a (ix3 (0 : Fin 1) k (⟨n.val, by omega⟩ : Fin 512)) = w0 k.val (N + n.val)) (hw1 : ∀ (k : Fin 2048) (n : Fin 384), b (ix3 (0 : Fin 1) k (⟨n.val, by omega⟩ : Fin 512)) = w1 k.val (N + n.val))
    (C : Fin 2048) (hd : ∀ n : Fin 384, d (ix3 (0 : Fin 1) (⟨n.val, by omega⟩ : Fin 512) C) = dn (N + n.val) C.val) (hacc : acc (ix2 r C) = partialSum (gated hid w0 w1) dn C.val N) :
    lastOut xt acc h a b d (ix2 r C) = xt (ix2 r C) + Ideal.ofBits .f32 0x3F000000#32 * partialSum (gated hid w0 w1) dn C.val (N + 384) := by
  rw [partialSum_add]
  unfold lastOut
  refine (pay3_apply _ _ _ _ _ _ r C).trans (congrArg (fun s => xt (ix2 r C) + Ideal.ofBits .f32 0x3F000000#32 * s) (congrArg₂ (· + ·) hacc ?_))
  exact Finset.sum_congr rfl fun n _ => term_eq w0 w1 dn hid _ _ _ _ (N + n.val) C.val hh
      (fun k => (pay23_apply _ k n).trans ((colsCut_apply a k n).trans (hw0 k n))) (fun k => (congrFun (pay24_eq _) _).trans ((pay23_apply _ k n).trans ((colsCut_apply b k n).trans (hw1 k n)))) ((rowsCut_apply d n C).trans (hd n))

/-! ## The packed pair at an index -/

theorem pair_apply (y z : Tile.Idx → EReal) (p : Fin 2) (k : Fin 2048) (n : Fin 512) :
    pair y z (ix4 (0 : Fin 1) p k n) = if p.val = 0 then y (ix4 (0 : Fin 1) (0 : Fin 1) k n) else z (ix4 (0 : Fin 1) (0 : Fin 1) k n) := by
  unfold pair
  refine if_congr Iff.rfl (congrArg y (funext fun c => ?_)) (congrArg z (funext fun c => ?_))
  · match c with | ⟨0, _⟩ => rfl | ⟨1, _⟩ => rfl | ⟨2, _⟩ => rfl | ⟨3, _⟩ => rfl
  · match c with | ⟨0, _⟩ => rfl | ⟨1, _⟩ => rfl | ⟨2, _⟩ => rfl | ⟨3, _⟩ => rfl

theorem firstTiles_apply (p : Fin 2) (k : Fin 2048) (n : Fin 512) :
    firstTiles a b (ix4 (0 : Fin 1) p k n) = if p.val = 0 then a (ix3 (0 : Fin 1) k n) else b (ix3 (0 : Fin 1) k n) :=
  (pair_apply _ _ p k n).trans (if_congr Iff.rfl (pay5_apply a k n) ((congrFun (pay6_eq b) _).trans (pay5_apply b k n)))

theorem midTiles_apply (p : Fin 2) (k : Fin 2048) (n : Fin 512) :
    midTiles a b (ix4 (0 : Fin 1) p k n) = if p.val = 0 then a (ix3 (0 : Fin 1) k n) else b (ix3 (0 : Fin 1) k n) :=
  (pair_apply _ _ p k n).trans (if_congr Iff.rfl ((congrFun (pay18_eq a) _).trans (pay5_apply a k n)) ((congrFun (pay19_eq b) _).trans (pay5_apply b k n)))

theorem lastTiles_apply (p : Fin 2) (k : Fin 2048) (n : Fin 512) :
    lastTiles a b (ix4 (0 : Fin 1) p k n) = if n.val < 384 then (if p.val = 0 then a (ix3 (0 : Fin 1) k n) else b (ix3 (0 : Fin 1) k n)) else 0 := by
  unfold lastTiles pairCut
  by_cases hn : n.val < 384
  · rw [dif_pos (show ((ix4 (0 : Fin 1) p k n : Pair.Idx) 3).val < 384 from hn), if_pos hn]
    refine if_congr Iff.rfl ((congrArg _ ?_).trans ((pay23_apply _ k ⟨n.val, hn⟩).trans (colsCut_apply a k ⟨n.val, hn⟩)))
      ((congrArg _ ?_).trans ((congrFun (pay24_eq _) _).trans ((pay23_apply _ k ⟨n.val, hn⟩).trans (colsCut_apply b k ⟨n.val, hn⟩))))
    · funext c
      match c with | ⟨0, _⟩ => rfl | ⟨1, _⟩ => rfl | ⟨2, _⟩ => rfl | ⟨3, _⟩ => rfl
    · funext c
      match c with | ⟨0, _⟩ => rfl | ⟨1, _⟩ => rfl | ⟨2, _⟩ => rfl | ⟨3, _⟩ => rfl
  · rw [dif_neg (show ¬((ix4 (0 : Fin 1) p k n : Pair.Idx) 3).val < 384 from hn), if_neg hn]
    refine (congrArg _ ?_).trans (pay25_apply p k ⟨n.val - 384, by have := n.isLt; omega⟩)
    funext c
    match c with | ⟨0, _⟩ => rfl | ⟨1, _⟩ => rfl | ⟨2, _⟩ => rfl | ⟨3, _⟩ => rfl

end Layer

end Cert.FfnCastIdeal.Cast

end
-- ==== Proof.Cast.Weight.lean ====
module

public import proofs.«01_k».proof.Proof.Ffn.Spec

@[expose] public section

noncomputable section

namespace Cert.FeedForward

open Idealize.ShloMosaic Idealize.ShloMosaic.TcCoe

/-! # The layer's gate and up weights, and the pair of them that is handed on in tiles -/

/-- The layer's weight at row `k` and column `n`, zero past the last column. -/
def weight (w : (⟨3, ![4, 2048, 5504]⟩ : Shape).Idx → EReal) (k n : ℕ) : EReal :=
  if h : k < 2048 ∧ n < 5504 then w (ix3 (0 : Fin 4) ⟨k, h.1⟩ ⟨n, h.2⟩) else 0

theorem weight_eq (w : (⟨3, ![4, 2048, 5504]⟩ : Shape).Idx → EReal) (i : (⟨3, ![4, 2048, 5504]⟩ : Shape).Idx) (k n : ℕ)
    (h0 : (i 0).val = 0) (h1 : (i 1).val = k) (h2 : (i 2).val = n) : w i = weight w k n := by
  subst h1 h2
  unfold weight
  rw [dif_pos ⟨(i 1).isLt, (i 2).isLt⟩]
  refine congrArg w (funext fun c => ?_)
  match c with
  | ⟨0, _⟩ => exact Fin.ext h0
  | ⟨1, _⟩ => rfl
  | ⟨2, _⟩ => rfl

theorem weight_past (w : (⟨3, ![4, 2048, 5504]⟩ : Shape).Idx → EReal) (k n : ℕ) (h : 5504 ≤ n) : weight w k n = 0 :=
  dif_neg fun e => absurd e.2 (by omega)

/-- The pair at projection `p`, row `k` and column `n`. -/
def pairAt (w0 w1 : ℕ → ℕ → EReal) (p k n : ℕ) : EReal := if p = 0 then w0 k n else w1 k n

end Cert.FeedForward

end
-- ==== Proof.Cast.Steps.lean ====
module

public import proofs.«01_k».proof.Proof.Cast.Closed
public import proofs.«01_k».proof.Proof.Cast.Run
public import proofs.«01_k».proof.Proof.Cast.Weight

@[expose] public section

set_option maxRecDepth 16384

noncomputable section

namespace Cert.FfnCastIdeal.Cast

open Cert.FfnCastIdeal Cert.FfnCastIdeal.Gen
open Idealize.ShloMosaic Idealize.ShloMosaic.TcCoe
open Cert.FeedForward

/-! ## The buffers point by point, for any launch of the body -/

section

variable {N : ℕ} (A B : ℕ → ℕ → EReal) (ab bb : Fin N → Vec Ideal S1x2048x512 .f32)
variable (ha : ∀ (t : Fin N) (k : Fin 2048) (n : Fin 512), 512 * (t.val % 11) + n.val < 5504 → ab t (ix3 (0 : Fin 1) k n) = A k.val (512 * (t.val % 11) + n.val))
variable (hb : ∀ (t : Fin N) (k : Fin 2048) (n : Fin 512), 512 * (t.val % 11) + n.val < 5504 → bb t (ix3 (0 : Fin 1) k n) = B k.val (512 * (t.val % 11) + n.val))

include ha hb

/-- The output and the normalized rows after a point, from what a first, a middle and a last point leave. -/
theorem after_steps (hN : N ≤ 11) (X : ℕ → ℕ → EReal) (G : ℕ → EReal) (D : ℕ → ℕ → EReal)
    (xb : Fin N → Vec Ideal S1024x2048 .f32) (gb : Fin N → Vec Ideal S4x2048 .f32) (db : Fin N → Vec Ideal S1x512x2048 .f32)
    (st : ℕ → Vec Ideal S1024x2048 .f32 × Vec Ideal S1024x2048 .bf16)
    (hx : ∀ (t : Fin N) (r : Fin 1024) (l : Fin 2048), xb t (ix2 r l) = X r.val l.val)
    (hg : ∀ (t : Fin N) (l : Fin 2048), gb t (ix2 (0 : Fin 4) l) = G l.val)
    (hd : ∀ (t : Fin N) (n : Fin 512) (C : Fin 2048), 512 * (t.val % 11) + n.val < 5504 → db t (ix3 (0 : Fin 1) n C) = D (512 * (t.val % 11) + n.val) C.val)
    (first : ∀ t : Fin N, t.val % 11 = 0 → st (t.val + 1) = (firstOut (xb t) (gb t) (ab t) (bb t) (db t), hiddenOf (xb t) (gb t)))
    (mid : ∀ t : Fin N, t.val % 11 ≠ 0 → t.val % 11 ≠ 10 → st (t.val + 1) = (midOut (st t.val).1 (st t.val).2 (ab t) (bb t) (db t), (st t.val).2))
    (last : ∀ t : Fin N, t.val % 11 = 10 → st (t.val + 1) = (lastOut (xb t) (st t.val).1 (st t.val).2 (ab t) (bb t) (db t), (st t.val).2)) :
    ∀ n : ℕ, n < N → ∀ r : Fin 1024,
    (∀ k : Fin 2048, (st (n + 1)).2 (ix2 r k) = normed X G r.val k.val)
    ∧ ∀ C : Fin 2048, (st (n + 1)).1 (ix2 r C)
        = if n % 11 = 10 then layer X G A B D r.val C.val else partialSum (gated (normed X G r.val) A B) D C.val (512 * (n % 11 + 1)) := by
  intro n
  induction n with
  | zero =>
    intro hn r
    have e := first ⟨0, hn⟩ rfl
    rw [show st (0 + 1) = _ from e]
    refine ⟨fun k => hidden_apply _ _ _ _ _ r (hx ⟨0, hn⟩ r) (hg ⟨0, hn⟩) k, fun C => ?_⟩
    rw [if_neg (by decide)]
    have hq : ∀ j : Fin 512, 512 * ((⟨0, hn⟩ : Fin N).val % 11) + j.val < 5504 := fun j => by have := j.isLt; show 512 * 0 + j.val < 5504; omega
    exact first_apply _ _ _ _ _ _ _ _ _ _ _ r (hx ⟨0, hn⟩ r) (hg ⟨0, hn⟩)
      (fun k j => (ha ⟨0, hn⟩ k j (hq j)).trans (congrArg _ (Nat.zero_add _))) (fun k j => (hb ⟨0, hn⟩ k j (hq j)).trans (congrArg _ (Nat.zero_add _))) C
      (fun j => (hd ⟨0, hn⟩ j C (hq j)).trans (congrArg (fun q => D q C.val) (Nat.zero_add _)))
  | succ n ih =>
    intro hn r
    have hL : n + 1 < 11 := lt_of_lt_of_le hn hN
    obtain ⟨ih2, ih1⟩ := ih (Nat.lt_of_succ_lt hn) r
    have h0 : (n + 1) % 11 ≠ 0 := by omega
    have hr : 512 * (n % 11 + 1) = 512 * ((n + 1) % 11) := by omega
    have hacc : ∀ C : Fin 2048, (st (n + 1)).1 (ix2 r C) = partialSum (gated (normed X G r.val) A B) D C.val (512 * ((n + 1) % 11)) := fun C => by
      rw [ih1 C, if_neg (by omega), hr]
    by_cases h10 : (n + 1) % 11 = 10
    · have e := last ⟨n + 1, hn⟩ h10
      rw [show st (n + 1 + 1) = _ from e]
      refine ⟨ih2, fun C => ?_⟩
      rw [if_pos h10]
      have hq : ∀ j : Fin 384, 512 * ((n + 1) % 11) + j.val < 5504 := fun j => by have := j.isLt; omega
      refine (last_apply _ _ _ _ _ _ _ r _ _ _ (512 * ((n + 1) % 11)) ih2 (fun k j => ha ⟨n + 1, hn⟩ k ⟨j.val, by omega⟩ (hq j)) (fun k j => hb ⟨n + 1, hn⟩ k ⟨j.val, by omega⟩ (hq j)) C
        (fun j => hd ⟨n + 1, hn⟩ ⟨j.val, by omega⟩ C (hq j)) (hacc C)).trans ?_
      unfold layer
      rw [hx ⟨n + 1, hn⟩ r C, h10]
    · have e := mid ⟨n + 1, hn⟩ h0 h10
      rw [show st (n + 1 + 1) = _ from e]
      refine ⟨ih2, fun C => ?_⟩
      rw [if_neg h10]
      have hq : ∀ j : Fin 512, 512 * ((n + 1) % 11) + j.val < 5504 := fun j => by have := j.isLt; omega
      exact mid_apply _ _ _ _ _ _ r _ _ _ (512 * ((n + 1) % 11)) ih2 (fun k j => ha ⟨n + 1, hn⟩ k j (hq j)) (fun k j => hb ⟨n + 1, hn⟩ k j (hq j)) C
        (fun j => hd ⟨n + 1, hn⟩ j C (hq j)) (hacc C)

/-- The pair of tiles after a point. -/
theorem tiles_steps (tl : Fin N → Vec Ideal S1x2x2048x512 .bf16) (pastA : ∀ k n : ℕ, 5504 ≤ n → A k n = 0) (pastB : ∀ k n : ℕ, 5504 ≤ n → B k n = 0)
    (first : ∀ t : Fin N, t.val % 11 = 0 → tl t = firstTiles (ab t) (bb t))
    (mid : ∀ t : Fin N, t.val % 11 ≠ 0 → t.val % 11 ≠ 10 → tl t = midTiles (ab t) (bb t))
    (last : ∀ t : Fin N, t.val % 11 = 10 → tl t = lastTiles (ab t) (bb t)) (t : Fin N) (p : Fin 2) (k : Fin 2048) (n : Fin 512) :
    tl t (ix4 (0 : Fin 1) p k n) = pairAt A B p.val k.val (512 * (t.val % 11) + n.val) := by
  have hp : 512 * (t.val % 11) + n.val < 5504 →
      (if p.val = 0 then ab t (ix3 (0 : Fin 1) k n) else bb t (ix3 (0 : Fin 1) k n)) = pairAt A B p.val k.val (512 * (t.val % 11) + n.val) :=
    fun hq => if_congr Iff.rfl (ha t k n hq) (hb t k n hq)
  have hn := n.isLt
  by_cases h0 : t.val % 11 = 0
  · rw [first t h0]
    exact (firstTiles_apply _ _ p k n).trans (hp (by omega))
  by_cases h10 : t.val % 11 = 10
  · rw [last t h10]
    refine (lastTiles_apply _ _ p k n).trans ?_
    by_cases h : n.val < 384
    · rw [if_pos h]
      exact hp (by omega)
    · rw [if_neg h]
      unfold pairAt
      rw [pastA _ _ (by omega), pastB _ _ (by omega), ite_self]
  · rw [mid t h0 h10]
    exact (midTiles_apply _ _ p k n).trans (hp (by omega))

end

end Cert.FfnCastIdeal.Cast

end
-- ==== Proof.Cast.Ref.lean ====
module

public import proofs.«01_k».proof.Proof.Gen.FfnCastReferenceIdeal.Read
public import proofs.«01_k».proof.Proof.Cast.Weight
public import proofs.«01_k».proof.Proof.Ffn.Ref
public import Idealize.ShloMosaic.Lib.Pointwise

@[expose] public section

set_option maxRecDepth 16384

noncomputable section

namespace Cert.FfnCastReferenceIdeal.Cast

open Cert.FfnCastReferenceIdeal Cert.FfnCastReferenceIdeal.Gen Cert.FfnCastReferenceIdeal.Read
open Idealize.ShloMosaic Idealize.ShloMosaic.TcCoe
open Cert.Attn (at2 at2_eq)
open Cert.FfnReferenceIdeal.Ffn (one_word)
open Cert.FeedForward

variable (x : (⟨S8192x2048, .f32⟩ : BufTy).Contents (Elt Ideal)) (g : (⟨S4x2048, .f32⟩ : BufTy).Contents (Elt Ideal))
variable (w u : (⟨S4x2048x5504, .f32⟩ : BufTy).Contents (Elt Ideal)) (d : (⟨S4x5504x2048, .f32⟩ : BufTy).Contents (Elt Ideal))

theorem normed_apply (i : S8192x2048.Idx) :
    val_main_v14 (F := Ideal) x g i = normed (at2 (A := 8192) (B := 2048) x) (at2 (A := 4) (B := 2048) g 0) (i 0).val (i 1).val := by
  rw [val_main_v14_apply, val_main_v9_apply, val_main_v8_apply, val_main_v7_apply, val_main_v6_apply, val_main_v4_apply, val_main_v2_apply, val_main_v1_apply,
    val_main_v3_apply, val_main_cst_0_apply, val_main_v5_apply, val_main_cst_1_apply, val_main_v13_apply, val_main_v12_apply, val_main_v11_apply, val_main_v10_apply, val_main_cst_apply]
  simp only [val_main_v0_apply]
  unfold normed
  refine congrArg₂ (· * ·) (congrArg₂ (· * ·) (at2_eq x i _ _ rfl rfl) (congrArg Ideal.rsqrt (congrArg (· + Ideal.ofBits .f32 0x358637BD#32) (congrArg (Ideal.div · (Ideal.ofBits .f32 0x45000000#32)) ?_)))) ?_
  · refine (congrArg₂ (· + ·) (Ideal.ofBits_zero _) (Finset.sum_congr rfl fun k _ => ?_)).trans (zero_add _)
    exact congrArg₂ (· * ·) (at2_eq x _ _ _ rfl rfl) (at2_eq x _ _ _ rfl rfl)
  · refine at2_eq g _ _ _ rfl ?_
    show (i 1).val % 2048 = (i 1).val
    exact Nat.mod_eq_of_lt (i 1).isLt

/-- The layer's weight read out of the stack. -/
theorem weight_at (v : (⟨S4x2048x5504, .f32⟩ : BufTy).Contents (Elt Ideal)) (j : S4x2048x5504.Idx) (a b : ℕ) (ha : a < 2048) (hb : b < 5504)
    (h0 : (j 0).val = 0) (h1 : (j 1).val = (a * 5504 + b) / 5504 % 2048) (h2 : (j 2).val = (a * 5504 + b) % 5504) : v j = weight v a b :=
  weight_eq v j a b h0 (h1.trans (by omega)) (h2.trans (by omega))

theorem gate_apply (i : S2048x5504.Idx) : val_main_v16 (F := Ideal) w i = weight w (i 0).val (i 1).val := by
  rw [val_main_v16_apply, val_main_v15_apply]
  exact weight_at w _ _ _ (i 0).isLt (i 1).isLt rfl rfl rfl
theorem up_apply (i : S2048x5504.Idx) : val_main_v20 (F := Ideal) u i = weight u (i 0).val (i 1).val := by
  rw [val_main_v20_apply, val_main_v19_apply]
  exact weight_at u _ _ _ (i 0).isLt (i 1).isLt rfl rfl rfl

theorem down_apply (i : S5504x2048.Idx) : val_main_v24 (F := Ideal) d i = down d (i 0).val (i 1).val := by
  have h0 : (i 0).val < 5504 := (i 0).isLt
  have h1 : (i 1).val < 2048 := (i 1).isLt
  rw [val_main_v24_apply, val_main_v23_apply]
  refine down_eq d _ _ _ ?_ ?_ ?_
  · rfl
  · show ((i 0).val * 2048 + (i 1).val) / 2048 % 5504 = _
    omega
  · show ((i 0).val * 2048 + (i 1).val) % 2048 = _
    omega

theorem project0_apply (i : S8192x5504.Idx) :
    val_main_v17 (F := Ideal) x g w i = project (normed (at2 (A := 8192) (B := 2048) x) (at2 (A := 4) (B := 2048) g 0) (i 0).val) (weight w) (i 1).val := by
  rw [val_main_v17_apply]
  unfold project
  exact Finset.sum_congr rfl fun k _ => congrArg₂ (· * ·) (normed_apply x g _) (gate_apply w _)

theorem project1_apply (i : S8192x5504.Idx) :
    val_main_v21 (F := Ideal) x g u i = project (normed (at2 (A := 8192) (B := 2048) x) (at2 (A := 4) (B := 2048) g 0) (i 0).val) (weight u) (i 1).val := by
  rw [val_main_v21_apply]
  unfold project
  exact Finset.sum_congr rfl fun k _ => congrArg₂ (· * ·) (normed_apply x g _) (up_apply u _)

theorem gated_apply (i : S8192x5504.Idx) :
    val_main_v22 (F := Ideal) x g w u i = gated (normed (at2 (A := 8192) (B := 2048) x) (at2 (A := 4) (B := 2048) g 0) (i 0).val) (weight w) (weight u) (i 1).val := by
  rw [val_main_v22_apply, val_main_v18_apply, val_main_call0_v5_apply, val_main_call0_v4_apply, val_main_call0_cst_0_apply, val_main_call0_v3_apply, val_main_call0_v2_apply,
    val_main_call0_cst_apply, val_main_call0_v1_apply, val_main_call0_v0_apply, project0_apply, project1_apply]
  unfold gated
  refine congrArg (· * _) (congrArg (_ * ·) ?_)
  show Ideal.div (Ideal.ofBits .f32 0x3F800000#32) (Ideal.ofBits .f32 0x3F800000#32 + Ideal.exp (-_)) = _
  rw [one_word]
  rfl

theorem layer_apply (i : S8192x2048.Idx) :
    val_main_v28 (F := Ideal) x g w u d i = layer (at2 (A := 8192) (B := 2048) x) (at2 (A := 4) (B := 2048) g 0) (weight w) (weight u) (down d) (i 0).val (i 1).val := by
  rw [val_main_v28_apply, val_main_v27_apply, val_main_v26_apply, val_main_cst_2_apply, val_main_v25_apply]
  unfold layer
  rw [partialSum_zero]
  refine congrArg₂ (· + ·) (at2_eq x i _ _ rfl rfl) (congrArg (_ * ·) (Finset.sum_congr rfl fun k _ => ?_))
  exact congrArg₂ (· * ·) (gated_apply x g w u _) (down_apply d _)

theorem rows_apply (r : Fin 8192) (C : Fin 2048) :
    val_main_v42 (F := Ideal) x g w u d (ix2 r C) = if r.val / 1024 = 0 then layer (at2 (A := 8192) (B := 2048) x) (at2 (A := 4) (B := 2048) g 0) (weight w) (weight u) (down d) r.val C.val
      else at2 (A := 8192) (B := 2048) x r.val C.val := by
  have hr := r.isLt
  unfold val_main_v42
  pointwise
  by_cases h : r.val < 1024
  · rw [dif_pos h]
    refine Eq.trans ?_ (if_pos (by omega)).symm
    exact (val_main_v40_apply (F := Ideal) x g w u d _).trans (layer_apply x g w u d _)
  · rw [dif_neg h]
    refine Eq.trans ?_ (if_neg (by omega)).symm
    refine (val_main_v41_apply (F := Ideal) x _).trans (at2_eq x _ _ _ ?_ rfl)
    show 1024 + (r.val - 1024) = r.val
    omega

/-- The stacked weights. -/
theorem stacked_apply (p : Fin 2) (k : Fin 2048) (n : Fin 5504) :
    val_main_v35 (F := Ideal) w u (ix3 p k n) = pairAt (weight w) (weight u) p.val k.val n.val := by
  have hp := p.isLt
  unfold val_main_v35 pairAt
  pointwise
  by_cases h : p.val < 1
  · rw [dif_pos h]
    refine Eq.trans ?_ (if_pos (by omega)).symm
    refine (val_main_v33_apply (F := Ideal) w _).trans ((val_main_v30_apply (F := Ideal) w _).trans ((val_main_v29_apply (F := Ideal) w _).trans ?_))
    exact weight_at w _ _ _ k.isLt n.isLt rfl rfl rfl
  · rw [dif_neg h]
    refine Eq.trans ?_ (if_neg (by omega)).symm
    refine (val_main_v34_apply (F := Ideal) u _).trans ((val_main_v32_apply (F := Ideal) u _).trans ((val_main_v31_apply (F := Ideal) u _).trans ?_))
    exact weight_at u _ _ _ k.isLt n.isLt rfl rfl rfl

/-- The stacked weights with zero columns after the last. -/
theorem padded_apply (p : Fin 2) (k : Fin 2048) (n : Fin 5632) :
    val_main_v36 (F := Ideal) w u (ix3 p k n) = pairAt (weight w) (weight u) p.val k.val n.val := by
  unfold val_main_v36
  pointwise
  by_cases h : n.val < 5504
  · rw [dif_pos h]
    exact stacked_apply w u p k ⟨n.val, h⟩
  · rw [dif_neg h]
    unfold pairAt
    rw [weight_past w _ _ (by omega), weight_past u _ _ (by omega), ite_self]
    rw [val_main_call1_v0_apply, val_main_c_apply]
    show (((0#32 : BitVec 32).toInt : ℝ) : EReal) = 0
    simp

theorem tiles_apply (j : Fin 11) (p : Fin 2) (k : Fin 2048) (n : Fin 512) :
    val_main_v39 (F := Ideal) w u (ix4 j p k n) = pairAt (weight w) (weight u) p.val k.val (512 * j.val + n.val) := by
  have hj := j.isLt
  have hp := p.isLt
  have hk := k.isLt
  have hn := n.isLt
  refine (val_main_v39_apply (F := Ideal) w u _).trans ((val_main_v38_apply (F := Ideal) w u _).trans ((val_main_v37_apply (F := Ideal) w u _).trans ?_))
  refine Eq.trans (congrArg _ ?_) (padded_apply w u p k ⟨512 * j.val + n.val, by omega⟩)
  funext c
  refine Fin.ext ?_
  match c with
  | ⟨0, _⟩ => show (((p.val * 2048 + k.val) * 11 + j.val) * 512 + n.val) / 11534336 = p.val; omega
  | ⟨1, _⟩ => show (((p.val * 2048 + k.val) * 11 + j.val) * 512 + n.val) / 5632 % 2048 = k.val; omega
  | ⟨2, _⟩ => show (((p.val * 2048 + k.val) * 11 + j.val) * 512 + n.val) % 5632 = 512 * j.val + n.val; omega

end Cert.FfnCastReferenceIdeal.Cast

end
-- ==== Proof.Cast.Equal.lean ====
module

public import proofs.«01_k».proof.Defs
public import proofs.«01_k».proof.Proof.Cast.Result
public import proofs.«01_k».proof.Proof.Cast.Ref
public import proofs.«01_k».proof.Proof.Gen.FfnCastReferenceIdeal.Run

@[expose] public section

set_option maxRecDepth 16384

noncomputable section

namespace Cert.FeedForwardCast

open Idealize.ShloMosaic Idealize.ShloMosaic.TcCoe
open Cert.FfnCastIdeal (nD τ sig main_arg0 main_arg1 main_arg2 main_arg3 main_arg4)

variable (m : (ℓ : Loc nD τ sig) → Buf (Elt Ideal) ℓ) (c : Dev nD)

/-- The kernel's rows are the reference's. -/
theorem rows_eq : Cert.FfnCastIdeal.Cast.rowsArr m c
      = Cert.FfnCastReferenceIdeal.Read.val_main_v42 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  have e : i = ix2 (⟨(i 0).val, (i 0).isLt⟩ : Fin 8192) (⟨(i 1).val, (i 1).isLt⟩ : Fin 2048) := by
    funext a
    match a with | ⟨0, _⟩ => rfl | ⟨1, _⟩ => rfl
  unfold Cert.FfnCastIdeal.Cast.rowsArr
  refine Eq.trans ?_ (congrArg _ e.symm)
  exact (Cert.FfnCastReferenceIdeal.Cast.rows_apply _ _ _ _ _ (⟨(i 0).val, (i 0).isLt⟩ : Fin 8192) (⟨(i 1).val, (i 1).isLt⟩ : Fin 2048)).symm

/-- The kernel's tiles are the reference's. -/
theorem tiles_eq : Cert.FfnCastIdeal.Cast.tilesArr m c
      = Cert.FfnCastReferenceIdeal.Read.val_main_v39 (F := Ideal) (m ((c.tc : Thread nD τ).loc main_arg2)) (m ((c.tc : Thread nD τ).loc main_arg3)) := by
  funext i
  have e : i = ix4 (⟨(i 0).val, (i 0).isLt⟩ : Fin 11) (⟨(i 1).val, (i 1).isLt⟩ : Fin 2) (⟨(i 2).val, (i 2).isLt⟩ : Fin 2048) (⟨(i 3).val, (i 3).isLt⟩ : Fin 512) := by
    funext a
    match a with | ⟨0, _⟩ => rfl | ⟨1, _⟩ => rfl | ⟨2, _⟩ => rfl | ⟨3, _⟩ => rfl
  unfold Cert.FfnCastIdeal.Cast.tilesArr
  refine Eq.trans ?_ (congrArg _ e.symm)
  exact (Cert.FfnCastReferenceIdeal.Cast.tiles_apply _ _ (⟨(i 0).val, (i 0).isLt⟩ : Fin 11) (⟨(i 1).val, (i 1).isLt⟩ : Fin 2) (⟨(i 2).val, (i 2).isLt⟩ : Fin 2048) (⟨(i 3).val, (i 3).isLt⟩ : Fin 512)).symm

theorem algebraic : Cert.algebraic_FfnCastIdeal_FfnCastReferenceIdeal := fun m g m' g' hm hargs =>
  ⟨fun c => Cert.FfnCastIdeal.Cast.rowsArr m c, fun c => Cert.FfnCastIdeal.Cast.tilesArr m c, Cert.FfnCastIdeal.Cast.run_value m g,
    (θ_run _ _ _).mono (fun r h c => ⟨(h c).1.trans (by
        obtain ⟨e0, e1, e2, e3, e4⟩ := hargs c
        refine (Cert.FfnCastReferenceIdeal.Read.val_main_v42_eq m' c).trans ?_
        rw [e0, e1, e2, e3, e4]
        exact (rows_eq m c).symm), (h c).2.1.trans (by
        obtain ⟨e0, e1, e2, e3, e4⟩ := hargs c
        refine (Cert.FfnCastReferenceIdeal.Read.val_main_v39_eq _ _).trans ?_
        rw [e2, e3]
        exact (tiles_eq m c).symm), (h c).2.2⟩) (Cert.FfnCastReferenceIdeal.Value.run m' g')⟩

end Cert.FeedForwardCast

end
-- ==== Proof.Into.Run.lean ====
module

public import proofs.«01_k».proof.Proof.Gen.FfnIntoIdeal.Frame
public import proofs.«01_k».proof.Proof.Gen.FfnIntoIdeal.Skeleton
public import proofs.«01_k».proof.Proof.Ffn.Run

@[expose] public section

set_option maxRecDepth 16384

noncomputable section

namespace Cert.FfnIntoIdeal.Into

open Cert.FfnIntoIdeal Cert.FfnIntoIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnIdeal.Ffn (rowsAt gainRow tileOf tileCut downCut rowsAt_eq gainRow_eq tileOf_eq tileCut_eq downCut_eq whole_eq stored_eq zero2 zero3 halves stored_halves hiddenOf firstOut midOut lastOut)

variable {F : FTy → Type} [FloatOps F]

local notation "𝕄" => MT nD τ sig Unit (Elt F) ℕ (UR sig nD τ) ℕ

/-! ## The three runs -/

set_option maxHeartbeats 1000000 in
/-- A middle point: its partial sum is added to the output's. -/
theorem run_mid (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .hbm S8192x2048 .f32) (harg6 : arg6.IsWhole) (arg7 : Memref sig .tc .vmem S1024x2048 .f32) (harg7 : arg7.IsWhole) (arg8 : Memref sig .tc .vmem S1024x2048 .bf16) (harg8 : arg8.IsWhole)
    (h1 : ¬k0_cond1 i = 1#1) (h2 : k0_cond2 i = 1#1) (h3 : ¬k0_cond3 i = 1#1)
    (x : Vec F S1024x2048 .f32) (g : Vec F S4x2048 .f32) (w : Vec F S1x2x2048x512 .bf16) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ owns (c : Thread nD τ) arg7 fullShare acc ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg7 fullShare (midOut acc h w d) ∗ owns (c : Thread nD τ) arg8 fullShare h) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    refine (stored_eq _ _ zero2 _).trans ?_
    unfold midOut
    rw [whole_eq harg7 acc zero2, whole_eq harg8 h zero2, whole_eq harg5 d zero3, tileOf_eq harg4 w 0 (by decide), tileOf_eq harg4 w 1 (by decide)]
    rfl
  iexists _; isplitr; swap; · iexact H8
  ipureintro
  exact harg8.read_unread _

set_option maxHeartbeats 1000000 in
/-- The last point: its partial sum is added, and the residual. -/
theorem run_last (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .hbm S8192x2048 .f32) (harg6 : arg6.IsWhole) (arg7 : Memref sig .tc .vmem S1024x2048 .f32) (harg7 : arg7.IsWhole) (arg8 : Memref sig .tc .vmem S1024x2048 .bf16) (harg8 : arg8.IsWhole)
    (h1 : ¬k0_cond1 i = 1#1) (h2 : ¬k0_cond2 i = 1#1) (h3 : k0_cond3 i = 1#1)
    (x : Vec F S1024x2048 .f32) (g : Vec F S4x2048 .f32) (w : Vec F S1x2x2048x512 .bf16) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ owns (c : Thread nD τ) arg7 fullShare acc ∗ owns (c : Thread nD τ) arg8 fullShare h
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg7 fullShare (lastOut x acc h w d) ∗ owns (c : Thread nD τ) arg8 fullShare h) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f2, %hf2, H2⟩, ⟨%f3, %hf3, H3⟩, ⟨%f4, %hf4, H4⟩, ⟨%f5, %hf5, H5⟩, ⟨%f7, %hf7, H7⟩, ⟨%f8, %hf8, H8⟩, Hk⟩
  obtain rfl := harg2.eq_unread hf2; obtain rfl := harg3.eq_unread hf3; obtain rfl := harg4.eq_unread hf4; obtain rfl := harg5.eq_unread hf5; obtain rfl := harg7.eq_unread hf7; obtain rfl := harg8.eq_unread hf8
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    refine (stored_eq _ _ zero2 _).trans ?_
    unfold lastOut
    rw [whole_eq harg2 x zero2, whole_eq harg7 acc zero2, whole_eq harg8 h zero2, downCut_eq harg5 d, tileCut_eq harg4 w 0 (by decide), tileCut_eq harg4 w 1 (by decide)]
    rfl
  iexists _; isplitr; swap; · iexact H8
  ipureintro
  exact harg8.read_unread _

set_option maxHeartbeats 1000000 in
/-- The first point of a row tile: the normalized rows, and the first partial sum. -/
theorem run_first (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2x2048x512 .bf16) (harg4 : arg4.IsWhole) (arg5 : Memref sig .tc .vmem S1x512x2048 .f32) (harg5 : arg5.IsWhole) (arg6 : Memref sig .tc .hbm S8192x2048 .f32) (harg6 : arg6.IsWhole) (arg7 : Memref sig .tc .vmem S1024x2048 .f32) (harg7 : arg7.IsWhole) (arg8 : Memref sig .tc .vmem S1024x2048 .bf16) (harg8 : arg8.IsWhole)
    (h1 : k0_cond1 i = 1#1) (h2 : ¬k0_cond2 i = 1#1) (h3 : ¬k0_cond3 i = 1#1)
    (x : Vec F S1024x2048 .f32) (g : Vec F S4x2048 .f32) (w : Vec F S1x2x2048x512 .bf16) (d : Vec F S1x512x2048 .f32)
    (E : Set ℕ) (K : PUnit → sProp 𝕄) :
    iprop(owns (c : Thread nD τ) arg2 fullShare x ∗ owns (c : Thread nD τ) arg3 fullShare g ∗ owns (c : Thread nD τ) arg4 fullShare w ∗ owns (c : Thread nD τ) arg5 fullShare d ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare w ∗ owns (c : Thread nD τ) arg5 fullShare d ∗ owns (c : Thread nD τ) arg7 fullShare (firstOut x g w d) ∗ owns (c : Thread nD τ) arg8 fullShare (hiddenOf x g)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%e7, %f7, -, H7⟩, ⟨%e8, %f8, -, H8⟩, Hk⟩
  obtain rfl := harg2.eq_unread hf2; obtain rfl := harg3.eq_unread hf3; obtain rfl := harg4.eq_unread hf4; obtain rfl := harg5.eq_unread hf5
  sl_exec (disch := first | sl_exact h1 | sl_exact h2 | sl_exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    rw [gainRow_eq harg3 g, rowsAt_eq harg2 x 0 (by decide), rowsAt_eq harg2 x 512 (by decide), whole_eq harg5 d zero3, tileOf_eq harg4 w 0 (by decide), tileOf_eq harg4 w 1 (by decide)]
    exact stored_halves _ _ _ _ _
  iexists _; isplitr; swap; · iexact H8
  ipureintro
  rw [gainRow_eq harg3 g, rowsAt_eq harg2 x 0 (by decide), rowsAt_eq harg2 x 512 (by decide)]
  exact stored_halves _ _ _ _ _

end Cert.FfnIntoIdeal.Into

end
-- ==== Proof.Into.Frame.lean ====
module

public import proofs.«01_k».proof.Proof.Into.Run
public import proofs.«01_k».proof.Proof.Ffn.Frame
public import Idealize.ShloMosaic.Lib.Claim
public import Mathlib.Tactic.IntervalCases

@[expose] public section

set_option maxRecDepth 16384

noncomputable section

namespace Cert.FfnIntoIdeal.Into

open Cert.FfnIntoIdeal Cert.FfnIntoIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.FfnIdeal.Ffn (downCut hiddenOf firstOut midOut lastOut)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem coord0 (t : Fin cfg0.N) : (grid0.coords t 0).val = t.val / 11 % 7 := Pipeline.Grid.coords_val t 0 (by decide) rfl
theorem coord1 (t : Fin cfg0.N) : (grid0.coords t 1).val = t.val / 1 % 11 := Pipeline.Grid.coords_val t 1 (by decide) rfl
theorem point_lt (t : Fin cfg0.N) : t.val < 77 := Nat.lt_of_lt_of_eq t.isLt N_0

theorem hcond1 (i : grid0.Coords) : k0_cond1 i = 1#1 ↔ (i 1).val = 0 := Cert.FfnIdeal.Ffn.hcond1 i
theorem hcond2 (i : grid0.Coords) : k0_cond2 i = 1#1 ↔ 0 < (i 1).val ∧ (i 1).val < 10 := Cert.FfnIdeal.Ffn.hcond2 i
theorem hcond3 (i : grid0.Coords) : k0_cond3 i = 1#1 ↔ (i 1).val = 10 := Cert.FfnIdeal.Ffn.hcond3 i

/-- Every point stores into the output's buffer. -/
theorem idle4 (i : grid0.Coords) : cfg0.idle 4 i = false := Cert.FfnIdeal.Ffn.idle4 i

/-! ## The memrefs that the pipeline passes -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .f32 := win0_4.stage (cfg0.slots t 4)
abbrev hs0_4 (t : Fin cfg0.N) : (ms0_4 t).IsWhole := hstage0_4 ((cfg0.slots t 4).cast nbuf0_4)
abbrev scM0_0 : Memref sig .tc .vmem S1024x2048 .bf16 := Memref.whole cc0_scratch0

/-- Before the first point the invariant is: the scratch at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The down projection's tile, which may overhang its array -/

/-- The tile that the buffer holds at point `t`, filled out with zeros past the array's end. -/
def downAt (c : Dev nD) (t : Fin cfg0.N) : Vec F S1x512x2048 .f32 :=
  win0_3.fill (grid0.coords t) (fun _ => Scalar.ofBits .f32 0x00000000#32) (iblk m c 3 t)

/-- What is fetched does not depend on what the buffer held. -/
theorem fill_agree (t : Fin cfg0.N) (d d' : S1x512x2048.Idx → Elt F .f32) (b : (win0_3.xblock (grid0.coords t)).Idx → Elt F .f32) (y : S1x512x2048.Idx)
    (hy : ∀ a, (y a).val < win0_3.xsize (grid0.coords t) a) : win0_3.fill (grid0.coords t) d b y = win0_3.fill (grid0.coords t) d' b y := Cert.FfnIdeal.Ffn.fill_agree t d d' b y hy

theorem moved_inner (t : Fin cfg0.N) (ht : t.val % 11 ≠ 10) (y : S1x512x2048.Idx) : ∀ a, (y a).val < win0_3.xsize (grid0.coords t) a := Cert.FfnIdeal.Ffn.moved_inner t ht y

theorem fill_inner (c : Dev nD) (t : Fin cfg0.N) (ht : t.val % 11 ≠ 10) (d : S1x512x2048.Idx → Elt F .f32) :
    win0_3.fill (grid0.coords t) d (iblk m c 3 t) = downAt m c t :=
  funext fun y => fill_agree t d _ _ y (moved_inner t ht y)

theorem moved_last (t : Fin cfg0.N) (ht : t.val % 11 = 10) (y : S1x512x2048.Idx) (hy : (y 1).val < 384) : ∀ a, (y a).val < win0_3.xsize (grid0.coords t) a := Cert.FfnIdeal.Ffn.moved_last t ht y hy

theorem fill_last (c : Dev nD) (t : Fin cfg0.N) (ht : t.val % 11 = 10) (d : S1x512x2048.Idx → Elt F .f32) :
    downCut (win0_3.fill (grid0.coords t) d (iblk m c 3 t)) = downCut (downAt m c t) :=
  funext fun j => fill_agree t d (fun _ => Scalar.ofBits .f32 0x00000000#32) (iblk m c 3 t)
    (fun a => match a with
      | ⟨0, _⟩ => j 0
      | ⟨1, _⟩ => (⟨(j 1).val, lt_of_lt_of_le (j 1).isLt (show 384 ≤ 512 by decide)⟩ : Fin 512)
      | ⟨2, _⟩ => j 2) (moved_last t ht _ (j 1).isLt)

/-! ## What the body leaves -/

/-- The output's buffer and the scratch after point `t`, from what they hold before it. -/
def stepAt (c : Dev nD) (t : Fin cfg0.N) (s : Vec F S1024x2048 .f32 × Vec F S1024x2048 .bf16) : Vec F S1024x2048 .f32 × Vec F S1024x2048 .bf16 :=
  if t.val % 11 = 0 then (firstOut (iblk m c 0 t) (iblk m c 1 t) (iblk m c 2 t) (downAt m c t), hiddenOf (iblk m c 0 t) (iblk m c 1 t))
  else if t.val % 11 = 10 then (lastOut (iblk m c 0 t) s.1 s.2 (iblk m c 2 t) (downAt m c t), s.2)
  else (midOut s.1 s.2 (iblk m c 2 t) (downAt m c t), s.2)

/-- The two before point `n`. -/
def stAt (c : Dev nD) : ℕ → Vec F S1024x2048 .f32 × Vec F S1024x2048 .bf16
  | 0 => (fun _ => Scalar.ofBits .f32 0x00000000#32, fun _ => Scalar.ofBits .bf16 0x0000#16)
  | n + 1 => if hn : n < cfg0.N then stepAt m c ⟨n, hn⟩ (stAt c n) else stAt c n

theorem stAt_succ (c : Dev nD) (t : Fin cfg0.N) : stAt m c (t.val + 1) = stepAt m c t (stAt m c t.val) := by
  rw [stAt, dif_pos t.isLt]

theorem st_first (c : Dev nD) (t : Fin cfg0.N) (h : t.val % 11 = 0) : stAt m c (t.val + 1)
    = (firstOut (iblk m c 0 t) (iblk m c 1 t) (iblk m c 2 t) (downAt m c t), hiddenOf (iblk m c 0 t) (iblk m c 1 t)) := by
  rw [stAt_succ, stepAt, if_pos h]
theorem st_mid (c : Dev nD) (t : Fin cfg0.N) (h : t.val % 11 ≠ 0) (h' : t.val % 11 ≠ 10) : stAt m c (t.val + 1)
    = (midOut (stAt m c t.val).1 (stAt m c t.val).2 (iblk m c 2 t) (downAt m c t), (stAt m c t.val).2) := by
  rw [stAt_succ, stepAt, if_neg h, if_neg h']
theorem st_last (c : Dev nD) (t : Fin cfg0.N) (h : t.val % 11 = 10) : stAt m c (t.val + 1)
    = (lastOut (iblk m c 0 t) (stAt m c t.val).1 (stAt m c t.val).2 (iblk m c 2 t) (downAt m c t), (stAt m c t.val).2) := by
  rw [stAt_succ, stepAt, if_neg (by omega), if_pos h]

/-! ## The pipeline's proof data -/

/-- Before point `n` the scratch holds the normalized rows, but at the first point of a row tile, when it holds anything. -/
def PhiS (c : Dev nD) (n : ℕ) : sProp 𝕄 :=
  iprop(iprop(∃ d, ⌜n % 11 ≠ 0 → d = (stAt m c n).2⌝ ∗ owns (c : Thread nD τ) scM0_0 fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => downAt m c t
    | ⟨4, _⟩ => (stAt m c (t.val + 1)).1
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = downAt m c t := by dsimp only [dats]
theorem after0_4 (c : Dev nD) (t : Fin cfg0.N) : (dats m 0 c).after 4 t = (stAt m c (t.val + 1)).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (h : t.val % 11 ≠ 0) (d) : (dats m 0 c).before 4 t d = (stAt m c t.val).1 := by
  have ht : t.val ≠ 0 := fun h0 => h (by rw [h0])
  have hfl : (cfg0.win 4).flush ⟨t.val - 1, Nat.lt_of_le_of_lt (Nat.sub_le _ _) t.isLt⟩ = false := by
    rw [Bool.eq_false_iff]
    intro hf
    have := (flush0_4 _).mp hf
    simp only at this
    omega
  rw [(dats m 0 c).before_out_kept 4 rfl t ht hfl idle4 (fun _ _ => rfl) d, after0_4]
  simp only
  rw [Nat.sub_add_cancel (Nat.pos_of_ne_zero ht)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ owns (c : Thread nD τ) (ms0_4 t) fullShare ((dats m 0 c).after 4 t))

theorem cut_down (c : Dev nD) (t : Fin cfg0.N) : win0_3.cut (grid0.coords t) (downAt m c t) = iblk m c 3 t := win0_3.cut_fill _ _ _

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hj : (grid0.coords t 1).val = t.val % 11 := (coord1 t).trans (by rw [Nat.div_one])
  unfold bodyPre bodyPost bodyAt0
  simp only [before0_0, before0_1, before0_2, before0_3]
  rw [show (dats m 0 c).owesAt () t.succ = (dats m 0 c).owesAt () t.castSucc from rfl,
    after0_0, after0_1, after0_2, after0_3, after0_4, cut_down]
  rw [show (dats m 0 c).Φ t.succ = PhiS m c (t.val + 1) from rfl, show (dats m 0 c).Φ t.castSucc = PhiS m c t.val from rfl]
  unfold PhiS
  by_cases h0 : t.val % 11 = 0
  · rw [st_first m c t h0]
    iintro ⟨⟨⟨%d, %hd, HS⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ ((hcond1 _).mpr (hj.trans h0)) (fun h => by have := (hcond2 _).mp h; omega) (fun h => by have := (hcond3 _).mp h; omega)
      (iblk m c 0 t) (iblk m c 1 t) (iblk m c 2 t) (win0_3.fill (grid0.coords t) d3 (iblk m c 3 t)) Set.univ _)
    isplitl [H0]; · iexact H0
    isplitl [H1]; · iexact H1
    isplitl [H2]; · iexact H2
    isplitl [H3]; · iexact H3
    isplitl [H4]; · iexists _; iexact H4
    isplitl [HS]; · iexists _; iexact HS
    rw [fill_inner m c t (by omega) d3]
    iintro ⟨H0, H1, H2, H3, H4, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexact H2
    isplitl [H3]
    · iexists d3
      rw [fill_inner m c t (by omega) d3]
      iexact H3
    iexact H4
  by_cases h10 : t.val % 11 = 10
  · simp only [before0_4 m c t h0]
    rw [st_last m c t h10]
    iintro ⟨⟨⟨%d, %hd, HS⟩, Hg⟩, Ho, ⟨%d0, H0⟩, ⟨%d1, H1⟩, ⟨%d2, H2⟩, ⟨%d3, H3⟩, ⟨%d4, H4⟩⟩
    obtain rfl := hd h0
    iapply (run_last c (grid0.coords t) _ _ _ _ _ _ _ _ _ _ _ _ _ _ (fun h => by have := (hcond1 _).mp h; omega) (fun h => by have := (hcond2 _).mp h; omega) ((hcond3 _).mpr (hj.trans h10))
      (iblk m c 0 t) (iblk m c 1 t) (iblk m c 2 t) (win0_3.fill (grid0.coords t) d3 (iblk m c 3 t)) (stAt m c t.val).1 (stAt m c t.val).2 Set.univ _)
    isplitl [H0]; · iexact H0
    isplitl [H1]; · iexact H1
    isplitl [H2]; · iexact H2
    isplitl [H3]; · iexact H3
    isplitl [H4]; · iexact H4
    isplitl [HS]; · iexact HS
    rw [show lastOut (iblk m c 0 t) (stAt m c t.val).1 (stAt m c t.val).2 (iblk m c 2 t) (win0_3.fill (grid0.coords t) d3 (iblk m c 3 t))
        = lastOut (iblk m c 0 t) (stAt m c t.val).1 (stAt m c t.val).2 (iblk m c 2 t) (downAt m c t) by unfold lastOut; rw [fill_last m c t h10 d3]]
    iintro ⟨H0, H1, H2, H3, H4, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexact H2
    isplitl [H3]
    · iexists d3
      iexact H3
    iexact H4
  · simp only [before0_4 m c t h0]
    rw [st_mid m c t h0 h10]
    iintro ⟨⟨⟨%d, %hd, HS⟩, Hg⟩, Ho, ⟨%d0, H0⟩, ⟨%d1, H1⟩, ⟨%d2, H2⟩, ⟨%d3, H3⟩, ⟨%d4, H4⟩⟩
    obtain rfl := hd h0
    iapply (run_mid c (grid0.coords t) _ _ _ _ _ _ _ _ _ _ _ _ _ _ (fun h => by have := (hcond1 _).mp h; omega) ((hcond2 _).mpr (by omega)) (fun h => by have := (hcond3 _).mp h; omega)
      (iblk m c 0 t) (iblk m c 1 t) (iblk m c 2 t) (win0_3.fill (grid0.coords t) d3 (iblk m c 3 t)) (stAt m c t.val).1 (stAt m c t.val).2 Set.univ _)
    isplitl [H0]; · iexact H0
    isplitl [H1]; · iexact H1
    isplitl [H2]; · iexact H2
    isplitl [H3]; · iexact H3
    isplitl [H4]; · iexact H4
    isplitl [HS]; · iexact HS
    rw [fill_inner m c t h10 d3]
    iintro ⟨H0, H1, H2, H3, H4, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexact H2
    isplitl [H3]
    · iexists d3
      rw [fill_inner m c t h10 d3]
      iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  rw [show cfg0.idle 4 (cfg0.grid.coords t) = false from idle4 _]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, H⟩, Hg⟩
  isplitl [H]
  · iexists d
    isplitr
    · ipureintro; intro h; exact absurd rfl h
    iexact H
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, -, H⟩, Hg⟩
  isplitl [H]
  · iexists d; iexact H
  iexact Hg

/-! ## The run and the frame -/

set_option backward.isDefEq.respectTransparency.types false in
/-- Every execution ends with the arrays at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- An input's array ends as the region found it. -/
theorem kept (r : PUnit × MemSt nD τ sig (Elt F)) (h : Pipeline.FramePost cfgs (dats m) 0 (V m) r) (c : Dev nD) (w : Fin cfg0.W) (hw : (cfg0.win w).isOut = false) :
    r.2.mem ((cfg0.spec w).arr.view.loc (c.tc : Thread nD τ)) = V m c (Pipeline.arrRef spec0 w) :=
  ((h c).1 w).trans (((dats m 0 c).arrAt_in w hw _).trans (A_eq m c w))

/-- The run with the result named, the arguments unchanged and the counters at zero. -/
theorem run_named : θ_run defs (onTc (τ := τ) (main (F := F))) ⟨m, fun _ => 0, ρ⟩ (fun r => (∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4, (kept m r h.1 c 0 rfl).trans (V_main_arg0 m c), (kept m r h.1 c 1 rfl).trans (V_main_arg1 m c),
    (kept m r h.1 c 2 rfl).trans (V_main_arg2 m c), (kept m r h.1 c 3 rfl).trans (V_main_arg3 m c), ((h.1 c).2 main_arg4 (Pipeline.mem_restRefs_of main_arg4 (by decide) (by decide))).trans (V_main_arg4 m c)⟩, h.2⟩) (run_quiescent m ρ)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2, h.2⟩) (run_named m ρ)

end Cert.FfnIntoIdeal.Into

end
-- ==== Proof.Into.Same.lean ====
module

public import proofs.«01_k».proof.Defs
public import proofs.«01_k».proof.Proof.Into.Frame
public import proofs.«01_k».proof.Proof.Gen.FfnInto

@[expose] public section

set_option maxRecDepth 16384

noncomputable section

namespace Cert.FfnIntoIdeal.Into

open Idealize.ShloMosaic Idealize.ShloMosaic.TcCoe

variable {F : FTy → Type} [FloatOps F]

/-! ## The kernel and its idealization, which replaces nothing, are one program -/

theorem same_body : Cert.FfnInto.cc0_ffn (F := F) = Cert.FfnIntoIdeal.cc0_ffn (F := F) := rfl

theorem same_defs₀ : Cert.FfnInto.defs₀ (F := F) = Cert.FfnIntoIdeal.defs₀ (F := F) := by
  unfold Cert.FfnInto.defs₀ Cert.FfnIntoIdeal.defs₀
  refine congrArg Defs.onTc (funext fun l => ?_)
  match l with
  | ⟨0, _⟩ => exact funext fun p => congrFun (congrFun (congrFun (congrFun (congrFun (congrFun (congrFun (congrFun (congrFun (congrFun (congrFun (congrFun (congrFun (congrFun (congrFun same_body _) _) _) _) _) _) _) _) _) _) _) _) _) _) _

theorem same_defs : Cert.FfnInto.defs (F := F) = Cert.FfnIntoIdeal.defs (F := F) := congrArg (Pipeline.defs Cert.FfnIntoIdeal.pcfgs) same_defs₀

/-- The frame of the kernel as it is, from the frame at any values. -/
theorem frame_kernel : Cert.quiescent_FfnInto := fun m ρ _ => by
  have h := frame m ρ
  rw [← same_defs] at h
  exact h

end Cert.FfnIntoIdeal.Into

end
-- ==== Proof.Into.Result.lean ====
module

public import proofs.«01_k».proof.Proof.Ffn.Result
public import proofs.«01_k».proof.Proof.Into.Frame
public import Idealize.ShloMosaic.Lib.Pipeline.ValueKit.Partial

@[expose] public section

set_option maxRecDepth 16384

noncomputable section

namespace Cert.FfnIntoIdeal.Into

open Cert.FfnIntoIdeal Cert.FfnIntoIdeal.Gen
open Idealize.ShloMosaic Idealize.ShloMosaic.TcCoe Idealize.SL.Sem
open Idealize.ShloMosaic.Pipeline (Dat Cfg Window)
open Cert.Attn (at2 at2_eq)
open Cert.FeedForward

open Cert.FfnIdeal.Ffn (after_steps)

variable (m : (ℓ : Loc nD τ sig) → Buf (Elt Ideal) ℓ) (ρ : Dev nD → PrngReg)

/-! ## The arrays as functions of natural indices -/

def xOf (c : Dev nD) : ℕ → ℕ → EReal := at2 (A := 8192) (B := 2048) (m ((c.tc : Thread nD τ).loc main_arg0))
def gOf (c : Dev nD) : ℕ → EReal := at2 (A := 4) (B := 2048) (m ((c.tc : Thread nD τ).loc main_arg1)) 0
def wOf (c : Dev nD) (p : Fin 2) : ℕ → ℕ → EReal := packed (m ((c.tc : Thread nD τ).loc main_arg2)) p
def eOf (c : Dev nD) : ℕ → ℕ → EReal := at2 (A := 8192) (B := 2048) (m ((c.tc : Thread nD τ).loc main_arg4))
def dOf (c : Dev nD) : ℕ → ℕ → EReal := down (m ((c.tc : Thread nD τ).loc main_arg3))

/-- The sum that a row tile's output holds after `N` columns. -/
def sumOf (c : Dev nD) (R C N : ℕ) : EReal := partialSum (gated (normed (xOf m c) (gOf m c) R) (wOf m c 0) (wOf m c 1)) (dOf m c) C N
/-- The layer's result. -/
def layerOf (c : Dev nD) (R C : ℕ) : EReal := layer (xOf m c) (gOf m c) (wOf m c 0) (wOf m c 1) (dOf m c) R C

/-! ## The blocks -/

theorem index_facts : ∀ t : Fin cfg0.N,
    (win0_0.index t (0 : Fin 2) = t.val / 11 + 1 ∧ win0_0.index t (1 : Fin 2) = 0) ∧ (win0_1.index t (0 : Fin 2) = 0 ∧ win0_1.index t (1 : Fin 2) = 0)
    ∧ (win0_2.index t (0 : Fin 4) = t.val % 11 ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = t.val % 11 ∧ win0_3.index t (2 : Fin 3) = 0)
    ∧ (win0_4.index t (0 : Fin 2) = t.val / 11 + 1 ∧ win0_4.index t (1 : Fin 2) = 0) := Cert.FfnIdeal.Ffn.index_facts

theorem x_block (c : Dev nD) (t : Fin cfg0.N) (r : Fin 1024) (l : Fin 2048) : iblk m c 0 t (ix2 r l) = xOf m c (1024 * (t.val / 11 + 1) + r.val) l.val := by
  obtain ⟨⟨a, b⟩, -⟩ := index_facts t
  show V m c main_arg0 (((cfg0.win 0).blk t).view.emb (ix2 r l)) = _
  rw [V_main_arg0]
  refine at2_eq _ _ _ _ ?_ ?_
  · show win0_0.index t (0 : Fin 2) * 1024 + 1 * r.val = _; rw [a]; omega
  · show win0_0.index t (1 : Fin 2) * 2048 + 1 * l.val = _; rw [b]; omega

theorem g_block (c : Dev nD) (t : Fin cfg0.N) (l : Fin 2048) : iblk m c 1 t (ix2 (0 : Fin 4) l) = gOf m c l.val := by
  obtain ⟨-, ⟨a, b⟩, -⟩ := index_facts t
  show V m c main_arg1 (((cfg0.win 1).blk t).view.emb (ix2 (0 : Fin 4) l)) = _
  rw [V_main_arg1]
  refine at2_eq _ _ _ _ ?_ ?_
  · show win0_1.index t (0 : Fin 2) * 4 + 1 * 0 = _; rw [a]
  · show win0_1.index t (1 : Fin 2) * 2048 + 1 * l.val = _; rw [b]; omega

theorem w_block (c : Dev nD) (t : Fin cfg0.N) (p : Fin 2) (k : Fin 2048) (n : Fin 512) :
    iblk m c 2 t (ix4 (0 : Fin 1) p k n) = wOf m c p k.val (512 * (t.val % 11) + n.val) := by
  obtain ⟨-, -, ⟨a, b, e, f⟩, -⟩ := index_facts t
  have hn := n.isLt
  show V m c main_arg2 (((cfg0.win 2).blk t).view.emb (ix4 (0 : Fin 1) p k n)) = _
  rw [V_main_arg2]
  refine packed_eq _ _ _ _ _ ?_ (Fin.ext ?_) ?_ ?_
  · show win0_2.index t (0 : Fin 4) * 1 + 1 * 0 = _; rw [a]; omega
  · show win0_2.index t (1 : Fin 4) * 2 + 1 * p.val = _; rw [b]; omega
  · show win0_2.index t (2 : Fin 4) * 2048 + 1 * k.val = _; rw [e]; omega
  · show win0_2.index t (3 : Fin 4) * 512 + 1 * n.val = _; rw [f]; omega

theorem d_block (c : Dev nD) (t : Fin cfg0.N) (n : Fin 512) (C : Fin 2048) (hn : 512 * (t.val % 11) + n.val < 5504) :
    downAt m c t (ix3 (0 : Fin 1) n C) = dOf m c (512 * (t.val % 11) + n.val) C.val := by
  obtain ⟨-, -, -, ⟨a, b, e⟩, -⟩ := index_facts t
  have hm : win0_3.moved (grid0.coords t) (ix3 (0 : Fin 1) n C) = true := (win0_3.moved_iff (grid0.coords t) _).mpr (by
    by_cases h : t.val % 11 = 10
    · exact moved_last t h _ (show n.val < 384 by omega)
    · exact moved_inner t h _)
  unfold downAt Window.fill
  rw [dif_pos hm]
  show V m c main_arg3 (((cfg0.win 3).blk t).view.emb _) = _
  rw [V_main_arg3]
  refine down_eq _ _ _ _ ?_ ?_ ?_
  · show win0_3.index t (0 : Fin 3) * 1 + 1 * 0 = _; rw [a]
  · show win0_3.index t (1 : Fin 3) * 512 + 1 * n.val = _; rw [b]; omega
  · show win0_3.index t (2 : Fin 3) * 2048 + 1 * C.val = _; rw [e]; omega

/-! ## The buffers after a point -/

theorem after_point (c : Dev nD) : ∀ n : ℕ, n < cfg0.N → ∀ r : Fin 1024,
    (∀ k : Fin 2048, (stAt m c (n + 1)).2 (ix2 r k) = normed (xOf m c) (gOf m c) (1024 * (n / 11 + 1) + r.val) k.val)
    ∧ ∀ C : Fin 2048, (stAt m c (n + 1)).1 (ix2 r C)
        = if n % 11 = 10 then layerOf m c (1024 * (n / 11 + 1) + r.val) C.val else sumOf m c (1024 * (n / 11 + 1) + r.val) C.val (512 * (n % 11 + 1)) :=
  after_steps (Nat.le_of_eq N_0) (xOf m c) (gOf m c) (wOf m c) (dOf m c) (fun t => iblk m c 0 t) (fun t => iblk m c 1 t) (fun t => iblk m c 2 t) (fun t => downAt m c t)
    (stAt m c) (x_block m c) (g_block m c) (w_block m c) (d_block m c) (st_first m c) (st_mid m c) (st_last m c)

/-! ## The array -/

/-- The array before the layer is a copy of what it is written into. -/
theorem V_result (c : Dev nD) : V m c main_v0 = m ((c.tc : Thread nD τ).loc main_arg4) := by
  simp only [V, hostOps0]
  rfl

/-- The array that the run leaves: the first tile's rows of what it is written into, the layer's result in the others. -/
def intoArr (c : Dev nD) : Vec Ideal S8192x2048 .f32 := fun i =>
  if 1 ≤ (i 0).val / 1024 then layerOf m c (i 0).val (i 1).val else eOf m c (i 0).val (i 1).val

theorem covers : (cfg0.win 4).CoversWhere (fun β => 1 ≤ β (0 : Fin 2)) := by decide +kernel

theorem final (c : Dev nD) : (dats m 0 c).arrAt 4 cfg0.N = intoArr m c := by
  refine ((dats m 0 c).arrAt_eq_of_coversWhere 4 (fun i => layerOf m c (i 0).val (i 1).val) (P := fun i => 1 ≤ (i 0).val / 1024) (fun β => 1 ≤ β (0 : Fin 2)) covers
    (fun t hf y => ?_) (fun j => Iff.rfl)).trans ?_
  · have h10 : t.val % 11 = 10 := (flush0_4 t).mp hf
    obtain ⟨-, -, -, -, ⟨a, b⟩⟩ := index_facts t
    have hy0 : (y 0).val < 1024 := (y 0).isLt
    have hy1 : (y 1).val < 2048 := (y 1).isLt
    have ey : (cfg0.win 4).xinj (grid0.coords t) y = ix2 (⟨(y 0).val, hy0⟩ : Fin 1024) (⟨(y 1).val, hy1⟩ : Fin 2048) := by
      funext a
      match a with | ⟨0, _⟩ => rfl | ⟨1, _⟩ => rfl
    have hb0 : (((cfg0.win 4).blk t).view.emb y 0).val = win0_4.index t (0 : Fin 2) * 1024 + 1 * (y 0).val := rfl
    have hb1 : (((cfg0.win 4).blk t).view.emb y 1).val = win0_4.index t (1 : Fin 2) * 2048 + 1 * (y 1).val := rfl
    show (dats m 0 c).after 4 t ((cfg0.win 4).xinj (grid0.coords t) y) = layerOf m c (((cfg0.win 4).blk t).view.emb y 0).val (((cfg0.win 4).blk t).view.emb y 1).val
    rw [ey, after0_4, (after_point m c t.val t.isLt ⟨(y 0).val, hy0⟩).2, if_pos h10, hb0, hb1, a, b]
    have e0 : 1024 * (t.val / 11 + 1) + (y 0).val = (t.val / 11 + 1) * 1024 + 1 * (y 0).val := by omega
    have e1 : (y 1).val = 0 * 2048 + 1 * (y 1).val := by omega
    exact congrArg₂ (layerOf m c) e0 e1
  · funext i
    unfold intoArr
    refine if_congr Iff.rfl rfl ?_
    rw [A_eq]
    exact (congrFun (V_result m c) i).trans (at2_eq _ i _ _ rfl rfl)

/-- The run, its result read. -/
theorem run_value : θ_run defs (onTc (τ := τ) (main (F := Ideal))) ⟨m, fun _ => 0, ρ⟩ (fun r => ∀ c : Dev nD,
      r.2.mem ((c.tc : Thread nD τ).loc main_v0) = intoArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1.trans (final m c), (h.1 c).2⟩) (run_named m ρ)

end Cert.FfnIntoIdeal.Into

end
-- ==== Proof.Into.Ref.lean ====
module

public import proofs.«01_k».proof.Proof.Ffn.Ref
public import proofs.«01_k».proof.Proof.Gen.FfnIntoReferenceIdeal.Read

@[expose] public section

set_option maxRecDepth 16384

noncomputable section

namespace Cert.FfnIntoReferenceIdeal.Into

open Cert.FfnIntoReferenceIdeal Cert.FfnIntoReferenceIdeal.Gen Cert.FfnIntoReferenceIdeal.Read
open Idealize.ShloMosaic Idealize.ShloMosaic.TcCoe
open Cert.Attn (at2 at2_eq)
open Cert.FeedForward

variable (x e : (⟨S8192x2048, .f32⟩ : BufTy).Contents (Elt Ideal)) (g : (⟨S4x2048, .f32⟩ : BufTy).Contents (Elt Ideal))
variable (w : (⟨S11x2x2048x512, .bf16⟩ : BufTy).Contents (Elt Ideal)) (d : (⟨S4x5504x2048, .f32⟩ : BufTy).Contents (Elt Ideal))

/-- The layer is computed as in the other reference. -/
theorem same_layer : val_main_v36 (F := Ideal) x g w d = Cert.FfnReferenceIdeal.Read.val_main_v36 (F := Ideal) x g w d := rfl

theorem result_apply (r : Fin 8192) (C : Fin 2048) :
    val_main_v39 (F := Ideal) x g w d e (ix2 r C) = if 1 ≤ r.val / 1024 then layer (at2 (A := 8192) (B := 2048) x) (at2 (A := 4) (B := 2048) g 0) (packed w 0) (packed w 1) (down d) r.val C.val
      else at2 (A := 8192) (B := 2048) e r.val C.val := by
  have hr := r.isLt
  unfold val_main_v39
  pointwise
  by_cases h : r.val < 1024
  · rw [dif_pos h, if_neg (by omega), val_main_v37_apply]
    exact at2_eq e _ _ _ rfl rfl
  · rw [dif_neg h]
    refine Eq.trans ?_ (if_pos (by omega)).symm
    refine (val_main_v38_apply (F := Ideal) x g w d _).trans ?_
    rw [same_layer]
    refine (Cert.FfnReferenceIdeal.Ffn.layer_apply x g w d _).trans ?_
    refine congrArg₂ (layer _ _ _ _ _) ?_ rfl
    show 1024 + (r.val - 1024) = r.val
    omega

end Cert.FfnIntoReferenceIdeal.Into

end
-- ==== Proof.Into.Equal.lean ====
module

public import proofs.«01_k».proof.Defs
public import proofs.«01_k».proof.Proof.Into.Result
public import proofs.«01_k».proof.Proof.Into.Ref
public import proofs.«01_k».proof.Proof.Gen.FfnIntoReferenceIdeal.Run

@[expose] public section

set_option maxRecDepth 16384

noncomputable section

namespace Cert.FeedForwardInto

open Idealize.ShloMosaic Idealize.ShloMosaic.TcCoe

/-- The kernel's array is the reference's result. -/
theorem arrays_eq (m : (ℓ : Loc Cert.FfnIntoIdeal.nD Cert.FfnIntoIdeal.τ Cert.FfnIntoIdeal.sig) → Buf (Elt Ideal) ℓ) (c : Dev Cert.FfnIntoIdeal.nD) :
    Cert.FfnIntoIdeal.Into.intoArr m c
      = Cert.FfnIntoReferenceIdeal.Read.val_main_v39 (F := Ideal) (m ((c.tc : Thread Cert.FfnIntoIdeal.nD Cert.FfnIntoIdeal.τ).loc Cert.FfnIntoIdeal.main_arg0)) (m ((c.tc : Thread Cert.FfnIntoIdeal.nD Cert.FfnIntoIdeal.τ).loc Cert.FfnIntoIdeal.main_arg1))
          (m ((c.tc : Thread Cert.FfnIntoIdeal.nD Cert.FfnIntoIdeal.τ).loc Cert.FfnIntoIdeal.main_arg2)) (m ((c.tc : Thread Cert.FfnIntoIdeal.nD Cert.FfnIntoIdeal.τ).loc Cert.FfnIntoIdeal.main_arg3)) (m ((c.tc : Thread Cert.FfnIntoIdeal.nD Cert.FfnIntoIdeal.τ).loc Cert.FfnIntoIdeal.main_arg4)) := by
  funext i
  have e : i = ix2 (⟨(i 0).val, (i 0).isLt⟩ : Fin 8192) (⟨(i 1).val, (i 1).isLt⟩ : Fin 2048) := by
    funext a
    match a with | ⟨0, _⟩ => rfl | ⟨1, _⟩ => rfl
  unfold Cert.FfnIntoIdeal.Into.intoArr
  refine Eq.trans ?_ (congrArg _ e.symm)
  exact (Cert.FfnIntoReferenceIdeal.Into.result_apply _ _ _ _ _ (⟨(i 0).val, (i 0).isLt⟩ : Fin 8192) (⟨(i 1).val, (i 1).isLt⟩ : Fin 2048)).symm

theorem algebraic : Cert.algebraic_FfnIntoIdeal_FfnIntoReferenceIdeal := fun m g m' g' hm hargs =>
  ⟨fun c => Cert.FfnIntoIdeal.Into.intoArr m c, Cert.FfnIntoIdeal.Into.run_value m g,
    (θ_run _ _ _).mono (fun r h c => ⟨(h c).1.trans (by
        obtain ⟨e0, e1, e2, e3, e4⟩ := hargs c
        refine (Cert.FfnIntoReferenceIdeal.Read.val_main_v39_eq m' c).trans ?_
        rw [e0, e1, e2, e3, e4]
        exact (arrays_eq m c).symm), (h c).2⟩) (Cert.FfnIntoReferenceIdeal.Value.run m' g')⟩

end Cert.FeedForwardInto

end
-- ==== Proof.Proj.Loads.lean ====
module

public import proofs.«01_k».proof.Proof.Attn.Spec
public import Idealize.ShloMosaic.Lib.Writes
public import Idealize.ShloMosaic.Lib.Exec.Geometry
public import Idealize.ShloMosaic.Lib.Pipeline.FrameBody

@[expose] public section

noncomputable section

namespace Cert.Projection

open Idealize.ShloMosaic Idealize.ShloMosaic.TcCoe

/-! ## Slabs of 512 columns -/

section Loads
variable {F : FTy → Type} [FloatOps F] {sg : RefSig} {A e : ℕ}

/-- A load of the columns `o … o + 511` of a matrix. -/
theorem cols_apply {et : EltTy} {arg : Memref sg .tc .vmem (⟨2, ![A, 2048]⟩ : Shape) et} (harg : arg.IsWhole) (x : Vec F (⟨2, ![A, 2048]⟩ : Shape) et) (o : ℕ)
    (inb : ∀ a, (![0, o] : Fin 2 → ℕ) a + (![A, 512] : Fin 2 → ℕ) a ≤ (![A, 2048] : Fin 2 → ℕ) a) (ho : o + 512 ≤ 2048) (r : Fin A) (n : Fin 512) :
    arg.view.readAt (Elt F) (Rect.unit (s := (⟨2, ![A, 2048]⟩ : Shape)) ![0, o] ![A, 512] inb).toLoadRect (harg.unread x) (ix2 r n) = x (ix2 r (⟨o + n.val, by omega⟩ : Fin 2048)) := by
  rw [View.readAt_apply, harg.read_unread]
  refine congrArg x (funext fun a => Fin.ext ?_)
  match a with
  | ⟨0, _⟩ => show 0 + 1 * r.val = r.val; omega
  | ⟨1, _⟩ => show o + 1 * n.val = o + n.val; omega

/-- A load of the columns `o … o + 511` of a matrix under a unit axis. -/
theorem cols3_apply {et : EltTy} {arg : Memref sg .tc .vmem (⟨3, ![1, A, 2048]⟩ : Shape) et} (harg : arg.IsWhole) (x : Vec F (⟨3, ![1, A, 2048]⟩ : Shape) et) (o : ℕ)
    (inb : ∀ a, (![0, 0, o] : Fin 3 → ℕ) a + (![1, A, 512] : Fin 3 → ℕ) a ≤ (![1, A, 2048] : Fin 3 → ℕ) a) (ho : o + 512 ≤ 2048) (r : Fin A) (n : Fin 512) :
    arg.view.readAt (Elt F) (Rect.unit (s := (⟨3, ![1, A, 2048]⟩ : Shape)) ![0, 0, o] ![1, A, 512] inb).toLoadRect (harg.unread x) (ix3 (0 : Fin 1) r n)
      = x (ix3 (0 : Fin 1) r (⟨o + n.val, by omega⟩ : Fin 2048)) := by
  rw [View.readAt_apply, harg.read_unread]
  refine congrArg x (funext fun a => Fin.ext ?_)
  match a with
  | ⟨0, _⟩ => rfl
  | ⟨1, _⟩ => show 0 + 1 * r.val = r.val; omega
  | ⟨2, _⟩ => show o + 1 * n.val = o + n.val; omega

/-- A load of all of a matrix. -/
theorem all_apply {B : ℕ} {et : EltTy} {arg : Memref sg .tc .vmem (⟨2, ![A, B]⟩ : Shape) et} (harg : arg.IsWhole) (x : Vec F (⟨2, ![A, B]⟩ : Shape) et)
    (inb : ∀ a, (![0, 0] : Fin 2 → ℕ) a + (![A, B] : Fin 2 → ℕ) a ≤ (![A, B] : Fin 2 → ℕ) a) :
    arg.view.readAt (Elt F) (Rect.unit (s := (⟨2, ![A, B]⟩ : Shape)) ![0, 0] ![A, B] inb).toLoadRect (harg.unread x) = x := by
  funext j
  rw [View.readAt_apply, harg.read_unread]
  refine congrArg x (funext fun a => Fin.ext ?_)
  match a with
  | ⟨0, _⟩ => show 0 + 1 * (j 0).val = (j 0).val; omega
  | ⟨1, _⟩ => show 0 + 1 * (j 1).val = (j 1).val; omega

/-- The columns `o … o + 511`, read from stores that agree with `G`. -/
theorem stored_cols_apply {et : EltTy} (v : View sg .tc .vmem (⟨2, ![A, 2048]⟩ : Shape) et) (L : List (View.Piece (Elt F) (⟨2, ![A, 2048]⟩ : Shape) et))
    (G : Vec F (⟨2, ![A, 2048]⟩ : Shape) et) (hG : ∀ p ∈ L, ∀ x : p.1.shape.Idx, p.2 x = G (p.1.emb x)) (hL : ∀ y, ∃ p ∈ L, y ∈ p.1.set) (o : ℕ)
    (inb : ∀ a, (![0, o] : Fin 2 → ℕ) a + (![A, 512] : Fin 2 → ℕ) a ≤ (![A, 2048] : Fin 2 → ℕ) a) (ho : o + 512 ≤ 2048) (r : Fin A) (n : Fin 512) :
    v.readCov L (Rect.unit (s := (⟨2, ![A, 2048]⟩ : Shape)) ![0, o] ![A, 512] inb).toLoadRect (ix2 r n) = G (ix2 r (⟨o + n.val, by omega⟩ : Fin 2048)) := by
  unfold View.readCov
  rw [View.readAt_apply, View.read_writes_apply_of_pieces v _ G L hG _ (hL _)]
  refine congrArg G (funext fun a => Fin.ext ?_)
  match a with
  | ⟨0, _⟩ => show 0 + 1 * r.val = r.val; omega
  | ⟨1, _⟩ => show o + 1 * n.val = o + n.val; omega

/-- Where the columns `o … o + 511` lie. -/
theorem cols_emb (o : ℕ) (inb : ∀ a, (![0, o] : Fin 2 → ℕ) a + (![A, 512] : Fin 2 → ℕ) a ≤ (![A, 2048] : Fin 2 → ℕ) a) (ho : o + 512 ≤ 2048)
    (r : Fin A) (n : Fin 512) : (Rect.unit (s := (⟨2, ![A, 2048]⟩ : Shape)) ![0, o] ![A, 512] inb).emb (ix2 r n) = ix2 r (⟨o + n.val, by omega⟩ : Fin 2048) := by
  funext a
  apply Fin.ext
  match a with
  | ⟨0, _⟩ => show 0 + 1 * r.val = r.val; omega
  | ⟨1, _⟩ => show o + 1 * n.val = o + n.val; omega

end Loads

/-- An index of a matrix, by its coordinates. -/
theorem split2 {A B : ℕ} (i : (⟨2, ![A, B]⟩ : Shape).Idx) : i = ix2 (⟨(i 0).val, (i 0).isLt⟩ : Fin A) (⟨(i 1).val, (i 1).isLt⟩ : Fin B) := by
  funext a
  match a with | ⟨0, _⟩ => rfl | ⟨1, _⟩ => rfl

end Cert.Projection

end
-- ==== Proof.Oproj.Result.lean ====
module

public import proofs.«01_k».proof.Proof.Gen.OprojIdeal.Value
public import proofs.«01_k».proof.Proof.Proj.Loads
public import Idealize.ShloMosaic.Lib.Pointwise

@[expose] public section

set_option maxRecDepth 16384

noncomputable section

namespace Cert.OprojIdeal.Proj

open Cert.OprojIdeal Cert.OprojIdeal.Gen
open Idealize.ShloMosaic Idealize.ShloMosaic.TcCoe Idealize.SL.Sem
open Cert.Projection

/-! ## The payloads at an index -/

theorem pay1_apply (w : Vec Ideal S1x2048x512 .f32) (k : Fin 2048) (n : Fin 512) :
    (k0_pay1 w : FVec Ideal S2048x512 .bf16) (ix2 k n) = w (ix3 (0 : Fin 1) k n) := by
  unfold k0_pay1
  pointwise

theorem pay5_apply (a : Vec Ideal S512x2048 .bf16) (x : Vec Ideal S512x512 .f32) (w : Vec Ideal S2048x512 .bf16) (r : Fin 512) (n : Fin 512) :
    (k0_pay5 a x w : FVec Ideal S512x512 .f32) (ix2 r n) = x (ix2 r n) + ∑ k : Fin 2048, a (ix2 r k) * w (ix2 k n) := by
  unfold k0_pay5
  pointwise

/-! ## A block -/

/-- The weights of the first layer, without the layer axis. -/
def weights (w : Vec Ideal S1x2048x2048 .f32) : Vec Ideal S2048x2048 .bf16 := fun j => w (ix3 (0 : Fin 1) (j 0) (j 1))

/-- A block of the residual and its product. -/
def rowsOut (a : Vec Ideal S512x2048 .bf16) (w : Vec Ideal S2048x2048 .bf16) (x : Vec Ideal S512x2048 .f32) : Vec Ideal S512x2048 .f32 :=
  fun j => x j + ∑ k : Fin 2048, a (ix2 (j 0) k) * w (ix2 k (j 1))

/-- A slab of the weights, as cast. -/
theorem cast_slab {sg : RefSig} {arg : Memref sg .tc .vmem S1x2048x2048 .f32} (harg : arg.IsWhole) (w : Vec Ideal S1x2048x2048 .f32) (o : ℕ) (ho : o + 512 ≤ 2048)
    (inb : ∀ a, (![0, 0, o] : Fin 3 → ℕ) a + (![1, 2048, 512] : Fin 3 → ℕ) a ≤ (![1, 2048, 2048] : Fin 3 → ℕ) a)
    (inb' : ∀ a, (![0, o] : Fin 2 → ℕ) a + (![2048, 512] : Fin 2 → ℕ) a ≤ (![2048, 2048] : Fin 2 → ℕ) a) (j : S2048x512.Idx) :
    (k0_pay1 (arg.view.readAt (Elt Ideal) (Rect.unit (s := S1x2048x2048) ![0, 0, o] ![1, 2048, 512] inb).toLoadRect (harg.unread w)) : FVec Ideal S2048x512 .bf16) j
      = weights w ((Rect.unit (s := S2048x2048) ![0, o] ![2048, 512] inb').emb j) := by
  rw [split2 j]
  refine (pay1_apply _ _ _).trans ((cols3_apply harg w o inb ho _ _).trans ?_)
  refine Eq.trans ?_ (congrArg (weights w) (cols_emb o inb' ho _ _)).symm
  rfl

/-- A slab of the result. -/
theorem out_slab (a : Vec Ideal S512x2048 .bf16) (w : Vec Ideal S2048x2048 .bf16) (x : Vec Ideal S512x2048 .f32) (xs : Vec Ideal S512x512 .f32) (ws : Vec Ideal S2048x512 .bf16)
    (o : ℕ) (ho : o + 512 ≤ 2048) (inb : ∀ a, (![0, o] : Fin 2 → ℕ) a + (![512, 512] : Fin 2 → ℕ) a ≤ (![512, 2048] : Fin 2 → ℕ) a)
    (hx : ∀ r n : Fin 512, xs (ix2 r n) = x (ix2 r (⟨o + n.val, by omega⟩ : Fin 2048)))
    (hw : ∀ (k : Fin 2048) (n : Fin 512), ws (ix2 k n) = w (ix2 k (⟨o + n.val, by omega⟩ : Fin 2048))) (j : S512x512.Idx) :
    (k0_pay5 a xs ws : FVec Ideal S512x512 .f32) j = rowsOut a w x ((Rect.unit (s := S512x2048) ![0, o] ![512, 512] inb).emb j) := by
  rw [split2 j]
  refine (pay5_apply _ _ _ _ _).trans ?_
  refine Eq.trans ?_ (congrArg (rowsOut a w x) (cols_emb o inb ho _ _)).symm
  unfold rowsOut
  refine congrArg₂ (· + ·) (hx _ _) (Finset.sum_congr rfl fun k _ => congrArg (_ * ·) (hw k _))

section Body
variable (c : Dev nD) (i : grid0.Coords) (arg1 : Memref sig .tc .vmem S512x2048 .bf16) (harg1 : arg1.IsWhole) (arg2 : Memref sig .tc .vmem S1x2048x2048 .f32) (harg2 : arg2.IsWhole)
variable (arg3 : Memref sig .tc .vmem S512x2048 .f32) (harg3 : arg3.IsWhole) (arg4 : Memref sig .tc .vmem S512x2048 .f32) (harg4 : arg4.IsWhole) (arg5 : Memref sig .tc .vmem S2048x2048 .bf16) (harg5 : arg5.IsWhole)
variable (x0 : Vec Ideal S512x2048 .bf16) (x1 : Vec Ideal S1x2048x2048 .f32) (x2 : Vec Ideal S512x2048 .f32) (xs0 : Vec Ideal S2048x2048 .bf16)

/-- The stores into the scratch are the weights. -/
theorem scratch_pieces : ∀ p ∈ kernelRun0_A.sl.HS0_4 (F := Ideal) c arg2 harg2 x1, ∀ j : p.1.shape.Idx, p.2 j = weights x1 (p.1.emb j) := by
  unfold kernelRun0_A.sl.HS0_4
  intro p hp
  simp only [List.mem_cons, List.not_mem_nil, or_false] at hp
  rcases hp with rfl | rfl | rfl | rfl
  · exact cast_slab harg2 x1 1536 (by decide) _ inb_S2048x2048_S2048x512_0_1536
  · exact cast_slab harg2 x1 1024 (by decide) _ inb_S2048x2048_S2048x512_0_1024
  · exact cast_slab harg2 x1 512 (by decide) _ inb_S2048x2048_S2048x512_0_512
  · exact cast_slab harg2 x1 0 (by decide) _ inb_S2048x2048_S2048x512_0_0

theorem scratch_first (hc0 : cond0_0 i) : sout0_A_0 (F := Ideal) c i arg1 harg1 arg2 harg2 arg3 harg3 arg4 harg4 arg5 harg5 hc0 x0 x1 x2 = weights x1 := by
  funext y
  unfold sout0_A_0
  exact View.read_writes_apply_of_pieces _ _ (weights x1) _ (scratch_pieces c arg2 harg2 x1) y (scover0_A_0 c i arg1 harg1 arg2 harg2 arg3 harg3 arg4 harg4 arg5 harg5 hc0 x0 x1 x2 y)

theorem out_first (hc0 : cond0_0 i) : out0_A_3 (F := Ideal) c i arg1 harg1 arg2 harg2 arg3 harg3 arg4 harg4 arg5 harg5 hc0 x0 x1 x2 = rowsOut x0 (weights x1) x2 := by
  funext y
  unfold out0_A_3
  refine View.read_writes_apply_of_pieces _ _ (rowsOut x0 (weights x1) x2) _ ?_ y (cover0_A_3 c i arg1 harg1 arg2 harg2 arg3 harg3 arg4 harg4 arg5 harg5 hc0 x0 x1 x2 y)
  have hs := stored_cols_apply (F := Ideal) arg5.view _ (weights x1) (scratch_pieces c arg2 harg2 x1) (scover0_A_0 c i arg1 harg1 arg2 harg2 arg3 harg3 arg4 harg4 arg5 harg5 hc0 x0 x1 x2)
  unfold kernelRun0_A
  dsimp only
  unfold kernelRun0_A.sl.r kernelRun0_A.sl.v5 kernelRun0_A.sl.v10 kernelRun0_A.sl.v15 kernelRun0_A.sl.v20
  intro p hp
  simp only [List.mem_cons, List.not_mem_nil, or_false] at hp
  rcases hp with rfl | rfl | rfl | rfl <;> dsimp only <;> rw [all_apply harg1 x0]
  · exact out_slab x0 _ x2 _ _ 1536 (by decide) _ (cols_apply harg3 x2 1536 _ (by decide)) (hs 1536 _ (by decide))
  · exact out_slab x0 _ x2 _ _ 1024 (by decide) _ (cols_apply harg3 x2 1024 _ (by decide)) (hs 1024 _ (by decide))
  · exact out_slab x0 _ x2 _ _ 512 (by decide) _ (cols_apply harg3 x2 512 _ (by decide)) (hs 512 _ (by decide))
  · exact out_slab x0 _ x2 _ _ 0 (by decide) _ (cols_apply harg3 x2 0 _ (by decide)) (hs 0 _ (by decide))

theorem out_next (hc0 : ¬cond0_0 i) : out0_B_3 (F := Ideal) c i arg1 harg1 arg2 harg2 arg3 harg3 arg4 harg4 arg5 harg5 hc0 x0 x1 x2 xs0 = rowsOut x0 xs0 x2 := by
  funext y
  unfold out0_B_3
  refine View.read_writes_apply_of_pieces _ _ (rowsOut x0 xs0 x2) _ ?_ y (cover0_B_3 c i arg1 harg1 arg2 harg2 arg3 harg3 arg4 harg4 arg5 harg5 hc0 x0 x1 x2 xs0 y)
  unfold kernelRun0_B
  dsimp only
  unfold kernelRun0_B.sl.r
  intro p hp
  simp only [List.mem_cons, List.not_mem_nil, or_false] at hp
  rcases hp with rfl | rfl | rfl | rfl <;> dsimp only <;> rw [all_apply harg1 x0]
  · exact out_slab x0 _ x2 _ _ 1536 (by decide) _ (cols_apply harg3 x2 1536 _ (by decide)) (cols_apply harg5 xs0 1536 _ (by decide))
  · exact out_slab x0 _ x2 _ _ 1024 (by decide) _ (cols_apply harg3 x2 1024 _ (by decide)) (cols_apply harg5 xs0 1024 _ (by decide))
  · exact out_slab x0 _ x2 _ _ 512 (by decide) _ (cols_apply harg3 x2 512 _ (by decide)) (cols_apply harg5 xs0 512 _ (by decide))
  · exact out_slab x0 _ x2 _ _ 0 (by decide) _ (cols_apply harg3 x2 0 _ (by decide)) (cols_apply harg5 xs0 0 _ (by decide))

end Body

/-! ## The blocks -/

variable (m : (ℓ : Loc nD τ sig) → Buf (Elt Ideal) ℓ) (ρ : Dev nD → PrngReg)

theorem index_facts : ∀ t : Fin cfg0.N,
    (win0_0.index t (0 : Fin 2) = t.val ∧ win0_0.index t (1 : Fin 2) = 0) ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0) ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0))

/-- The weights are one block, the same at every point. -/
theorem weights_block (c : Dev nD) (t : Fin cfg0.N) :
    weights (iblk m c 1 t) = fun j => m ((c.tc : Thread nD τ).loc main_arg1) (ix3 (0 : Fin 2) (j 0) (j 1)) := by
  obtain ⟨-, ⟨a, b, e⟩, -⟩ := index_facts t
  funext j
  show V m c main_arg1 (((cfg0.win 1).blk t).view.emb (ix3 (0 : Fin 1) (j 0) (j 1))) = _
  rw [V_main_arg1]
  refine congrArg _ (funext fun k => Fin.ext ?_)
  match k with
  | ⟨0, _⟩ => show win0_1.index t (0 : Fin 3) * 1 + 1 * 0 = 0; rw [a]
  | ⟨1, _⟩ => show win0_1.index t (1 : Fin 3) * 2048 + 1 * (j 0).val = (j 0).val; rw [b]; omega
  | ⟨2, _⟩ => show win0_1.index t (2 : Fin 3) * 2048 + 1 * (j 1).val = (j 1).val; rw [e]; omega

/-- After every point the scratch holds the weights and the output its block. -/
theorem after_point (c : Dev nD) : ∀ (n : ℕ) (hn : n < cfg0.N),
    outsAt0 m c n hn = (rowsOut (iblk m c 0 ⟨n, hn⟩) (weights (iblk m c 1 ⟨n, hn⟩)) (iblk m c 2 ⟨n, hn⟩), weights (iblk m c 1 ⟨n, hn⟩)) := by
  intro n
  induction n with
  | zero =>
    intro hn
    rw [outsAt0_A m c ⟨0, hn⟩ (Nat.zero_mod _), scratch_first, out_first]
  | succ n ih =>
    intro hn
    have h16 : cfg0.N = 16 := N_0
    have e : (outsAt0 m c n (Nat.lt_of_succ_lt hn)).2 = weights (iblk m c 1 ⟨n + 1, hn⟩) := by
      rw [ih, weights_block, weights_block]
    refine (outsAt0_B m c ⟨n + 1, hn⟩ (show ¬(n + 1) % 16 = 0 by omega)).trans ?_
    rw [out_next]
    exact congrArg (fun w => (rowsOut (iblk m c 0 ⟨n + 1, hn⟩) w (iblk m c 2 ⟨n + 1, hn⟩), w)) e

/-! ## The array -/

/-- The residual and the product. -/
def sumArr (a : Vec Ideal S8192x2048 .bf16) (w : Vec Ideal S2x2048x2048 .f32) (x : Vec Ideal S8192x2048 .f32) : Vec Ideal S8192x2048 .f32 :=
  fun i => x i + ∑ k : Fin 2048, a (ix2 (i 0) k) * w (ix3 (0 : Fin 2) k (i 1))

def oprojArr (c : Dev nD) : Vec Ideal S8192x2048 .f32 :=
  sumArr (m ((c.tc : Thread nD τ).loc main_arg0)) (m ((c.tc : Thread nD τ).loc main_arg1)) (m ((c.tc : Thread nD τ).loc main_arg2))

theorem final (c : Dev nD) : (dats m 0 c).arrAt 3 cfg0.N = oprojArr m c := by
  refine (dats m 0 c).arrAt_eq_of_cover 3 _ (fun t hf => ?_) (fun i => (Value.covered_iff3 i).2 (by
    have h0 : (i 0).val < 8192 := (i 0).isLt
    have h1 : (i 1).val < 2048 := (i 1).isLt
    omega))
  obtain ⟨⟨a0, a1⟩, -, ⟨b0, b1⟩⟩ := index_facts t
  obtain ⟨e0, e1, e2, e3, e4⟩ := Value.idx_facts3 t
  rw [Value.flushed3, after_point]
  funext y
  have hy0 : (y 0).val < 512 := (y 0).isLt
  have hy1 : (y 1).val < 2048 := (y 1).isLt
  show rowsOut _ _ _ ((cfg0.win 3).xinj (grid0.coords t) y) = oprojArr m c (((cfg0.win 3).blk t).view.emb y)
  rw [weights_block]
  unfold rowsOut oprojArr sumArr
  refine congrArg₂ (· + ·) ?_ (Finset.sum_congr rfl fun k _ => congrArg₂ (· * ·) ?_ ?_)
  · show V m c main_arg2 (((cfg0.win 2).blk t).view.emb _) = _
    rw [V_main_arg2]
    refine congrArg _ (funext fun a => Fin.ext ?_)
    match a with
    | ⟨0, _⟩ => show win0_2.index t (0 : Fin 2) * 512 + 1 * (y 0).val = win0_3.index t (0 : Fin 2) * 512 + 1 * (y 0).val; omega
    | ⟨1, _⟩ => show win0_2.index t (1 : Fin 2) * 2048 + 1 * (y 1).val = win0_3.index t (1 : Fin 2) * 2048 + 1 * (y 1).val; omega
  · show V m c main_arg0 (((cfg0.win 0).blk t).view.emb _) = _
    rw [V_main_arg0]
    refine congrArg _ (funext fun a => Fin.ext ?_)
    match a with
    | ⟨0, _⟩ => show win0_0.index t (0 : Fin 2) * 512 + 1 * (y 0).val = win0_3.index t (0 : Fin 2) * 512 + 1 * (y 0).val; omega
    | ⟨1, _⟩ => show win0_0.index t (1 : Fin 2) * 2048 + 1 * k.val = k.val; omega
  · refine congrArg _ (funext fun a => Fin.ext ?_)
    match a with
    | ⟨0, _⟩ => rfl
    | ⟨1, _⟩ => rfl
    | ⟨2, _⟩ => show (y 1).val = win0_3.index t (1 : Fin 2) * 2048 + 1 * (y 1).val; omega

end Cert.OprojIdeal.Proj

end
-- ==== Proof.Oproj.Equal.lean ====
module

public import proofs.«01_k».proof.Defs
public import proofs.«01_k».proof.Proof.Oproj.Result
public import proofs.«01_k».proof.Proof.Gen.OprojReferenceIdeal.Read

@[expose] public section

set_option maxRecDepth 16384

noncomputable section

namespace Cert.Projection

open Idealize.ShloMosaic Idealize.ShloMosaic.TcCoe
open Cert.OprojReferenceIdeal.Read

/-- The kernel's array is the reference's result. -/
theorem oproj_eq (a : Vec Ideal Cert.OprojIdeal.S8192x2048 .bf16) (w : Vec Ideal Cert.OprojIdeal.S2x2048x2048 .f32) (x : Vec Ideal Cert.OprojIdeal.S8192x2048 .f32) :
    Cert.OprojIdeal.Proj.sumArr a w x = val_main_v4 (F := Ideal) a w x := by
  funext i
  rw [val_main_v4_apply, val_main_v3_apply]
  unfold Cert.OprojIdeal.Proj.sumArr
  refine congrArg (fun s : EReal => x i + s) (Finset.sum_congr rfl fun k _ => ?_)
  have hk := k.isLt
  have h1 : (i 1).val < 2048 := (i 1).isLt
  rw [val_main_v0_apply, val_main_v2_apply, val_main_v1_apply]
  refine congrArg₂ (· * ·) (congrArg _ (funext fun a => ?_)) (congrArg _ (funext fun a => Fin.ext ?_))
  · match a with | ⟨0, _⟩ => rfl | ⟨1, _⟩ => rfl
  · match a with
    | ⟨0, _⟩ => rfl
    | ⟨1, _⟩ => show k.val = (k.val * 2048 + (i 1).val) / 2048 % 2048; omega
    | ⟨2, _⟩ => show (i 1).val = (k.val * 2048 + (i 1).val) % 2048; omega

theorem oproj_algebraic : Cert.algebraic_OprojIdeal_OprojReferenceIdeal := fun m g m' g' hm hargs =>
  ⟨fun c => Cert.OprojIdeal.Proj.oprojArr m c,
    (θ_run _ _ _).mono (fun r h c => ⟨(h c).1.trans (Cert.OprojIdeal.Proj.final m c), (h c).2⟩) (Cert.OprojIdeal.Value.run_blocks m g),
    (θ_run _ _ _).mono (fun r h c => ⟨(h c).1.trans (by
        obtain ⟨e0, e1, e2⟩ := hargs c
        refine (val_main_v4_eq _ _ _).trans ?_
        rw [e0, e1, e2]
        exact (oproj_eq _ _ _).symm), (h c).2⟩) (Cert.OprojReferenceIdeal.Value.run m' g')⟩

end Cert.Projection

end
-- ==== Proof.Proj.Heads.lean ====
module

public import proofs.«01_k».proof.Proof.Ffn.Spec
public import proofs.«01_k».proof.Proof.Proj.Loads
public import Idealize.ShloMosaic.Lib.Pointwise

@[expose] public section

set_option maxRecDepth 16384

noncomputable section

namespace Cert.Projection

open Idealize.ShloMosaic Idealize.ShloMosaic.TcCoe
open Cert.Attn (at2 at2_eq)

/-! ## Rows normalized head by head -/

/-- Column `n` of a row, normalized over its head's 128 columns and scaled by the head's gains. -/
def headed (f g : ℕ → EReal) (n : ℕ) : EReal :=
  f n * Ideal.rsqrt (Ideal.div (∑ l : Fin 128, f (n / 128 * 128 + l.val) * f (n / 128 * 128 + l.val)) (Ideal.ofBits .f32 0x43000000#32) + Ideal.ofBits .f32 0x358637BD#32) * g (n % 128)

/-- The heads of a slab are heads of the row. -/
theorem headed_shift (f f' g : ℕ → EReal) (o n : ℕ) (ho : o % 128 = 0) (hn : n < 512) (h : ∀ j, j < 512 → f j = f' (o + j)) : headed f g n = headed f' g (o + n) := by
  have e : (o + n) / 128 * 128 = o + n / 128 * 128 := by omega
  have e' : (o + n) % 128 = n % 128 := by omega
  unfold headed
  rw [e, e', h n hn]
  refine congrArg (fun s : EReal => f' (o + n) * Ideal.rsqrt (Ideal.div s (Ideal.ofBits .f32 0x43000000#32) + Ideal.ofBits .f32 0x358637BD#32) * g (n % 128)) (Finset.sum_congr rfl fun l _ => ?_)
  have hl := l.isLt
  rw [h _ (by omega), show o + (n / 128 * 128 + l.val) = o + n / 128 * 128 + l.val from by omega]

/-- Gains with a common factor. -/
theorem headed_scaled (f g : ℕ → EReal) (s : EReal) (n : ℕ) : headed f (fun k => g k * s) n = headed f g n * s := by
  unfold headed
  exact (mul_assoc _ _ _).symm

section Slab

abbrev Slab : Shape := ⟨2, ![512, 512]⟩
abbrev Head : Shape := ⟨2, ![512, 128]⟩
abbrev Line : Shape := ⟨1, ![512]⟩
abbrev Side : Shape := ⟨2, ![512, 1]⟩
abbrev Gain : Shape := ⟨2, ![1, 128]⟩

variable (hr : Head.Reduces [1] Line) (hc : Line.ShapeCasts Side) (hb : Side.Broadcasts Head) (hg : Gain.Broadcasts Head)

/-- One head of a slab. -/
def headPart (o : ℕ) (hs : Slab.Slices ![0, o] Head) (acc : FVec Ideal Slab .f32) (g : FVec Ideal Gain .f32) : FVec Ideal Head .f32 :=
  mulf (mulf (extractStridedSlice Head ![0, o] acc hs)
    (broadcastTo Head (rsqrt (addf (divf (shapeCast Side (multiReduction .add [1] Line (mulf (extractStridedSlice Head ![0, o] acc hs) (extractStridedSlice Head ![0, o] acc hs)) 0x00000000#32 hr (.inl rfl) rfl) hc)
      (broadcast Side (Scalar.ofBits .f32 0x43000000#32))) (broadcast Side (Scalar.ofBits .f32 0x358637BD#32)))) hb))
    (broadcastTo Head g hg)

theorem headPart_apply (o : ℕ) (hs : Slab.Slices ![0, o] Head) (acc : FVec Ideal Slab .f32) (g : FVec Ideal Gain .f32) (ho : o + 128 ≤ 512) (hm : o % 128 = 0) (r : Fin 512) (n : Fin 128) :
    headPart hr hc hb hg o hs acc g (ix2 r n) = headed (at2 acc r.val) (at2 g 0) (o + n.val) := by
  have hn := n.isLt
  have e : (o + n.val) / 128 * 128 = o := by omega
  have e' : (o + n.val) % 128 = n.val := by omega
  unfold headed
  rw [e, e']
  unfold headPart
  pointwise
  exact congrArg₂ (· * ·) (congrArg₂ (· * ·) (at2_eq acc _ _ _ rfl rfl) (congrArg Ideal.rsqrt (congrArg (· + Ideal.ofBits .f32 0x358637BD#32) (congrArg (Ideal.div · (Ideal.ofBits .f32 0x43000000#32))
    (Finset.sum_congr rfl fun l _ => congrArg₂ (· * ·) (at2_eq acc _ _ _ rfl rfl) (at2_eq acc _ _ _ rfl rfl)))))) (at2_eq g _ _ _ rfl rfl)

/-- The four heads of a slab, side by side. -/
def slabHeads (h0 : Slab.Slices ![0, 0] Head) (h1 : Slab.Slices ![0, 128] Head) (h2 : Slab.Slices ![0, 256] Head) (h3 : Slab.Slices ![0, 384] Head)
    (hcat : Shape.Concatenates [Head, Head, Head, Head] Slab 1) (ht : FTy.bits .bf16 < FTy.bits .f32) (acc : FVec Ideal Slab .f32) (g : FVec Ideal Gain .f32) : FVec Ideal Slab .bf16 :=
  truncf .bf16 (concatenate Slab 1 [⟨Head, headPart hr hc hb hg 0 h0 acc g⟩, ⟨Head, headPart hr hc hb hg 128 h1 acc g⟩, ⟨Head, headPart hr hc hb hg 256 h2 acc g⟩,
    ⟨Head, headPart hr hc hb hg 384 h3 acc g⟩] hcat) ht

theorem cat_apply (hcat : Shape.Concatenates [Head, Head, Head, Head] Slab 1) (ht : FTy.bits .bf16 < FTy.bits .f32) (p0 p1 p2 p3 : FVec Ideal Head .f32) (r n : Fin 512) (f : ℕ → EReal)
    (e0 : ∀ k : Fin 128, p0 (ix2 r k) = f (0 + k.val)) (e1 : ∀ k : Fin 128, p1 (ix2 r k) = f (128 + k.val)) (e2 : ∀ k : Fin 128, p2 (ix2 r k) = f (256 + k.val))
    (e3 : ∀ k : Fin 128, p3 (ix2 r k) = f (384 + k.val)) :
    (truncf .bf16 (concatenate Slab 1 [⟨Head, p0⟩, ⟨Head, p1⟩, ⟨Head, p2⟩, ⟨Head, p3⟩] hcat) ht : FVec Ideal Slab .bf16) (ix2 r n) = f n.val := by
  have hn := n.isLt
  pointwise
  by_cases a : n.val < 128
  · rw [dif_pos a]
    exact (e0 _).trans (congrArg f (Nat.zero_add _))
  rw [dif_neg a]
  by_cases b : n.val - 128 < 128
  · rw [dif_pos b]
    exact (e1 _).trans (congrArg f (show 128 + (n.val - 128) = n.val by omega))
  rw [dif_neg b]
  by_cases c : n.val - 128 - 128 < 128
  · rw [dif_pos c]
    exact (e2 _).trans (congrArg f (show 256 + (n.val - 128 - 128) = n.val by omega))
  rw [dif_neg c]
  exact (e3 _).trans (congrArg f (show 384 + (n.val - 128 - 128 - 128) = n.val by omega))

theorem slabHeads_apply (h0 : Slab.Slices ![0, 0] Head) (h1 : Slab.Slices ![0, 128] Head) (h2 : Slab.Slices ![0, 256] Head) (h3 : Slab.Slices ![0, 384] Head)
    (hcat : Shape.Concatenates [Head, Head, Head, Head] Slab 1) (ht : FTy.bits .bf16 < FTy.bits .f32) (acc : FVec Ideal Slab .f32) (g : FVec Ideal Gain .f32) (r n : Fin 512) :
    slabHeads hr hc hb hg h0 h1 h2 h3 hcat ht acc g (ix2 r n) = headed (at2 acc r.val) (at2 g 0) n.val :=
  cat_apply hcat ht _ _ _ _ r n _ (fun k => headPart_apply hr hc hb hg 0 h0 acc g (by decide) (by decide) r k) (fun k => headPart_apply hr hc hb hg 128 h1 acc g (by decide) (by decide) r k)
    (fun k => headPart_apply hr hc hb hg 256 h2 acc g (by decide) (by decide) r k) (fun k => headPart_apply hr hc hb hg 384 h3 acc g (by decide) (by decide) r k)

end Slab

end Cert.Projection

end
-- ==== Proof.Kv.Result.lean ====
module

public import proofs.«01_k».proof.Proof.Gen.KvIdeal.Value
public import proofs.«01_k».proof.Proof.Proj.Heads
public import Idealize.ShloMosaic.Lib.Pipeline.ValueKit.Tiles
public import Idealize.ShloMosaic.Lib.Pipeline.ValueKit.Geometry

@[expose] public section

set_option maxRecDepth 16384

noncomputable section

namespace Cert.KvIdeal.Proj

open Cert.KvIdeal Cert.KvIdeal.Gen
open Idealize.ShloMosaic Idealize.ShloMosaic.TcCoe Idealize.SL.Sem
open Cert.Projection
open Cert.Attn (at2 at2_eq)
open Cert.FeedForward (normed project)

/-! ## The payloads at an index -/

theorem hidden_apply (x : Vec Ideal S512x2048 .f32) (g : Vec Ideal S1x2048 .f32) (r : Fin 512) (k : Fin 2048) :
    (k0_pay3 x g : FVec Ideal S512x2048 .bf16) (ix2 r k) = normed (at2 x) (at2 g 0) r.val k.val := by
  unfold k0_pay3 normed
  pointwise
  exact congrArg₂ (· * ·) (congrArg₂ (· * ·) (at2_eq x _ _ _ rfl rfl) (congrArg Ideal.rsqrt (congrArg (· + Ideal.ofBits .f32 0x358637BD#32) (congrArg (Ideal.div · (Ideal.ofBits .f32 0x45000000#32))
    (Finset.sum_congr rfl fun l _ => congrArg₂ (· * ·) (at2_eq x _ _ _ rfl rfl) (at2_eq x _ _ _ rfl rfl)))))) (at2_eq g _ _ _ rfl rfl)

theorem gain_eq (g : Vec Ideal S1x128 .f32) : (k0_pay4 g : FVec Ideal S1x128 .f32) = g := by
  funext j
  rw [show j = ix2 (0 : Fin 1) (⟨(j 1).val, (j 1).isLt⟩ : Fin 128) from funext fun a => by
    match a with | ⟨0, _⟩ => exact Fin.ext (Nat.lt_one_iff.mp (j 0).isLt) | ⟨1, _⟩ => rfl]
  unfold k0_pay4
  pointwise

theorem product_apply (h : Vec Ideal S512x2048 .bf16) (w : Vec Ideal S1x2048x512 .bf16) (r n : Fin 512) :
    (k0_pay1 h w : FVec Ideal S512x512 .bf16) (ix2 r n) = ∑ k : Fin 2048, h (ix2 r k) * w (ix3 (0 : Fin 1) k n) := by
  unfold k0_pay1
  pointwise

theorem acc_apply (h : Vec Ideal S512x2048 .bf16) (w : Vec Ideal S1x2048x512 .bf16) (r n : Fin 512) :
    (k0_pay20 h w : FVec Ideal S512x512 .f32) (ix2 r n) = ∑ k : Fin 2048, h (ix2 r k) * w (ix3 (0 : Fin 1) k n) := by
  unfold k0_pay20
  pointwise

/-- A slab of the keys. -/
def slabK (h : FVec Ideal S512x2048 .bf16) (g : FVec Ideal S1x128 .f32) (w : Vec Ideal S1x2048x512 .bf16) : FVec Ideal S512x512 .bf16 :=
  slabHeads reduces_S512x128_S512 shapeCasts_S512_S512x1 broadcasts_S512x1_S512x128 broadcasts_S1x128_S512x128 slices_S512x512_o0_0_S512x128 slices_S512x512_o0_128_S512x128
    slices_S512x512_o0_256_S512x128 slices_S512x512_o0_384_S512x128 concatenates_S512x128_S512x128_S512x128_S512x128_S512x512_d1 bitsLt_bf16_f32 (k0_pay20 h w) g

theorem first_eq (x : Vec Ideal S512x2048 .f32) (g : Vec Ideal S1x2048 .f32) (k : Vec Ideal S1x128 .f32) (w : Vec Ideal S1x2048x512 .bf16) :
    k0_pay9 (k0_pay4 k) (k0_pay5 x g w) (k0_pay6 x g k w) (k0_pay7 x g w) (k0_pay8 x g w) (Scalar.ofBits .f32 0x43000000#32) = slabK (k0_pay3 x g) (k0_pay4 k) w := rfl

theorem second_eq (h : FVec Ideal S512x2048 .bf16) (g : FVec Ideal S1x128 .f32) (w : Vec Ideal S1x2048x512 .bf16) :
    k0_pay14 (k0_pay13 g (k0_pay10 h w) (k0_pay11 h w) (k0_pay12 h w)) = slabK h g w := rfl

theorem third_eq (h : FVec Ideal S512x2048 .bf16) (g : FVec Ideal S1x128 .f32) (w : Vec Ideal S1x2048x512 .bf16) :
    k0_pay19 g (k0_pay15 h w) (k0_pay16 h g w) (k0_pay17 h g w) (k0_pay18 h g w) = slabK h g w := rfl

theorem fourth_eq (h : FVec Ideal S512x2048 .bf16) (g : FVec Ideal S1x128 .f32) (w : Vec Ideal S1x2048x512 .bf16) :
    k0_pay24 g (k0_pay20 h w) (k0_pay21 h g w) (k0_pay22 h w) (k0_pay23 g) = slabK h g w := rfl

/-! ## A block -/

/-- The weights, by row and column. -/
def weights (w : Vec Ideal S1x2048x2048 .bf16) : ℕ → ℕ → EReal := at2 (A := 2048) (B := 2048) fun j => w (ix3 (0 : Fin 1) (j 0) (j 1))

/-- A block of the keys. -/
def rowsK (x : Vec Ideal S512x2048 .f32) (g : Vec Ideal S1x2048 .f32) (k : Vec Ideal S1x128 .f32) (w : Vec Ideal S1x2048x2048 .bf16) : Vec Ideal S512x2048 .bf16 :=
  fun j => headed (project (normed (at2 x) (at2 g 0) (j 0).val) (weights w)) (at2 k 0) (j 1).val

/-- A block of the values. -/
def rowsV (x : Vec Ideal S512x2048 .f32) (g : Vec Ideal S1x2048 .f32) (w : Vec Ideal S1x2048x2048 .bf16) : Vec Ideal S512x2048 .bf16 :=
  fun j => project (normed (at2 x) (at2 g 0) (j 0).val) (weights w) (j 1).val

theorem ld_all {A B : ℕ} {et : EltTy} (x : Vec Ideal (⟨2, ![A, B]⟩ : Shape) et) (inb : ∀ a, (![0, 0] : Fin 2 → ℕ) a + (![A, B] : Fin 2 → ℕ) a ≤ (![A, B] : Fin 2 → ℕ) a) :
    View.ld x (Rect.unit (s := (⟨2, ![A, B]⟩ : Shape)) ![0, 0] ![A, B] inb) = x := by
  funext j
  refine View.ld_unit_apply_of x _ _ inb j j fun a => ?_
  match a with | ⟨0, _⟩ => exact (Nat.zero_add _).symm | ⟨1, _⟩ => exact (Nat.zero_add _).symm

/-- A product with a slab of the weights. -/
theorem slab_product (x : Vec Ideal S512x2048 .f32) (g : Vec Ideal S1x2048 .f32) (w : Vec Ideal S1x2048x2048 .bf16) (o : ℕ) (ho : o + 512 ≤ 2048)
    (inb : ∀ a, (![0, 0, o] : Fin 3 → ℕ) a + (![1, 2048, 512] : Fin 3 → ℕ) a ≤ (![1, 2048, 2048] : Fin 3 → ℕ) a) (r n : Fin 512) :
    (∑ k : Fin 2048, (k0_pay3 x g : FVec Ideal S512x2048 .bf16) (ix2 r k) * View.ld w (Rect.unit (s := S1x2048x2048) ![0, 0, o] ![1, 2048, 512] inb) (ix3 (0 : Fin 1) k n))
      = project (normed (at2 x) (at2 g 0) r.val) (weights w) (o + n.val) := by
  unfold project
  refine Finset.sum_congr rfl fun k _ => congrArg₂ (· * ·) (hidden_apply x g r k) ?_
  refine (View.ld_unit_apply_of w _ _ inb (ix3 (0 : Fin 1) k n) (ix3 (0 : Fin 1) k (⟨o + n.val, by omega⟩ : Fin 2048)) fun a => ?_).trans
    (at2_eq (A := 2048) (B := 2048) (fun j => w (ix3 (0 : Fin 1) (j 0) (j 1))) (ix2 k (⟨o + n.val, by omega⟩ : Fin 2048)) _ _ rfl rfl)
  match a with | ⟨0, _⟩ => rfl | ⟨1, _⟩ => exact (Nat.zero_add _).symm | ⟨2, _⟩ => rfl

section Slabs
variable (x : Vec Ideal S512x2048 .f32) (g : Vec Ideal S1x2048 .f32) (k : Vec Ideal S1x128 .f32) (w : Vec Ideal S1x2048x2048 .bf16) (o : ℕ) (ho : o + 512 ≤ 2048)
  (inb : ∀ a, (![0, 0, o] : Fin 3 → ℕ) a + (![1, 2048, 512] : Fin 3 → ℕ) a ≤ (![1, 2048, 2048] : Fin 3 → ℕ) a)
  (inb' : ∀ a, (![0, o] : Fin 2 → ℕ) a + (![512, 512] : Fin 2 → ℕ) a ≤ (![512, 2048] : Fin 2 → ℕ) a)

include ho in
theorem k_slab (hm : o % 128 = 0) (j : S512x512.Idx) :
    slabK (k0_pay3 x g) (k0_pay4 k) (View.ld w (Rect.unit (s := S1x2048x2048) ![0, 0, o] ![1, 2048, 512] inb)) j
      = rowsK x g k w ((Rect.unit (s := S512x2048) ![0, o] ![512, 512] inb').emb j) := by
  rw [split2 j]
  refine (slabHeads_apply _ _ _ _ _ _ _ _ _ _ _ _ _ _).trans ?_
  refine Eq.trans ?_ (congrArg (rowsK x g k w) (cols_emb o inb' ho _ _)).symm
  rw [gain_eq]
  refine headed_shift _ _ _ o _ hm (j 1).isLt fun n hn => ?_
  refine (at2_eq (k0_pay20 (k0_pay3 x g) _) (ix2 (⟨(j 0).val, (j 0).isLt⟩ : Fin 512) (⟨n, hn⟩ : Fin 512)) _ _ rfl rfl).symm.trans ?_
  exact (acc_apply _ _ _ _).trans (slab_product x g w o ho inb _ _)

include ho in
theorem v_slab (j : S512x512.Idx) :
    (k0_pay1 (k0_pay3 x g) (View.ld w (Rect.unit (s := S1x2048x2048) ![0, 0, o] ![1, 2048, 512] inb)) : FVec Ideal S512x512 .bf16) j
      = rowsV x g w ((Rect.unit (s := S512x2048) ![0, o] ![512, 512] inb').emb j) := by
  rw [split2 j]
  refine (product_apply _ _ _ _).trans ?_
  refine Eq.trans ?_ (congrArg (rowsV x g w) (cols_emb o inb' ho _ _)).symm
  exact slab_product x g w o ho inb _ _

end Slabs

section Outs
variable (x0 : Vec Ideal S512x2048 .f32) (x1 : Vec Ideal S1x2048 .f32) (x2 : Vec Ideal S1x128 .f32) (x3 x4 : Vec Ideal S1x2048x2048 .bf16)

theorem k_block : out0_5 (F := Ideal) x0 x1 x2 x3 x4 = rowsK x0 x1 x2 x3 := by
  funext y
  unfold out0_5 k0_pay27 k0_pay28
  rw [first_eq, second_eq, third_eq, fourth_eq]
  refine View.canon_apply_of_pieces (rowsK x0 x1 x2 x3) _ ?_ y (cover0_5 _ _ _ _ y)
  rw [ld_all x0, ld_all x1, ld_all x2]
  intro p hp
  simp only [List.mem_cons, List.not_mem_nil, or_false] at hp
  rcases hp with rfl | rfl | rfl | rfl
  · exact k_slab x0 x1 x2 x3 1536 (by decide) _ inb_S512x2048_S512x512_0_1536 rfl
  · exact k_slab x0 x1 x2 x3 1024 (by decide) _ inb_S512x2048_S512x512_0_1024 rfl
  · exact k_slab x0 x1 x2 x3 512 (by decide) _ inb_S512x2048_S512x512_0_512 rfl
  · exact k_slab x0 x1 x2 x3 0 (by decide) _ inb_S512x2048_S512x512_0_0 rfl

theorem v_block : out0_6 (F := Ideal) x0 x1 x2 x3 x4 = rowsV x0 x1 x4 := by
  funext y
  unfold out0_6 k0_pay27
  refine View.canon_apply_of_pieces (rowsV x0 x1 x4) _ ?_ y (cover0_6 _ _ _ _ y)
  rw [ld_all x0, ld_all x1]
  intro p hp
  simp only [List.mem_cons, List.not_mem_nil, or_false] at hp
  rcases hp with rfl | rfl | rfl | rfl
  · exact v_slab x0 x1 x4 1536 (by decide) _ inb_S512x2048_S512x512_0_1536
  · exact v_slab x0 x1 x4 1024 (by decide) _ inb_S512x2048_S512x512_0_1024
  · exact v_slab x0 x1 x4 512 (by decide) _ inb_S512x2048_S512x512_0_512
  · exact v_slab x0 x1 x4 0 (by decide) _ inb_S512x2048_S512x512_0_0

end Outs

/-! ## The blocks of the arrays -/

variable (m : (ℓ : Loc nD τ sig) → Buf (Elt Ideal) ℓ) (ρ : Dev nD → PrngReg)

theorem index_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = t.val ∧ win0_5.index t (1 : Fin 2) = 0) ∧ (win0_6.index t (0 : Fin 2) = t.val ∧ win0_6.index t (1 : Fin 2) = 0) :=
  (by decide +kernel : ∀ t : Fin grid0.N, _)

theorem x_block (c : Dev nD) (t : Fin cfg0.N) (r k : ℕ) (hr : r < 512) :
    at2 (A := 512) (B := 2048) (iblk m c 0 t) r k = at2 (A := 8192) (B := 2048) (m ((c.tc : Thread nD τ).loc main_arg0)) (t.val * 512 + r) k := by
  obtain ⟨⟨a, b⟩, -⟩ := index_facts t
  have h16 : t.val < 16 := lt_of_lt_of_eq t.isLt N_0
  unfold at2
  by_cases hk : k < 2048
  · rw [dif_pos ⟨hr, hk⟩, dif_pos ⟨by omega, hk⟩]
    show V m c main_arg0 (((cfg0.win 0).blk t).view.emb _) = _
    rw [V_main_arg0]
    refine congrArg _ (funext fun z => Fin.ext ?_)
    match z with
    | ⟨0, _⟩ => show win0_0.index t (0 : Fin 2) * 512 + 1 * r = t.val * 512 + r; omega
    | ⟨1, _⟩ => show win0_0.index t (1 : Fin 2) * 2048 + 1 * k = k; omega
  · rw [dif_neg (fun h => hk h.2), dif_neg (fun h => hk h.2)]

/-- A row of gains. -/
def gains {B : ℕ} (g : (⟨1, ![B]⟩ : Shape).Idx → EReal) (k : ℕ) : EReal := if h : k < B then g (ix1 ⟨k, h⟩) else 0

theorem gain_row_apply (g : FVec Ideal S2048 .f32) (k : Fin 2048) : (shapeCast S1x2048 g shapeCasts_S2048_S1x2048 : FVec Ideal S1x2048 .f32) (ix2 (0 : Fin 1) k) = g (ix1 k) := by
  pointwise

theorem head_row_apply (g : FVec Ideal S128 .f32) (k : Fin 128) : (shapeCast S1x128 g shapeCasts_S128_S1x128 : FVec Ideal S1x128 .f32) (ix2 (0 : Fin 1) k) = g (ix1 k) := by
  pointwise

theorem cast_apply (w : FVec Ideal S2048x2048 .f32) (k n : Fin 2048) :
    (broadcastInDim S1x2048x2048 ![1, 2] bcast_S2048x2048_S1x2048x2048_1_2 (truncf .bf16 w bitsLt_bf16_f32 : FVec Ideal S2048x2048 .bf16) : FVec Ideal S1x2048x2048 .bf16) (ix3 (0 : Fin 1) k n)
      = w (ix2 k n) := by
  pointwise

theorem V_gain (c : Dev nD) : (V m c main_v4 : FVec Ideal S1x2048 .f32) = shapeCast S1x2048 (m ((c.tc : Thread nD τ).loc main_arg1) : FVec Ideal S2048 .f32) shapeCasts_S2048_S1x2048 := by
  simp only [V, hostOps0]
  rfl

theorem V_head (c : Dev nD) : (V m c main_v5 : FVec Ideal S1x128 .f32) = shapeCast S1x128 (m ((c.tc : Thread nD τ).loc main_arg4) : FVec Ideal S128 .f32) shapeCasts_S128_S1x128 := by
  simp only [V, hostOps0]
  rfl

theorem V_k (c : Dev nD) : (V m c main_v1 : FVec Ideal S1x2048x2048 .bf16)
    = broadcastInDim S1x2048x2048 ![1, 2] bcast_S2048x2048_S1x2048x2048_1_2 (truncf .bf16 (m ((c.tc : Thread nD τ).loc main_arg2) : FVec Ideal S2048x2048 .f32) bitsLt_bf16_f32 : FVec Ideal S2048x2048 .bf16) := by
  simp only [V, hostOps0]
  rfl

theorem V_v (c : Dev nD) : (V m c main_v3 : FVec Ideal S1x2048x2048 .bf16)
    = broadcastInDim S1x2048x2048 ![1, 2] bcast_S2048x2048_S1x2048x2048_1_2 (truncf .bf16 (m ((c.tc : Thread nD τ).loc main_arg3) : FVec Ideal S2048x2048 .f32) bitsLt_bf16_f32 : FVec Ideal S2048x2048 .bf16) := by
  simp only [V, hostOps0]
  rfl

theorem g_block (c : Dev nD) (t : Fin cfg0.N) : at2 (A := 1) (B := 2048) (iblk m c 1 t) 0 = gains (B := 2048) (m ((c.tc : Thread nD τ).loc main_arg1)) := by
  obtain ⟨-, ⟨a, b⟩, -⟩ := index_facts t
  funext k
  unfold at2 gains
  by_cases hk : k < 2048
  · rw [dif_pos ⟨by decide, hk⟩, dif_pos hk]
    refine Eq.trans (congrArg (V m c main_v4 : FVec Ideal S1x2048 .f32) (show ((cfg0.win 1).blk t).view.emb _ = ix2 (0 : Fin 1) (⟨k, hk⟩ : Fin 2048) from funext fun z => Fin.ext ?_))
      ((congrFun (V_gain m c) _).trans (gain_row_apply _ _))
    match z with
    | ⟨0, _⟩ => show win0_1.index t (0 : Fin 2) * 1 + 1 * 0 = 0; omega
    | ⟨1, _⟩ => show win0_1.index t (1 : Fin 2) * 2048 + 1 * k = k; omega
  · rw [dif_neg (fun h => hk h.2), dif_neg hk]

theorem h_block (c : Dev nD) (t : Fin cfg0.N) : at2 (A := 1) (B := 128) (iblk m c 2 t) 0 = gains (B := 128) (m ((c.tc : Thread nD τ).loc main_arg4)) := by
  obtain ⟨-, -, ⟨a, b⟩, -⟩ := index_facts t
  funext k
  unfold at2 gains
  by_cases hk : k < 128
  · rw [dif_pos ⟨by decide, hk⟩, dif_pos hk]
    refine Eq.trans (congrArg (V m c main_v5 : FVec Ideal S1x128 .f32) (show ((cfg0.win 2).blk t).view.emb _ = ix2 (0 : Fin 1) (⟨k, hk⟩ : Fin 128) from funext fun z => Fin.ext ?_))
      ((congrFun (V_head m c) _).trans (head_row_apply _ _))
    match z with
    | ⟨0, _⟩ => show win0_2.index t (0 : Fin 2) * 1 + 1 * 0 = 0; omega
    | ⟨1, _⟩ => show win0_2.index t (1 : Fin 2) * 128 + 1 * k = k; omega
  · rw [dif_neg (fun h => hk h.2), dif_neg hk]

theorem k_weights (c : Dev nD) (t : Fin cfg0.N) : weights (iblk m c 3 t) = at2 (A := 2048) (B := 2048) (m ((c.tc : Thread nD τ).loc main_arg2)) := by
  obtain ⟨-, -, -, ⟨a, b, e⟩, -⟩ := index_facts t
  unfold weights
  refine congrArg (at2 (A := 2048) (B := 2048)) (funext fun j => ?_)
  refine Eq.trans (congrArg (V m c main_v1 : FVec Ideal S1x2048x2048 .bf16) (show ((cfg0.win 3).blk t).view.emb _ = ix3 (0 : Fin 1) (j 0) (j 1) from funext fun z => Fin.ext ?_))
    ((congrFun (V_k m c) _).trans ((cast_apply _ _ _).trans (congrArg _ (split2 (A := 2048) (B := 2048) j).symm)))
  match z with
  | ⟨0, _⟩ => show win0_3.index t (0 : Fin 3) * 1 + 1 * 0 = 0; omega
  | ⟨1, _⟩ => show win0_3.index t (1 : Fin 3) * 2048 + 1 * (j 0).val = (j 0).val; omega
  | ⟨2, _⟩ => show win0_3.index t (2 : Fin 3) * 2048 + 1 * (j 1).val = (j 1).val; omega

theorem v_weights (c : Dev nD) (t : Fin cfg0.N) : weights (iblk m c 4 t) = at2 (A := 2048) (B := 2048) (m ((c.tc : Thread nD τ).loc main_arg3)) := by
  obtain ⟨-, -, -, -, ⟨a, b, e⟩, -⟩ := index_facts t
  unfold weights
  refine congrArg (at2 (A := 2048) (B := 2048)) (funext fun j => ?_)
  refine Eq.trans (congrArg (V m c main_v3 : FVec Ideal S1x2048x2048 .bf16) (show ((cfg0.win 4).blk t).view.emb _ = ix3 (0 : Fin 1) (j 0) (j 1) from funext fun z => Fin.ext ?_))
    ((congrFun (V_v m c) _).trans ((cast_apply _ _ _).trans (congrArg _ (split2 (A := 2048) (B := 2048) j).symm)))
  match z with
  | ⟨0, _⟩ => show win0_4.index t (0 : Fin 3) * 1 + 1 * 0 = 0; omega
  | ⟨1, _⟩ => show win0_4.index t (1 : Fin 3) * 2048 + 1 * (j 0).val = (j 0).val; omega
  | ⟨2, _⟩ => show win0_4.index t (2 : Fin 3) * 2048 + 1 * (j 1).val = (j 1).val; omega

/-! ## The arrays -/

/-- A projection of the normalized rows. -/
def projected (x : FVec Ideal S8192x2048 .f32) (g : FVec Ideal S2048 .f32) (w : FVec Ideal S2048x2048 .f32) (R : ℕ) : ℕ → EReal :=
  project (normed (at2 (A := 8192) (B := 2048) x) (gains (B := 2048) g) R) (at2 (A := 2048) (B := 2048) w)

/-- The keys. -/
def keys (x : FVec Ideal S8192x2048 .f32) (g : FVec Ideal S2048 .f32) (w : FVec Ideal S2048x2048 .f32) (h : FVec Ideal S128 .f32) : FVec Ideal S8192x2048 .bf16 :=
  fun i => headed (projected x g w (i 0).val) (gains (B := 128) h) (i 1).val

/-- The values. -/
def vals (x : FVec Ideal S8192x2048 .f32) (g : FVec Ideal S2048 .f32) (w : FVec Ideal S2048x2048 .f32) : FVec Ideal S8192x2048 .bf16 :=
  fun i => projected x g w (i 0).val (i 1).val

/-- The rows of a block are rows of the array. -/
theorem normed_rows (f f' : ℕ → ℕ → EReal) (G : ℕ → EReal) (r R k : ℕ) (h : ∀ l, f r l = f' R l) : normed f G r k = normed f' G R k := by
  unfold normed
  simp only [h]

theorem rows_block (c : Dev nD) (t : Fin cfg0.N) (w : ℕ → ℕ → EReal) (r : ℕ) (hr : r < 512) :
    project (normed (at2 (A := 512) (B := 2048) (iblk m c 0 t)) (at2 (A := 1) (B := 2048) (iblk m c 1 t) 0) r) w
      = project (normed (at2 (A := 8192) (B := 2048) (m ((c.tc : Thread nD τ).loc main_arg0))) (gains (B := 2048) (m ((c.tc : Thread nD τ).loc main_arg1))) (t.val * 512 + r)) w := by
  rw [g_block]
  refine congrArg (fun h => project h w) (funext fun k => ?_)
  exact normed_rows _ _ _ _ _ _ fun l => x_block m c t r l hr

def keysArr (c : Dev nD) : FVec Ideal S8192x2048 .bf16 :=
  keys (m ((c.tc : Thread nD τ).loc main_arg0)) (m ((c.tc : Thread nD τ).loc main_arg1)) (m ((c.tc : Thread nD τ).loc main_arg2)) (m ((c.tc : Thread nD τ).loc main_arg4))

def valsArr (c : Dev nD) : FVec Ideal S8192x2048 .bf16 :=
  vals (m ((c.tc : Thread nD τ).loc main_arg0)) (m ((c.tc : Thread nD τ).loc main_arg1)) (m ((c.tc : Thread nD τ).loc main_arg3))

theorem final_k (c : Dev nD) : (dats m 0 c).arrAt 5 cfg0.N = keysArr m c := by
  refine (dats m 0 c).arrAt_eq_of_covers 5 _ (by decide +kernel) fun t hf y => ?_
  obtain ⟨-, -, -, -, -, ⟨a, b⟩, -⟩ := index_facts t
  have hy0 : (y 0).val < 512 := (y 0).isLt
  rw [after0_5, k_block]
  have e0 : (((cfg0.win 5).blk t).view.emb y 0).val = t.val * 512 + (y 0).val := by
    show win0_5.index t (0 : Fin 2) * 512 + 1 * (y 0).val = _; omega
  have e1 : (((cfg0.win 5).blk t).view.emb y 1).val = (y 1).val := by
    show win0_5.index t (1 : Fin 2) * 2048 + 1 * (y 1).val = _; omega
  show rowsK _ _ _ _ ((cfg0.win 5).xinj (grid0.coords t) y) = keysArr m c (((cfg0.win 5).blk t).view.emb y)
  unfold rowsK keysArr keys projected
  rw [e0, e1, k_weights, h_block]
  exact congrArg (fun f => headed f _ (y 1).val) (rows_block m c t _ (y 0).val hy0)

theorem final_v (c : Dev nD) : (dats m 0 c).arrAt 6 cfg0.N = valsArr m c := by
  refine (dats m 0 c).arrAt_eq_of_covers 6 _ (by decide +kernel) fun t hf y => ?_
  obtain ⟨-, -, -, -, -, -, ⟨a, b⟩⟩ := index_facts t
  have hy0 : (y 0).val < 512 := (y 0).isLt
  rw [after0_6, v_block]
  have e0 : (((cfg0.win 6).blk t).view.emb y 0).val = t.val * 512 + (y 0).val := by
    show win0_6.index t (0 : Fin 2) * 512 + 1 * (y 0).val = _; omega
  have e1 : (((cfg0.win 6).blk t).view.emb y 1).val = (y 1).val := by
    show win0_6.index t (1 : Fin 2) * 2048 + 1 * (y 1).val = _; omega
  show rowsV _ _ _ ((cfg0.win 6).xinj (grid0.coords t) y) = valsArr m c (((cfg0.win 6).blk t).view.emb y)
  unfold rowsV valsArr vals projected
  rw [e0, e1, v_weights]
  exact congrFun (rows_block m c t _ (y 0).val hy0) (y 1).val

end Cert.KvIdeal.Proj

end
-- ==== Proof.Kv.Equal.lean ====
module

public import proofs.«01_k».proof.Defs
public import proofs.«01_k».proof.Proof.Kv.Result
public import proofs.«01_k».proof.Proof.Gen.KvReferenceIdeal.Read

@[expose] public section

set_option maxRecDepth 16384

noncomputable section

namespace Cert.KvReferenceIdeal.Kv

open Cert.KvReferenceIdeal Cert.KvReferenceIdeal.Read
open Idealize.ShloMosaic Idealize.ShloMosaic.TcCoe
open Cert.Projection (headed)
open Cert.KvIdeal.Proj (gains projected keys vals)
open Cert.Attn (at2 at2_eq)
open Cert.FeedForward (normed project)

/-! ## The reference's stages at an index -/

theorem gains_eq {B : ℕ} (g : (⟨1, ![B]⟩ : Shape).Idx → EReal) (i : (⟨1, ![B]⟩ : Shape).Idx) (k : ℕ) (h : (i 0).val = k) : g i = gains g k := by
  subst h
  unfold gains
  rw [dif_pos (show (i 0).val < B from (i 0).isLt)]
  refine congrArg g (funext fun a => ?_)
  match a with | ⟨0, _⟩ => rfl

variable (x : FVec Ideal S8192x2048 .f32) (g : FVec Ideal S2048 .f32) (w : FVec Ideal S2048x2048 .f32) (h : FVec Ideal S128 .f32)

theorem normed_apply (i : S8192x2048.Idx) :
    val_main_v12 (F := Ideal) x g i = normed (at2 (A := 8192) (B := 2048) x) (gains (B := 2048) g) (i 0).val (i 1).val := by
  rw [val_main_v12_apply, val_main_v9_apply, val_main_v8_apply, val_main_v7_apply, val_main_v6_apply, val_main_v4_apply, val_main_v2_apply, val_main_v1_apply,
    val_main_v3_apply, val_main_cst_0_apply, val_main_v5_apply, val_main_cst_1_apply, val_main_v11_apply, val_main_v10_apply, val_main_cst_apply]
  simp only [val_main_v0_apply]
  unfold normed
  refine congrArg₂ (· * ·) (congrArg₂ (· * ·) (at2_eq x i _ _ rfl rfl) (congrArg Ideal.rsqrt (congrArg (· + Ideal.ofBits .f32 0x358637BD#32) (congrArg (Ideal.div · (Ideal.ofBits .f32 0x45000000#32)) ?_)))) ?_
  · refine (congrArg₂ (· + ·) (Ideal.ofBits_zero _) (Finset.sum_congr rfl fun k _ => ?_)).trans (zero_add _)
    exact congrArg₂ (· * ·) (at2_eq x _ _ _ rfl rfl) (at2_eq x _ _ _ rfl rfl)
  · exact gains_eq g _ _ rfl

theorem projected_apply (i : S8192x2048.Idx) : val_main_v13 (F := Ideal) x g w i = projected x g w (i 0).val (i 1).val := by
  rw [val_main_v13_apply]
  unfold projected project
  exact Finset.sum_congr rfl fun k _ => congrArg₂ (· * ·) (normed_apply x g _) (at2_eq w _ _ _ rfl rfl)

theorem vals_eq : vals x g w = val_main_v31 (F := Ideal) x g w := by
  funext i
  rw [val_main_v31_apply]
  exact (projected_apply x g w i).symm

theorem keys_eq : keys x g w h = val_main_v29 (F := Ideal) x g w h := by
  funext i
  have h0 : (i 0).val < 8192 := (i 0).isLt
  have h1 : (i 1).val < 2048 := (i 1).isLt
  rw [val_main_v29_apply, val_main_v28_apply, val_main_v27_apply, val_main_v26_apply, val_main_v25_apply, val_main_v24_apply, val_main_v23_apply, val_main_v22_apply, val_main_v21_apply,
    val_main_v20_apply, val_main_cst_4_apply, val_main_v19_apply, val_main_v18_apply, val_main_cst_3_apply, val_main_v17_apply, val_main_v16_apply, val_main_cst_2_apply, val_main_v14_apply]
  simp only [val_main_v15_apply, val_main_v14_apply]
  unfold keys headed
  symm
  refine congrArg₂ (· * ·) (congrArg₂ (· * ·) ?_ (congrArg Ideal.rsqrt (congrArg (· + Ideal.ofBits .f32 0x358637BD#32) (congrArg (Ideal.div · (Ideal.ofBits .f32 0x43000000#32)) ?_)))) ?_
  · refine (projected_apply x g w _).trans (congrArg₂ (projected x g w) ?_ ?_)
    · show ((((i 0).val * 2048 + (i 1).val) / 2048 * 16 + ((i 0).val * 2048 + (i 1).val) / 128 % 16) * 128 + ((i 0).val * 2048 + (i 1).val) % 128) / 2048 = _
      omega
    · show ((((i 0).val * 2048 + (i 1).val) / 2048 * 16 + ((i 0).val * 2048 + (i 1).val) / 128 % 16) * 128 + ((i 0).val * 2048 + (i 1).val) % 128) % 2048 = _
      omega
  · refine (congrArg₂ (· + ·) (Ideal.ofBits_zero _) (Finset.sum_congr rfl fun k _ => ?_)).trans (zero_add _)
    have hk := k.isLt
    have e : val_main_v13 (F := Ideal) x g w (idx_main_v14 (idx_main_v16 (idx_main_v17 (idx_main_v23 (idx_main_v28 i))) k)) = projected x g w (i 0).val ((i 1).val / 128 * 128 + k.val) := by
      refine (projected_apply x g w _).trans (congrArg₂ (projected x g w) ?_ ?_)
      · show ((((i 0).val * 2048 + (i 1).val) / 2048 * 16 + ((i 0).val * 2048 + (i 1).val) / 128 % 16) * 128 + k.val) / 2048 = _
        omega
      · show ((((i 0).val * 2048 + (i 1).val) / 2048 * 16 + ((i 0).val * 2048 + (i 1).val) / 128 % 16) * 128 + k.val) % 2048 = _
        omega
    exact congrArg₂ (· * ·) e e
  · refine gains_eq h _ _ ?_
    show ((i 0).val * 2048 + (i 1).val) % 128 = _
    omega

end Cert.KvReferenceIdeal.Kv

namespace Cert.Projection

open Idealize.ShloMosaic Idealize.ShloMosaic.TcCoe
open Cert.KvReferenceIdeal.Read

theorem kv_algebraic : Cert.algebraic_KvIdeal_KvReferenceIdeal := fun m g m' g' hm hargs =>
  ⟨fun c => Cert.KvIdeal.Proj.keysArr m c, fun c => Cert.KvIdeal.Proj.valsArr m c,
    (θ_run _ _ _).mono (fun r h c => ⟨(h c).1.trans (Cert.KvIdeal.Proj.final_k m c), (h c).2.1.trans (Cert.KvIdeal.Proj.final_v m c), (h c).2.2⟩) (Cert.KvIdeal.Value.run_blocks m g),
    (θ_run _ _ _).mono (fun r h c => by
      obtain ⟨e0, e1, e2, e3, e4⟩ := hargs c
      refine ⟨(h c).1.trans ?_, (h c).2.1.trans ?_, (h c).2.2⟩
      · refine (val_main_v29_eq _ _ _ _).trans ?_
        rw [e0, e1, e2, e4]
        exact (Cert.KvReferenceIdeal.Kv.keys_eq _ _ _ _).symm
      · refine (val_main_v31_eq _ _ _).trans ?_
        rw [e0, e1, e3]
        exact (Cert.KvReferenceIdeal.Kv.vals_eq _ _ _).symm) (Cert.KvReferenceIdeal.Value.run m' g')⟩

end Cert.Projection

end
-- ==== Proof.Qp.Result.lean ====
module

public import proofs.«01_k».proof.Proof.Gen.QIdeal.Value
public import proofs.«01_k».proof.Proof.Proj.Heads
public import Idealize.ShloMosaic.Lib.Pipeline.ValueKit.Tiles
public import Idealize.ShloMosaic.Lib.Pipeline.ValueKit.Geometry

@[expose] public section

set_option maxRecDepth 16384

noncomputable section

namespace Cert.QIdeal.Proj

open Cert.QIdeal Cert.QIdeal.Gen
open Idealize.ShloMosaic Idealize.ShloMosaic.TcCoe Idealize.SL.Sem
open Cert.Projection
open Cert.Attn (at2 at2_eq)
open Cert.FeedForward (normed project)

/-! ## The payloads at an index -/

theorem hidden_apply (x : Vec Ideal S512x2048 .f32) (g : Vec Ideal S1x2048 .f32) (r : Fin 512) (k : Fin 2048) :
    (k0_pay6 x g : FVec Ideal S512x2048 .bf16) (ix2 r k) = normed (at2 x) (at2 g 0) r.val k.val := by
  unfold k0_pay6 normed
  pointwise
  exact congrArg₂ (· * ·) (congrArg₂ (· * ·) (at2_eq x _ _ _ rfl rfl) (congrArg Ideal.rsqrt (congrArg (· + Ideal.ofBits .f32 0x358637BD#32) (congrArg (Ideal.div · (Ideal.ofBits .f32 0x45000000#32))
    (Finset.sum_congr rfl fun l _ => congrArg₂ (· * ·) (at2_eq x _ _ _ rfl rfl) (at2_eq x _ _ _ rfl rfl)))))) (at2_eq g _ _ _ rfl rfl)

/-- The attention's scale. -/
def scale : EReal := Ideal.ofBits .f32 0x3DB504F3#32

theorem scaled_apply (g : Vec Ideal S1x128 .f32) (k : Fin 128) : (k0_pay7 g : FVec Ideal S1x128 .f32) (ix2 (0 : Fin 1) k) = g (ix2 (0 : Fin 1) k) * scale := by
  unfold k0_pay7 scale
  pointwise

theorem scaled_row (g : Vec Ideal S1x128 .f32) : at2 (A := 1) (B := 128) (k0_pay7 g : FVec Ideal S1x128 .f32) 0 = fun k => at2 g 0 k * scale := by
  funext k
  unfold at2
  by_cases hk : k < 128
  · rw [dif_pos ⟨Nat.one_pos, hk⟩, dif_pos ⟨Nat.one_pos, hk⟩]
    exact scaled_apply g ⟨k, hk⟩
  · rw [dif_neg (fun h => hk h.2), dif_neg (fun h => hk h.2)]
    exact (zero_mul _).symm

theorem acc_apply (h : Vec Ideal S512x2048 .bf16) (w : Vec Ideal S2048x512 .bf16) (r n : Fin 512) :
    (k0_pay13 h w : FVec Ideal S512x512 .f32) (ix2 r n) = ∑ k : Fin 2048, h (ix2 r k) * w (ix2 k n) := by
  unfold k0_pay13
  pointwise

theorem cast_apply (w : Vec Ideal S1x2048x512 .f32) (k : Fin 2048) (n : Fin 512) :
    (k0_pay2 w : FVec Ideal S2048x512 .bf16) (ix2 k n) = w (ix3 (0 : Fin 1) k n) := by
  unfold k0_pay2
  pointwise

/-- A slab of the queries. -/
def slabQ (h : FVec Ideal S512x2048 .bf16) (g : FVec Ideal S1x128 .f32) (w : Vec Ideal S2048x512 .bf16) : FVec Ideal S512x512 .bf16 :=
  slabHeads reduces_S512x128_S512 shapeCasts_S512_S512x1 broadcasts_S512x1_S512x128 broadcasts_S1x128_S512x128 slices_S512x512_o0_0_S512x128 slices_S512x512_o0_128_S512x128
    slices_S512x512_o0_256_S512x128 slices_S512x512_o0_384_S512x128 concatenates_S512x128_S512x128_S512x128_S512x128_S512x512_d1 bitsLt_bf16_f32 (k0_pay13 h w) g

theorem first_eq (x : Vec Ideal S512x2048 .f32) (g : Vec Ideal S1x2048 .f32) (k : Vec Ideal S1x128 .f32) (w : Vec Ideal S2048x512 .bf16) :
    k0_pay12 (k0_pay7 k) (k0_pay8 x g w) (k0_pay9 x g k w) (k0_pay10 x g w) (k0_pay11 x g w) = slabQ (k0_pay6 x g) (k0_pay7 k) w := rfl

theorem second_eq (h : FVec Ideal S512x2048 .bf16) (g : FVec Ideal S1x128 .f32) (w : Vec Ideal S2048x512 .bf16) :
    k0_pay20 (k0_pay16 g (k0_pay14 h w) (k0_pay15 h w)) (k0_pay17 g (k0_pay13 h w)) (k0_pay18 g (k0_pay13 h w)) (k0_pay19 g (k0_pay13 h w)) = slabQ h g w := rfl

theorem third_eq (h : FVec Ideal S512x2048 .bf16) (g : FVec Ideal S1x128 .f32) (w : Vec Ideal S2048x512 .bf16) :
    k0_pay26 g (k0_pay22 h g w) (k0_pay23 h g w) (k0_pay24 h g w) (k0_pay25 h w) = slabQ h g w := rfl

theorem fourth_eq (h : FVec Ideal S512x2048 .bf16) (g : FVec Ideal S1x128 .f32) (w : Vec Ideal S2048x512 .bf16) :
    k0_pay1 g (k0_pay27 h w) (k0_pay28 h g w) (k0_pay29 h g w) (k0_pay30 h w) (k0_pay31 h w) = slabQ h g w := rfl

/-! ## A block -/

/-- The weights of the layer, without the layer axis. -/
def weights (w : Vec Ideal S1x2048x2048 .f32) : Vec Ideal S2048x2048 .bf16 := fun j => w (ix3 (0 : Fin 1) (j 0) (j 1))

/-- The layer's row of the gains. -/
def gainRow (g : Vec Ideal S4x2048 .f32) : Vec Ideal S1x2048 .f32 := fun j => g (ix2 (2 : Fin 4) (j 1))

/-- A block of the queries. -/
def rowsQ (x : Vec Ideal S512x2048 .f32) (g : Vec Ideal S1x2048 .f32) (k : Vec Ideal S1x128 .f32) (w : Vec Ideal S2048x2048 .bf16) : Vec Ideal S512x2048 .bf16 :=
  fun j => headed (project (normed (at2 x) (at2 g 0) (j 0).val) (at2 w)) (at2 k 0) (j 1).val * scale

theorem row_load {sg : RefSig} {arg : Memref sg .tc .vmem S4x2048 .f32} (harg : arg.IsWhole) (g : Vec Ideal S4x2048 .f32)
    (inb : ∀ a, (![2, 0] : Fin 2 → ℕ) a + (![1, 2048] : Fin 2 → ℕ) a ≤ (![4, 2048] : Fin 2 → ℕ) a) :
    arg.view.readAt (Elt Ideal) (Rect.unit (s := S4x2048) ![2, 0] ![1, 2048] inb).toLoadRect (harg.unread g) = gainRow g := by
  funext j
  have h0 : (j 0).val < 1 := (j 0).isLt
  rw [View.readAt_apply, harg.read_unread]
  refine congrArg g (funext fun a => Fin.ext ?_)
  match a with
  | ⟨0, _⟩ => show 2 + 1 * (j 0).val = 2; omega
  | ⟨1, _⟩ => show 0 + 1 * (j 1).val = (j 1).val; omega

/-- A slab of the weights, as cast. -/
theorem cast_slab {sg : RefSig} {arg : Memref sg .tc .vmem S1x2048x2048 .f32} (harg : arg.IsWhole) (w : Vec Ideal S1x2048x2048 .f32) (o : ℕ) (ho : o + 512 ≤ 2048)
    (inb : ∀ a, (![0, 0, o] : Fin 3 → ℕ) a + (![1, 2048, 512] : Fin 3 → ℕ) a ≤ (![1, 2048, 2048] : Fin 3 → ℕ) a)
    (inb' : ∀ a, (![0, o] : Fin 2 → ℕ) a + (![2048, 512] : Fin 2 → ℕ) a ≤ (![2048, 2048] : Fin 2 → ℕ) a) (j : S2048x512.Idx) :
    (k0_pay2 (arg.view.readAt (Elt Ideal) (Rect.unit (s := S1x2048x2048) ![0, 0, o] ![1, 2048, 512] inb).toLoadRect (harg.unread w)) : FVec Ideal S2048x512 .bf16) j
      = weights w ((Rect.unit (s := S2048x2048) ![0, o] ![2048, 512] inb').emb j) := by
  rw [split2 j]
  refine (cast_apply _ _ _).trans ((cols3_apply harg w o inb ho _ _).trans ?_)
  refine Eq.trans ?_ (congrArg (weights w) (cols_emb o inb' ho _ _)).symm
  rfl

/-- A slab of the result. -/
theorem q_slab (x : Vec Ideal S512x2048 .f32) (g : Vec Ideal S1x2048 .f32) (k : Vec Ideal S1x128 .f32) (w : Vec Ideal S2048x2048 .bf16) (ws : Vec Ideal S2048x512 .bf16)
    (o : ℕ) (ho : o + 512 ≤ 2048) (hm : o % 128 = 0) (inb : ∀ a, (![0, o] : Fin 2 → ℕ) a + (![512, 512] : Fin 2 → ℕ) a ≤ (![512, 2048] : Fin 2 → ℕ) a)
    (hw : ∀ (k : Fin 2048) (n : Fin 512), ws (ix2 k n) = w (ix2 k (⟨o + n.val, by omega⟩ : Fin 2048))) (j : S512x512.Idx) :
    slabQ (k0_pay6 x g) (k0_pay7 k) ws j = rowsQ x g k w ((Rect.unit (s := S512x2048) ![0, o] ![512, 512] inb).emb j) := by
  rw [split2 j]
  refine (slabHeads_apply _ _ _ _ _ _ _ _ _ _ _ _ _ _).trans ?_
  refine Eq.trans ?_ (congrArg (rowsQ x g k w) (cols_emb o inb ho _ _)).symm
  rw [scaled_row]
  refine (headed_scaled _ _ _ _).trans (congrArg (· * scale) ?_)
  refine headed_shift _ _ _ o _ hm (j 1).isLt fun n hn => ?_
  refine (at2_eq (k0_pay13 (k0_pay6 x g) _) (ix2 (⟨(j 0).val, (j 0).isLt⟩ : Fin 512) (⟨n, hn⟩ : Fin 512)) _ _ rfl rfl).symm.trans ?_
  refine (acc_apply _ _ _ _).trans ?_
  unfold project
  refine Finset.sum_congr rfl fun l _ => congrArg₂ (· * ·) (hidden_apply x g _ l) ?_
  exact (hw l ⟨n, hn⟩).trans (at2_eq w _ _ _ rfl rfl)

section Body
variable (c : Dev nD) (i : grid0.Coords) (arg1 : Memref sig .tc .vmem S512x2048 .f32) (harg1 : arg1.IsWhole) (arg2 : Memref sig .tc .vmem S4x2048 .f32) (harg2 : arg2.IsWhole)
variable (arg3 : Memref sig .tc .vmem S1x128 .f32) (harg3 : arg3.IsWhole) (arg4 : Memref sig .tc .vmem S1x2048x2048 .f32) (harg4 : arg4.IsWhole)
variable (arg5 : Memref sig .tc .vmem S512x2048 .bf16) (harg5 : arg5.IsWhole) (arg6 : Memref sig .tc .vmem S2048x2048 .bf16) (harg6 : arg6.IsWhole)
variable (x0 : Vec Ideal S512x2048 .f32) (x1 : Vec Ideal S4x2048 .f32) (x2 : Vec Ideal S1x128 .f32) (x3 : Vec Ideal S1x2048x2048 .f32) (xs0 : Vec Ideal S2048x2048 .bf16)

/-- The stores into the scratch are the weights. -/
theorem scratch_pieces : ∀ p ∈ kernelRun0_A.sl.HS0_4 (F := Ideal) c arg4 harg4 x3, ∀ j : p.1.shape.Idx, p.2 j = weights x3 (p.1.emb j) := by
  unfold kernelRun0_A.sl.HS0_4
  intro p hp
  simp only [List.mem_cons, List.not_mem_nil, or_false] at hp
  rcases hp with rfl | rfl | rfl | rfl
  · exact cast_slab harg4 x3 1536 (by decide) _ inb_S2048x2048_S2048x512_0_1536
  · exact cast_slab harg4 x3 1024 (by decide) _ inb_S2048x2048_S2048x512_0_1024
  · exact cast_slab harg4 x3 512 (by decide) _ inb_S2048x2048_S2048x512_0_512
  · exact cast_slab harg4 x3 0 (by decide) _ inb_S2048x2048_S2048x512_0_0

theorem scratch_first (hc0 : cond0_0 i) : sout0_A_0 (F := Ideal) c i arg1 harg1 arg2 harg2 arg3 harg3 arg4 harg4 arg5 harg5 arg6 harg6 hc0 x0 x1 x2 x3 = weights x3 := by
  funext y
  unfold sout0_A_0
  exact View.read_writes_apply_of_pieces _ _ (weights x3) _ (scratch_pieces c arg4 harg4 x3) y
    (scover0_A_0 c i arg1 harg1 arg2 harg2 arg3 harg3 arg4 harg4 arg5 harg5 arg6 harg6 hc0 x0 x1 x2 x3 y)

theorem out_first (hc0 : cond0_0 i) :
    out0_A_4 (F := Ideal) c i arg1 harg1 arg2 harg2 arg3 harg3 arg4 harg4 arg5 harg5 arg6 harg6 hc0 x0 x1 x2 x3 = rowsQ x0 (gainRow x1) x2 (weights x3) := by
  funext y
  unfold out0_A_4
  refine View.read_writes_apply_of_pieces _ _ (rowsQ x0 (gainRow x1) x2 (weights x3)) _ ?_ y
    (cover0_A_4 c i arg1 harg1 arg2 harg2 arg3 harg3 arg4 harg4 arg5 harg5 arg6 harg6 hc0 x0 x1 x2 x3 y)
  have hs := stored_cols_apply (F := Ideal) arg6.view _ (weights x3) (scratch_pieces c arg4 harg4 x3)
    (scover0_A_0 c i arg1 harg1 arg2 harg2 arg3 harg3 arg4 harg4 arg5 harg5 arg6 harg6 hc0 x0 x1 x2 x3)
  unfold kernelRun0_A
  dsimp only
  unfold kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  rw [all_apply harg1 x0, row_load harg2 x1, all_apply harg3 x2, first_eq, second_eq, third_eq, fourth_eq]
  intro p hp
  simp only [List.mem_cons, List.not_mem_nil, or_false] at hp
  rcases hp with rfl | rfl | rfl | rfl <;> dsimp only
  · exact q_slab x0 _ x2 _ _ 1536 (by decide) rfl inb_S512x2048_S512x512_0_1536 (hs 1536 _ (by decide))
  · exact q_slab x0 _ x2 _ _ 1024 (by decide) rfl inb_S512x2048_S512x512_0_1024 (hs 1024 _ (by decide))
  · exact q_slab x0 _ x2 _ _ 512 (by decide) rfl inb_S512x2048_S512x512_0_512 (hs 512 _ (by decide))
  · exact q_slab x0 _ x2 _ _ 0 (by decide) rfl inb_S512x2048_S512x512_0_0 (hs 0 _ (by decide))

theorem out_next (hc0 : ¬cond0_0 i) :
    out0_B_4 (F := Ideal) c i arg1 harg1 arg2 harg2 arg3 harg3 arg4 harg4 arg5 harg5 arg6 harg6 hc0 x0 x1 x2 x3 xs0 = rowsQ x0 (gainRow x1) x2 xs0 := by
  funext y
  unfold out0_B_4
  refine View.read_writes_apply_of_pieces _ _ (rowsQ x0 (gainRow x1) x2 xs0) _ ?_ y
    (cover0_B_4 c i arg1 harg1 arg2 harg2 arg3 harg3 arg4 harg4 arg5 harg5 arg6 harg6 hc0 x0 x1 x2 x3 xs0 y)
  unfold kernelRun0_B
  dsimp only
  unfold kernelRun0_B.sl.r_21 kernelRun0_B.sl.r_20 kernelRun0_B.sl.r_19 kernelRun0_B.sl.r_18 kernelRun0_B.sl.r_17 kernelRun0_B.sl.r_16 kernelRun0_B.sl.r_15 kernelRun0_B.sl.r_14 kernelRun0_B.sl.r_13 kernelRun0_B.sl.r_12 kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r
  rw [all_apply harg1 x0, row_load harg2 x1, all_apply harg3 x2, first_eq, second_eq, third_eq, fourth_eq]
  intro p hp
  simp only [List.mem_cons, List.not_mem_nil, or_false] at hp
  rcases hp with rfl | rfl | rfl | rfl <;> dsimp only
  · exact q_slab x0 _ x2 _ _ 1536 (by decide) rfl inb_S512x2048_S512x512_0_1536 (cols_apply harg6 xs0 1536 _ (by decide))
  · exact q_slab x0 _ x2 _ _ 1024 (by decide) rfl inb_S512x2048_S512x512_0_1024 (cols_apply harg6 xs0 1024 _ (by decide))
  · exact q_slab x0 _ x2 _ _ 512 (by decide) rfl inb_S512x2048_S512x512_0_512 (cols_apply harg6 xs0 512 _ (by decide))
  · exact q_slab x0 _ x2 _ _ 0 (by decide) rfl inb_S512x2048_S512x512_0_0 (cols_apply harg6 xs0 0 _ (by decide))

end Body

/-! ## The blocks -/

variable (m : (ℓ : Loc nD τ sig) → Buf (Elt Ideal) ℓ) (ρ : Dev nD → PrngReg)

theorem index_facts : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

theorem x_block (c : Dev nD) (t : Fin cfg0.N) (r k : ℕ) (hr : r < 512) :
    at2 (A := 512) (B := 2048) (iblk m c 0 t) r k = at2 (A := 8192) (B := 2048) (m ((c.tc : Thread nD τ).loc main_arg0)) (t.val * 512 + r) k := by
  obtain ⟨⟨a, b⟩, -⟩ := index_facts t
  have h16 : t.val < 16 := lt_of_lt_of_eq t.isLt N_0
  unfold at2
  by_cases hk : k < 2048
  · rw [dif_pos ⟨hr, hk⟩, dif_pos ⟨by omega, hk⟩]
    show V m c main_arg0 (((cfg0.win 0).blk t).view.emb _) = _
    rw [V_main_arg0]
    refine congrArg _ (funext fun z => Fin.ext ?_)
    match z with
    | ⟨0, _⟩ => show win0_0.index t (0 : Fin 2) * 512 + 1 * r = t.val * 512 + r; omega
    | ⟨1, _⟩ => show win0_0.index t (1 : Fin 2) * 2048 + 1 * k = k; omega
  · rw [dif_neg (fun h => hk h.2), dif_neg (fun h => hk h.2)]

theorem g_block (c : Dev nD) (t : Fin cfg0.N) :
    at2 (A := 1) (B := 2048) (gainRow (iblk m c 1 t)) 0 = at2 (A := 4) (B := 2048) (m ((c.tc : Thread nD τ).loc main_arg1)) 2 := by
  obtain ⟨-, ⟨a, b⟩, -⟩ := index_facts t
  funext k
  unfold at2 gainRow
  by_cases hk : k < 2048
  · rw [dif_pos ⟨by decide, hk⟩, dif_pos ⟨by decide, hk⟩]
    show V m c main_arg1 (((cfg0.win 1).blk t).view.emb _) = _
    rw [V_main_arg1]
    refine congrArg _ (funext fun z => Fin.ext ?_)
    match z with
    | ⟨0, _⟩ => show win0_1.index t (0 : Fin 2) * 4 + 1 * 2 = 2; omega
    | ⟨1, _⟩ => show win0_1.index t (1 : Fin 2) * 2048 + 1 * k = k; omega
  · rw [dif_neg (fun h => hk h.2), dif_neg (fun h => hk h.2)]

/-- The first layer's row of the head gains. -/
def headRow (g : FVec Ideal S2x128 .f32) : FVec Ideal S1x128 .f32 :=
  shapeCast S1x128 (shapeCast S128 (extractStridedSlice S1x128 ![0, 0] g slices_S2x128_S1x128_0_0) shapeCasts_S1x128_S128) shapeCasts_S128_S1x128

theorem headRow_apply (g : FVec Ideal S2x128 .f32) (k : Fin 128) : headRow g (ix2 (0 : Fin 1) k) = g (ix2 (0 : Fin 2) k) := by
  unfold headRow
  pointwise

theorem V_head (c : Dev nD) : (V m c main_v2 : FVec Ideal S1x128 .f32) = headRow (m ((c.tc : Thread nD τ).loc main_arg3)) := by
  simp only [V, hostOps0]
  rfl

theorem h_block (c : Dev nD) (t : Fin cfg0.N) : at2 (A := 1) (B := 128) (iblk m c 2 t) 0 = at2 (A := 2) (B := 128) (m ((c.tc : Thread nD τ).loc main_arg3)) 0 := by
  obtain ⟨-, -, ⟨a, b⟩, -⟩ := index_facts t
  funext k
  unfold at2
  by_cases hk : k < 128
  · rw [dif_pos ⟨by decide, hk⟩, dif_pos ⟨by decide, hk⟩]
    refine Eq.trans (congrArg (V m c main_v2 : FVec Ideal S1x128 .f32) (show ((cfg0.win 2).blk t).view.emb _ = ix2 (0 : Fin 1) (⟨k, hk⟩ : Fin 128) from funext fun z => Fin.ext ?_))
      ((congrFun (V_head m c) _).trans (headRow_apply _ _))
    match z with
    | ⟨0, _⟩ => show win0_2.index t (0 : Fin 2) * 1 + 1 * 0 = 0; omega
    | ⟨1, _⟩ => show win0_2.index t (1 : Fin 2) * 128 + 1 * k = k; omega
  · rw [dif_neg (fun h => hk h.2), dif_neg (fun h => hk h.2)]

/-- The weights of the first layer. -/
def firstLayer (w : FVec Ideal S2x2048x2048 .f32) : FVec Ideal S2048x2048 .f32 := fun j => w (ix3 (0 : Fin 2) (j 0) (j 1))

/-- The weights are one block, the same at every point. -/
theorem weights_block (c : Dev nD) (t : Fin cfg0.N) : weights (iblk m c 3 t) = firstLayer (m ((c.tc : Thread nD τ).loc main_arg2)) := by
  obtain ⟨-, -, -, ⟨a, b, e⟩, -⟩ := index_facts t
  funext j
  show V m c main_arg2 (((cfg0.win 3).blk t).view.emb (ix3 (0 : Fin 1) (j 0) (j 1))) = _
  rw [V_main_arg2]
  refine congrArg _ (funext fun k => Fin.ext ?_)
  match k with
  | ⟨0, _⟩ => show win0_3.index t (0 : Fin 3) * 1 + 1 * 0 = 0; rw [a]
  | ⟨1, _⟩ => show win0_3.index t (1 : Fin 3) * 2048 + 1 * (j 0).val = (j 0).val; rw [b]; omega
  | ⟨2, _⟩ => show win0_3.index t (2 : Fin 3) * 2048 + 1 * (j 1).val = (j 1).val; rw [e]; omega

/-- What a point writes. -/
def rowsAt (c : Dev nD) (t : Fin cfg0.N) (w : Vec Ideal S2048x2048 .bf16) : Vec Ideal S512x2048 .bf16 := rowsQ (iblk m c 0 t) (gainRow (iblk m c 1 t)) (iblk m c 2 t) w

/-- After every point the scratch holds the weights and the output its block. -/
theorem after_point (c : Dev nD) : ∀ (n : ℕ) (hn : n < cfg0.N), outsAt0 m c n hn = (rowsAt m c ⟨n, hn⟩ (weights (iblk m c 3 ⟨n, hn⟩)), weights (iblk m c 3 ⟨n, hn⟩)) := by
  intro n
  induction n with
  | zero =>
    intro hn
    rw [outsAt0_A m c ⟨0, hn⟩ (Nat.zero_mod _), scratch_first, out_first]
    rfl
  | succ n ih =>
    intro hn
    have h16 : cfg0.N = 16 := N_0
    have e : (outsAt0 m c n (Nat.lt_of_succ_lt hn)).2 = weights (iblk m c 3 ⟨n + 1, hn⟩) := by
      rw [ih, weights_block, weights_block]
    refine (outsAt0_B m c ⟨n + 1, hn⟩ (show ¬(n + 1) % 16 = 0 by omega)).trans ?_
    rw [out_next]
    exact congrArg (fun w => (rowsAt m c ⟨n + 1, hn⟩ w, w)) e

/-! ## The array -/

/-- A projection of the normalized rows. -/
def projected (x : FVec Ideal S8192x2048 .f32) (g : FVec Ideal S4x2048 .f32) (w : FVec Ideal S2x2048x2048 .f32) (R : ℕ) : ℕ → EReal :=
  project (normed (at2 (A := 8192) (B := 2048) x) (at2 (A := 4) (B := 2048) g 2) R) (at2 (A := 2048) (B := 2048) (firstLayer w))

/-- The queries. -/
def queries (x : FVec Ideal S8192x2048 .f32) (g : FVec Ideal S4x2048 .f32) (w : FVec Ideal S2x2048x2048 .f32) (h : FVec Ideal S2x128 .f32) : FVec Ideal S8192x2048 .bf16 :=
  fun i => headed (projected x g w (i 0).val) (at2 (A := 2) (B := 128) h 0) (i 1).val * scale

/-- The rows of a block are rows of the array. -/
theorem normed_rows (f f' : ℕ → ℕ → EReal) (G : ℕ → EReal) (r R k : ℕ) (h : ∀ l, f r l = f' R l) : normed f G r k = normed f' G R k := by
  unfold normed
  simp only [h]

theorem rows_block (c : Dev nD) (t : Fin cfg0.N) (w : ℕ → ℕ → EReal) (r : ℕ) (hr : r < 512) :
    project (normed (at2 (A := 512) (B := 2048) (iblk m c 0 t)) (at2 (A := 1) (B := 2048) (gainRow (iblk m c 1 t)) 0) r) w
      = project (normed (at2 (A := 8192) (B := 2048) (m ((c.tc : Thread nD τ).loc main_arg0))) (at2 (A := 4) (B := 2048) (m ((c.tc : Thread nD τ).loc main_arg1)) 2) (t.val * 512 + r)) w := by
  rw [g_block]
  refine congrArg (fun h => project h w) (funext fun k => ?_)
  exact normed_rows _ _ _ _ _ _ fun l => x_block m c t r l hr

def queriesArr (c : Dev nD) : FVec Ideal S8192x2048 .bf16 :=
  queries (m ((c.tc : Thread nD τ).loc main_arg0)) (m ((c.tc : Thread nD τ).loc main_arg1)) (m ((c.tc : Thread nD τ).loc main_arg2)) (m ((c.tc : Thread nD τ).loc main_arg3))

theorem final (c : Dev nD) : (dats m 0 c).arrAt 4 cfg0.N = queriesArr m c := by
  refine (dats m 0 c).arrAt_eq_of_covers 4 _ (by decide +kernel) fun t hf y => ?_
  obtain ⟨-, -, -, -, ⟨a, b⟩⟩ := index_facts t
  have hy0 : (y 0).val < 512 := (y 0).isLt
  rw [after0_4, after_point]
  have e0 : (((cfg0.win 4).blk t).view.emb y 0).val = t.val * 512 + (y 0).val := by
    show win0_4.index t (0 : Fin 2) * 512 + 1 * (y 0).val = _; omega
  have e1 : (((cfg0.win 4).blk t).view.emb y 1).val = (y 1).val := by
    show win0_4.index t (1 : Fin 2) * 2048 + 1 * (y 1).val = _; omega
  show rowsQ _ _ _ _ ((cfg0.win 4).xinj (grid0.coords t) y) = queriesArr m c (((cfg0.win 4).blk t).view.emb y)
  unfold rowsQ queriesArr queries projected
  rw [e0, e1, weights_block, h_block]
  exact congrArg (fun f => headed f _ (y 1).val * scale) (rows_block m c t _ (y 0).val hy0)

end Cert.QIdeal.Proj

end
-- ==== Proof.Qp.Equal.lean ====
module

public import proofs.«01_k».proof.Defs
public import proofs.«01_k».proof.Proof.Qp.Result
public import proofs.«01_k».proof.Proof.Gen.QReferenceIdeal.Read

@[expose] public section

set_option maxRecDepth 16384

noncomputable section

namespace Cert.QReferenceIdeal.Qp

open Cert.QReferenceIdeal Cert.QReferenceIdeal.Read
open Idealize.ShloMosaic Idealize.ShloMosaic.TcCoe
open Cert.Projection (headed)
open Cert.QIdeal.Proj (projected queries firstLayer scale)
open Cert.Attn (at2 at2_eq)
open Cert.FeedForward (normed project)

/-! ## The reference's stages at an index -/

variable (x : FVec Ideal S8192x2048 .f32) (g : FVec Ideal S4x2048 .f32) (w : FVec Ideal S2x2048x2048 .f32) (h : FVec Ideal S2x128 .f32)

theorem normed_apply (i : S8192x2048.Idx) :
    val_main_v14 (F := Ideal) x g i = normed (at2 (A := 8192) (B := 2048) x) (at2 (A := 4) (B := 2048) g 2) (i 0).val (i 1).val := by
  have h1 : (i 1).val < 2048 := (i 1).isLt
  rw [val_main_v14_apply, val_main_v11_apply, val_main_v10_apply, val_main_v9_apply, val_main_v8_apply, val_main_v6_apply, val_main_v4_apply, val_main_v3_apply,
    val_main_v5_apply, val_main_cst_0_apply, val_main_v7_apply, val_main_cst_1_apply, val_main_v13_apply, val_main_v12_apply, val_main_v1_apply, val_main_v0_apply, val_main_cst_apply]
  simp only [val_main_v2_apply]
  unfold normed
  refine congrArg₂ (· * ·) (congrArg₂ (· * ·) (at2_eq x i _ _ rfl rfl) (congrArg Ideal.rsqrt (congrArg (· + Ideal.ofBits .f32 0x358637BD#32) (congrArg (Ideal.div · (Ideal.ofBits .f32 0x45000000#32)) ?_)))) ?_
  · refine (congrArg₂ (· + ·) (Ideal.ofBits_zero _) (Finset.sum_congr rfl fun k _ => ?_)).trans (zero_add _)
    exact congrArg₂ (· * ·) (at2_eq x _ _ _ rfl rfl) (at2_eq x _ _ _ rfl rfl)
  · exact at2_eq (A := 4) (B := 2048) g _ _ _ rfl (show (i 1).val % 2048 = (i 1).val by omega)

theorem weight_apply (j : S2048x2048.Idx) : val_main_v16 (F := Ideal) w j = firstLayer w j := by
  have h0 : (j 0).val < 2048 := (j 0).isLt
  have h1 : (j 1).val < 2048 := (j 1).isLt
  rw [val_main_v16_apply, val_main_v15_apply]
  unfold firstLayer
  refine congrArg w (funext fun a => Fin.ext ?_)
  match a with
  | ⟨0, _⟩ => rfl
  | ⟨1, _⟩ => show ((j 0).val * 2048 + (j 1).val) / 2048 % 2048 = (j 0).val; omega
  | ⟨2, _⟩ => show ((j 0).val * 2048 + (j 1).val) % 2048 = (j 1).val; omega

theorem projected_apply (i : S8192x2048.Idx) : val_main_v17 (F := Ideal) x g w i = projected x g w (i 0).val (i 1).val := by
  rw [val_main_v17_apply]
  unfold projected project
  exact Finset.sum_congr rfl fun k _ => congrArg₂ (· * ·) (normed_apply x g _) ((weight_apply w _).trans (at2_eq (firstLayer w) _ _ _ rfl rfl))

theorem queries_eq : queries x g w h = val_main_v37 (F := Ideal) x g w h := by
  funext i
  have h0 : (i 0).val < 8192 := (i 0).isLt
  have h1 : (i 1).val < 2048 := (i 1).isLt
  rw [val_main_v37_apply, val_main_v36_apply, val_main_v35_apply, val_main_v34_apply, val_main_cst_5_apply, val_main_v33_apply, val_main_v32_apply, val_main_v31_apply, val_main_v20_apply,
    val_main_v19_apply, val_main_v30_apply, val_main_v29_apply, val_main_v28_apply, val_main_v27_apply, val_main_v26_apply, val_main_cst_4_apply, val_main_v25_apply, val_main_v24_apply,
    val_main_cst_3_apply, val_main_v23_apply, val_main_v22_apply, val_main_cst_2_apply, val_main_v18_apply]
  simp only [val_main_v21_apply, val_main_v18_apply]
  unfold queries headed scale
  symm
  refine congrArg (· * Ideal.ofBits .f32 0x3DB504F3#32) (congrArg₂ (· * ·) (congrArg₂ (· * ·) ?_ (congrArg Ideal.rsqrt (congrArg (· + Ideal.ofBits .f32 0x358637BD#32)
    (congrArg (Ideal.div · (Ideal.ofBits .f32 0x43000000#32)) ?_)))) ?_)
  · refine (projected_apply x g w _).trans (congrArg₂ (projected x g w) ?_ ?_)
    · show ((((i 0).val * 2048 + (i 1).val) / 2048 * 16 + ((i 0).val * 2048 + (i 1).val) / 128 % 16) * 128 + ((i 0).val * 2048 + (i 1).val) % 128) / 2048 = _
      omega
    · show ((((i 0).val * 2048 + (i 1).val) / 2048 * 16 + ((i 0).val * 2048 + (i 1).val) / 128 % 16) * 128 + ((i 0).val * 2048 + (i 1).val) % 128) % 2048 = _
      omega
  · refine (congrArg₂ (· + ·) (Ideal.ofBits_zero _) (Finset.sum_congr rfl fun k _ => ?_)).trans (zero_add _)
    have hk := k.isLt
    have e : val_main_v17 (F := Ideal) x g w (idx_main_v18 (idx_main_v22 (idx_main_v23 (idx_main_v29 (idx_main_v36 i))) k)) = projected x g w (i 0).val ((i 1).val / 128 * 128 + k.val) := by
      refine (projected_apply x g w _).trans (congrArg₂ (projected x g w) ?_ ?_)
      · show ((((i 0).val * 2048 + (i 1).val) / 2048 * 16 + ((i 0).val * 2048 + (i 1).val) / 128 % 16) * 128 + k.val) / 2048 = _
        omega
      · show ((((i 0).val * 2048 + (i 1).val) / 2048 * 16 + ((i 0).val * 2048 + (i 1).val) / 128 % 16) * 128 + k.val) % 2048 = _
        omega
    exact congrArg₂ (· * ·) e e
  · refine at2_eq (A := 2) (B := 128) h _ _ _ rfl ?_
    show ((i 0).val * 2048 + (i 1).val) % 128 % 128 = _
    omega

end Cert.QReferenceIdeal.Qp

namespace Cert.Projection

open Idealize.ShloMosaic Idealize.ShloMosaic.TcCoe
open Cert.QReferenceIdeal.Read

theorem q_algebraic : Cert.algebraic_QIdeal_QReferenceIdeal := fun m g m' g' hm hargs =>
  ⟨fun c => Cert.QIdeal.Proj.queriesArr m c,
    (θ_run _ _ _).mono (fun r h c => ⟨(h c).1.trans (Cert.QIdeal.Proj.final m c), (h c).2⟩) (Cert.QIdeal.Value.run_blocks m g),
    (θ_run _ _ _).mono (fun r h c => by
      obtain ⟨e0, e1, e2, e3⟩ := hargs c
      refine ⟨(h c).1.trans ?_, (h c).2⟩
      refine (val_main_v37_eq _ _).trans ?_
      rw [e0, e1, e2, e3]
      exact (Cert.QReferenceIdeal.Qp.queries_eq _ _ _ _).symm) (Cert.QReferenceIdeal.Value.run m' g')⟩

end Cert.Projection

end
-- ==== Proof.CastInto.Run.lean ====
module

public import proofs.«01_k».proof.Proof.Gen.FfnCastIntoIdeal.Frame
public import proofs.«01_k».proof.Proof.Gen.FfnCastIntoIdeal.Skeleton
public import proofs.«01_k».proof.Proof.Cast.Run

@[expose] public section

set_option maxRecDepth 16384

noncomputable section

namespace Cert.FfnCastIntoIdeal.CastInto

open Cert.FfnCastIntoIdeal Cert.FfnCastIntoIdeal.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnCastIdeal.Cast (gainRow rowsLo rowsHi colsCut rowsCut epsilon hiddenOf firstOut midOut lastOut firstTiles midTiles lastTiles)

variable {F : FTy → Type} [FloatOps F]

local notation "𝕄" => MT nD τ sig Unit (Elt F) ℕ (UR sig nD τ) ℕ

/-! ## The three runs -/

set_option maxHeartbeats 1000000 in
/-- A middle point: its partial sum is added to the output's. -/
theorem run_mid (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .hbm S8192x2048 .f32) (harg7 : arg7.IsWhole) (arg8 : Memref sig .tc .vmem S1024x2048 .f32) (harg8 : arg8.IsWhole) (arg9 : Memref sig .tc .vmem S1x2x2048x512 .bf16) (harg9 : arg9.IsWhole) (arg10 : Memref sig .tc .vmem S1024x2048 .bf16) (harg10 : arg10.IsWhole)
    (h1 : ¬k0_cond1 i = 1#1) (h2 : k0_cond2 i = 1#1) (h3 : ¬k0_cond3 i = 1#1)
    (x : Vec F S1024x2048 .f32) (g : Vec F S4x2048 .f32) (a b : Vec F S1x2048x512 .f32) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg8 fullShare acc ∗ (∃ y, owns (c : Thread nD τ) arg9 fullShare y) ∗ owns (c : Thread nD τ) arg10 fullShare h
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg8 fullShare (midOut acc h a b d) ∗ owns (c : Thread nD τ) arg9 fullShare (midTiles a b) ∗ owns (c : Thread nD τ) arg10 fullShare h) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10) K := by
  simp only [cc0_ffn_cast_eq_skeleton]; unfold cc0_ffn_cast_skel
  simp only [k0_part3_eq_skeleton]; unfold k0_part3_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%e9, %f9, -, H9⟩, ⟨%f10, %hf10, H10⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H8]
  · iexists _; isplitr; swap; · iexact H8
    ipureintro
    have e29 : run_mid.sl.v29 c arg4 arg5 arg9 f4 f5 = k0_pay18 a := by
      unfold run_mid.sl.v29 run_mid.sl.H9_2
      rw [load_whole hf4 zero3, load_whole hf5 zero3]
      exact (load_part (stored_pair _ _ _ _ _) _ _ _).trans (part_gate _ _ _)
    have e31 : run_mid.sl.v31 c arg4 arg5 arg9 f4 f5 = k0_pay19 b := by
      unfold run_mid.sl.v31 run_mid.sl.H9_2
      rw [load_whole hf4 zero3, load_whole hf5 zero3]
      exact (load_part (stored_pair _ _ _ _ _) _ _ _).trans (part_up _ _ _)
    refine (stored_all _ _ zero2 _).trans ?_
    dsimp only
    unfold midOut
    rw [load_whole hf8 zero2, load_whole hf10 zero2, load_whole hf6 zero3, e29, e31]
    rfl
  isplitl [H9]
  · iexists _; isplitr; swap; · iexact H9
    ipureintro
    unfold run_mid.sl.H9_2 midTiles
    rw [load_whole hf4 zero3, load_whole hf5 zero3]
    exact stored_pair _ _ _ _ _
  iexists _; isplitr; swap; · iexact H10
  ipureintro
  exact hf10

set_option maxHeartbeats 1000000 in
/-- The last point: its partial sum is added, and the residual. -/
theorem run_last (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .hbm S8192x2048 .f32) (harg7 : arg7.IsWhole) (arg8 : Memref sig .tc .vmem S1024x2048 .f32) (harg8 : arg8.IsWhole) (arg9 : Memref sig .tc .vmem S1x2x2048x512 .bf16) (harg9 : arg9.IsWhole) (arg10 : Memref sig .tc .vmem S1024x2048 .bf16) (harg10 : arg10.IsWhole)
    (h1 : ¬k0_cond1 i = 1#1) (h2 : ¬k0_cond2 i = 1#1) (h3 : k0_cond3 i = 1#1)
    (x : Vec F S1024x2048 .f32) (g : Vec F S4x2048 .f32) (a b : Vec F S1x2048x512 .f32) (d : Vec F S1x512x2048 .f32) (acc : Vec F S1024x2048 .f32) (h : Vec F S1024x2048 .bf16)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg8 fullShare acc ∗ (∃ y, owns (c : Thread nD τ) arg9 fullShare y) ∗ owns (c : Thread nD τ) arg10 fullShare h
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg8 fullShare (lastOut x acc h a b d) ∗ owns (c : Thread nD τ) arg9 fullShare (lastTiles a b) ∗ owns (c : Thread nD τ) arg10 fullShare h) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10) K := by
  simp only [cc0_ffn_cast_eq_skeleton]; unfold cc0_ffn_cast_skel
  simp only [k0_part4_eq_skeleton]; unfold k0_part4_skel
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%e9, %f9, -, H9⟩, ⟨%f10, %hf10, H10⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H8]
  · iexists _; isplitr; swap; · iexact H8
    ipureintro
    have e34 : run_last.sl.v34 c arg4 arg5 arg9 f4 f5 = k0_pay23 (colsCut a) := by
      unfold run_last.sl.v34 run_last.sl.H9_3
      rw [load_part hf4, load_part hf5]
      exact (load_part (stored_pairCut _ _ _ _ _ _ _) _ _ _).trans (part_gate_cut _ _ _ _)
    have e36 : run_last.sl.v36 c arg4 arg5 arg9 f4 f5 = k0_pay24 (colsCut b) := by
      unfold run_last.sl.v36 run_last.sl.H9_3
      rw [load_part hf4, load_part hf5]
      exact (load_part (stored_pairCut _ _ _ _ _ _ _) _ _ _).trans (part_up_cut _ _ _ _)
    refine (stored_all _ _ zero2 _).trans ?_
    dsimp only
    unfold lastOut
    rw [load_whole hf2 zero2, load_whole hf8 zero2, load_whole hf10 zero2, load_part hf6, e34, e36]
    rfl
  isplitl [H9]
  · iexists _; isplitr; swap; · iexact H9
    ipureintro
    unfold run_last.sl.H9_3 lastTiles
    rw [load_part hf4, load_part hf5]
    exact stored_pairCut _ _ _ _ _ _ _
  iexists _; isplitr; swap; · iexact H10
  ipureintro
  exact hf10

set_option maxHeartbeats 1000000 in
/-- The first point: the normalized rows, and the first partial sum. -/
theorem run_first (c : Dev nD) (i : grid0.Coords) (arg2 : Memref sig .tc .vmem S1024x2048 .f32) (harg2 : arg2.IsWhole) (arg3 : Memref sig .tc .vmem S4x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole)
    (arg7 : Memref sig .tc .hbm S8192x2048 .f32) (harg7 : arg7.IsWhole) (arg8 : Memref sig .tc .vmem S1024x2048 .f32) (harg8 : arg8.IsWhole) (arg9 : Memref sig .tc .vmem S1x2x2048x512 .bf16) (harg9 : arg9.IsWhole) (arg10 : Memref sig .tc .vmem S1024x2048 .bf16) (harg10 : arg10.IsWhole)
    (h1 : k0_cond1 i = 1#1) (h2 : ¬k0_cond2 i = 1#1) (h3 : ¬k0_cond3 i = 1#1)
    (x : Vec F S1024x2048 .f32) (g : Vec F S4x2048 .f32) (a b : Vec F S1x2048x512 .f32) (d : Vec F S1x512x2048 .f32)
    (E : Set ℕ) (K : PUnit → sProp 𝕄) :
    iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ (∃ y, owns (c : Thread nD τ) arg8 fullShare y) ∗ (∃ y, owns (c : Thread nD τ) arg9 fullShare y) ∗ (∃ y, owns (c : Thread nD τ) arg10 fullShare y)
        ∗ (iprop(owns (c : Thread nD τ) arg2 fullShare x ∗ owns (c : Thread nD τ) arg3 fullShare g ∗ owns (c : Thread nD τ) arg4 fullShare a ∗ owns (c : Thread nD τ) arg5 fullShare b ∗ owns (c : Thread nD τ) arg6 fullShare d ∗ owns (c : Thread nD τ) arg8 fullShare (firstOut x g a b d) ∗ owns (c : Thread nD τ) arg9 fullShare (firstTiles a b) ∗ owns (c : Thread nD τ) arg10 fullShare (hiddenOf x g)) -∗ K ⟨⟩))
      ⊢ wp frame (wpE (defs₀ (F := F)) Variants.none c none) E (cc0_ffn_cast i arg2 harg2 arg3 harg3 arg4 harg4 arg5 harg5 arg6 harg6 arg7 harg7 arg8 harg8 arg9 harg9 arg10 harg10) K := by
  simp only [cc0_ffn_cast_eq_skeleton]; unfold cc0_ffn_cast_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%e8, %f8, -, H8⟩, ⟨%e9, %f9, -, H9⟩, ⟨%e10, %f10, -, H10⟩, Hk⟩
  sl_exec (disch := first | sl_exact h1 | sl_exact h2 | sl_exact h3)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H8]
  · iexists _; isplitr; swap; · iexact H8
    ipureintro
    have e26 : run_first.sl.v26 c arg4 arg5 arg9 f4 f5 = k0_pay5 a := by
      unfold run_first.sl.v26 run_first.sl.H9_2
      rw [load_whole hf4 zero3, load_whole hf5 zero3]
      exact (load_part (stored_pair _ _ _ _ _) _ _ _).trans (part_gate _ _ _)
    have e28 : run_first.sl.v28 c arg4 arg5 arg9 f4 f5 = k0_pay6 b := by
      unfold run_first.sl.v28 run_first.sl.H9_2
      rw [load_whole hf4 zero3, load_whole hf5 zero3]
      exact (load_part (stored_pair _ _ _ _ _) _ _ _).trans (part_up _ _ _)
    dsimp only
    rw [load_part hf3, load_part hf2, load_part hf2, load_whole hf6 zero3, e26, e28]
    exact stored_halves _ _ _ _ _
  isplitl [H9]
  · iexists _; isplitr; swap; · iexact H9
    ipureintro
    unfold run_first.sl.H9_2 firstTiles
    rw [load_whole hf4 zero3, load_whole hf5 zero3]
    exact stored_pair _ _ _ _ _
  iexists _; isplitr; swap; · iexact H10
  ipureintro
  dsimp only
  rw [load_part hf3, load_part hf2, load_part hf2]
  exact stored_halves _ _ _ _ _

end Cert.FfnCastIntoIdeal.CastInto

end
-- ==== Proof.CastInto.Frame.lean ====
module

public import proofs.«01_k».proof.Proof.CastInto.Run
public import proofs.«01_k».proof.Proof.Cast.Frame
public import Idealize.ShloMosaic.Lib.Claim
public import Mathlib.Tactic.IntervalCases

@[expose] public section

set_option maxRecDepth 16384

noncomputable section

namespace Cert.FfnCastIntoIdeal.CastInto

open Cert.FfnCastIntoIdeal Cert.FfnCastIntoIdeal.Gen Cert.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.FfnCastIdeal.Cast (colsCut rowsCut hiddenOf firstOut midOut lastOut firstTiles midTiles lastTiles)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem coord1 (t : Fin cfg0.N) : (grid0.coords t 1).val = t.val / 1 % 11 := Pipeline.Grid.coords_val t 1 (by decide) rfl
theorem point_lt (t : Fin cfg0.N) : t.val < 11 := Nat.lt_of_lt_of_eq t.isLt N_0

theorem hcond1 (i : grid0.Coords) : k0_cond1 i = 1#1 ↔ (i 1).val = 0 := Cert.FfnCastIdeal.Cast.hcond1 i
theorem hcond2 (i : grid0.Coords) : k0_cond2 i = 1#1 ↔ 0 < (i 1).val ∧ (i 1).val < 10 := Cert.FfnCastIdeal.Cast.hcond2 i
theorem hcond3 (i : grid0.Coords) : k0_cond3 i = 1#1 ↔ (i 1).val = 10 := Cert.FfnCastIdeal.Cast.hcond3 i

/-- Every point stores into the rows' buffer, and into the tiles'. -/
theorem idle5 (i : grid0.Coords) : cfg0.idle 5 i = false := Cert.FfnCastIdeal.Cast.idle5 i
theorem idle6 (i : grid0.Coords) : cfg0.idle 6 i = false := Cert.FfnCastIdeal.Cast.idle6 i

/-! ## The memrefs that the pipeline passes -/

abbrev ms0_0 (t : Fin cfg0.N) : Memref sig .tc .vmem S1024x2048 .f32 := win0_0.stage (cfg0.slots t 0)
abbrev ms0_1 (t : Fin cfg0.N) : Memref sig .tc .vmem S4x2048 .f32 := win0_1.stage (cfg0.slots t 1)
abbrev ms0_2 (t : Fin cfg0.N) : Memref sig .tc .vmem S1x2048x512 .f32 := win0_2.stage (cfg0.slots t 2)
abbrev ms0_3 (t : Fin cfg0.N) : Memref sig .tc .vmem S1x2048x512 .f32 := win0_3.stage (cfg0.slots t 3)
abbrev ms0_4 (t : Fin cfg0.N) : Memref sig .tc .vmem S1x512x2048 .f32 := win0_4.stage (cfg0.slots t 4)
abbrev ms0_5 (t : Fin cfg0.N) : Memref sig .tc .vmem S1024x2048 .f32 := win0_5.stage (cfg0.slots t 5)
abbrev ms0_6 (t : Fin cfg0.N) : Memref sig .tc .vmem S1x2x2048x512 .bf16 := win0_6.stage (cfg0.slots t 6)
abbrev scM0_0 : Memref sig .tc .vmem S1024x2048 .bf16 := Memref.whole cc0_scratch0

/-- Before the first point the invariant is: the scratch at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The weights' blocks, which may overhang their arrays -/

/-- What is fetched does not depend on what the buffer held. -/
theorem fill_agree (win : Window sig grid0) {α : Type} (i : grid0.Coords) (d d' : win.block.Idx → α) (b : (win.xblock i).Idx → α) (y : win.block.Idx)
    (hy : ∀ a, (y a).val < win.xsize i a) : win.fill i d b y = win.fill i d' b y := by
  have hm : win.moved i y = true := (win.moved_iff i y).mpr hy
  unfold Window.fill
  rw [dif_pos hm, dif_pos hm]

/-- The gate's block at point `t`, filled out with zeros past the array's end. -/
def gateAt (c : Dev nD) (t : Fin cfg0.N) : Vec F S1x2048x512 .f32 :=
  win0_2.fill (grid0.coords t) (fun _ => Scalar.ofBits .f32 0x00000000#32) (iblk m c 2 t)

theorem moved2_inner (t : Fin cfg0.N) (ht : t.val % 11 ≠ 10) (y : S1x2048x512.Idx) : ∀ a, (y a).val < win0_2.xsize (grid0.coords t) a := Cert.FfnCastIdeal.Cast.moved2_inner t ht y

theorem fill2_inner (c : Dev nD) (t : Fin cfg0.N) (ht : t.val % 11 ≠ 10) (d : S1x2048x512.Idx → Elt F .f32) :
    win0_2.fill (grid0.coords t) d (iblk m c 2 t) = gateAt m c t :=
  funext fun y => fill_agree win0_2 _ d _ _ y (moved2_inner t ht y)

theorem moved2_last (t : Fin cfg0.N) (ht : t.val % 11 = 10) (y : S1x2048x512.Idx) (hy : (y 2).val < 384) : ∀ a, (y a).val < win0_2.xsize (grid0.coords t) a := Cert.FfnCastIdeal.Cast.moved2_last t ht y hy

theorem fill2_last (c : Dev nD) (t : Fin cfg0.N) (ht : t.val % 11 = 10) (d : S1x2048x512.Idx → Elt F .f32) :
    colsCut (win0_2.fill (grid0.coords t) d (iblk m c 2 t)) = colsCut (gateAt m c t) :=
  funext fun j => fill_agree win0_2 (grid0.coords t) d (fun _ => Scalar.ofBits .f32 0x00000000#32) (iblk m c 2 t) (within (s := S1x2048x512) ![0, 0, 0] S1x2048x384.size inb_S1x2048x512_S1x2048x384_0_0_0 j)
    (moved2_last t ht _ (lt_of_eq_of_lt (Nat.zero_add _) (j 2).isLt))

/-- The up projection's. -/
def upAt (c : Dev nD) (t : Fin cfg0.N) : Vec F S1x2048x512 .f32 :=
  win0_3.fill (grid0.coords t) (fun _ => Scalar.ofBits .f32 0x00000000#32) (iblk m c 3 t)

theorem moved3_inner (t : Fin cfg0.N) (ht : t.val % 11 ≠ 10) (y : S1x2048x512.Idx) : ∀ a, (y a).val < win0_3.xsize (grid0.coords t) a := Cert.FfnCastIdeal.Cast.moved3_inner t ht y

theorem fill3_inner (c : Dev nD) (t : Fin cfg0.N) (ht : t.val % 11 ≠ 10) (d : S1x2048x512.Idx → Elt F .f32) :
    win0_3.fill (grid0.coords t) d (iblk m c 3 t) = upAt m c t :=
  funext fun y => fill_agree win0_3 _ d _ _ y (moved3_inner t ht y)

theorem moved3_last (t : Fin cfg0.N) (ht : t.val % 11 = 10) (y : S1x2048x512.Idx) (hy : (y 2).val < 384) : ∀ a, (y a).val < win0_3.xsize (grid0.coords t) a := Cert.FfnCastIdeal.Cast.moved3_last t ht y hy

theorem fill3_last (c : Dev nD) (t : Fin cfg0.N) (ht : t.val % 11 = 10) (d : S1x2048x512.Idx → Elt F .f32) :
    colsCut (win0_3.fill (grid0.coords t) d (iblk m c 3 t)) = colsCut (upAt m c t) :=
  funext fun j => fill_agree win0_3 (grid0.coords t) d (fun _ => Scalar.ofBits .f32 0x00000000#32) (iblk m c 3 t) (within (s := S1x2048x512) ![0, 0, 0] S1x2048x384.size inb_S1x2048x512_S1x2048x384_0_0_0 j)
    (moved3_last t ht _ (lt_of_eq_of_lt (Nat.zero_add _) (j 2).isLt))

/-- The down projection's. -/
def downAt (c : Dev nD) (t : Fin cfg0.N) : Vec F S1x512x2048 .f32 :=
  win0_4.fill (grid0.coords t) (fun _ => Scalar.ofBits .f32 0x00000000#32) (iblk m c 4 t)

theorem moved4_inner (t : Fin cfg0.N) (ht : t.val % 11 ≠ 10) (y : S1x512x2048.Idx) : ∀ a, (y a).val < win0_4.xsize (grid0.coords t) a := Cert.FfnCastIdeal.Cast.moved4_inner t ht y

theorem fill4_inner (c : Dev nD) (t : Fin cfg0.N) (ht : t.val % 11 ≠ 10) (d : S1x512x2048.Idx → Elt F .f32) :
    win0_4.fill (grid0.coords t) d (iblk m c 4 t) = downAt m c t :=
  funext fun y => fill_agree win0_4 _ d _ _ y (moved4_inner t ht y)

theorem moved4_last (t : Fin cfg0.N) (ht : t.val % 11 = 10) (y : S1x512x2048.Idx) (hy : (y 1).val < 384) : ∀ a, (y a).val < win0_4.xsize (grid0.coords t) a := Cert.FfnCastIdeal.Cast.moved4_last t ht y hy

theorem fill4_last (c : Dev nD) (t : Fin cfg0.N) (ht : t.val % 11 = 10) (d : S1x512x2048.Idx → Elt F .f32) :
    rowsCut (win0_4.fill (grid0.coords t) d (iblk m c 4 t)) = rowsCut (downAt m c t) :=
  funext fun j => fill_agree win0_4 (grid0.coords t) d (fun _ => Scalar.ofBits .f32 0x00000000#32) (iblk m c 4 t) (within (s := S1x512x2048) ![0, 0, 0] S1x384x2048.size inb_S1x512x2048_S1x384x2048_0_0_0 j)
    (moved4_last t ht _ (lt_of_eq_of_lt (Nat.zero_add _) (j 1).isLt))

theorem cut2 (c : Dev nD) (t : Fin cfg0.N) : win0_2.cut (grid0.coords t) (gateAt m c t) = iblk m c 2 t := win0_2.cut_fill _ _ _
theorem cut3 (c : Dev nD) (t : Fin cfg0.N) : win0_3.cut (grid0.coords t) (upAt m c t) = iblk m c 3 t := win0_3.cut_fill _ _ _
theorem cut4 (c : Dev nD) (t : Fin cfg0.N) : win0_4.cut (grid0.coords t) (downAt m c t) = iblk m c 4 t := win0_4.cut_fill _ _ _

/-! ## What the body leaves -/

/-- The output's buffer and the scratch after point `t`, from what they hold before it. -/
def stepAt (c : Dev nD) (t : Fin cfg0.N) (s : Vec F S1024x2048 .f32 × Vec F S1024x2048 .bf16) : Vec F S1024x2048 .f32 × Vec F S1024x2048 .bf16 :=
  if t.val % 11 = 0 then (firstOut (iblk m c 0 t) (iblk m c 1 t) (gateAt m c t) (upAt m c t) (downAt m c t), hiddenOf (iblk m c 0 t) (iblk m c 1 t))
  else if t.val % 11 = 10 then (lastOut (iblk m c 0 t) s.1 s.2 (gateAt m c t) (upAt m c t) (downAt m c t), s.2)
  else (midOut s.1 s.2 (gateAt m c t) (upAt m c t) (downAt m c t), s.2)

/-- The two before point `n`. -/
def stAt (c : Dev nD) : ℕ → Vec F S1024x2048 .f32 × Vec F S1024x2048 .bf16
  | 0 => (fun _ => Scalar.ofBits .f32 0x00000000#32, fun _ => Scalar.ofBits .bf16 0x0000#16)
  | n + 1 => if hn : n < cfg0.N then stepAt m c ⟨n, hn⟩ (stAt c n) else stAt c n

theorem stAt_succ (c : Dev nD) (t : Fin cfg0.N) : stAt m c (t.val + 1) = stepAt m c t (stAt m c t.val) := by
  rw [stAt, dif_pos t.isLt]

theorem st_first (c : Dev nD) (t : Fin cfg0.N) (h : t.val % 11 = 0) : stAt m c (t.val + 1)
    = (firstOut (iblk m c 0 t) (iblk m c 1 t) (gateAt m c t) (upAt m c t) (downAt m c t), hiddenOf (iblk m c 0 t) (iblk m c 1 t)) := by
  rw [stAt_succ, stepAt, if_pos h]
theorem st_mid (c : Dev nD) (t : Fin cfg0.N) (h : t.val % 11 ≠ 0) (h' : t.val % 11 ≠ 10) : stAt m c (t.val + 1)
    = (midOut (stAt m c t.val).1 (stAt m c t.val).2 (gateAt m c t) (upAt m c t) (downAt m c t), (stAt m c t.val).2) := by
  rw [stAt_succ, stepAt, if_neg h, if_neg h']
theorem st_last (c : Dev nD) (t : Fin cfg0.N) (h : t.val % 11 = 10) : stAt m c (t.val + 1)
    = (lastOut (iblk m c 0 t) (stAt m c t.val).1 (stAt m c t.val).2 (gateAt m c t) (upAt m c t) (downAt m c t), (stAt m c t.val).2) := by
  rw [stAt_succ, stepAt, if_neg (by omega), if_pos h]

/-- The pair of tiles after point `t`. -/
def tilesAt (c : Dev nD) (t : Fin cfg0.N) : Vec F S1x2x2048x512 .bf16 :=
  if t.val % 11 = 0 then firstTiles (gateAt m c t) (upAt m c t)
  else if t.val % 11 = 10 then lastTiles (gateAt m c t) (upAt m c t)
  else midTiles (gateAt m c t) (upAt m c t)

theorem tiles_first (c : Dev nD) (t : Fin cfg0.N) (h : t.val % 11 = 0) : tilesAt m c t = firstTiles (gateAt m c t) (upAt m c t) := by
  rw [tilesAt, if_pos h]
theorem tiles_mid (c : Dev nD) (t : Fin cfg0.N) (h : t.val % 11 ≠ 0) (h' : t.val % 11 ≠ 10) : tilesAt m c t = midTiles (gateAt m c t) (upAt m c t) := by
  rw [tilesAt, if_neg h, if_neg h']
theorem tiles_last (c : Dev nD) (t : Fin cfg0.N) (h : t.val % 11 = 10) : tilesAt m c t = lastTiles (gateAt m c t) (upAt m c t) := by
  rw [tilesAt, if_neg (by omega), if_pos h]

/-! ## The pipeline's proof data -/

/-- Before point `n` the scratch holds the normalized rows, but at the first point of a row tile, when it holds anything. -/
def PhiS (c : Dev nD) (n : ℕ) : sProp 𝕄 :=
  iprop(iprop(∃ d, ⌜n % 11 ≠ 0 → d = (stAt m c n).2⌝ ∗ owns (c : Thread nD τ) scM0_0 fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gateAt m c t
    | ⟨3, _⟩ => upAt m c t
    | ⟨4, _⟩ => downAt m c t
    | ⟨5, _⟩ => (stAt m c (t.val + 1)).1
    | ⟨6, _⟩ => tilesAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = gateAt m c t := by dsimp only [dats]
theorem after0_3 (c : Dev nD) (t : Fin cfg0.N) : (dats m 0 c).after 3 t = upAt m c t := by dsimp only [dats]
theorem after0_4 (c : Dev nD) (t : Fin cfg0.N) : (dats m 0 c).after 4 t = downAt m c t := by dsimp only [dats]
theorem after0_5 (c : Dev nD) (t : Fin cfg0.N) : (dats m 0 c).after 5 t = (stAt m c (t.val + 1)).1 := by dsimp only [dats]
theorem after0_6 (c : Dev nD) (t : Fin cfg0.N) : (dats m 0 c).after 6 t = tilesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl
theorem before0_5 (c : Dev nD) (t : Fin cfg0.N) (h : t.val % 11 ≠ 0) (d) : (dats m 0 c).before 5 t d = (stAt m c t.val).1 := by
  have ht : t.val ≠ 0 := fun h0 => h (by rw [h0])
  have hfl : (cfg0.win 5).flush ⟨t.val - 1, Nat.lt_of_le_of_lt (Nat.sub_le _ _) t.isLt⟩ = false := by
    rw [Bool.eq_false_iff]
    intro hf
    have := (flush0_5 _).mp hf
    simp only at this
    omega
  rw [(dats m 0 c).before_out_kept 5 rfl t ht hfl idle5 (fun _ _ => rfl) d, after0_5]
  simp only
  rw [Nat.sub_add_cancel (Nat.pos_of_ne_zero ht)]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ owns (c : Thread nD τ) (ms0_5 t) fullShare ((dats m 0 c).after 5 t)
    ∗ owns (c : Thread nD τ) (ms0_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have hj : (grid0.coords t 1).val = t.val % 11 := (coord1 t).trans (by rw [Nat.div_one])
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, cut2, cut3, cut4]
  rw [show (dats m 0 c).Φ t.succ = PhiS m c (t.val + 1) from rfl, show (dats m 0 c).Φ t.castSucc = PhiS m c t.val from rfl]
  unfold PhiS
  by_cases h0 : t.val % 11 = 0
  · rw [st_first m c t h0, tiles_first m c t h0]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ _ _ ((hcond1 _).mpr (hj.trans h0)) (fun h => by have := (hcond2 _).mp h; omega) (fun h => by have := (hcond3 _).mp h; omega)
      (iblk m c 0 t) (iblk m c 1 t) (win0_2.fill (grid0.coords t) d2 (iblk m c 2 t)) (win0_3.fill (grid0.coords t) d3 (iblk m c 3 t)) (win0_4.fill (grid0.coords t) d4 (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    rw [fill2_inner m c t (by omega) d2, fill3_inner m c t (by omega) d3, fill4_inner m c t (by omega) d4]
    iintro ⟨H0, H1, H2, H3, H4, H5, H6, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexists d2; rw [fill2_inner m c t (by omega) d2]; iexact H2
    isplitl [H3]; · iexists d3; rw [fill3_inner m c t (by omega) d3]; iexact H3
    isplitl [H4]; · iexists d4; rw [fill4_inner m c t (by omega) d4]; iexact H4
    isplitl [H5]; · iexact H5
    iexact H6
  by_cases h10 : t.val % 11 = 10
  · simp only [before0_5 m c t h0]
    rw [st_last m c t h10, tiles_last m c t h10]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hd h0
    iapply (run_last c (grid0.coords t) _ _ _ _ _ _ _ _ _ _ _ _ _ _ _ _ _ _ (fun h => by have := (hcond1 _).mp h; omega) (fun h => by have := (hcond2 _).mp h; omega) ((hcond3 _).mpr (hj.trans h10))
      (iblk m c 0 t) (iblk m c 1 t) (win0_2.fill (grid0.coords t) d2 (iblk m c 2 t)) (win0_3.fill (grid0.coords t) d3 (iblk m c 3 t)) (win0_4.fill (grid0.coords t) d4 (iblk m c 4 t)) (stAt m c t.val).1 (stAt m c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [show lastOut (iblk m c 0 t) (stAt m c t.val).1 (stAt m c t.val).2 (win0_2.fill (grid0.coords t) d2 (iblk m c 2 t)) (win0_3.fill (grid0.coords t) d3 (iblk m c 3 t)) (win0_4.fill (grid0.coords t) d4 (iblk m c 4 t))
        = lastOut (iblk m c 0 t) (stAt m c t.val).1 (stAt m c t.val).2 (gateAt m c t) (upAt m c t) (downAt m c t) by unfold lastOut; rw [fill2_last m c t h10 d2, fill3_last m c t h10 d3, fill4_last m c t h10 d4],
      show lastTiles (win0_2.fill (grid0.coords t) d2 (iblk m c 2 t)) (win0_3.fill (grid0.coords t) d3 (iblk m c 3 t)) = lastTiles (gateAt m c t) (upAt m c t) by unfold lastTiles; rw [fill2_last m c t h10 d2, fill3_last m c t h10 d3]]
    iintro ⟨H0, H1, H2, H3, H4, H5, H6, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexists d2; iexact H2
    isplitl [H3]; · iexists d3; iexact H3
    isplitl [H4]; · iexists d4; iexact H4
    isplitl [H5]; · iexact H5
    iexact H6
  · simp only [before0_5 m c t h0]
    rw [st_mid m c t h0 h10, tiles_mid m c t h0 h10]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl := hd h0
    iapply (run_mid c (grid0.coords t) _ _ _ _ _ _ _ _ _ _ _ _ _ _ _ _ _ _ (fun h => by have := (hcond1 _).mp h; omega) ((hcond2 _).mpr (by omega)) (fun h => by have := (hcond3 _).mp h; omega)
      (iblk m c 0 t) (iblk m c 1 t) (win0_2.fill (grid0.coords t) d2 (iblk m c 2 t)) (win0_3.fill (grid0.coords t) d3 (iblk m c 3 t)) (win0_4.fill (grid0.coords t) d4 (iblk m c 4 t)) (stAt m c t.val).1 (stAt m c t.val).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [fill2_inner m c t h10 d2, fill3_inner m c t h10 d3, fill4_inner m c t h10 d4]
    iintro ⟨H0, H1, H2, H3, H4, H5, H6, HS⟩
    isplitl [HS Hg]
    · isplitl [HS]
      · iexists _
        isplitr
        swap; · iexact HS
        ipureintro; intro _; rfl
      iexact Hg
    isplitl [Ho]; · iexact Ho
    isplitl [H0]; · iexact H0
    isplitl [H1]; · iexact H1
    isplitl [H2]; · iexists d2; rw [fill2_inner m c t h10 d2]; iexact H2
    isplitl [H3]; · iexists d3; rw [fill3_inner m c t h10 d3]; iexact H3
    isplitl [H4]; · iexists d4; rw [fill4_inner m c t h10 d4]; iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  rw [show cfg0.idle 5 (cfg0.grid.coords t) = false from idle5 _]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%d, H⟩, Hg⟩
  isplitl [H]
  · iexists d
    isplitr
    · ipureintro; intro h; exact absurd rfl h
    iexact H
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%d, -, H⟩, Hg⟩
  isplitl [H]
  · iexists d; iexact H
  iexact Hg

/-! ## The run and the frame -/

set_option backward.isDefEq.respectTransparency.types false in
/-- Every execution ends with the arrays at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- An input's array ends as the region found it. -/
theorem kept (r : PUnit × MemSt nD τ sig (Elt F)) (h : Pipeline.FramePost cfgs (dats m) 0 (V m) r) (c : Dev nD) (w : Fin cfg0.W) (hw : (cfg0.win w).isOut = false) :
    r.2.mem ((cfg0.spec w).arr.view.loc (c.tc : Thread nD τ)) = V m c (Pipeline.arrRef spec0 w) :=
  ((h c).1 w).trans (((dats m 0 c).arrAt_in w hw _).trans (A_eq m c w))

/-- The run with the results named, the arguments unchanged and the counters at zero. -/
theorem run_named : θ_run defs (onTc (τ := τ) (main (F := F))) ⟨m, fun _ => 0, ρ⟩ (fun r => (∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 5, (h.1 c).1 6, (kept m r h.1 c 0 rfl).trans (V_main_arg0 m c), (kept m r h.1 c 1 rfl).trans (V_main_arg1 m c),
    (kept m r h.1 c 2 rfl).trans (V_main_arg2 m c), (kept m r h.1 c 3 rfl).trans (V_main_arg3 m c), (kept m r h.1 c 4 rfl).trans (V_main_arg4 m c), ((h.1 c).2 main_arg5 (Pipeline.mem_restRefs_of main_arg5 (by decide) (by decide))).trans (V_main_arg5 m c)⟩, h.2⟩) (run_quiescent m ρ)

/-- The frame claim's statement, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2.2, h.2⟩) (run_named m ρ)

end Cert.FfnCastIntoIdeal.CastInto

end
-- ==== Proof.CastInto.Result.lean ====
module

public import proofs.«01_k».proof.Proof.Cast.Result
public import proofs.«01_k».proof.Proof.CastInto.Frame
public import Idealize.ShloMosaic.Lib.Pipeline.ValueKit.Partial

@[expose] public section

set_option maxRecDepth 16384

noncomputable section

namespace Cert.FfnCastIntoIdeal.CastInto

open Cert.FfnCastIntoIdeal Cert.FfnCastIntoIdeal.Gen
open Idealize.ShloMosaic Idealize.ShloMosaic.TcCoe Idealize.SL.Sem
open Idealize.ShloMosaic.Pipeline (Dat Cfg Window)
open Cert.Attn (at2 at2_eq)
open Cert.FeedForward
open Cert.FfnCastIdeal.Cast (after_steps tiles_steps)

variable (m : (ℓ : Loc nD τ sig) → Buf (Elt Ideal) ℓ) (ρ : Dev nD → PrngReg)

/-! ## The arrays as functions of natural indices -/

def xOf (c : Dev nD) : ℕ → ℕ → EReal := at2 (A := 8192) (B := 2048) (m ((c.tc : Thread nD τ).loc main_arg0))
def gOf (c : Dev nD) : ℕ → EReal := at2 (A := 4) (B := 2048) (m ((c.tc : Thread nD τ).loc main_arg1)) 0
def eOf (c : Dev nD) : ℕ → ℕ → EReal := at2 (A := 8192) (B := 2048) (m ((c.tc : Thread nD τ).loc main_arg5))
def gateOf (c : Dev nD) : ℕ → ℕ → EReal := weight (m ((c.tc : Thread nD τ).loc main_arg2))
def upOf (c : Dev nD) : ℕ → ℕ → EReal := weight (m ((c.tc : Thread nD τ).loc main_arg3))
def dOf (c : Dev nD) : ℕ → ℕ → EReal := down (m ((c.tc : Thread nD τ).loc main_arg4))

/-- The sum that a row tile's output holds after `N` columns. -/
def sumOf (c : Dev nD) (R C N : ℕ) : EReal := partialSum (gated (normed (xOf m c) (gOf m c) R) (gateOf m c) (upOf m c)) (dOf m c) C N
/-- The layer's result. -/
def layerOf (c : Dev nD) (R C : ℕ) : EReal := layer (xOf m c) (gOf m c) (gateOf m c) (upOf m c) (dOf m c) R C

/-! ## The blocks -/

theorem index_facts : ∀ t : Fin cfg0.N,
    (win0_0.index t (0 : Fin 2) = 0 ∧ win0_0.index t (1 : Fin 2) = 0) ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 11)
    ∧ (win0_3.index t (0 : Fin 3) = 0 ∧ win0_3.index t (1 : Fin 3) = 0 ∧ win0_3.index t (2 : Fin 3) = t.val % 11)
    ∧ (win0_4.index t (0 : Fin 3) = 0 ∧ win0_4.index t (1 : Fin 3) = t.val % 11 ∧ win0_4.index t (2 : Fin 3) = 0)
    ∧ (win0_5.index t (0 : Fin 2) = 0 ∧ win0_5.index t (1 : Fin 2) = 0)
    ∧ (win0_6.index t (0 : Fin 4) = t.val % 11 ∧ win0_6.index t (1 : Fin 4) = 0 ∧ win0_6.index t (2 : Fin 4) = 0 ∧ win0_6.index t (3 : Fin 4) = 0) := Cert.FfnCastIdeal.Cast.index_facts

theorem x_block (c : Dev nD) (t : Fin cfg0.N) (r : Fin 1024) (l : Fin 2048) : iblk m c 0 t (ix2 r l) = xOf m c r.val l.val := by
  obtain ⟨⟨a, b⟩, -⟩ := index_facts t
  show V m c main_arg0 (((cfg0.win 0).blk t).view.emb (ix2 r l)) = _
  rw [V_main_arg0]
  refine at2_eq _ _ _ _ ?_ ?_
  · show win0_0.index t (0 : Fin 2) * 1024 + 1 * r.val = _; rw [a]; omega
  · show win0_0.index t (1 : Fin 2) * 2048 + 1 * l.val = _; rw [b]; omega

theorem g_block (c : Dev nD) (t : Fin cfg0.N) (l : Fin 2048) : iblk m c 1 t (ix2 (0 : Fin 4) l) = gOf m c l.val := by
  obtain ⟨-, ⟨a, b⟩, -⟩ := index_facts t
  show V m c main_arg1 (((cfg0.win 1).blk t).view.emb (ix2 (0 : Fin 4) l)) = _
  rw [V_main_arg1]
  refine at2_eq _ _ _ _ ?_ ?_
  · show win0_1.index t (0 : Fin 2) * 4 + 1 * 0 = _; rw [a]
  · show win0_1.index t (1 : Fin 2) * 2048 + 1 * l.val = _; rw [b]; omega

theorem gate_block (c : Dev nD) (t : Fin cfg0.N) (k : Fin 2048) (n : Fin 512) (hn : 512 * (t.val % 11) + n.val < 5504) :
    gateAt m c t (ix3 (0 : Fin 1) k n) = gateOf m c k.val (512 * (t.val % 11) + n.val) := by
  obtain ⟨-, -, ⟨a, b, e⟩, -⟩ := index_facts t
  have hm : win0_2.moved (grid0.coords t) (ix3 (0 : Fin 1) k n) = true := (win0_2.moved_iff (grid0.coords t) _).mpr (by
    by_cases h : t.val % 11 = 10
    · exact moved2_last t h _ (show n.val < 384 by omega)
    · exact moved2_inner t h _)
  unfold gateAt Window.fill
  rw [dif_pos hm]
  show V m c main_arg2 (((cfg0.win 2).blk t).view.emb _) = _
  rw [V_main_arg2]
  refine weight_eq _ _ _ _ ?_ ?_ ?_
  · show win0_2.index t (0 : Fin 3) * 1 + 1 * 0 = _; rw [a]
  · show win0_2.index t (1 : Fin 3) * 2048 + 1 * k.val = _; rw [b]; omega
  · show win0_2.index t (2 : Fin 3) * 512 + 1 * n.val = _; rw [e]; omega

theorem up_block (c : Dev nD) (t : Fin cfg0.N) (k : Fin 2048) (n : Fin 512) (hn : 512 * (t.val % 11) + n.val < 5504) :
    upAt m c t (ix3 (0 : Fin 1) k n) = upOf m c k.val (512 * (t.val % 11) + n.val) := by
  obtain ⟨-, -, -, ⟨a, b, e⟩, -⟩ := index_facts t
  have hm : win0_3.moved (grid0.coords t) (ix3 (0 : Fin 1) k n) = true := (win0_3.moved_iff (grid0.coords t) _).mpr (by
    by_cases h : t.val % 11 = 10
    · exact moved3_last t h _ (show n.val < 384 by omega)
    · exact moved3_inner t h _)
  unfold upAt Window.fill
  rw [dif_pos hm]
  show V m c main_arg3 (((cfg0.win 3).blk t).view.emb _) = _
  rw [V_main_arg3]
  refine weight_eq _ _ _ _ ?_ ?_ ?_
  · show win0_3.index t (0 : Fin 3) * 1 + 1 * 0 = _; rw [a]
  · show win0_3.index t (1 : Fin 3) * 2048 + 1 * k.val = _; rw [b]; omega
  · show win0_3.index t (2 : Fin 3) * 512 + 1 * n.val = _; rw [e]; omega

theorem d_block (c : Dev nD) (t : Fin cfg0.N) (n : Fin 512) (C : Fin 2048) (hn : 512 * (t.val % 11) + n.val < 5504) :
    downAt m c t (ix3 (0 : Fin 1) n C) = dOf m c (512 * (t.val % 11) + n.val) C.val := by
  obtain ⟨-, -, -, -, ⟨a, b, e⟩, -⟩ := index_facts t
  have hm : win0_4.moved (grid0.coords t) (ix3 (0 : Fin 1) n C) = true := (win0_4.moved_iff (grid0.coords t) _).mpr (by
    by_cases h : t.val % 11 = 10
    · exact moved4_last t h _ (show n.val < 384 by omega)
    · exact moved4_inner t h _)
  unfold downAt Window.fill
  rw [dif_pos hm]
  show V m c main_arg4 (((cfg0.win 4).blk t).view.emb _) = _
  rw [V_main_arg4]
  refine down_eq _ _ _ _ ?_ ?_ ?_
  · show win0_4.index t (0 : Fin 3) * 1 + 1 * 0 = _; rw [a]
  · show win0_4.index t (1 : Fin 3) * 512 + 1 * n.val = _; rw [b]; omega
  · show win0_4.index t (2 : Fin 3) * 2048 + 1 * C.val = _; rw [e]; omega

/-! ## The buffers after a point -/

theorem after_point (c : Dev nD) : ∀ n : ℕ, n < cfg0.N → ∀ r : Fin 1024,
    (∀ k : Fin 2048, (stAt m c (n + 1)).2 (ix2 r k) = normed (xOf m c) (gOf m c) r.val k.val)
    ∧ ∀ C : Fin 2048, (stAt m c (n + 1)).1 (ix2 r C)
        = if n % 11 = 10 then layerOf m c r.val C.val else sumOf m c r.val C.val (512 * (n % 11 + 1)) :=
  after_steps (gateOf m c) (upOf m c) (fun t => gateAt m c t) (fun t => upAt m c t) (gate_block m c) (up_block m c) (Nat.le_of_eq N_0) (xOf m c) (gOf m c) (dOf m c)
    (fun t => iblk m c 0 t) (fun t => iblk m c 1 t) (fun t => downAt m c t) (stAt m c) (x_block m c) (g_block m c) (d_block m c) (st_first m c) (st_mid m c) (st_last m c)

/-- The pair of tiles after a point. -/
theorem tiles_point (c : Dev nD) (t : Fin cfg0.N) (p : Fin 2) (k : Fin 2048) (n : Fin 512) :
    tilesAt m c t (ix4 (0 : Fin 1) p k n) = pairAt (gateOf m c) (upOf m c) p.val k.val (512 * (t.val % 11) + n.val) :=
  tiles_steps (gateOf m c) (upOf m c) (fun t => gateAt m c t) (fun t => upAt m c t) (gate_block m c) (up_block m c) (tilesAt m c)
    (fun k n h => weight_past _ k n h) (fun k n h => weight_past _ k n h) (tiles_first m c) (tiles_mid m c) (tiles_last m c) t p k n

/-! ## The arrays -/

/-- The array before the layer is a copy of what it is written into. -/
theorem V_result (c : Dev nD) : V m c main_v0_0 = m ((c.tc : Thread nD τ).loc main_arg5) := by
  simp only [V, hostOps0]
  rfl

/-- The rows that the run leaves: the layer's result in the first tile, in the others those of what it is written into. -/
def rowsArr (c : Dev nD) : Vec Ideal S8192x2048 .f32 := fun i =>
  if (i 0).val / 1024 = 0 then layerOf m c (i 0).val (i 1).val else eOf m c (i 0).val (i 1).val

/-- The tiles that the run leaves. -/
def tilesArr (c : Dev nD) : Vec Ideal S11x2x2048x512 .bf16 := fun i =>
  pairAt (gateOf m c) (upOf m c) (i 1).val (i 2).val (512 * (i 0).val + (i 3).val)

theorem covers5 : (cfg0.win 5).CoversWhere (fun β => β (0 : Fin 2) = 0) := by decide +kernel
theorem covers6 : (cfg0.win 6).CoversWhere (fun β => True) := by decide +kernel

theorem final_rows (c : Dev nD) : (dats m 0 c).arrAt 5 cfg0.N = rowsArr m c := by
  refine ((dats m 0 c).arrAt_eq_of_coversWhere 5 (fun i => layerOf m c (i 0).val (i 1).val) (P := fun i => (i 0).val / 1024 = 0) (fun β => β (0 : Fin 2) = 0) covers5
    (fun t hf y => ?_) (fun j => Iff.rfl)).trans ?_
  · have h10 : t.val % 11 = 10 := (flush0_5 t).mp hf
    obtain ⟨-, -, -, -, -, ⟨a, b⟩, -⟩ := index_facts t
    have hy0 : (y 0).val < 1024 := (y 0).isLt
    have hy1 : (y 1).val < 2048 := (y 1).isLt
    have ey : (cfg0.win 5).xinj (grid0.coords t) y = ix2 (⟨(y 0).val, hy0⟩ : Fin 1024) (⟨(y 1).val, hy1⟩ : Fin 2048) := by
      funext a
      match a with | ⟨0, _⟩ => rfl | ⟨1, _⟩ => rfl
    have hb0 : (((cfg0.win 5).blk t).view.emb y 0).val = win0_5.index t (0 : Fin 2) * 1024 + 1 * (y 0).val := rfl
    have hb1 : (((cfg0.win 5).blk t).view.emb y 1).val = win0_5.index t (1 : Fin 2) * 2048 + 1 * (y 1).val := rfl
    show (dats m 0 c).after 5 t ((cfg0.win 5).xinj (grid0.coords t) y) = layerOf m c (((cfg0.win 5).blk t).view.emb y 0).val (((cfg0.win 5).blk t).view.emb y 1).val
    rw [ey, after0_5, (after_point m c t.val t.isLt ⟨(y 0).val, hy0⟩).2, if_pos h10, hb0, hb1, a, b]
    have e0 : (y 0).val = 0 * 1024 + 1 * (y 0).val := by omega
    have e1 : (y 1).val = 0 * 2048 + 1 * (y 1).val := by omega
    exact congrArg₂ (layerOf m c) e0 e1
  · funext i
    unfold rowsArr
    refine if_congr Iff.rfl rfl ?_
    rw [A_eq]
    exact (congrFun (V_result m c) i).trans (at2_eq _ i _ _ rfl rfl)

theorem final_tiles (c : Dev nD) : (dats m 0 c).arrAt 6 cfg0.N = tilesArr m c := by
  refine ((dats m 0 c).arrAt_eq_of_coversWhere 6 (tilesArr m c) (P := fun _ => True) (fun β => True) covers6
    (fun t hf y => ?_) (fun j => Iff.rfl)).trans (funext fun i => if_pos trivial)
  obtain ⟨-, -, -, -, -, -, ⟨a, b, e, f⟩⟩ := index_facts t
  have hy0 : (y 0).val < 1 := (y 0).isLt
  have hy1 : (y 1).val < 2 := (y 1).isLt
  have hy2 : (y 2).val < 2048 := (y 2).isLt
  have hy3 : (y 3).val < 512 := (y 3).isLt
  have ey : (cfg0.win 6).xinj (grid0.coords t) y = ix4 (0 : Fin 1) (⟨(y 1).val, hy1⟩ : Fin 2) (⟨(y 2).val, hy2⟩ : Fin 2048) (⟨(y 3).val, hy3⟩ : Fin 512) := by
    funext a
    match a with | ⟨0, _⟩ => exact Fin.ext (by show (y 0).val = 0; omega) | ⟨1, _⟩ => rfl | ⟨2, _⟩ => rfl | ⟨3, _⟩ => rfl
  have hb0 : (((cfg0.win 6).blk t).view.emb y 0).val = win0_6.index t (0 : Fin 4) * 1 + 1 * (y 0).val := rfl
  have hb1 : (((cfg0.win 6).blk t).view.emb y 1).val = win0_6.index t (1 : Fin 4) * 2 + 1 * (y 1).val := rfl
  have hb2 : (((cfg0.win 6).blk t).view.emb y 2).val = win0_6.index t (2 : Fin 4) * 2048 + 1 * (y 2).val := rfl
  have hb3 : (((cfg0.win 6).blk t).view.emb y 3).val = win0_6.index t (3 : Fin 4) * 512 + 1 * (y 3).val := rfl
  show (dats m 0 c).after 6 t ((cfg0.win 6).xinj (grid0.coords t) y)
    = pairAt (gateOf m c) (upOf m c) (((cfg0.win 6).blk t).view.emb y 1).val (((cfg0.win 6).blk t).view.emb y 2).val (512 * (((cfg0.win 6).blk t).view.emb y 0).val + (((cfg0.win 6).blk t).view.emb y 3).val)
  rw [ey, after0_6, tiles_point m c t, hb0, hb1, hb2, hb3, a, b, e, f]
  have e1 : (y 1).val = 0 * 2 + 1 * (y 1).val := by omega
  have e2 : (y 2).val = 0 * 2048 + 1 * (y 2).val := by omega
  have e3 : 512 * (t.val % 11) + (y 3).val = 512 * (t.val % 11 * 1 + 1 * (y 0).val) + (0 * 512 + 1 * (y 3).val) := by omega
  show pairAt (gateOf m c) (upOf m c) (y 1).val (y 2).val (512 * (t.val % 11) + (y 3).val) = _
  rw [← e1, ← e2, ← e3]

/-- The run, its results read. -/
theorem run_value : θ_run defs (onTc (τ := τ) (main (F := Ideal))) ⟨m, fun _ => 0, ρ⟩ (fun r => ∀ c : Dev nD,
      r.2.mem ((c.tc : Thread nD τ).loc main_v0_0) = rowsArr m c
      ∧ r.2.mem ((c.tc : Thread nD τ).loc main_v0_1) = tilesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1.trans (final_rows m c), (h.1 c).2.1.trans (final_tiles m c), (h.1 c).2.2⟩) (run_named m ρ)

end Cert.FfnCastIntoIdeal.CastInto

end
-- ==== Proof.CastInto.Ref.lean ====
module

public import proofs.«01_k».proof.Proof.Cast.Ref
public import proofs.«01_k».proof.Proof.Gen.FfnCastIntoReferenceIdeal.Read

@[expose] public section

set_option maxRecDepth 16384

noncomputable section

namespace Cert.FfnCastIntoReferenceIdeal.CastInto

open Cert.FfnCastIntoReferenceIdeal Cert.FfnCastIntoReferenceIdeal.Gen Cert.FfnCastIntoReferenceIdeal.Read
open Idealize.ShloMosaic Idealize.ShloMosaic.TcCoe
open Cert.Attn (at2 at2_eq)
open Cert.FeedForward

variable (x e : (⟨S8192x2048, .f32⟩ : BufTy).Contents (Elt Ideal)) (g : (⟨S4x2048, .f32⟩ : BufTy).Contents (Elt Ideal))
variable (w u : (⟨S4x2048x5504, .f32⟩ : BufTy).Contents (Elt Ideal)) (d : (⟨S4x5504x2048, .f32⟩ : BufTy).Contents (Elt Ideal))

/-- The layer and the tiles are computed as in the other reference. -/
theorem same_rows : val_main_v42 (F := Ideal) x g w u d = Cert.FfnCastReferenceIdeal.Read.val_main_v42 (F := Ideal) x g w u d := rfl
theorem same_tiles : val_main_v39 (F := Ideal) w u = Cert.FfnCastReferenceIdeal.Read.val_main_v39 (F := Ideal) w u := rfl

theorem rows_apply (r : Fin 8192) (C : Fin 2048) :
    val_main_v45 (F := Ideal) x g w u d e (ix2 r C) = if r.val / 1024 = 0 then layer (at2 (A := 8192) (B := 2048) x) (at2 (A := 4) (B := 2048) g 0) (weight w) (weight u) (down d) r.val C.val
      else at2 (A := 8192) (B := 2048) e r.val C.val := by
  have hr := r.isLt
  unfold val_main_v45
  pointwise
  by_cases h : r.val < 1024
  · rw [dif_pos h]
    refine (val_main_v43_apply (F := Ideal) x g w u d _).trans ?_
    rw [same_rows]
    refine Eq.trans (congrArg _ ?_) ((Cert.FfnCastReferenceIdeal.Cast.rows_apply x g w u d r C).trans ((if_pos (by omega)).trans (if_pos (by omega)).symm))
    funext a
    match a with | ⟨0, _⟩ => rfl | ⟨1, _⟩ => rfl
  · rw [dif_neg h]
    refine Eq.trans ?_ (if_neg (by omega)).symm
    refine (val_main_v44_apply (F := Ideal) e _).trans (at2_eq e _ _ _ ?_ rfl)
    show 1024 + (r.val - 1024) = r.val
    omega

end Cert.FfnCastIntoReferenceIdeal.CastInto

end
-- ==== Proof.CastInto.Equal.lean ====
module

public import proofs.«01_k».proof.Defs
public import proofs.«01_k».proof.Proof.CastInto.Result
public import proofs.«01_k».proof.Proof.CastInto.Ref
public import proofs.«01_k».proof.Proof.Gen.FfnCastIntoReferenceIdeal.Run

@[expose] public section

set_option maxRecDepth 16384

noncomputable section

namespace Cert.FeedForwardCastInto

open Idealize.ShloMosaic Idealize.ShloMosaic.TcCoe
open Cert.FfnCastIntoIdeal (nD τ sig main_arg0 main_arg1 main_arg2 main_arg3 main_arg4 main_arg5)

variable (m : (ℓ : Loc nD τ sig) → Buf (Elt Ideal) ℓ) (c : Dev nD)

/-- The kernel's rows are the reference's. -/
theorem rows_eq : Cert.FfnCastIntoIdeal.CastInto.rowsArr m c
      = Cert.FfnCastIntoReferenceIdeal.Read.val_main_v45 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) := by
  funext i
  have e : i = ix2 (⟨(i 0).val, (i 0).isLt⟩ : Fin 8192) (⟨(i 1).val, (i 1).isLt⟩ : Fin 2048) := by
    funext a
    match a with | ⟨0, _⟩ => rfl | ⟨1, _⟩ => rfl
  unfold Cert.FfnCastIntoIdeal.CastInto.rowsArr
  refine Eq.trans ?_ (congrArg _ e.symm)
  exact (Cert.FfnCastIntoReferenceIdeal.CastInto.rows_apply _ _ _ _ _ _ (⟨(i 0).val, (i 0).isLt⟩ : Fin 8192) (⟨(i 1).val, (i 1).isLt⟩ : Fin 2048)).symm

/-- The kernel's tiles are the reference's. -/
theorem tiles_eq : Cert.FfnCastIntoIdeal.CastInto.tilesArr m c
      = Cert.FfnCastIntoReferenceIdeal.Read.val_main_v39 (F := Ideal) (m ((c.tc : Thread nD τ).loc main_arg2)) (m ((c.tc : Thread nD τ).loc main_arg3)) := by
  funext i
  have e : i = ix4 (⟨(i 0).val, (i 0).isLt⟩ : Fin 11) (⟨(i 1).val, (i 1).isLt⟩ : Fin 2) (⟨(i 2).val, (i 2).isLt⟩ : Fin 2048) (⟨(i 3).val, (i 3).isLt⟩ : Fin 512) := by
    funext a
    match a with | ⟨0, _⟩ => rfl | ⟨1, _⟩ => rfl | ⟨2, _⟩ => rfl | ⟨3, _⟩ => rfl
  unfold Cert.FfnCastIntoIdeal.CastInto.tilesArr
  refine Eq.trans ?_ (congrArg _ e.symm)
  exact ((congrFun (Cert.FfnCastIntoReferenceIdeal.CastInto.same_tiles _ _) _).trans (Cert.FfnCastReferenceIdeal.Cast.tiles_apply _ _ (⟨(i 0).val, (i 0).isLt⟩ : Fin 11) (⟨(i 1).val, (i 1).isLt⟩ : Fin 2) (⟨(i 2).val, (i 2).isLt⟩ : Fin 2048) (⟨(i 3).val, (i 3).isLt⟩ : Fin 512))).symm

theorem algebraic : Cert.algebraic_FfnCastIntoIdeal_FfnCastIntoReferenceIdeal := fun m g m' g' hm hargs =>
  ⟨fun c => Cert.FfnCastIntoIdeal.CastInto.rowsArr m c, fun c => Cert.FfnCastIntoIdeal.CastInto.tilesArr m c, Cert.FfnCastIntoIdeal.CastInto.run_value m g,
    (θ_run _ _ _).mono (fun r h c => ⟨(h c).1.trans (by
        obtain ⟨e0, e1, e2, e3, e4, e5⟩ := hargs c
        refine (Cert.FfnCastIntoReferenceIdeal.Read.val_main_v45_eq m' c).trans ?_
        rw [e0, e1, e2, e3, e4, e5]
        exact (rows_eq m c).symm), (h c).2.1.trans (by
        obtain ⟨e0, e1, e2, e3, e4, e5⟩ := hargs c
        refine (Cert.FfnCastIntoReferenceIdeal.Read.val_main_v39_eq _ _).trans ?_
        rw [e2, e3]
        exact (tiles_eq m c).symm), (h c).2.2⟩) (Cert.FfnCastIntoReferenceIdeal.Value.run m' g')⟩

end Cert.FeedForwardCastInto

end
-- ==== Proof.CastInto.Same.lean ====
module

public import proofs.«01_k».proof.Defs
public import proofs.«01_k».proof.Proof.CastInto.Frame
public import proofs.«01_k».proof.Proof.Gen.FfnCastInto

@[expose] public section

set_option maxRecDepth 16384

noncomputable section

namespace Cert.FfnCastIntoIdeal.CastInto

open Idealize.ShloMosaic Idealize.ShloMosaic.TcCoe

variable {F : FTy → Type} [FloatOps F]

/-! ## The kernel and its idealization, which replaces nothing, are one program -/

theorem same_body : Cert.FfnCastInto.cc0_ffn_cast (F := F) = Cert.FfnCastIntoIdeal.cc0_ffn_cast (F := F) := rfl

theorem same_defs₀ : Cert.FfnCastInto.defs₀ (F := F) = Cert.FfnCastIntoIdeal.defs₀ (F := F) := by
  unfold Cert.FfnCastInto.defs₀ Cert.FfnCastIntoIdeal.defs₀
  refine congrArg Defs.onTc (funext fun l => ?_)
  match l with
  | ⟨0, _⟩ => exact funext fun p => congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _

theorem same_defs : Cert.FfnCastInto.defs (F := F) = Cert.FfnCastIntoIdeal.defs (F := F) := congrArg (Pipeline.defs Cert.FfnCastIntoIdeal.pcfgs) same_defs₀

/-- The frame of the kernel as it is, from the frame at any values. -/
theorem frame_kernel : Cert.quiescent_FfnCastInto := fun m ρ _ => by
  have h := frame m ρ
  rw [← same_defs] at h
  exact h

end Cert.FfnCastIntoIdeal.CastInto

end
-- ==== Proof.Pool.Spec.lean ====
module

public import proofs.«01_k».proof.Proof.Ffn.Spec
public import Idealize.ShloMosaic.Lib.Pointwise
public import Idealize.ShloMosaic.Lib.KernelVsHost

@[expose] public section

noncomputable section

namespace Cert.Pooling

open Idealize.ShloMosaic Idealize.ShloMosaic.TcCoe

/-! ## The trailing mean -/

/-- The row `j` before the row `t`, zero where there is none. -/
def before (h : ℕ → EReal) (t j : ℕ) : EReal := if j ≤ t then h (t - j) else 0

/-- The sum of the `w` rows ending at `t`. -/
def window (h : ℕ → EReal) (w t : ℕ) : EReal := ∑ j ∈ Finset.range w, before h t j

/-- The number of rows the window has, as converted. -/
def count (w t : ℕ) : EReal :=
  FloatOps.sitofp (F := Ideal) .f32 (IntOp.minsi (IntOp.addi (BitVec.ofNat 32 t) 1#32) (BitVec.ofNat 32 w))

/-- The mean of the window less the row. -/
def deviation (h : ℕ → ℕ → EReal) (w t c : ℕ) : EReal := Ideal.div (window (h · c) w t) (count w t) - h t c

/-- An entry of the group of columns `g`: the residual and the scaled product of the deviations. -/
def pooled (x h : ℕ → ℕ → EReal) (w : ℕ → ℕ → EReal) (s : ℕ → EReal) (g t n : ℕ) : EReal :=
  x t (512 * g + n) + (∑ k : Fin 512, deviation h (2 ^ (g + 1)) t (512 * g + k.val) * w k.val n) * s (512 * g + n)

/-! ## Sums by doubling -/

section Doubling

abbrev Rows : Shape := ⟨2, ![528, 512]⟩

/-- A matrix added to itself turned down by `b` rows. -/
def doubled (b : BitVec 32) (h : Rows.Rotates 0 none) (v : FVec Ideal Rows .f32) : FVec Ideal Rows .f32 := addf v (dynamicRotate 0 b none v h)

theorem doubled_apply (b : BitVec 32) (h : Rows.Rotates 0 none) (v : FVec Ideal Rows .f32) (r : Fin 528) (n : Fin 512) (hb : b.toNat ≤ r.val) :
    doubled b h v (ix2 r n) = v (ix2 r n) + v (ix2 (⟨r.val - b.toNat, by omega⟩ : Fin 528) n) := by
  have hr := r.isLt
  refine congrArg (v (ix2 r n) + ·) (dynamicRotate_apply 0 b v h _ _ fun a => ?_)
  match a with
  | ⟨0, _⟩ => show r.val - b.toNat = (r.val + 528 - b.toNat % 528) % 528; omega
  | ⟨1, _⟩ => rfl

/-- If every row from `w - 1` on holds the sum of the `w` rows ending there, the doubled matrix holds twice as many. -/
theorem doubled_window (b : BitVec 32) (h : Rows.Rotates 0 none) (v : FVec Ideal Rows .f32) (n : Fin 512) (e : ℕ → EReal) (w : ℕ) (hb : b.toNat = w)
    (hw : 0 < w) (hv : ∀ r : Fin 528, w ≤ r.val + 1 → v (ix2 r n) = ∑ j ∈ Finset.range w, e (r.val - j)) (r : Fin 528) (hr : w + w ≤ r.val + 1) :
    doubled b h v (ix2 r n) = ∑ j ∈ Finset.range (w + w), e (r.val - j) := by
  rw [doubled_apply b h v r n (by omega), hv r (by omega), hv _ (by show w ≤ r.val - b.toNat + 1; omega), Finset.sum_range_add]
  refine congrArg (_ + ·) (Finset.sum_congr rfl fun j _ => congrArg e ?_)
  show r.val - b.toNat - j = r.val - (w + j)
  omega

end Doubling

end Cert.Pooling

end
-- ==== Proof.Pool.Result.lean ====
module

public import proofs.«01_k».proof.Proof.Gen.PoolIdeal.Value
public import proofs.«01_k».proof.Proof.Proj.Loads
public import proofs.«01_k».proof.Proof.Pool.Spec

@[expose] public section

set_option maxRecDepth 16384

noncomputable section

namespace Cert.PoolIdeal.Pool

open Cert.PoolIdeal Cert.PoolIdeal.Gen
open Idealize.ShloMosaic Idealize.ShloMosaic.TcCoe Idealize.SL.Sem
open Cert.Projection (split2 cols_emb)
open Cert.Attn (at2 at2_eq)
open Cert.FeedForward (normed)
open Cert.Pooling

/-! ## The payloads at an index -/

/-- An entry of a slab of 512 columns from the column `o` on. -/
def entry (x : Vec Ideal S512x2048 .f32) (s : Vec Ideal S1x2048 .f32) (h : FVec Ideal S512x2048 .f32) (q : IVec S512x1 32) (acc : FVec Ideal S528x512 .f32)
    (w : Vec Ideal S1x1x512x512 .bf16) (o : ℕ) (ho : o + 512 ≤ 2048) (b : BitVec 32) (r n : Fin 512) : EReal :=
  x (ix2 r (⟨o + n.val, by omega⟩ : Fin 2048))
    + (∑ k : Fin 512, (Ideal.div (acc (ix2 (⟨16 + r.val, by omega⟩ : Fin 528) k)) (FloatOps.sitofp (F := Ideal) .f32 (IntOp.minsi (IntOp.addi (q (ix2 r (0 : Fin 1))) 1#32) b))
        - h (ix2 r (⟨o + k.val, by omega⟩ : Fin 2048))) * w (ix4 (0 : Fin 1) (0 : Fin 1) k n)) * s (ix2 (0 : Fin 1) (⟨o + n.val, by omega⟩ : Fin 2048))

section Payloads
variable (x : Vec Ideal S512x2048 .f32) (s : Vec Ideal S1x2048 .f32) (h : FVec Ideal S512x2048 .f32) (q : IVec S512x1 32) (acc : FVec Ideal S528x512 .f32)
variable (v : FVec Ideal S528x2048 .f32) (w : Vec Ideal S1x1x512x512 .bf16) (r n : Fin 512)

theorem pay1_apply : (k0_pay1 x s h q acc k0_pay13 w : FVec Ideal S512x512 .f32) (ix2 r n) = entry x s h q acc w 1536 (by decide) 16#32 r n := by
  unfold k0_pay1 k0_pay13 entry
  pointwise

theorem pay7_apply : (k0_pay7 x s h q acc k0_pay6 w : FVec Ideal S512x512 .f32) (ix2 r n) = entry x s h q acc w 0 (by decide) 2#32 r n := by
  unfold k0_pay7 k0_pay6 entry
  pointwise

/-- Two, four, eight and sixteen rows summed. -/
def sum2 (u : FVec Ideal S528x512 .f32) : FVec Ideal S528x512 .f32 := doubled 1#32 rotates_S528x512_d0 u
def sum4 (u : FVec Ideal S528x512 .f32) : FVec Ideal S528x512 .f32 := doubled 2#32 rotates_S528x512_d0 (sum2 u)
def sum8 (u : FVec Ideal S528x512 .f32) : FVec Ideal S528x512 .f32 := doubled 4#32 rotates_S528x512_d0 (sum4 u)
def sum16 (u : FVec Ideal S528x512 .f32) : FVec Ideal S528x512 .f32 := doubled 8#32 rotates_S528x512_d0 (sum8 u)

theorem pay10_apply : (k0_pay10 (k0_pay8 x) (k0_pay9 s h v q w) : FVec Ideal S512x512 .f32) (ix2 r n)
    = entry x s h q (sum4 (extractStridedSlice S528x512 ![0, 512] v slices_S528x2048_o0_512_S528x512)) w 512 (by decide) 4#32 r n := by
  unfold k0_pay10 k0_pay9 k0_pay8
  dsimp only
  generalize hacc : (addf _ (dynamicRotate (0 : Fin S528x512.rank) 2#32 none _ _) : FVec Ideal S528x512 .f32) = acc
  have hacc' : sum4 (extractStridedSlice S528x512 ![0, 512] v slices_S528x2048_o0_512_S528x512) = acc := hacc
  rw [hacc']
  unfold entry
  pointwise

theorem pay11_apply : (k0_pay11 x s h v q w : FVec Ideal S512x512 .f32) (ix2 r n)
    = entry x s h q (sum8 (extractStridedSlice S528x512 ![0, 1024] v slices_S528x2048_o0_1024_S528x512)) w 1024 (by decide) 8#32 r n := by
  unfold k0_pay11
  dsimp only
  generalize hacc : (addf _ (dynamicRotate (0 : Fin S528x512.rank) 4#32 none _ _) : FVec Ideal S528x512 .f32) = acc
  have hacc' : sum8 (extractStridedSlice S528x512 ![0, 1024] v slices_S528x2048_o0_1024_S528x512) = acc := hacc
  rw [hacc']
  unfold entry
  pointwise

end Payloads

theorem pay4_apply (i : grid0.Coords) (r : Fin 512) : (k0_pay4 i) (ix2 r (0 : Fin 1)) = BitVec.ofNat 32 (512 * (i 0).val + r.val) := by
  unfold k0_pay4
  pointwise
  rw [Nat.mul_comm, BitVec.ofNat_add, BitVec.ofNat_mul]
  rfl

/-- A row normalized. -/
def normedAt (f : Fin 2048 → EReal) (u : EReal) (k : Fin 2048) : EReal :=
  f k * Ideal.rsqrt (Ideal.div (∑ l : Fin 2048, f l * f l) (Ideal.ofBits .f32 0x45000000#32) + Ideal.ofBits .f32 0x358637BD#32) * u

theorem pay2_apply (x : Vec Ideal S512x2048 .f32) (g : Vec Ideal S1x2048 .f32) (r : Fin 512) (k : Fin 2048) :
    (k0_pay2 x g : FVec Ideal S512x2048 .f32) (ix2 r k) = normedAt (fun l => x (ix2 r l)) (g (ix2 (0 : Fin 1) k)) k := by
  unfold k0_pay2 normedAt
  pointwise

theorem pay3_apply (i : grid0.Coords) (x : Vec Ideal S512x2048 .f32) (g : Vec Ideal S1x2048 .f32) (y : Vec Ideal S16x2048 .f32) (r : Fin 528) (k : Fin 2048) :
    (k0_pay3 i x g y : FVec Ideal S528x2048 .f32) (ix2 r k)
      = if h : r.val < 16 then Scalar.select (Scalar.cmpi .eq (BitVec.ofNat 32 (i 0).val) 0#32) 0 (normedAt (fun l => y (ix2 (⟨r.val, h⟩ : Fin 16) l)) (g (ix2 (0 : Fin 1) k)) k)
        else k0_pay2 x g (ix2 (⟨r.val - 16, by omega⟩ : Fin 512) k) := by
  unfold k0_pay3 normedAt
  pointwise

/-! ## A block -/

theorem first_word : ∀ a : Fin 16, Scalar.cmpi .eq (BitVec.ofNat 32 a.val) 0#32 = if a.val = 0 then 1#1 else 0#1 := by decide

theorem normed_of (X : ℕ → ℕ → EReal) (G : ℕ → EReal) (f : Fin 2048 → EReal) (u : EReal) (R : ℕ) (k : Fin 2048) (hf : ∀ l, f l = X R l.val) (hu : u = G k.val) :
    normedAt f u k = normed X G R k.val := by
  unfold normed normedAt
  simp only [hf, hu]

section Block
variable (i : grid0.Coords) (x0 : Vec Ideal S512x2048 .f32) (x1 : Vec Ideal S16x2048 .f32) (x2 : Vec Ideal S4x2048 .f32) (x3 : Vec Ideal S1x4x512x512 .bf16) (x4 : Vec Ideal S2x2048 .f32)
variable (X : ℕ → ℕ → EReal) (G S : ℕ → EReal) (W : ℕ → ℕ → ℕ → EReal)

/-- The blocks are the parts of the arrays that point `i` reads. -/
structure Parts : Prop where
  rows : ∀ (r : Fin 512) (k : Fin 2048), x0 (ix2 r k) = X (512 * (i 0).val + r.val) k.val
  above : (i 0).val ≠ 0 → ∀ (r : Fin 16) (k : Fin 2048), x1 (ix2 r k) = X (r.val + 512 * (i 0).val - 16) k.val
  gain : ∀ k : Fin 2048, x2 (ix2 (0 : Fin 4) k) = G k.val
  weight : ∀ (g : Fin 4) (k n : Fin 512), x3 (ix4 (0 : Fin 1) g k n) = W g.val k.val n.val
  scale : ∀ k : Fin 2048, x4 (ix2 (0 : Fin 2) k) = S k.val

variable {i x0 x1 x2 x3 x4 X G S W} (P : Parts i x0 x1 x2 x3 x4 X G S W)
include P

theorem row_load (r : Fin 512) (k : Fin 2048) : View.ld x0 r0_0 (ix2 r k) = X (512 * (i 0).val + r.val) k.val := by
  refine Eq.trans (congrArg x0 (funext fun a => Fin.ext ?_)) (P.rows r k)
  match a with
  | ⟨0, _⟩ => show 0 + 1 * r.val = r.val; omega
  | ⟨1, _⟩ => show 0 + 1 * k.val = k.val; omega

theorem above_load (hi : (i 0).val ≠ 0) (r : Fin 16) (k : Fin 2048) : View.ld x1 r0_3 (ix2 r k) = X (r.val + 512 * (i 0).val - 16) k.val := by
  refine Eq.trans (congrArg x1 (funext fun a => Fin.ext ?_)) (P.above hi r k)
  match a with
  | ⟨0, _⟩ => show 0 + 1 * r.val = r.val; omega
  | ⟨1, _⟩ => show 0 + 1 * k.val = k.val; omega

theorem gain_load (k : Fin 2048) : View.ld x2 r0_1 (ix2 (0 : Fin 1) k) = G k.val := by
  refine Eq.trans (congrArg x2 (funext fun a => Fin.ext ?_)) (P.gain k)
  match a with
  | ⟨0, _⟩ => rfl
  | ⟨1, _⟩ => show 0 + 1 * k.val = k.val; omega

theorem scale_load (k : Fin 2048) : View.ld x4 r0_2 (ix2 (0 : Fin 1) k) = S k.val := by
  refine Eq.trans (congrArg x4 (funext fun a => Fin.ext ?_)) (P.scale k)
  match a with
  | ⟨0, _⟩ => rfl
  | ⟨1, _⟩ => show 0 + 1 * k.val = k.val; omega

theorem weight_load (g : Fin 4) (inb : ∀ a, (![0, g.val, 0, 0] : Fin 4 → ℕ) a + (![1, 1, 512, 512] : Fin 4 → ℕ) a ≤ (![1, 4, 512, 512] : Fin 4 → ℕ) a) (k n : Fin 512) :
    View.ld x3 (Rect.unit (s := S1x4x512x512) ![0, g.val, 0, 0] ![1, 1, 512, 512] inb) (ix4 (0 : Fin 1) (0 : Fin 1) k n) = W g.val k.val n.val := by
  refine Eq.trans (congrArg x3 (funext fun a => Fin.ext ?_)) (P.weight g k n)
  match a with
  | ⟨0, _⟩ => rfl
  | ⟨1, _⟩ => rfl
  | ⟨2, _⟩ => show 0 + 1 * k.val = k.val; omega
  | ⟨3, _⟩ => show 0 + 1 * n.val = n.val; omega

/-- The normalized rows. -/
theorem normed_rows (r : Fin 512) (k : Fin 2048) : k0_pay14 i x0 x1 x2 x3 x4 (ix2 r k) = normed X G (512 * (i 0).val + r.val) k.val := by
  unfold k0_pay14
  exact (pay2_apply _ _ _ _).trans (normed_of X G _ _ _ k (row_load P r) (gain_load P k))

/-- The normalized rows with the sixteen above them, which are zero above the first. -/
theorem extended_rows (r : Fin 528) (k : Fin 2048) :
    k0_pay15 i x0 x1 x2 x3 x4 (ix2 r k) = if 16 ≤ r.val + 512 * (i 0).val then normed X G (r.val + 512 * (i 0).val - 16) k.val else 0 := by
  have hr := r.isLt
  unfold k0_pay15
  refine (pay3_apply _ _ _ _ _ _).trans ?_
  by_cases h : r.val < 16
  · rw [dif_pos h, first_word (i 0)]
    by_cases h0 : (i 0).val = 0
    · rw [if_pos h0, if_neg (by omega)]
      rfl
    · rw [if_neg h0, if_pos (by omega)]
      exact normed_of X G _ _ _ k (above_load P h0 ⟨r.val, h⟩) (gain_load P k)
  · rw [dif_neg h, if_pos (by omega), show r.val + 512 * (i 0).val - 16 = 512 * (i 0).val + (r.val - 16) by omega]
    exact normed_rows P (⟨r.val - 16, by omega⟩ : Fin 512) k

/-- The rows summed for a window, in a slab of columns. -/
theorem summed (o : ℕ) (ho : o + 512 ≤ 2048) (hs : S528x2048.Slices ![0, o] S528x512) (w : ℕ) (hw : w ≤ 16) (acc : FVec Ideal S528x512 .f32)
    (hacc : ∀ (e : ℕ → EReal) (n : Fin 512), (∀ r : Fin 528, extractStridedSlice S528x512 ![0, o] (k0_pay15 i x0 x1 x2 x3 x4) hs (ix2 r n) = e r.val) →
      ∀ r : Fin 528, w ≤ r.val + 1 → acc (ix2 r n) = ∑ j ∈ Finset.range w, e (r.val - j)) (r : Fin 512) (k : Fin 512) :
    acc (ix2 (⟨16 + r.val, by omega⟩ : Fin 528) k) = window (normed X G · (o + k.val)) w (512 * (i 0).val + r.val) := by
  refine (hacc (fun r => if 16 ≤ r + 512 * (i 0).val then normed X G (r + 512 * (i 0).val - 16) (o + k.val) else 0) k (fun r => ?_) _ (by show w ≤ 16 + r.val + 1; omega)).trans
    (Finset.sum_congr rfl fun j hj => ?_)
  · refine (extractStridedSlice_apply ![0, o] _ hs (ix2 r k) (ix2 r (⟨o + k.val, by omega⟩ : Fin 2048)) fun a => ?_).trans (extended_rows P r _)
    match a with
    | ⟨0, _⟩ => show r.val = 0 + r.val; omega
    | ⟨1, _⟩ => rfl
  · have hj' := Finset.mem_range.mp hj
    unfold before
    dsimp only
    by_cases h : j ≤ 512 * (i 0).val + r.val
    · rw [if_pos h, if_pos (by omega), show 16 + r.val - j + 512 * (i 0).val - 16 = 512 * (i 0).val + r.val - j by omega]
    · rw [if_neg h, if_neg (by omega)]

/-- A slab's entry is the pooled one. -/
theorem entry_eq (g : Fin 4) (b : BitVec 32) (hb : b = BitVec.ofNat 32 (2 ^ (g.val + 1))) (acc : FVec Ideal S528x512 .f32)
    (hacc : ∀ r k : Fin 512, acc (ix2 (⟨16 + r.val, by omega⟩ : Fin 528) k) = window (normed X G · (512 * g.val + k.val)) (2 ^ (g.val + 1)) (512 * (i 0).val + r.val))
    (inb : ∀ a, (![0, g.val, 0, 0] : Fin 4 → ℕ) a + (![1, 1, 512, 512] : Fin 4 → ℕ) a ≤ (![1, 4, 512, 512] : Fin 4 → ℕ) a) (r n : Fin 512) :
    entry (View.ld x0 r0_0) (View.ld x4 r0_2) (k0_pay14 i x0 x1 x2 x3 x4) (k0_pay16 i x0 x1 x2 x3 x4) acc
        (View.ld x3 (Rect.unit (s := S1x4x512x512) ![0, g.val, 0, 0] ![1, 1, 512, 512] inb)) (512 * g.val) (by omega) b r n
      = pooled X (normed X G) (W g.val) S g.val (512 * (i 0).val + r.val) n.val := by
  unfold entry pooled deviation Cert.Pooling.count
  rw [row_load P, scale_load P]
  refine congrArg (X _ _ + · * S _) (Finset.sum_congr rfl fun k _ => ?_)
  rw [hacc, normed_rows P, weight_load P, hb]
  exact congrArg (fun q : BitVec 32 => (Ideal.div _ (FloatOps.sitofp (F := Ideal) .f32 (IntOp.minsi (IntOp.addi q 1#32) _)) - _) * _) (pay4_apply i r)

end Block

/-! ## Windows -/

section Windows
variable (u : FVec Ideal S528x512 .f32) (e : ℕ → EReal) (n : Fin 512) (hu : ∀ r : Fin 528, u (ix2 r n) = e r.val)
include hu

theorem sum2_window : ∀ r : Fin 528, 1 + 1 ≤ r.val + 1 → sum2 u (ix2 r n) = ∑ j ∈ Finset.range (1 + 1), e (r.val - j) :=
  doubled_window _ _ _ n e 1 rfl (by decide) fun r _ => (hu r).trans (Finset.sum_range_one fun j => e (r.val - j)).symm

theorem sum4_window : ∀ r : Fin 528, 2 + 2 ≤ r.val + 1 → sum4 u (ix2 r n) = ∑ j ∈ Finset.range (2 + 2), e (r.val - j) :=
  doubled_window _ _ _ n e 2 rfl (by decide) (sum2_window u e n hu)

theorem sum8_window : ∀ r : Fin 528, 4 + 4 ≤ r.val + 1 → sum8 u (ix2 r n) = ∑ j ∈ Finset.range (4 + 4), e (r.val - j) :=
  doubled_window _ _ _ n e 4 rfl (by decide) (sum4_window u e n hu)

theorem sum16_window : ∀ r : Fin 528, 8 + 8 ≤ r.val + 1 → sum16 u (ix2 r n) = ∑ j ∈ Finset.range (8 + 8), e (r.val - j) :=
  doubled_window _ _ _ n e 8 rfl (by decide) (sum8_window u e n hu)

end Windows

/-! ## The block at every point -/

/-- The block of the result, from the arrays. -/
def block (X : ℕ → ℕ → EReal) (G S : ℕ → EReal) (W : ℕ → ℕ → ℕ → EReal) (T : ℕ) : Vec Ideal S512x2048 .f32 := fun y =>
  pooled X (normed X G) (W ((y 1).val / 512)) S ((y 1).val / 512) (512 * T + (y 0).val) ((y 1).val % 512)

theorem block_emb (X : ℕ → ℕ → EReal) (G S : ℕ → EReal) (W : ℕ → ℕ → ℕ → EReal) (T g : ℕ) (hg : 512 * g + 512 ≤ 2048)
    (inb : ∀ a, (![0, 512 * g] : Fin 2 → ℕ) a + (![512, 512] : Fin 2 → ℕ) a ≤ (![512, 2048] : Fin 2 → ℕ) a) (r n : Fin 512) :
    block X G S W T ((Rect.unit (s := S512x2048) ![0, 512 * g] ![512, 512] inb).emb (ix2 r n)) = pooled X (normed X G) (W g) S g (512 * T + r.val) n.val := by
  have hn := n.isLt
  refine (congrArg (block X G S W T) (cols_emb (512 * g) inb hg r n)).trans ?_
  unfold block
  dsimp only [ix2]
  show pooled X (normed X G) (W ((512 * g + n.val) / 512)) S ((512 * g + n.val) / 512) (512 * T + r.val) ((512 * g + n.val) % 512) = _
  rw [show (512 * g + n.val) / 512 = g by omega, show (512 * g + n.val) % 512 = n.val by omega]

theorem out_eq {i : grid0.Coords} {x0 : Vec Ideal S512x2048 .f32} {x1 : Vec Ideal S16x2048 .f32} {x2 : Vec Ideal S4x2048 .f32} {x3 : Vec Ideal S1x4x512x512 .bf16} {x4 : Vec Ideal S2x2048 .f32}
    {X : ℕ → ℕ → EReal} {G S : ℕ → EReal} {W : ℕ → ℕ → ℕ → EReal} (P : Parts i x0 x1 x2 x3 x4 X G S W) : out0_5 i x0 x1 x2 x3 x4 = block X G S W (i 0).val := by
  funext y
  unfold out0_5
  refine View.canon_apply_of_pieces (block X G S W (i 0).val) _ ?_ y (cover0_5 _ _ _ _ y)
  intro p hp
  simp only [List.mem_cons, List.not_mem_nil, or_false] at hp
  rcases hp with rfl | rfl | rfl | rfl <;> dsimp only <;> intro j <;> rw [split2 (A := 512) (B := 512) j]
  · refine (pay1_apply _ _ _ _ _ _ _ _).trans ((entry_eq P 3 _ rfl _ ?_ _ _ _).trans (block_emb X G S W _ 3 (by decide) _ _ _).symm)
    exact summed P 1536 (by decide) slices_S528x2048_o0_1536_S528x512 16 (by decide) _ fun e n hu => sum16_window _ e n hu
  · refine (pay11_apply _ _ _ _ _ _ _ _).trans ((entry_eq P 2 _ rfl _ ?_ _ _ _).trans (block_emb X G S W _ 2 (by decide) _ _ _).symm)
    exact summed P 1024 (by decide) slices_S528x2048_o0_1024_S528x512 8 (by decide) _ fun e n hu => sum8_window _ e n hu
  · refine (pay10_apply _ _ _ _ _ _ _ _).trans ((entry_eq P 1 _ rfl _ ?_ _ _ _).trans (block_emb X G S W _ 1 (by decide) _ _ _).symm)
    exact summed P 512 (by decide) slices_S528x2048_o0_512_S528x512 4 (by decide) _ fun e n hu => sum4_window _ e n hu
  · refine (pay7_apply _ _ _ _ _ _ _ _).trans ((entry_eq P 0 _ rfl _ ?_ _ _ _).trans (block_emb X G S W _ 0 (by decide) _ _ _).symm)
    exact summed P 0 (by decide) slices_S528x2048_o0_0_S528x512 2 (by decide) _ fun e n hu => sum2_window _ e n hu

/-! ## The array -/

variable (m : (ℓ : Loc nD τ sig) → Buf (Elt Ideal) ℓ) (ρ : Dev nD → PrngReg)

theorem index_facts : ∀ t : Fin cfg0.N,
    (win0_0.index t (0 : Fin 2) = t.val ∧ win0_0.index t (1 : Fin 2) = 0) ∧ (win0_1.index t (0 : Fin 2) = 32 * t.val - 1 ∧ win0_1.index t (1 : Fin 2) = 0)
    ∧ (win0_2.index t (0 : Fin 2) = 0 ∧ win0_2.index t (1 : Fin 2) = 0)
    ∧ (win0_3.index t (0 : Fin 4) = 0 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0) ∧ (win0_5.index t (0 : Fin 2) = t.val ∧ win0_5.index t (1 : Fin 2) = 0)
    ∧ win0_5.flush t = true ∧ (grid0.coords t 0).val = t.val :=
  (by decide +kernel : ∀ t : Fin grid0.N, _)

/-- Every index of the result lies in a block. -/
theorem covered (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : (i 0).val / 512 < cfg0.N := lt_of_lt_of_eq (by omega) N_0.symm
  obtain ⟨t, ht⟩ : ∃ t : Fin cfg0.N, t.val = (i 0).val / 512 := ⟨⟨_, hN⟩, rfl⟩
  obtain ⟨-, -, -, -, -, ⟨a, b⟩, f, -⟩ := index_facts t
  refine ⟨t, f, ?_⟩
  show i ∈ ((View.whole main_v1).slice (win0_5.rect t)).set
  rw [View.set_slice_whole, Rect.mem_set_unit]
  intro z
  match z with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- The weights of the first layer. -/
def weightAt (w : S2x4x512x512.Idx → EReal) (g k n : ℕ) : EReal :=
  if h : g < 4 ∧ k < 512 ∧ n < 512 then w (ix4 (0 : Fin 2) (⟨g, h.1⟩ : Fin 4) (⟨k, h.2.1⟩ : Fin 512) (⟨n, h.2.2⟩ : Fin 512)) else 0

theorem weightAt_eq (w : S2x4x512x512.Idx → EReal) (i : S2x4x512x512.Idx) (g k n : ℕ) (h : (i 0).val = 0) (hg : (i 1).val = g) (hk : (i 2).val = k) (hn : (i 3).val = n) :
    w i = weightAt w g k n := by
  subst hg hk hn
  unfold weightAt
  rw [dif_pos ⟨(i 1).isLt, (i 2).isLt, (i 3).isLt⟩]
  refine congrArg w (funext fun a => ?_)
  match a with
  | ⟨0, _⟩ => exact Fin.ext h
  | ⟨1, _⟩ => rfl
  | ⟨2, _⟩ => rfl
  | ⟨3, _⟩ => rfl

/-- The result, from the arrays. -/
def sumArr (x : Vec Ideal S8192x2048 .f32) (g : Vec Ideal S4x2048 .f32) (w : S2x4x512x512.Idx → EReal) (s : Vec Ideal S2x2048 .f32) : Vec Ideal S8192x2048 .f32 := fun i =>
  pooled (at2 x) (normed (at2 x) (at2 g 0)) (weightAt w ((i 1).val / 512)) (at2 s 0) ((i 1).val / 512) (i 0).val ((i 1).val % 512)

def poolArr (c : Dev nD) : Vec Ideal S8192x2048 .f32 :=
  sumArr (m ((c.tc : Thread nD τ).loc main_arg0)) (m ((c.tc : Thread nD τ).loc main_arg1)) (m ((c.tc : Thread nD τ).loc main_arg2)) (m ((c.tc : Thread nD τ).loc main_arg3))

theorem V_weight (c : Dev nD) : (V m c main_v0 : S2x4x512x512.Idx → EReal) = m ((c.tc : Thread nD τ).loc main_arg2) := by
  simp only [V, hostOps0]
  rfl

theorem parts (c : Dev nD) (t : Fin cfg0.N) :
    Parts (grid0.coords t) (iblk m c 0 t) (iblk m c 1 t) (iblk m c 2 t) (iblk m c 3 t) (iblk m c 4 t)
      (at2 (A := 8192) (B := 2048) (m ((c.tc : Thread nD τ).loc main_arg0))) (at2 (A := 4) (B := 2048) (m ((c.tc : Thread nD τ).loc main_arg1)) 0)
      (at2 (A := 2) (B := 2048) (m ((c.tc : Thread nD τ).loc main_arg3)) 0) (weightAt (m ((c.tc : Thread nD τ).loc main_arg2))) := by
  obtain ⟨⟨a0, a1⟩, ⟨b0, b1⟩, ⟨d0, d1⟩, ⟨e0, e1, e2, e3⟩, ⟨f0, f1⟩, -, -, ht⟩ := index_facts t
  refine ⟨fun r k => ?_, fun h r k => ?_, fun k => ?_, fun g k n => ?_, fun k => ?_⟩
  · show V m c main_arg0 (((cfg0.win 0).blk t).view.emb (ix2 r k)) = _
    rw [V_main_arg0]
    refine at2_eq _ _ _ _ ?_ ?_
    · show win0_0.index t (0 : Fin 2) * 512 + 1 * r.val = _; omega
    · show win0_0.index t (1 : Fin 2) * 2048 + 1 * k.val = _; omega
  · show V m c main_arg0 (((cfg0.win 1).blk t).view.emb (ix2 r k)) = _
    rw [V_main_arg0]
    refine at2_eq _ _ _ _ ?_ ?_
    · show win0_1.index t (0 : Fin 2) * 16 + 1 * r.val = _; omega
    · show win0_1.index t (1 : Fin 2) * 2048 + 1 * k.val = _; omega
  · show V m c main_arg1 (((cfg0.win 2).blk t).view.emb (ix2 (0 : Fin 4) k)) = _
    rw [V_main_arg1]
    refine at2_eq _ _ _ _ ?_ ?_
    · show win0_2.index t (0 : Fin 2) * 4 + 1 * 0 = 0; omega
    · show win0_2.index t (1 : Fin 2) * 2048 + 1 * k.val = _; omega
  · show V m c main_v0 (((cfg0.win 3).blk t).view.emb (ix4 (0 : Fin 1) g k n)) = _
    rw [V_weight]
    refine weightAt_eq _ _ _ _ _ ?_ ?_ ?_ ?_
    · show win0_3.index t (0 : Fin 4) * 1 + 1 * 0 = 0; omega
    · show win0_3.index t (1 : Fin 4) * 4 + 1 * g.val = _; omega
    · show win0_3.index t (2 : Fin 4) * 512 + 1 * k.val = _; omega
    · show win0_3.index t (3 : Fin 4) * 512 + 1 * n.val = _; omega
  · show V m c main_arg3 (((cfg0.win 4).blk t).view.emb (ix2 (0 : Fin 2) k)) = _
    rw [V_main_arg3]
    refine at2_eq _ _ _ _ ?_ ?_
    · show win0_4.index t (0 : Fin 2) * 2 + 1 * 0 = 0; omega
    · show win0_4.index t (1 : Fin 2) * 2048 + 1 * k.val = _; omega

theorem final (c : Dev nD) : (dats m 0 c).arrAt 5 cfg0.N = poolArr m c := by
  refine (dats m 0 c).arrAt_eq_of_cover 5 _ (fun t hf => ?_) covered
  obtain ⟨-, -, -, -, -, ⟨a, b⟩, -, ht⟩ := index_facts t
  rw [Value.flushed5, out_eq (parts m c t)]
  funext y
  have hy1 : (y 1).val < 2048 := (y 1).isLt
  have h0 : (((cfg0.win 5).blk t).view.emb y 0).val = 512 * (grid0.coords t 0).val + (y 0).val := by
    show win0_5.index t (0 : Fin 2) * 512 + 1 * (y 0).val = _; omega
  have h1 : (((cfg0.win 5).blk t).view.emb y 1).val = (y 1).val := by
    show win0_5.index t (1 : Fin 2) * 2048 + 1 * (y 1).val = _; omega
  show _ = poolArr m c (((cfg0.win 5).blk t).view.emb y)
  unfold poolArr sumArr
  rw [h0, h1]
  rfl

end Cert.PoolIdeal.Pool

end
-- ==== Proof.Pool.Ref.lean ====
module

public import proofs.«01_k».proof.Proof.Gen.PoolReferenceIdeal.Read
public import proofs.«01_k».proof.Proof.Pool.Spec

@[expose] public section

set_option maxRecDepth 16384

noncomputable section

namespace Cert.PoolReferenceIdeal.Pool

open Cert.PoolReferenceIdeal Cert.PoolReferenceIdeal.Gen Cert.PoolReferenceIdeal.Read
open Idealize.ShloMosaic Idealize.ShloMosaic.TcCoe
open Cert.Attn (at2 at2_eq)
open Cert.FeedForward (normed)
open Cert.Pooling

/-! ## Slices of padded rows -/

theorem pad_word : FloatOps.sitofp (F := Ideal) .f32 0#32 = (0 : EReal) := by
  show ((((0#32 : BitVec 32).toInt : ℝ)) : EReal) = 0
  simp

/-- The rows from `q` on of a matrix with `p` rows of zeros above it: row `t` is the row `p - q` before the matrix's row `t`. -/
theorem slice_padded {A p q : ℕ} {u : Shape} (y : FVec Ideal S8192x512 .f32) (v : u.Idx → EReal) (hv : ∀ k, v k = 0)
    (hp : S8192x512.Pads ![p, 0] ![0, 0] ![0, 0] (⟨2, ![A, 512]⟩ : Shape)) (hu : 0 < u.numel) (hs : (⟨2, ![A, 512]⟩ : Shape).Slices ![q, 0] S8192x512)
    (h : ℕ → EReal) (i : S8192x512.Idx) (hy : ∀ r : Fin 8192, y (ix2 r (i 1)) = h r.val) (j : ℕ) (hA : A = p + 8192) (hj : q + j = p) :
    extractStridedSlice S8192x512 ![q, 0] (pad (⟨2, ![A, 512]⟩ : Shape) ![p, 0] ![0, 0] ![0, 0] y v hp hu) hs i = before h (i 0).val j := by
  have h0 : (i 0).val < 8192 := (i 0).isLt
  have h1 : (i 1).val < 512 := (i 1).isLt
  refine (extractStridedSlice_apply ![q, 0] _ hs i (ix2 (⟨q + (i 0).val, by omega⟩ : Fin A) (i 1 : Fin 512)) fun a => ?_).trans ?_
  · match a with
    | ⟨0, _⟩ => rfl
    | ⟨1, _⟩ => show (i 1).val = 0 + (i 1).val; omega
  unfold before
  by_cases hb : j ≤ (i 0).val
  · rw [if_pos hb]
    refine (pad_apply_of_inside _ _ _ y v hp hu _ (ix2 (⟨(i 0).val - j, by omega⟩ : Fin 8192) (i 1 : Fin 512)) fun a => ?_).trans (hy _)
    match a with
    | ⟨0, _⟩ => show q + (i 0).val = p + ((i 0).val - j) * (0 + 1); omega
    | ⟨1, _⟩ => show (i 1).val = 0 + (i 1).val * (0 + 1); omega
  · rw [if_neg hb]
    refine (pad_apply_of_not_inside _ _ _ y v hp hu _ 0 fun hn => ?_).trans (hv _)
    have hn' : p ≤ q + (i 0).val := hn.1
    omega

variable (x : (⟨S8192x2048, .f32⟩ : BufTy).Contents (Elt Ideal)) (g : (⟨S4x2048, .f32⟩ : BufTy).Contents (Elt Ideal))
variable (w : (⟨S2x4x512x512, .f32⟩ : BufTy).Contents (Elt Ideal)) (s : (⟨S2x2048, .f32⟩ : BufTy).Contents (Elt Ideal))

/-- The normalized rows. -/
def hidden : ℕ → ℕ → EReal := normed (at2 (A := 8192) (B := 2048) x) (at2 (A := 4) (B := 2048) g 0)

theorem normed_apply (i : S8192x2048.Idx) : val_main_v14 (F := Ideal) x g i = hidden x g (i 0).val (i 1).val := by
  rw [val_main_v14_apply, val_main_v11_apply, val_main_v10_apply, val_main_v9_apply, val_main_v8_apply, val_main_v6_apply, val_main_v4_apply, val_main_v3_apply,
    val_main_v5_apply, val_main_cst_0_apply, val_main_v7_apply, val_main_cst_1_apply, val_main_v13_apply, val_main_v12_apply, val_main_v1_apply, val_main_v0_apply, val_main_cst_apply]
  simp only [val_main_v2_apply]
  unfold hidden normed
  refine congrArg₂ (· * ·) (congrArg₂ (· * ·) (at2_eq x i _ _ rfl rfl) (congrArg Ideal.rsqrt (congrArg (· + Ideal.ofBits .f32 0x358637BD#32) (congrArg (Ideal.div · (Ideal.ofBits .f32 0x45000000#32)) ?_)))) ?_
  · refine (congrArg₂ (· + ·) (Ideal.ofBits_zero _) (Finset.sum_congr rfl fun k _ => ?_)).trans (zero_add _)
    exact congrArg₂ (· * ·) (at2_eq x _ _ _ rfl rfl) (at2_eq x _ _ _ rfl rfl)
  · refine at2_eq g _ _ _ rfl ?_
    show (i 1).val % 2048 = (i 1).val
    exact Nat.mod_eq_of_lt (i 1).isLt

/-! ## The means -/

/-- A group's mean. -/
def meanOf (G t n : ℕ) : EReal := Ideal.div (window (hidden x g · (512 * G + n)) (2 ^ (G + 1)) t) (count (2 ^ (G + 1)) t)

/-- A group's columns of the normalized rows. -/
theorem columns_apply (G : ℕ) (hG : G < 4) (hs : S8192x2048.Slices ![0, 512 * G] S8192x512) (n : Fin 512) (r : Fin 8192) :
    extractStridedSlice S8192x512 ![0, 512 * G] (val_main_v14 (F := Ideal) x g) hs (ix2 r n) = hidden x g r.val (512 * G + n.val) := by
  refine (extractStridedSlice_apply ![0, 512 * G] _ hs (ix2 r n) (ix2 r (⟨512 * G + n.val, by omega⟩ : Fin 2048)) fun a => ?_).trans (normed_apply x g _)
  match a with
  | ⟨0, _⟩ => show r.val = 0 + r.val; omega
  | ⟨1, _⟩ => rfl

/-- A zero splat, read. -/
theorem zero_apply (h : S_.BroadcastsInDim S8192x512 ![]) (i : S8192x512.Idx) : broadcastInDim S8192x512 ![] h (constant (F := Ideal) S_ .f32 0x00000000#32) i = (0 : EReal) := by
  rw [broadcastInDim_apply _ h _ i (fun a => a.elim0) (fun a => a.elim0)]
  show Ideal.ofBits .f32 0x00000000#32 = (0 : EReal)
  exact Ideal.ofBits_zero _

theorem mean2 (i : S8192x512.Idx) : val_main_v30 (F := Ideal) x g i = meanOf x g 0 (i 0).val (i 1).val := by
  unfold meanOf window
  simp only [Finset.sum_range_succ, Finset.sum_range_zero, show 2 ^ (0 + 1) = 2 from rfl]
  refine congrArg₂ Ideal.div ?_ ?_
  · iterate 2 refine congrArg₂ (· + ·) ?_ (slice_padded _ _ (fun _ => pad_word) _ _ _ _ i (columns_apply x g 0 (by decide) _ (i 1)) _ rfl rfl)
    exact zero_apply _ i
  · rw [val_main_v29_apply, val_main_v23_apply]
    rfl

theorem mean4 (i : S8192x512.Idx) : val_main_v50 (F := Ideal) x g i = meanOf x g 1 (i 0).val (i 1).val := by
  unfold meanOf window
  simp only [Finset.sum_range_succ, Finset.sum_range_zero, show 2 ^ (1 + 1) = 4 from rfl]
  refine congrArg₂ Ideal.div ?_ ?_
  · iterate 4 refine congrArg₂ (· + ·) ?_ (slice_padded _ _ (fun _ => pad_word) _ _ _ _ i (columns_apply x g 1 (by decide) _ (i 1)) _ rfl rfl)
    exact zero_apply _ i
  · rw [val_main_v49_apply, val_main_v39_apply]
    rfl

theorem mean8 (i : S8192x512.Idx) : val_main_v78 (F := Ideal) x g i = meanOf x g 2 (i 0).val (i 1).val := by
  unfold meanOf window
  simp only [Finset.sum_range_succ, Finset.sum_range_zero, show 2 ^ (2 + 1) = 8 from rfl]
  refine congrArg₂ Ideal.div ?_ ?_
  · iterate 8 refine congrArg₂ (· + ·) ?_ (slice_padded _ _ (fun _ => pad_word) _ _ _ _ i (columns_apply x g 2 (by decide) _ (i 1)) _ rfl rfl)
    exact zero_apply _ i
  · rw [val_main_v77_apply, val_main_v59_apply]
    rfl

theorem mean16 (i : S8192x512.Idx) : val_main_v122 (F := Ideal) x g i = meanOf x g 3 (i 0).val (i 1).val := by
  unfold meanOf window
  simp only [Finset.sum_range_succ, Finset.sum_range_zero, show 2 ^ (3 + 1) = 16 from rfl]
  refine congrArg₂ Ideal.div ?_ ?_
  · iterate 16 refine congrArg₂ (· + ·) ?_ (slice_padded _ _ (fun _ => pad_word) _ _ _ _ i (columns_apply x g 3 (by decide) _ (i 1)) _ rfl rfl)
    exact zero_apply _ i
  · rw [val_main_v121_apply, val_main_v87_apply]
    rfl

/-- The four means side by side. -/
theorem means_apply (i : S8192x4x512.Idx) : val_main_v127 (F := Ideal) x g i = meanOf x g (i 1).val (i 0).val (i 2).val := by
  have h (G : Fin 4) (hG : (i 1).val = G.val) : val_main_v127 (F := Ideal) x g i
      = (![val_main_v123 (F := Ideal) x g, val_main_v124 (F := Ideal) x g, val_main_v125 (F := Ideal) x g, val_main_v126 (F := Ideal) x g] : Fin 4 → FVec Ideal S8192x1x512 .f32) G
          (ix3 (i 0 : Fin 8192) (0 : Fin 1) (i 2 : Fin 512)) :=
    concatenate_ofFn_unit_apply (t := S8192x4x512) 1 (![val_main_v123 (F := Ideal) x g, val_main_v124 (F := Ideal) x g, val_main_v125 (F := Ideal) x g, val_main_v126 (F := Ideal) x g] : Fin 4 → FVec Ideal S8192x1x512 .f32)
      _ rfl rfl i G hG _ fun b hb => by
        match b with
        | ⟨0, _⟩ => rfl
        | ⟨1, _⟩ => exact absurd rfl hb
        | ⟨2, _⟩ => rfl
  have h1 : (i 1).val < 4 := (i 1).isLt
  obtain e | e | e | e : (i 1).val = 0 ∨ (i 1).val = 1 ∨ (i 1).val = 2 ∨ (i 1).val = 3 := by omega
  · rw [e]; exact (h 0 e).trans ((val_main_v123_apply _ _ _).trans (mean2 x g _))
  · rw [e]; exact (h 1 e).trans ((val_main_v124_apply _ _ _).trans (mean4 x g _))
  · rw [e]; exact (h 2 e).trans ((val_main_v125_apply _ _ _).trans (mean8 x g _))
  · rw [e]; exact (h 3 e).trans ((val_main_v126_apply _ _ _).trans (mean16 x g _))

end Cert.PoolReferenceIdeal.Pool

end
-- ==== Proof.Pool.Equal.lean ====
module

public import proofs.«01_k».proof.Defs
public import proofs.«01_k».proof.Proof.Pool.Result
public import proofs.«01_k».proof.Proof.Pool.Ref

@[expose] public section

set_option maxRecDepth 16384

noncomputable section

namespace Cert.Pooling

open Idealize.ShloMosaic Idealize.ShloMosaic.TcCoe
open Cert.PoolReferenceIdeal.Read
open Cert.Attn (at2 at2_eq)
open Cert.FeedForward (normed)
open Cert.PoolReferenceIdeal.Pool
open Cert.PoolIdeal.Pool (sumArr weightAt weightAt_eq)

variable (x : Vec Ideal Cert.PoolIdeal.S8192x2048 .f32) (g : Vec Ideal Cert.PoolIdeal.S4x2048 .f32) (w : Vec Ideal Cert.PoolIdeal.S2x4x512x512 .f32) (s : Vec Ideal Cert.PoolIdeal.S2x2048 .f32)

/-- The reference's deviations. -/
theorem deviation_eq (i : Cert.PoolReferenceIdeal.S8192x4x512.Idx) (t G k : ℕ) (ht : (i 0).val = t) (hG : (i 1).val = G) (hk : (i 2).val = k) :
    val_main_v129 (F := Ideal) x g i = deviation (normed (at2 x) (at2 g 0)) (2 ^ (G + 1)) t (512 * G + k) := by
  subst ht hG hk
  have h1 : (i 1).val < 4 := (i 1).isLt
  have h2 : (i 2).val < 512 := (i 2).isLt
  rw [val_main_v129_apply, means_apply, val_main_v128_apply, normed_apply]
  refine congrArg₂ (fun a b : EReal => a - b) rfl ?_
  refine congrArg₂ (normed (at2 x) (at2 g 0)) ?_ ?_
  · show (((i 0).val * 4 + (i 1).val) * 512 + (i 2).val) / 2048 = (i 0).val; omega
  · show (((i 0).val * 4 + (i 1).val) * 512 + (i 2).val) % 2048 = 512 * (i 1).val + (i 2).val; omega

/-- The reference's weights. -/
theorem weight_eq (i : Cert.PoolReferenceIdeal.S4x512x512.Idx) (G k n : ℕ) (hG : (i 0).val = G) (hk : (i 1).val = k) (hn : (i 2).val = n) :
    val_main_v131 (F := Ideal) w i = weightAt w G k n := by
  have h0 : (i 0).val < 4 := (i 0).isLt
  have h1 : (i 1).val < 512 := (i 1).isLt
  have h2 : (i 2).val < 512 := (i 2).isLt
  rw [val_main_v131_apply, val_main_v130_apply]
  refine weightAt_eq w _ G k n rfl ?_ ?_ ?_
  · show (((i 0).val * 512 + (i 1).val) * 512 + (i 2).val) / 262144 % 4 = G; omega
  · show (((i 0).val * 512 + (i 1).val) * 512 + (i 2).val) / 512 % 512 = k; omega
  · show (((i 0).val * 512 + (i 1).val) * 512 + (i 2).val) % 512 = n; omega

/-- The kernel's array is the reference's result. -/
theorem pool_eq : sumArr x g w s = val_main_v140 (F := Ideal) x g w s := by
  funext i
  have h0 : (i 0).val < 8192 := (i 0).isLt
  have h1 : (i 1).val < 2048 := (i 1).isLt
  rw [val_main_v140_apply, val_main_v139_apply, val_main_v134_apply, val_main_v133_apply, val_main_v132_apply, val_main_v138_apply, val_main_v137_apply,
    val_main_v136_apply, val_main_v135_apply]
  unfold sumArr pooled
  have hc : 512 * ((i 1).val / 512) + (i 1).val % 512 = (i 1).val := by omega
  refine congrArg₂ (fun a b : EReal => a + b) (at2_eq x i _ _ rfl hc.symm).symm (congrArg₂ (fun a b : EReal => a * b) (Finset.sum_congr rfl fun k _ => ?_) ?_)
  · refine (mul_comm _ _).trans (congrArg₂ (fun a b : EReal => a * b) ?_ ?_).symm
    · refine weight_eq w _ _ _ _ ?_ rfl ?_
      · show ((i 0).val * 2048 + (i 1).val) / 512 % 4 = (i 1).val / 512; omega
      · show ((i 0).val * 2048 + (i 1).val) % 512 = (i 1).val % 512; omega
    · refine deviation_eq x g _ _ _ _ ?_ ?_ rfl
      · show ((i 0).val * 2048 + (i 1).val) / 2048 = (i 0).val; omega
      · show ((i 0).val * 2048 + (i 1).val) / 512 % 4 = (i 1).val / 512; omega
  · refine (at2_eq s (idx_main_v135 (idx_main_v136 (idx_main_v137 (idx_main_v138 i)))) 0 _ rfl ?_).symm
    show (i 1).val % 2048 = _
    omega

theorem pool_algebraic : Cert.algebraic_PoolIdeal_PoolReferenceIdeal := fun m g m' g' hm hargs =>
  ⟨fun c => Cert.PoolIdeal.Pool.poolArr m c,
    (θ_run _ _ _).mono (fun r h c => ⟨(h c).1.trans (Cert.PoolIdeal.Pool.final m c), (h c).2⟩) (Cert.PoolIdeal.Value.run_blocks m g),
    (θ_run _ _ _).mono (fun r h c => ⟨(h c).1.trans (by
        obtain ⟨e0, e1, e2, e3⟩ := hargs c
        refine (val_main_v140_eq _ _).trans ?_
        rw [e0, e1, e2, e3]
        exact (pool_eq _ _ _ _).symm), (h c).2⟩) (Cert.PoolReferenceIdeal.Value.run m' g')⟩

end Cert.Pooling

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Attn.Frame
public import proofs.«01_k».proof.Proof.Attn.Same
public import proofs.«01_k».proof.Proof.Attn.Equal
public import proofs.«01_k».proof.Proof.Ffn.Frame
public import proofs.«01_k».proof.Proof.Ffn.Same
public import proofs.«01_k».proof.Proof.Ffn.Equal
public import proofs.«01_k».proof.Proof.Cast.Frame
public import proofs.«01_k».proof.Proof.Cast.Same
public import proofs.«01_k».proof.Proof.Cast.Equal
public import proofs.«01_k».proof.Proof.Into.Frame
public import proofs.«01_k».proof.Proof.Into.Same
public import proofs.«01_k».proof.Proof.Into.Equal
public import proofs.«01_k».proof.Proof.Oproj.Equal
public import proofs.«01_k».proof.Proof.Kv.Equal
public import proofs.«01_k».proof.Proof.Qp.Equal
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnCast
public import proofs.«01_k».proof.Proof.Gen.FfnCastIdeal
public import proofs.«01_k».proof.Proof.Gen.FfnCastIdeal.Skeleton
public import proofs.«01_k».proof.Proof.Gen.FfnCastIdeal.Launch
public import proofs.«01_k».proof.Proof.Gen.FfnCastIdeal.Points
public import proofs.«01_k».proof.Proof.Gen.FfnCastIdeal.Frame
public import proofs.«01_k».proof.Proof.Gen.FfnCastReferenceIdeal
public import proofs.«01_k».proof.Proof.Gen.FfnCastReferenceIdeal.Run
public import proofs.«01_k».proof.Proof.Gen.FfnCastReferenceIdeal.Read
public import proofs.«01_k».proof.Proof.Gen.FfnInto
public import proofs.«01_k».proof.Proof.Gen.FfnIntoIdeal
public import proofs.«01_k».proof.Proof.Gen.FfnIntoIdeal.Skeleton
public import proofs.«01_k».proof.Proof.Gen.FfnIntoIdeal.Launch
public import proofs.«01_k».proof.Proof.Gen.FfnIntoIdeal.Points
public import proofs.«01_k».proof.Proof.Gen.FfnIntoIdeal.Frame
public import proofs.«01_k».proof.Proof.Gen.FfnIntoReferenceIdeal
public import proofs.«01_k».proof.Proof.Gen.FfnIntoReferenceIdeal.Run
public import proofs.«01_k».proof.Proof.Gen.FfnIntoReferenceIdeal.Read
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojIdeal.Value
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvReferenceIdeal
public import proofs.«01_k».proof.Proof.Gen.KvReferenceIdeal.Run
public import proofs.«01_k».proof.Proof.Gen.KvReferenceIdeal.Read
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QIdeal.Value
public import proofs.«01_k».proof.Proof.Gen.QReferenceIdeal
public import proofs.«01_k».proof.Proof.Gen.QReferenceIdeal.Run
public import proofs.«01_k».proof.Proof.Gen.QReferenceIdeal.Read
public import proofs.«01_k».proof.Proof.Gen.FfnCastInto
public import proofs.«01_k».proof.Proof.Gen.FfnCastIntoIdeal
public import proofs.«01_k».proof.Proof.Gen.FfnCastIntoIdeal.Skeleton
public import proofs.«01_k».proof.Proof.Gen.FfnCastIntoIdeal.Launch
public import proofs.«01_k».proof.Proof.Gen.FfnCastIntoIdeal.Points
public import proofs.«01_k».proof.Proof.Gen.FfnCastIntoIdeal.Frame
public import proofs.«01_k».proof.Proof.Gen.FfnCastIntoReferenceIdeal
public import proofs.«01_k».proof.Proof.Gen.FfnCastIntoReferenceIdeal.Run
public import proofs.«01_k».proof.Proof.Gen.FfnCastIntoReferenceIdeal.Read
public import proofs.«01_k».proof.Proof.CastInto.Equal
public import proofs.«01_k».proof.Proof.CastInto.Same
public import proofs.«01_k».proof.Proof.Pool.Equal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal
public import proofs.«01_k».proof.Proof.Gen.PoolReferenceIdeal.Run
public import proofs.«01_k».proof.Proof.Gen.PoolReferenceIdeal.Read
public import Idealize.ShloMosaic.Adequacy
public import Idealize.ShloMosaic.Init

@[expose] public section

noncomputable section

namespace Cert.Proof

open Idealize.ShloMosaic Idealize.SL.Sem

/-- The reference is host code: its run, read at the arguments; it has no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run m ρ)

/-- The feed-forward's reference, likewise. -/
theorem frame_reference_ffn : Cert.quiescent_FfnReferenceIdeal := fun m ρ _ =>
  (θ_run _ _ _).mono (fun r h => ⟨fun c => (h c).2, sem_eq_zero_of_no_sems (by decide) r.2⟩)
    (Cert.FfnReferenceIdeal.Value.run m ρ)

/-- The reference of the first feed-forward call, likewise. -/
theorem frame_reference_cast : Cert.quiescent_FfnCastReferenceIdeal := fun m ρ _ =>
  (θ_run _ _ _).mono (fun r h => ⟨fun c => (h c).2.2, sem_eq_zero_of_no_sems (by decide) r.2⟩)
    (Cert.FfnCastReferenceIdeal.Value.run m ρ)

/-- The reference of the second feed-forward call into a buffer of its own, likewise. -/
theorem frame_reference_into : Cert.quiescent_FfnIntoReferenceIdeal := fun m ρ _ =>
  (θ_run _ _ _).mono (fun r h => ⟨fun c => (h c).2, sem_eq_zero_of_no_sems (by decide) r.2⟩)
    (Cert.FfnIntoReferenceIdeal.Value.run m ρ)

/-- The reference of the output projection, likewise. -/
theorem frame_reference_oproj : Cert.quiescent_OprojReferenceIdeal := fun m ρ _ =>
  (θ_run _ _ _).mono (fun r h => ⟨fun c => (h c).2, sem_eq_zero_of_no_sems (by decide) r.2⟩)
    (Cert.OprojReferenceIdeal.Value.run m ρ)

/-- The reference of the keys and values, likewise. -/
theorem frame_reference_kv : Cert.quiescent_KvReferenceIdeal := fun m ρ _ =>
  (θ_run _ _ _).mono (fun r h => ⟨fun c => (h c).2.2, sem_eq_zero_of_no_sems (by decide) r.2⟩)
    (Cert.KvReferenceIdeal.Value.run m ρ)

/-- The reference of the queries, likewise. -/
theorem frame_reference_q : Cert.quiescent_QReferenceIdeal := fun m ρ _ =>
  (θ_run _ _ _).mono (fun r h => ⟨fun c => (h c).2, sem_eq_zero_of_no_sems (by decide) r.2⟩)
    (Cert.QReferenceIdeal.Value.run m ρ)

/-- The reference of the first feed-forward call into a buffer of its own, likewise. -/
theorem frame_reference_cast_into : Cert.quiescent_FfnCastIntoReferenceIdeal := fun m ρ _ =>
  (θ_run _ _ _).mono (fun r h => ⟨fun c => (h c).2.2, sem_eq_zero_of_no_sems (by decide) r.2⟩)
    (Cert.FfnCastIntoReferenceIdeal.Value.run m ρ)

/-- The reference of the pooling, likewise. -/
theorem frame_reference_pool : Cert.quiescent_PoolReferenceIdeal := fun m ρ _ =>
  (θ_run _ _ _).mono (fun r h => ⟨fun c => (h c).2, sem_eq_zero_of_no_sems (by decide) r.2⟩)
    (Cert.PoolReferenceIdeal.Value.run m ρ)

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnCast.Gen.facts, Cert.FfnCastIdeal.Gen.facts, Cert.FfnCastReferenceIdeal.Gen.facts,
  Cert.FfnInto.Gen.facts, Cert.FfnIntoIdeal.Gen.facts, Cert.FfnIntoReferenceIdeal.Gen.facts,
  Cert.Oproj.Gen.facts, Cert.OprojIdeal.Gen.facts, Cert.OprojReferenceIdeal.Gen.facts,
  Cert.Kv.Gen.facts, Cert.KvIdeal.Gen.facts, Cert.KvReferenceIdeal.Gen.facts,
  Cert.Q.Gen.facts, Cert.QIdeal.Gen.facts, Cert.QReferenceIdeal.Gen.facts,
  Cert.FfnCastInto.Gen.facts, Cert.FfnCastIntoIdeal.Gen.facts, Cert.FfnCastIntoReferenceIdeal.Gen.facts,
  Cert.Pool.Gen.facts, Cert.PoolIdeal.Gen.facts, Cert.PoolReferenceIdeal.Gen.facts, Cert.Pre_finite.Gen.facts,
  Cert.KernelIdeal.Attn.frame_kernel,
  fun m ρ _ => Cert.KernelIdeal.Attn.frame m ρ,
  fun m ρ _ => Cert.KernelIdeal.Attn.frame m ρ,
  frame_reference,
  fun m ρ _ => frame_reference m ρ trivial,
  Cert.FfnIdeal.Ffn.frame_kernel,
  fun m ρ _ => Cert.FfnIdeal.Ffn.frame m ρ,
  frame_reference_ffn,
  Cert.FfnCastIdeal.Cast.frame_kernel,
  fun m ρ _ => Cert.FfnCastIdeal.Cast.frame m ρ,
  frame_reference_cast,
  Cert.FfnIntoIdeal.Into.frame_kernel,
  fun m ρ _ => Cert.FfnIntoIdeal.Into.frame m ρ,
  frame_reference_into,
  fun m ρ _ => Cert.Oproj.Gen.frame m ρ,
  fun m ρ _ => Cert.OprojIdeal.Gen.frame m ρ,
  frame_reference_oproj,
  fun m ρ _ => Cert.Kv.Gen.frame m ρ,
  fun m ρ _ => Cert.KvIdeal.Gen.frame m ρ,
  frame_reference_kv,
  fun m ρ _ => Cert.Q.Gen.frame m ρ,
  fun m ρ _ => Cert.QIdeal.Gen.frame m ρ,
  frame_reference_q,
  Cert.FfnCastIntoIdeal.CastInto.frame_kernel,
  fun m ρ _ => Cert.FfnCastIntoIdeal.CastInto.frame m ρ,
  frame_reference_cast_into,
  fun m ρ _ => Cert.Pool.Gen.frame m ρ,
  fun m ρ _ => Cert.PoolIdeal.Gen.frame m ρ,
  frame_reference_pool,
  IdealRules.named_const.statement Cert.KernelIdeal.κ "mask" .f32 0xF149F2CA#32 ⊥ rfl,
  Cert.Attn.algebraic,
  trivial,
  Cert.FeedForward.algebraic,
  trivial,
  Cert.FeedForwardCast.algebraic,
  trivial,
  Cert.FeedForwardInto.algebraic,
  trivial,
  Cert.Projection.oproj_algebraic,
  trivial,
  Cert.Projection.kv_algebraic,
  trivial,
  Cert.Projection.q_algebraic,
  trivial,
  Cert.FeedForwardCastInto.algebraic,
  trivial,
  Cert.Pooling.pool_algebraic⟩

end Cert.Proof

end
